-- ==== Defs.lean ====
def Pre_Kernel (m : (ℓ : Loc Cert.Kernel.nD Cert.Kernel.τ Cert.Kernel.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_finite [hPre_gates_finite : Cert.Pre_gates_finite.Facts] (m : (ℓ : Loc Cert.MoeIdeal.nD Cert.MoeIdeal.τ Cert.MoeIdeal.sig) → Buf (Elt Ideal) ℓ) : Prop :=
  ∀ c : Dev Cert.MoeIdeal.nD,
    (Cert.Pre_gates_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gates_finite [hPre_gates_finite : Cert.Pre_gates_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gates_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))) = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_MoeSample (m : (ℓ : Loc Cert.MoeSample.nD Cert.MoeSample.τ Cert.MoeSample.sig) → Buf (Elt Bits) ℓ) : Prop :=
  True

def Pre_MoeSampleIdeal (m : (ℓ : Loc Cert.MoeSampleIdeal.nD Cert.MoeSampleIdeal.τ Cert.MoeSampleIdeal.sig) → Buf (Elt Ideal) ℓ) : Prop :=
  True

def Pre_MoeSampleIdeal_sample_gates_finite [hPre_sample_gates_finite : Cert.Pre_sample_gates_finite.Facts] (m : (ℓ : Loc Cert.MoeSampleIdeal.nD Cert.MoeSampleIdeal.τ Cert.MoeSampleIdeal.sig) → Buf (Elt Ideal) ℓ) : Prop :=
  ∀ c : Dev Cert.MoeSampleIdeal.nD,
    (Cert.Pre_sample_gates_finite.fn (F := Ideal) (m ((c.tc : Thread Cert.MoeSampleIdeal.nD Cert.MoeSampleIdeal.τ).loc Cert.MoeSampleIdeal.main_arg0)) (m ((c.tc : Thread Cert.MoeSampleIdeal.nD Cert.MoeSampleIdeal.τ).loc Cert.MoeSampleIdeal.main_arg1)) (m ((c.tc : Thread Cert.MoeSampleIdeal.nD Cert.MoeSampleIdeal.τ).loc Cert.MoeSampleIdeal.main_arg2)) (m ((c.tc : Thread Cert.MoeSampleIdeal.nD Cert.MoeSampleIdeal.τ).loc Cert.MoeSampleIdeal.main_arg3)) (m ((c.tc : Thread Cert.MoeSampleIdeal.nD Cert.MoeSampleIdeal.τ).loc Cert.MoeSampleIdeal.main_arg4)) (m ((c.tc : Thread Cert.MoeSampleIdeal.nD Cert.MoeSampleIdeal.τ).loc Cert.MoeSampleIdeal.main_arg5)) (m ((c.tc : Thread Cert.MoeSampleIdeal.nD Cert.MoeSampleIdeal.τ).loc Cert.MoeSampleIdeal.main_arg6)) (m ((c.tc : Thread Cert.MoeSampleIdeal.nD Cert.MoeSampleIdeal.τ).loc Cert.MoeSampleIdeal.main_arg7)) (m ((c.tc : Thread Cert.MoeSampleIdeal.nD Cert.MoeSampleIdeal.τ).loc Cert.MoeSampleIdeal.main_arg8))) = (fun _ => 1#1)

def Pre_MoeSampleRefIdeal (m : (ℓ : Loc Cert.MoeSampleRefIdeal.nD Cert.MoeSampleRefIdeal.τ Cert.MoeSampleRefIdeal.sig) → Buf (Elt Ideal) ℓ) : Prop :=
  True

def Pre_MoeSampleRefIdeal_sample_gates_finite [hPre_sample_gates_finite : Cert.Pre_sample_gates_finite.Facts] (m : (ℓ : Loc Cert.MoeSampleRefIdeal.nD Cert.MoeSampleRefIdeal.τ Cert.MoeSampleRefIdeal.sig) → Buf (Elt Ideal) ℓ) : Prop :=
  ∀ c : Dev Cert.MoeSampleRefIdeal.nD,
    (Cert.Pre_sample_gates_finite.fn (F := Ideal) (m ((c.tc : Thread Cert.MoeSampleRefIdeal.nD Cert.MoeSampleRefIdeal.τ).loc Cert.MoeSampleRefIdeal.main_arg0)) (m ((c.tc : Thread Cert.MoeSampleRefIdeal.nD Cert.MoeSampleRefIdeal.τ).loc Cert.MoeSampleRefIdeal.main_arg1)) (m ((c.tc : Thread Cert.MoeSampleRefIdeal.nD Cert.MoeSampleRefIdeal.τ).loc Cert.MoeSampleRefIdeal.main_arg2)) (m ((c.tc : Thread Cert.MoeSampleRefIdeal.nD Cert.MoeSampleRefIdeal.τ).loc Cert.MoeSampleRefIdeal.main_arg3)) (m ((c.tc : Thread Cert.MoeSampleRefIdeal.nD Cert.MoeSampleRefIdeal.τ).loc Cert.MoeSampleRefIdeal.main_arg4)) (m ((c.tc : Thread Cert.MoeSampleRefIdeal.nD Cert.MoeSampleRefIdeal.τ).loc Cert.MoeSampleRefIdeal.main_arg5)) (m ((c.tc : Thread Cert.MoeSampleRefIdeal.nD Cert.MoeSampleRefIdeal.τ).loc Cert.MoeSampleRefIdeal.main_arg6)) (m ((c.tc : Thread Cert.MoeSampleRefIdeal.nD Cert.MoeSampleRefIdeal.τ).loc Cert.MoeSampleRefIdeal.main_arg7)) (m ((c.tc : Thread Cert.MoeSampleRefIdeal.nD Cert.MoeSampleRefIdeal.τ).loc Cert.MoeSampleRefIdeal.main_arg8))) = (fun _ => 1#1)

def Pre_GatingPrompt (m : (ℓ : Loc Cert.GatingPrompt.nD Cert.GatingPrompt.τ Cert.GatingPrompt.sig) → Buf (Elt Bits) ℓ) : Prop :=
  True

def Pre_GatingPromptIdeal (m : (ℓ : Loc Cert.GatingPromptIdeal.nD Cert.GatingPromptIdeal.τ Cert.GatingPromptIdeal.sig) → Buf (Elt Ideal) ℓ) : Prop :=
  True

def Pre_GatingPromptRefIdeal (m : (ℓ : Loc Cert.GatingPromptRefIdeal.nD Cert.GatingPromptRefIdeal.τ Cert.GatingPromptRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_gates_finite [hMoeIdeal : Cert.MoeIdeal.Facts] [hPre_gates_finite : Cert.Pre_gates_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_gates_finite [hMoeRefIdeal : Cert.MoeRefIdeal.Facts] [hPre_gates_finite : Cert.Pre_gates_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gates_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2)
      ∧ r.2.mem ((c.tc : Thread Cert.InProjSampleRefIdeal.nD Cert.InProjSampleRefIdeal.τ).loc Cert.InProjSampleRefIdeal.main_arg3) = m ((c.tc : Thread Cert.InProjSampleRefIdeal.nD Cert.InProjSampleRefIdeal.τ).loc Cert.InProjSampleRefIdeal.main_arg3))
      ∧ r.2.sem = fun _ => 0)

def quiescent_MoeSample [hMoeSample : Cert.MoeSample.Facts] : Prop :=
  ∀ (m : (ℓ : Loc Cert.MoeSample.nD Cert.MoeSample.τ Cert.MoeSample.sig) → Buf (Elt Bits) ℓ) (g : Dev Cert.MoeSample.nD → PrngReg), Pre_MoeSample m →
    θ_run (Cert.MoeSample.defs (F := Bits)) (onTc (τ := Cert.MoeSample.τ) (Cert.MoeSample.main (F := Bits))) ⟨m, fun _ => 0, g⟩ (fun r => (∀ c : Dev Cert.MoeSample.nD,
      r.2.mem ((c.tc : Thread Cert.MoeSample.nD Cert.MoeSample.τ).loc Cert.MoeSample.main_arg0) = m ((c.tc : Thread Cert.MoeSample.nD Cert.MoeSample.τ).loc Cert.MoeSample.main_arg0)
      ∧ r.2.mem ((c.tc : Thread Cert.MoeSample.nD Cert.MoeSample.τ).loc Cert.MoeSample.main_arg1) = m ((c.tc : Thread Cert.MoeSample.nD Cert.MoeSample.τ).loc Cert.MoeSample.main_arg1)
      ∧ r.2.mem ((c.tc : Thread Cert.MoeSample.nD Cert.MoeSample.τ).loc Cert.MoeSample.main_arg2) = m ((c.tc : Thread Cert.MoeSample.nD Cert.MoeSample.τ).loc Cert.MoeSample.main_arg2)
      ∧ r.2.mem ((c.tc : Thread Cert.MoeSample.nD Cert.MoeSample.τ).loc Cert.MoeSample.main_arg3) = m ((c.tc : Thread Cert.MoeSample.nD Cert.MoeSample.τ).loc Cert.MoeSample.main_arg3)
      ∧ r.2.mem ((c.tc : Thread Cert.MoeSample.nD Cert.MoeSample.τ).loc Cert.MoeSample.main_arg4) = m ((c.tc : Thread Cert.MoeSample.nD Cert.MoeSample.τ).loc Cert.MoeSample.main_arg4)
      ∧ r.2.mem ((c.tc : Thread Cert.MoeSample.nD Cert.MoeSample.τ).loc Cert.MoeSample.main_arg5) = m ((c.tc : Thread Cert.MoeSample.nD Cert.MoeSample.τ).loc Cert.MoeSample.main_arg5)
      ∧ r.2.mem ((c.tc : Thread Cert.MoeSample.nD Cert.MoeSample.τ).loc Cert.MoeSample.main_arg6) = m ((c.tc : Thread Cert.MoeSample.nD Cert.MoeSample.τ).loc Cert.MoeSample.main_arg6)
      ∧ r.2.mem ((c.tc : Thread Cert.MoeSample.nD Cert.MoeSample.τ).loc Cert.MoeSample.main_arg7) = m ((c.tc : Thread Cert.MoeSample.nD Cert.MoeSample.τ).loc Cert.MoeSample.main_arg7)
      ∧ r.2.mem ((c.tc : Thread Cert.MoeSample.nD Cert.MoeSample.τ).loc Cert.MoeSample.main_arg8) = m ((c.tc : Thread Cert.MoeSample.nD Cert.MoeSample.τ).loc Cert.MoeSample.main_arg8))
      ∧ r.2.sem = fun _ => 0)

def quiescent_MoeSampleIdeal [hMoeSampleIdeal : Cert.MoeSampleIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7)
      ∧ r.2.mem ((c.tc : Thread Cert.MoeSampleIdeal.nD Cert.MoeSampleIdeal.τ).loc Cert.MoeSampleIdeal.main_arg8) = m ((c.tc : Thread Cert.MoeSampleIdeal.nD Cert.MoeSampleIdeal.τ).loc Cert.MoeSampleIdeal.main_arg8))
      ∧ r.2.sem = fun _ => 0)

def quiescent_MoeSampleIdeal_pre_sample_gates_finite [hMoeSampleIdeal : Cert.MoeSampleIdeal.Facts] [hPre_sample_gates_finite : Cert.Pre_sample_gates_finite.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal_sample_gates_finite m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7)
      ∧ r.2.mem ((c.tc : Thread Cert.MoeSampleIdeal.nD Cert.MoeSampleIdeal.τ).loc Cert.MoeSampleIdeal.main_arg8) = m ((c.tc : Thread Cert.MoeSampleIdeal.nD Cert.MoeSampleIdeal.τ).loc Cert.MoeSampleIdeal.main_arg8))
      ∧ r.2.sem = fun _ => 0)

def quiescent_MoeSampleRefIdeal [hMoeSampleRefIdeal : Cert.MoeSampleRefIdeal.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7)
      ∧ r.2.mem ((c.tc : Thread Cert.MoeSampleRefIdeal.nD Cert.MoeSampleRefIdeal.τ).loc Cert.MoeSampleRefIdeal.main_arg8) = m ((c.tc : Thread Cert.MoeSampleRefIdeal.nD Cert.MoeSampleRefIdeal.τ).loc Cert.MoeSampleRefIdeal.main_arg8))
      ∧ r.2.sem = fun _ => 0)

def quiescent_MoeSampleRefIdeal_pre_sample_gates_finite [hMoeSampleRefIdeal : Cert.MoeSampleRefIdeal.Facts] [hPre_sample_gates_finite : Cert.Pre_sample_gates_finite.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal_sample_gates_finite m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7)
      ∧ r.2.mem ((c.tc : Thread Cert.MoeSampleRefIdeal.nD Cert.MoeSampleRefIdeal.τ).loc Cert.MoeSampleRefIdeal.main_arg8) = m ((c.tc : Thread Cert.MoeSampleRefIdeal.nD Cert.MoeSampleRefIdeal.τ).loc Cert.MoeSampleRefIdeal.main_arg8))
      ∧ r.2.sem = fun _ => 0)

def quiescent_GatingPrompt [hGatingPrompt : Cert.GatingPrompt.Facts] : Prop :=
  ∀ (m : (ℓ : Loc Cert.GatingPrompt.nD Cert.GatingPrompt.τ Cert.GatingPrompt.sig) → Buf (Elt Bits) ℓ) (g : Dev Cert.GatingPrompt.nD → PrngReg), Pre_GatingPrompt m →
    θ_run (Cert.GatingPrompt.defs (F := Bits)) (onTc (τ := Cert.GatingPrompt.τ) (Cert.GatingPrompt.main (F := Bits))) ⟨m, fun _ => 0, g⟩ (fun r => (∀ c : Dev Cert.GatingPrompt.nD,
      r.2.mem ((c.tc : Thread Cert.GatingPrompt.nD Cert.GatingPrompt.τ).loc Cert.GatingPrompt.main_arg0) = m ((c.tc : Thread Cert.GatingPrompt.nD Cert.GatingPrompt.τ).loc Cert.GatingPrompt.main_arg0)
      ∧ r.2.mem ((c.tc : Thread Cert.GatingPrompt.nD Cert.GatingPrompt.τ).loc Cert.GatingPrompt.main_arg1) = m ((c.tc : Thread Cert.GatingPrompt.nD Cert.GatingPrompt.τ).loc Cert.GatingPrompt.main_arg1)
      ∧ r.2.mem ((c.tc : Thread Cert.GatingPrompt.nD Cert.GatingPrompt.τ).loc Cert.GatingPrompt.main_arg2) = m ((c.tc : Thread Cert.GatingPrompt.nD Cert.GatingPrompt.τ).loc Cert.GatingPrompt.main_arg2)
      ∧ r.2.mem ((c.tc : Thread Cert.GatingPrompt.nD Cert.GatingPrompt.τ).loc Cert.GatingPrompt.main_arg3) = m ((c.tc : Thread Cert.GatingPrompt.nD Cert.GatingPrompt.τ).loc Cert.GatingPrompt.main_arg3)
      ∧ r.2.mem ((c.tc : Thread Cert.GatingPrompt.nD Cert.GatingPrompt.τ).loc Cert.GatingPrompt.main_arg4) = m ((c.tc : Thread Cert.GatingPrompt.nD Cert.GatingPrompt.τ).loc Cert.GatingPrompt.main_arg4))
      ∧ r.2.sem = fun _ => 0)

def quiescent_GatingPromptIdeal [hGatingPromptIdeal : Cert.GatingPromptIdeal.Facts] : Prop :=
  ∀ (m : (ℓ : Loc Cert.GatingPromptIdeal.nD Cert.GatingPromptIdeal.τ Cert.GatingPromptIdeal.sig) → Buf (Elt Ideal) ℓ) (g : Dev Cert.GatingPromptIdeal.nD → PrngReg), Pre_GatingPromptIdeal m →
    θ_run (Cert.GatingPromptIdeal.defs (F := Ideal)) (onTc (τ := Cert.GatingPromptIdeal.τ) (Cert.GatingPromptIdeal.main (F := Ideal))) ⟨m, fun _ => 0, g⟩ (fun r => (∀ c : Dev Cert.GatingPromptIdeal.nD,
      r.2.mem ((c.tc : Thread Cert.GatingPromptIdeal.nD Cert.GatingPromptIdeal.τ).loc Cert.GatingPromptIdeal.main_arg0) = m ((c.tc : Thread Cert.GatingPromptIdeal.nD Cert.GatingPromptIdeal.τ).loc Cert.GatingPromptIdeal.main_arg0)
      ∧ r.2.mem ((c.tc : Thread Cert.GatingPromptIdeal.nD Cert.GatingPromptIdeal.τ).loc Cert.GatingPromptIdeal.main_arg1) = m ((c.tc : Thread Cert.GatingPromptIdeal.nD Cert.GatingPromptIdeal.τ).loc Cert.GatingPromptIdeal.main_arg1)
      ∧ r.2.mem ((c.tc : Thread Cert.GatingPromptIdeal.nD Cert.GatingPromptIdeal.τ).loc Cert.GatingPromptIdeal.main_arg2) = m ((c.tc : Thread Cert.GatingPromptIdeal.nD Cert.GatingPromptIdeal.τ).loc Cert.GatingPromptIdeal.main_arg2)
      ∧ r.2.mem ((c.tc : Thread Cert.GatingPromptIdeal.nD Cert.GatingPromptIdeal.τ).loc Cert.GatingPromptIdeal.main_arg3) = m ((c.tc : Thread Cert.GatingPromptIdeal.nD Cert.GatingPromptIdeal.τ).loc Cert.GatingPromptIdeal.main_arg3)
      ∧ r.2.mem ((c.tc : Thread Cert.GatingPromptIdeal.nD Cert.GatingPromptIdeal.τ).loc Cert.GatingPromptIdeal.main_arg4) = m ((c.tc : Thread Cert.GatingPromptIdeal.nD Cert.GatingPromptIdeal.τ).loc Cert.GatingPromptIdeal.main_arg4))
      ∧ r.2.sem = fun _ => 0)

def quiescent_GatingPromptRefIdeal [hGatingPromptRefIdeal : Cert.GatingPromptRefIdeal.Facts] : Prop :=
  ∀ (m : (ℓ : Loc Cert.GatingPromptRefIdeal.nD Cert.GatingPromptRefIdeal.τ Cert.GatingPromptRefIdeal.sig) → Buf (Elt Ideal) ℓ) (g : Dev Cert.GatingPromptRefIdeal.nD → PrngReg), Pre_GatingPromptRefIdeal m →
    θ_run (Cert.GatingPromptRefIdeal.defs (F := Ideal)) (onTc (τ := Cert.GatingPromptRefIdeal.τ) (Cert.GatingPromptRefIdeal.main (F := Ideal))) ⟨m, fun _ => 0, g⟩ (fun r => (∀ c : Dev Cert.GatingPromptRefIdeal.nD,
      r.2.mem ((c.tc : Thread Cert.GatingPromptRefIdeal.nD Cert.GatingPromptRefIdeal.τ).loc Cert.GatingPromptRefIdeal.main_arg0) = m ((c.tc : Thread Cert.GatingPromptRefIdeal.nD Cert.GatingPromptRefIdeal.τ).loc Cert.GatingPromptRefIdeal.main_arg0)
      ∧ r.2.mem ((c.tc : Thread Cert.GatingPromptRefIdeal.nD Cert.GatingPromptRefIdeal.τ).loc Cert.GatingPromptRefIdeal.main_arg1) = m ((c.tc : Thread Cert.GatingPromptRefIdeal.nD Cert.GatingPromptRefIdeal.τ).loc Cert.GatingPromptRefIdeal.main_arg1)
      ∧ r.2.mem ((c.tc : Thread Cert.GatingPromptRefIdeal.nD Cert.GatingPromptRefIdeal.τ).loc Cert.GatingPromptRefIdeal.main_arg2) = m ((c.tc : Thread Cert.GatingPromptRefIdeal.nD Cert.GatingPromptRefIdeal.τ).loc Cert.GatingPromptRefIdeal.main_arg2)
      ∧ r.2.mem ((c.tc : Thread Cert.GatingPromptRefIdeal.nD Cert.GatingPromptRefIdeal.τ).loc Cert.GatingPromptRefIdeal.main_arg3) = m ((c.tc : Thread Cert.GatingPromptRefIdeal.nD Cert.GatingPromptRefIdeal.τ).loc Cert.GatingPromptRefIdeal.main_arg3)
      ∧ r.2.mem ((c.tc : Thread Cert.GatingPromptRefIdeal.nD Cert.GatingPromptRefIdeal.τ).loc Cert.GatingPromptRefIdeal.main_arg4) = m ((c.tc : Thread Cert.GatingPromptRefIdeal.nD Cert.GatingPromptRefIdeal.τ).loc Cert.GatingPromptRefIdeal.main_arg4))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v25)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v32) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Moe_MoeIdeal : Prop :=
  True

def algebraic_MoeIdeal_MoeRefIdeal_pre_gates_finite [hMoeIdeal : Cert.MoeIdeal.Facts] [hMoeRefIdeal : Cert.MoeRefIdeal.Facts] [hPre_gates_finite : Cert.Pre_gates_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gates_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v55) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Gating_GatingIdeal : Prop :=
  True

def algebraic_GatingIdeal_GatingRefIdeal [hGatingIdeal : Cert.GatingIdeal.Facts] [hGatingRefIdeal : Cert.GatingRefIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v10_0)) (v1 : (c : Dev Cert.GatingIdeal.nD) → Buf (Elt Ideal) ((c.tc : Thread Cert.GatingIdeal.nD Cert.GatingIdeal.τ).loc Cert.GatingIdeal.main_v10_1)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v10_0) = v0 c
          ∧ r.2.mem ((c.tc : Thread Cert.GatingIdeal.nD Cert.GatingIdeal.τ).loc Cert.GatingIdeal.main_v10_1) = v1 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v40) = v0 c
          ∧ r.2.mem ((c.tc : Thread Cert.GatingRefIdeal.nD Cert.GatingRefIdeal.τ).loc Cert.GatingRefIdeal.main_v26) = v1 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)
      ∧ m' ((c.tc : Thread Cert.InProjSampleRefIdeal.nD Cert.InProjSampleRefIdeal.τ).loc Cert.InProjSampleRefIdeal.main_arg3) = m ((c.tc : Thread Cert.InProjSampleIdeal.nD Cert.InProjSampleIdeal.τ).loc Cert.InProjSampleIdeal.main_arg3)) →
    ∃ (v0 : (c : Dev Cert.InProjSampleIdeal.nD) → Buf (Elt Ideal) ((c.tc : Thread Cert.InProjSampleIdeal.nD Cert.InProjSampleIdeal.τ).loc Cert.InProjSampleIdeal.main_v25)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v25) = v0 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v32) = v0 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2)
          ∧ r.2.mem ((c.tc : Thread Cert.InProjSampleRefIdeal.nD Cert.InProjSampleRefIdeal.τ).loc Cert.InProjSampleRefIdeal.main_arg3) = m' ((c.tc : Thread Cert.InProjSampleRefIdeal.nD Cert.InProjSampleRefIdeal.τ).loc Cert.InProjSampleRefIdeal.main_arg3))

def preserves_MoeSample_MoeSampleIdeal : Prop :=
  True

def algebraic_MoeSampleIdeal_MoeSampleRefIdeal_pre_sample_gates_finite [hMoeSampleIdeal : Cert.MoeSampleIdeal.Facts] [hMoeSampleRefIdeal : Cert.MoeSampleRefIdeal.Facts] [hPre_sample_gates_finite : Cert.Pre_sample_gates_finite.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg)
    (m' : (ℓ : Loc Cert.MoeSampleRefIdeal.nD Cert.MoeSampleRefIdeal.τ Cert.MoeSampleRefIdeal.sig) → Buf (Elt Ideal) ℓ) (g' : Dev Cert.MoeSampleRefIdeal.nD → PrngReg), Pre_MoeSampleIdeal_sample_gates_finite m →
    (∀ c : Dev Cert.MoeSampleIdeal.nD,
      m' ((c.tc : Thread Cert.MoeSampleRefIdeal.nD Cert.MoeSampleRefIdeal.τ).loc Cert.MoeSampleRefIdeal.main_arg0) = m ((c.tc : Thread Cert.MoeSampleIdeal.nD Cert.MoeSampleIdeal.τ).loc Cert.MoeSampleIdeal.main_arg0)
      ∧ m' ((c.tc : Thread Cert.MoeSampleRefIdeal.nD Cert.MoeSampleRefIdeal.τ).loc Cert.MoeSampleRefIdeal.main_arg1) = m ((c.tc : Thread Cert.MoeSampleIdeal.nD Cert.MoeSampleIdeal.τ).loc Cert.MoeSampleIdeal.main_arg1)
      ∧ m' ((c.tc : Thread Cert.MoeSampleRefIdeal.nD Cert.MoeSampleRefIdeal.τ).loc Cert.MoeSampleRefIdeal.main_arg2) = m ((c.tc : Thread Cert.MoeSampleIdeal.nD Cert.MoeSampleIdeal.τ).loc Cert.MoeSampleIdeal.main_arg2)
      ∧ m' ((c.tc : Thread Cert.MoeSampleRefIdeal.nD Cert.MoeSampleRefIdeal.τ).loc Cert.MoeSampleRefIdeal.main_arg3) = m ((c.tc : Thread Cert.MoeSampleIdeal.nD Cert.MoeSampleIdeal.τ).loc Cert.MoeSampleIdeal.main_arg3)
      ∧ m' ((c.tc : Thread Cert.MoeSampleRefIdeal.nD Cert.MoeSampleRefIdeal.τ).loc Cert.MoeSampleRefIdeal.main_arg4) = m ((c.tc : Thread Cert.MoeSampleIdeal.nD Cert.MoeSampleIdeal.τ).loc Cert.MoeSampleIdeal.main_arg4)
      ∧ m' ((c.tc : Thread Cert.MoeSampleRefIdeal.nD Cert.MoeSampleRefIdeal.τ).loc Cert.MoeSampleRefIdeal.main_arg5) = m ((c.tc : Thread Cert.MoeSampleIdeal.nD Cert.MoeSampleIdeal.τ).loc Cert.MoeSampleIdeal.main_arg5)
      ∧ m' ((c.tc : Thread Cert.MoeSampleRefIdeal.nD Cert.MoeSampleRefIdeal.τ).loc Cert.MoeSampleRefIdeal.main_arg6) = m ((c.tc : Thread Cert.MoeSampleIdeal.nD Cert.MoeSampleIdeal.τ).loc Cert.MoeSampleIdeal.main_arg6)
      ∧ m' ((c.tc : Thread Cert.MoeSampleRefIdeal.nD Cert.MoeSampleRefIdeal.τ).loc Cert.MoeSampleRefIdeal.main_arg7) = m ((c.tc : Thread Cert.MoeSampleIdeal.nD Cert.MoeSampleIdeal.τ).loc Cert.MoeSampleIdeal.main_arg7)
      ∧ m' ((c.tc : Thread Cert.MoeSampleRefIdeal.nD Cert.MoeSampleRefIdeal.τ).loc Cert.MoeSampleRefIdeal.main_arg8) = m ((c.tc : Thread Cert.MoeSampleIdeal.nD Cert.MoeSampleIdeal.τ).loc Cert.MoeSampleIdeal.main_arg8)) →
    ∃ (v0 : (c : Dev Cert.MoeSampleIdeal.nD) → Buf (Elt Ideal) ((c.tc : Thread Cert.MoeSampleIdeal.nD Cert.MoeSampleIdeal.τ).loc Cert.MoeSampleIdeal.main_v6)),
      θ_run (Cert.MoeSampleIdeal.defs (F := Ideal)) (onTc (τ := Cert.MoeSampleIdeal.τ) (Cert.MoeSampleIdeal.main (F := Ideal))) ⟨m, fun _ => 0, g⟩ (fun r => ∀ c : Dev Cert.MoeSampleIdeal.nD,
          r.2.mem ((c.tc : Thread Cert.MoeSampleIdeal.nD Cert.MoeSampleIdeal.τ).loc Cert.MoeSampleIdeal.main_v6) = v0 c
          ∧ r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
          ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
          ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
          ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
          ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
          ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
          ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
          ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7)
          ∧ r.2.mem ((c.tc : Thread Cert.MoeSampleIdeal.nD Cert.MoeSampleIdeal.τ).loc Cert.MoeSampleIdeal.main_arg8) = m ((c.tc : Thread Cert.MoeSampleIdeal.nD Cert.MoeSampleIdeal.τ).loc Cert.MoeSampleIdeal.main_arg8))
      ∧ θ_run (Cert.MoeSampleRefIdeal.defs (F := Ideal)) (onTc (τ := Cert.MoeSampleRefIdeal.τ) (Cert.MoeSampleRefIdeal.main (F := Ideal))) ⟨m', fun _ => 0, g'⟩ (fun r => ∀ c : Dev Cert.MoeSampleRefIdeal.nD,
          r.2.mem ((c.tc : Thread Cert.MoeSampleRefIdeal.nD Cert.MoeSampleRefIdeal.τ).loc Cert.MoeSampleRefIdeal.main_v54) = v0 c
          ∧ r.2.mem ((c.tc : Thread Cert.MoeSampleRefIdeal.nD Cert.MoeSampleRefIdeal.τ).loc Cert.MoeSampleRefIdeal.main_arg0) = m' ((c.tc : Thread Cert.MoeSampleRefIdeal.nD Cert.MoeSampleRefIdeal.τ).loc Cert.MoeSampleRefIdeal.main_arg0)
          ∧ r.2.mem ((c.tc : Thread Cert.MoeSampleRefIdeal.nD Cert.MoeSampleRefIdeal.τ).loc Cert.MoeSampleRefIdeal.main_arg1) = m' ((c.tc : Thread Cert.MoeSampleRefIdeal.nD Cert.MoeSampleRefIdeal.τ).loc Cert.MoeSampleRefIdeal.main_arg1)
          ∧ r.2.mem ((c.tc : Thread Cert.MoeSampleRefIdeal.nD Cert.MoeSampleRefIdeal.τ).loc Cert.MoeSampleRefIdeal.main_arg2) = m' ((c.tc : Thread Cert.MoeSampleRefIdeal.nD Cert.MoeSampleRefIdeal.τ).loc Cert.MoeSampleRefIdeal.main_arg2)
          ∧ r.2.mem ((c.tc : Thread Cert.MoeSampleRefIdeal.nD Cert.MoeSampleRefIdeal.τ).loc Cert.MoeSampleRefIdeal.main_arg3) = m' ((c.tc : Thread Cert.MoeSampleRefIdeal.nD Cert.MoeSampleRefIdeal.τ).loc Cert.MoeSampleRefIdeal.main_arg3)
          ∧ r.2.mem ((c.tc : Thread Cert.MoeSampleRefIdeal.nD Cert.MoeSampleRefIdeal.τ).loc Cert.MoeSampleRefIdeal.main_arg4) = m' ((c.tc : Thread Cert.MoeSampleRefIdeal.nD Cert.MoeSampleRefIdeal.τ).loc Cert.MoeSampleRefIdeal.main_arg4)
          ∧ r.2.mem ((c.tc : Thread Cert.MoeSampleRefIdeal.nD Cert.MoeSampleRefIdeal.τ).loc Cert.MoeSampleRefIdeal.main_arg5) = m' ((c.tc : Thread Cert.MoeSampleRefIdeal.nD Cert.MoeSampleRefIdeal.τ).loc Cert.MoeSampleRefIdeal.main_arg5)
          ∧ r.2.mem ((c.tc : Thread Cert.MoeSampleRefIdeal.nD Cert.MoeSampleRefIdeal.τ).loc Cert.MoeSampleRefIdeal.main_arg6) = m' ((c.tc : Thread Cert.MoeSampleRefIdeal.nD Cert.MoeSampleRefIdeal.τ).loc Cert.MoeSampleRefIdeal.main_arg6)
          ∧ r.2.mem ((c.tc : Thread Cert.MoeSampleRefIdeal.nD Cert.MoeSampleRefIdeal.τ).loc Cert.MoeSampleRefIdeal.main_arg7) = m' ((c.tc : Thread Cert.MoeSampleRefIdeal.nD Cert.MoeSampleRefIdeal.τ).loc Cert.MoeSampleRefIdeal.main_arg7)
          ∧ r.2.mem ((c.tc : Thread Cert.MoeSampleRefIdeal.nD Cert.MoeSampleRefIdeal.τ).loc Cert.MoeSampleRefIdeal.main_arg8) = m' ((c.tc : Thread Cert.MoeSampleRefIdeal.nD Cert.MoeSampleRefIdeal.τ).loc Cert.MoeSampleRefIdeal.main_arg8))

def preserves_GatingPrompt_GatingPromptIdeal : Prop :=
  True

def algebraic_GatingPromptIdeal_GatingPromptRefIdeal [hGatingPromptIdeal : Cert.GatingPromptIdeal.Facts] [hGatingPromptRefIdeal : Cert.GatingPromptRefIdeal.Facts] : Prop :=
  ∀ (m : (ℓ : Loc Cert.GatingPromptIdeal.nD Cert.GatingPromptIdeal.τ Cert.GatingPromptIdeal.sig) → Buf (Elt Ideal) ℓ) (g : Dev Cert.GatingPromptIdeal.nD → PrngReg)
    (m' : (ℓ : Loc Cert.GatingPromptRefIdeal.nD Cert.GatingPromptRefIdeal.τ Cert.GatingPromptRefIdeal.sig) → Buf (Elt Ideal) ℓ) (g' : Dev Cert.GatingPromptRefIdeal.nD → PrngReg), Pre_GatingPromptIdeal m →
    (∀ c : Dev Cert.GatingPromptIdeal.nD,
      m' ((c.tc : Thread Cert.GatingPromptRefIdeal.nD Cert.GatingPromptRefIdeal.τ).loc Cert.GatingPromptRefIdeal.main_arg0) = m ((c.tc : Thread Cert.GatingPromptIdeal.nD Cert.GatingPromptIdeal.τ).loc Cert.GatingPromptIdeal.main_arg0)
      ∧ m' ((c.tc : Thread Cert.GatingPromptRefIdeal.nD Cert.GatingPromptRefIdeal.τ).loc Cert.GatingPromptRefIdeal.main_arg1) = m ((c.tc : Thread Cert.GatingPromptIdeal.nD Cert.GatingPromptIdeal.τ).loc Cert.GatingPromptIdeal.main_arg1)
      ∧ m' ((c.tc : Thread Cert.GatingPromptRefIdeal.nD Cert.GatingPromptRefIdeal.τ).loc Cert.GatingPromptRefIdeal.main_arg2) = m ((c.tc : Thread Cert.GatingPromptIdeal.nD Cert.GatingPromptIdeal.τ).loc Cert.GatingPromptIdeal.main_arg2)
      ∧ m' ((c.tc : Thread Cert.GatingPromptRefIdeal.nD Cert.GatingPromptRefIdeal.τ).loc Cert.GatingPromptRefIdeal.main_arg3) = m ((c.tc : Thread Cert.GatingPromptIdeal.nD Cert.GatingPromptIdeal.τ).loc Cert.GatingPromptIdeal.main_arg3)
      ∧ m' ((c.tc : Thread Cert.GatingPromptRefIdeal.nD Cert.GatingPromptRefIdeal.τ).loc Cert.GatingPromptRefIdeal.main_arg4) = m ((c.tc : Thread Cert.GatingPromptIdeal.nD Cert.GatingPromptIdeal.τ).loc Cert.GatingPromptIdeal.main_arg4)) →
    ∃ (v0 : (c : Dev Cert.GatingPromptIdeal.nD) → Buf (Elt Ideal) ((c.tc : Thread Cert.GatingPromptIdeal.nD Cert.GatingPromptIdeal.τ).loc Cert.GatingPromptIdeal.main_v5)),
      θ_run (Cert.GatingPromptIdeal.defs (F := Ideal)) (onTc (τ := Cert.GatingPromptIdeal.τ) (Cert.GatingPromptIdeal.main (F := Ideal))) ⟨m, fun _ => 0, g⟩ (fun r => ∀ c : Dev Cert.GatingPromptIdeal.nD,
          r.2.mem ((c.tc : Thread Cert.GatingPromptIdeal.nD Cert.GatingPromptIdeal.τ).loc Cert.GatingPromptIdeal.main_v5) = v0 c
          ∧ r.2.mem ((c.tc : Thread Cert.GatingPromptIdeal.nD Cert.GatingPromptIdeal.τ).loc Cert.GatingPromptIdeal.main_arg0) = m ((c.tc : Thread Cert.GatingPromptIdeal.nD Cert.GatingPromptIdeal.τ).loc Cert.GatingPromptIdeal.main_arg0)
          ∧ r.2.mem ((c.tc : Thread Cert.GatingPromptIdeal.nD Cert.GatingPromptIdeal.τ).loc Cert.GatingPromptIdeal.main_arg1) = m ((c.tc : Thread Cert.GatingPromptIdeal.nD Cert.GatingPromptIdeal.τ).loc Cert.GatingPromptIdeal.main_arg1)
          ∧ r.2.mem ((c.tc : Thread Cert.GatingPromptIdeal.nD Cert.GatingPromptIdeal.τ).loc Cert.GatingPromptIdeal.main_arg2) = m ((c.tc : Thread Cert.GatingPromptIdeal.nD Cert.GatingPromptIdeal.τ).loc Cert.GatingPromptIdeal.main_arg2)
          ∧ r.2.mem ((c.tc : Thread Cert.GatingPromptIdeal.nD Cert.GatingPromptIdeal.τ).loc Cert.GatingPromptIdeal.main_arg3) = m ((c.tc : Thread Cert.GatingPromptIdeal.nD Cert.GatingPromptIdeal.τ).loc Cert.GatingPromptIdeal.main_arg3)
          ∧ r.2.mem ((c.tc : Thread Cert.GatingPromptIdeal.nD Cert.GatingPromptIdeal.τ).loc Cert.GatingPromptIdeal.main_arg4) = m ((c.tc : Thread Cert.GatingPromptIdeal.nD Cert.GatingPromptIdeal.τ).loc Cert.GatingPromptIdeal.main_arg4))
      ∧ θ_run (Cert.GatingPromptRefIdeal.defs (F := Ideal)) (onTc (τ := Cert.GatingPromptRefIdeal.τ) (Cert.GatingPromptRefIdeal.main (F := Ideal))) ⟨m', fun _ => 0, g'⟩ (fun r => ∀ c : Dev Cert.GatingPromptRefIdeal.nD,
          r.2.mem ((c.tc : Thread Cert.GatingPromptRefIdeal.nD Cert.GatingPromptRefIdeal.τ).loc Cert.GatingPromptRefIdeal.main_v39) = v0 c
          ∧ r.2.mem ((c.tc : Thread Cert.GatingPromptRefIdeal.nD Cert.GatingPromptRefIdeal.τ).loc Cert.GatingPromptRefIdeal.main_arg0) = m' ((c.tc : Thread Cert.GatingPromptRefIdeal.nD Cert.GatingPromptRefIdeal.τ).loc Cert.GatingPromptRefIdeal.main_arg0)
          ∧ r.2.mem ((c.tc : Thread Cert.GatingPromptRefIdeal.nD Cert.GatingPromptRefIdeal.τ).loc Cert.GatingPromptRefIdeal.main_arg1) = m' ((c.tc : Thread Cert.GatingPromptRefIdeal.nD Cert.GatingPromptRefIdeal.τ).loc Cert.GatingPromptRefIdeal.main_arg1)
          ∧ r.2.mem ((c.tc : Thread Cert.GatingPromptRefIdeal.nD Cert.GatingPromptRefIdeal.τ).loc Cert.GatingPromptRefIdeal.main_arg2) = m' ((c.tc : Thread Cert.GatingPromptRefIdeal.nD Cert.GatingPromptRefIdeal.τ).loc Cert.GatingPromptRefIdeal.main_arg2)
          ∧ r.2.mem ((c.tc : Thread Cert.GatingPromptRefIdeal.nD Cert.GatingPromptRefIdeal.τ).loc Cert.GatingPromptRefIdeal.main_arg3) = m' ((c.tc : Thread Cert.GatingPromptRefIdeal.nD Cert.GatingPromptRefIdeal.τ).loc Cert.GatingPromptRefIdeal.main_arg3)
          ∧ r.2.mem ((c.tc : Thread Cert.GatingPromptRefIdeal.nD Cert.GatingPromptRefIdeal.τ).loc Cert.GatingPromptRefIdeal.main_arg4) = m' ((c.tc : Thread Cert.GatingPromptRefIdeal.nD Cert.GatingPromptRefIdeal.τ).loc Cert.GatingPromptRefIdeal.main_arg4))

def Claim : Prop :=
  ∃ (hKernel : Cert.Kernel.Facts) (hInProj : Cert.InProj.Facts) (hInProjIdeal : Cert.InProjIdeal.Facts) (hInProjRefIdeal : Cert.InProjRefIdeal.Facts) (hMoe : Cert.Moe.Facts) (hMoeIdeal : Cert.MoeIdeal.Facts) (hMoeRefIdeal : Cert.MoeRefIdeal.Facts) (hGating : Cert.Gating.Facts) (hGatingIdeal : Cert.GatingIdeal.Facts) (hGatingRefIdeal : Cert.GatingRefIdeal.Facts) (hInProjSample : Cert.InProjSample.Facts) (hInProjSampleIdeal : Cert.InProjSampleIdeal.Facts) (hInProjSampleRefIdeal : Cert.InProjSampleRefIdeal.Facts) (hMoeSample : Cert.MoeSample.Facts) (hMoeSampleIdeal : Cert.MoeSampleIdeal.Facts) (hMoeSampleRefIdeal : Cert.MoeSampleRefIdeal.Facts) (hGatingPrompt : Cert.GatingPrompt.Facts) (hGatingPromptIdeal : Cert.GatingPromptIdeal.Facts) (hGatingPromptRefIdeal : Cert.GatingPromptRefIdeal.Facts) (hPre_gates_finite : Cert.Pre_gates_finite.Facts) (hPre_sample_gates_finite : Cert.Pre_sample_gates_finite.Facts),
    quiescent_Kernel (hKernel := hKernel)
    ∧ quiescent_InProj (hInProj := hInProj)
    ∧ quiescent_InProjIdeal (hInProjIdeal := hInProjIdeal)
    ∧ quiescent_InProjRefIdeal (hInProjRefIdeal := hInProjRefIdeal)
    ∧ quiescent_Moe (hMoe := hMoe)
    ∧ quiescent_MoeIdeal (hMoeIdeal := hMoeIdeal)
    ∧ quiescent_MoeIdeal_pre_gates_finite (hMoeIdeal := hMoeIdeal) (hPre_gates_finite := hPre_gates_finite)
    ∧ quiescent_MoeRefIdeal (hMoeRefIdeal := hMoeRefIdeal)
    ∧ quiescent_MoeRefIdeal_pre_gates_finite (hMoeRefIdeal := hMoeRefIdeal) (hPre_gates_finite := hPre_gates_finite)
    ∧ quiescent_Gating (hGating := hGating)
    ∧ quiescent_GatingIdeal (hGatingIdeal := hGatingIdeal)
    ∧ quiescent_GatingRefIdeal (hGatingRefIdeal := hGatingRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_MoeSample (hMoeSample := hMoeSample)
    ∧ quiescent_MoeSampleIdeal (hMoeSampleIdeal := hMoeSampleIdeal)
    ∧ quiescent_MoeSampleIdeal_pre_sample_gates_finite (hMoeSampleIdeal := hMoeSampleIdeal) (hPre_sample_gates_finite := hPre_sample_gates_finite)
    ∧ quiescent_MoeSampleRefIdeal (hMoeSampleRefIdeal := hMoeSampleRefIdeal)
    ∧ quiescent_MoeSampleRefIdeal_pre_sample_gates_finite (hMoeSampleRefIdeal := hMoeSampleRefIdeal) (hPre_sample_gates_finite := hPre_sample_gates_finite)
    ∧ quiescent_GatingPrompt (hGatingPrompt := hGatingPrompt)
    ∧ quiescent_GatingPromptIdeal (hGatingPromptIdeal := hGatingPromptIdeal)
    ∧ quiescent_GatingPromptRefIdeal (hGatingPromptRefIdeal := hGatingPromptRefIdeal)
    ∧ preserves_InProj_InProjIdeal
    ∧ algebraic_InProjIdeal_InProjRefIdeal (hInProjIdeal := hInProjIdeal) (hInProjRefIdeal := hInProjRefIdeal)
    ∧ preserves_Moe_MoeIdeal
    ∧ algebraic_MoeIdeal_MoeRefIdeal_pre_gates_finite (hMoeIdeal := hMoeIdeal) (hMoeRefIdeal := hMoeRefIdeal) (hPre_gates_finite := hPre_gates_finite)
    ∧ preserves_Gating_GatingIdeal
    ∧ algebraic_GatingIdeal_GatingRefIdeal (hGatingIdeal := hGatingIdeal) (hGatingRefIdeal := hGatingRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_MoeSample_MoeSampleIdeal
    ∧ algebraic_MoeSampleIdeal_MoeSampleRefIdeal_pre_sample_gates_finite (hMoeSampleIdeal := hMoeSampleIdeal) (hMoeSampleRefIdeal := hMoeSampleRefIdeal) (hPre_sample_gates_finite := hPre_sample_gates_finite)
    ∧ preserves_GatingPrompt_GatingPromptIdeal
    ∧ algebraic_GatingPromptIdeal_GatingPromptRefIdeal (hGatingPromptIdeal := hGatingPromptIdeal) (hGatingPromptRefIdeal := hGatingPromptRefIdeal)
-- ==== Pre_gates_finite.lean ====
abbrev S4x4096x1024 : Shape := ⟨3, ![4, 4096, 1024]⟩
abbrev S16384x16 : Shape := ⟨2, ![16384, 16]⟩
abbrev S4x6144 : Shape := ⟨2, ![4, 6144]⟩
abbrev S4x16x1024x512 : Shape := ⟨4, ![4, 16, 1024, 512]⟩
abbrev S4x16x512x1024 : Shape := ⟨4, ![4, 16, 512, 1024]⟩
abbrev S1024 : Shape := ⟨1, ![1024]⟩
abbrev S_ : Shape := ⟨0, ![]⟩

class Facts : Prop where
  bcast_S_S16384x16 : S_.BroadcastsInDim S16384x16 (![] : Fin 0 → Fin S16384x16.rank)

variable [Facts]

def fn {F : FTy → Type} [FloatOps F] (main_arg0 : FVec F S4x4096x1024 .bf16) (main_arg1 : FVec F S16384x16 .f32) (main_arg2 : FVec F S4x4096x1024 .f32) (main_arg3 : FVec F S4x6144 .f32) (main_arg4 : FVec F S4x16x1024x512 .f32) (main_arg5 : FVec F S4x16x1024x512 .f32) (main_arg6 : FVec F S4x16x512x1024 .f32) (main_arg7 : FVec F S1024 .f32) (main_arg8 : FVec F S1024 .f32) : IVec S16384x16 1 :=
  let main_cst : FVec F S_ .f32 := constant S_ .f32 0x00000000#32
  let main_v0 : FVec F S16384x16 .f32 := broadcastInDim S16384x16 ![] bcast_S_S16384x16 main_cst
  let main_v1 : IVec S16384x16 1 := cmpf .oge main_arg1 main_v0
  let main_cst_0 : FVec F S_ .f32 := constant S_ .f32 0x7F800000#32
  let main_v2 : FVec F S16384x16 .f32 := broadcastInDim S16384x16 ![] bcast_S_S16384x16 main_cst_0
  let main_v3 : IVec S16384x16 1 := cmpf .olt main_arg1 main_v2
  let main_v4 : IVec S16384x16 1 := andi main_v1 main_v3
  main_v4
-- ==== Pre_sample_gates_finite.lean ====
abbrev S128x8x1024 : Shape := ⟨3, ![128, 8, 1024]⟩
abbrev S1024x16 : Shape := ⟨2, ![1024, 16]⟩
abbrev S128x6144 : Shape := ⟨2, ![128, 6144]⟩
abbrev S4x16x1024x512 : Shape := ⟨4, ![4, 16, 1024, 512]⟩
abbrev S4x16x512x1024 : Shape := ⟨4, ![4, 16, 512, 1024]⟩
abbrev S1024 : Shape := ⟨1, ![1024]⟩
abbrev S_ : Shape := ⟨0, ![]⟩

class Facts : Prop where
  bcast_S_S1024x16 : S_.BroadcastsInDim S1024x16 (![] : Fin 0 → Fin S1024x16.rank)

variable [Facts]

def fn {F : FTy → Type} [FloatOps F] (main_arg0 : FVec F S128x8x1024 .f32) (main_arg1 : FVec F S1024x16 .f32) (main_arg2 : FVec F S128x8x1024 .f32) (main_arg3 : FVec F S128x6144 .f32) (main_arg4 : FVec F S4x16x1024x512 .f32) (main_arg5 : FVec F S4x16x1024x512 .f32) (main_arg6 : FVec F S4x16x512x1024 .f32) (main_arg7 : FVec F S1024 .f32) (main_arg8 : FVec F S1024 .f32) : IVec S1024x16 1 :=
  let main_cst : FVec F S_ .f32 := constant S_ .f32 0x00000000#32
  let main_v0 : FVec F S1024x16 .f32 := broadcastInDim S1024x16 ![] bcast_S_S1024x16 main_cst
  let main_v1 : IVec S1024x16 1 := cmpf .oge main_arg1 main_v0
  let main_cst_0 : FVec F S_ .f32 := constant S_ .f32 0x7F800000#32
  let main_v2 : FVec F S1024x16 .f32 := broadcastInDim S1024x16 ![] bcast_S_S1024x16 main_cst_0
  let main_v3 : IVec S1024x16 1 := cmpf .olt main_arg1 main_v2
  let main_v4 : IVec S1024x16 1 := andi main_v1 main_v3
  main_v4
-- ==== Kernel.lean ====
abbrev S4x4096x6656 : Shape := ⟨3, ![4, 4096, 6656]⟩
abbrev S2x512x256 : Shape := ⟨3, ![2, 512, 256]⟩
abbrev S4x4096x512 : Shape := ⟨3, ![4, 4096, 512]⟩
abbrev S1x512x512 : Shape := ⟨3, ![1, 512, 512]⟩
abbrev S1x512x256 : Shape := ⟨3, ![1, 512, 256]⟩
abbrev S1x512x128 : Shape := ⟨3, ![1, 512, 128]⟩
abbrev S1x4096x256 : Shape := ⟨3, ![1, 4096, 256]⟩
abbrev S1x4096x128 : Shape := ⟨3, ![1, 4096, 128]⟩
abbrev S4x32x128x128 : Shape := ⟨4, ![4, 32, 128, 128]⟩
abbrev S2x512x128 : Shape := ⟨3, ![2, 512, 128]⟩
abbrev S512x512 : Shape := ⟨2, ![512, 512]⟩
abbrev S8x2x512x512 : Shape := ⟨4, ![8, 2, 512, 512]⟩
abbrev S128x1 : Shape := ⟨2, ![128, 1]⟩
abbrev S128x512 : Shape := ⟨2, ![128, 512]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S512x256 : Shape := ⟨2, ![512, 256]⟩
abbrev S1x1x128x128 : Shape := ⟨4, ![1, 1, 128, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x128x512 : Shape := ⟨3, ![1, 128, 512]⟩
abbrev S512x128 : Shape := ⟨2, ![512, 128]⟩
abbrev S1x32x128x128 : Shape := ⟨4, ![1, 32, 128, 128]⟩
abbrev S32x128x128 : Shape := ⟨3, ![32, 128, 128]⟩
abbrev S1x2x512x512 : Shape := ⟨4, ![1, 2, 512, 512]⟩
abbrev S2x512x512 : Shape := ⟨3, ![2, 512, 512]⟩
abbrev S256x128 : Shape := ⟨2, ![256, 128]⟩
abbrev S512 : Shape := ⟨1, ![512]⟩
abbrev S512x1 : Shape := ⟨2, ![512, 1]⟩

abbrev nBuf : Space → Nat
  | .hbm => 3
  | .vmem => 24
  | .smem => 0
  | _ => 0

abbrev bufTy : (tb : Table) → Fin (tcTables nBuf tb) → BufTy
  | .hbm, ⟨0, _⟩ => ⟨S4x4096x6656, .f32⟩
  | .hbm, ⟨1, _⟩ => ⟨S2x512x256, .f32⟩
  | .hbm, ⟨2, _⟩ => ⟨S4x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x256, .f32⟩
  | .local _ .vmem, ⟨3, _⟩ => ⟨S1x512x256, .f32⟩
  | .local _ .vmem, ⟨4, _⟩ => ⟨S1x512x128, .f32⟩
  | .local _ .vmem, ⟨5, _⟩ => ⟨S1x512x128, .f32⟩
  | .local _ .vmem, ⟨6, _⟩ => ⟨S1x4096x256, .f32⟩
  | .local _ .vmem, ⟨7, _⟩ => ⟨S1x4096x256, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S2x512x256, .f32⟩
  | .local _ .vmem, ⟨13, _⟩ => ⟨S1x512x512, .bf16⟩
  | .local _ .vmem, ⟨14, _⟩ => ⟨S1x512x512, .bf16⟩
  | .local _ .vmem, ⟨15, _⟩ => ⟨S4x32x128x128, .i32⟩
  | .local _ .vmem, ⟨16, _⟩ => ⟨S2x512x128, .bf16⟩
  | .local _ .vmem, ⟨17, _⟩ => ⟨S2x512x128, .f32⟩
  | .local _ .vmem, ⟨18, _⟩ => ⟨S2x512x128, .f32⟩
  | .local _ .vmem, ⟨19, _⟩ => ⟨S2x512x128, .f32⟩
  | .local _ .vmem, ⟨20, _⟩ => ⟨S2x512x128, .f32⟩
  | .local _ .vmem, ⟨21, _⟩ => ⟨S512x512, .bf16⟩
  | .local _ .vmem, ⟨22, _⟩ => ⟨S8x2x512x512, .f32⟩
  | .local _ .vmem, ⟨23, _⟩ => ⟨S2x512x256, .f32⟩
  | _, _ => ⟨S4x4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![4, 8], ![false, false]⟩

@[reducible] def k0_t1_loop (i : grid0.Coords) : Scf.Loop 32 :=
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_34 : BitVec 32 := 1#32
  ⟨c0_i32_32, v97, c1_i32_34⟩
def k0_mult1 (i : grid0.Coords) (k0_t1 : Fin (k0_t1_loop i).trips) : BitVec 32 :=
  let c2_i32_2006 : BitVec 32 := 2#32
  let c0_i32_32 : BitVec 32 := 0#32
  let c1_i32_34 : BitVec 32 := 1#32
  let arg19 : BitVec 32 := Scf.iv c0_i32_32 c1_i32_34 k0_t1
  let v3550 : BitVec 32 := Scalar.muli c2_i32_2006 arg19
  let c512_i32 : BitVec 32 := 512#32
  let v3551 : BitVec 32 := Scalar.muli v3550 c512_i32
  v3551
def k0_off1 (i : grid0.Coords) (k0_t1 : Fin (k0_t1_loop i).trips) : Fin 3 → Nat :=
  let c0_2007 : Index := 0#32
  let c2_i32_2006 : BitVec 32 := 2#32
  let c0_i32_32 : BitVec 32 := 0#32
  let c1_i32_34 : BitVec 32 := 1#32
  let arg19 : BitVec 32 := Scf.iv c0_i32_32 c1_i32_34 k0_t1
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off2 (i : grid0.Coords) (k0_t1 : Fin (k0_t1_loop i).trips) (c0_i32_2025 : BitVec 32) : Fin 4 → Nat :=
  let c0_2026 : Index := 0#32
  let c2_i32_2006 : BitVec 32 := 2#32
  let c0_i32_32 : BitVec 32 := 0#32
  let c1_i32_34 : BitVec 32 := 1#32
  let arg19 : BitVec 32 := Scf.iv c0_i32_32 c1_i32_34 k0_t1
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2027 : Index := 0#32
  let c0_2028 : Index := 0#32
  ![0, v3606.toNat, 0, 0]
def k0_mult2 (i : grid0.Coords) (k0_t1 : Fin (k0_t1_loop i).trips) : BitVec 32 :=
  let c2_i32_2004 : BitVec 32 := 2#32
  let c0_i32_32 : BitVec 32 := 0#32
  let c1_i32_34 : BitVec 32 := 1#32
  let arg19 : BitVec 32 := Scf.iv c0_i32_32 c1_i32_34 k0_t1
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  v3647
def k0_off3 (i : grid0.Coords) (k0_t1 : Fin (k0_t1_loop i).trips) : Fin 3 → Nat :=
  let c0_2045 : Index := 0#32
  let c2_i32_2004 : BitVec 32 := 2#32
  let c0_i32_32 : BitVec 32 := 0#32
  let c1_i32_34 : BitVec 32 := 1#32
  let arg19 : BitVec 32 := Scf.iv c0_i32_32 c1_i32_34 k0_t1
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  let v3648 : BitVec 32 := v3647
  let v3649 : Index := Scalar.indexCast v3648
  let c0_2046 : Index := 0#32
  ![0, v3649.toNat, 0]
def k0_off4 (i : grid0.Coords) (k0_t1 : Fin (k0_t1_loop i).trips) (c0_i32_2063 : BitVec 32) : Fin 4 → Nat :=
  let c0_2064 : Index := 0#32
  let c2_i32_2004 : BitVec 32 := 2#32
  let c0_i32_32 : BitVec 32 := 0#32
  let c1_i32_34 : BitVec 32 := 1#32
  let arg19 : BitVec 32 := Scf.iv c0_i32_32 c1_i32_34 k0_t1
  let v3548 : BitVec 32 := Scalar.muli c2_i32_2004 arg19
  let c1_i32_2005 : BitVec 32 := 1#32
  let v3549 : BitVec 32 := Scalar.addi v3548 c1_i32_2005
  let c4_i32_2062 : BitVec 32 := 4#32
  let v3700 : BitVec 32 := Scalar.muli v3549 c4_i32_2062
  let v3701 : BitVec 32 := Scalar.addi v3700 c0_i32_2063
  let v3702 : Index := Scalar.indexCast v3701
  let c0_2065 : Index := 0#32
  let c0_2066 : Index := 0#32
  ![0, v3702.toNat, 0, 0]
@[reducible] def k0_t2_loop (i : grid0.Coords) : Scf.Loop 32 :=
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let v94 : BitVec 32 := Scalar.addi c0_i32_32 v93
  let c1_i32_35 : BitVec 32 := 1#32
  ⟨v97, v94, c1_i32_35⟩
def k0_mult3 (i : grid0.Coords) (k0_t2 : Fin (k0_t2_loop i).trips) : BitVec 32 :=
  let c2_i32_2006 : BitVec 32 := 2#32
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_35 : BitVec 32 := 1#32
  let arg19 : BitVec 32 := Scf.iv v97 c1_i32_35 k0_t2
  let v3550 : BitVec 32 := Scalar.muli c2_i32_2006 arg19
  let c512_i32 : BitVec 32 := 512#32
  let v3551 : BitVec 32 := Scalar.muli v3550 c512_i32
  v3551
def k0_off5 (i : grid0.Coords) (k0_t2 : Fin (k0_t2_loop i).trips) : Fin 3 → Nat :=
  let c0_2007 : Index := 0#32
  let c2_i32_2006 : BitVec 32 := 2#32
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_35 : BitVec 32 := 1#32
  let arg19 : BitVec 32 := Scf.iv v97 c1_i32_35 k0_t2
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off6 (i : grid0.Coords) (k0_t2 : Fin (k0_t2_loop i).trips) (c0_i32_2025 : BitVec 32) : Fin 4 → Nat :=
  let c0_2026 : Index := 0#32
  let c2_i32_2006 : BitVec 32 := 2#32
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_35 : BitVec 32 := 1#32
  let arg19 : BitVec 32 := Scf.iv v97 c1_i32_35 k0_t2
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2027 : Index := 0#32
  let c0_2028 : Index := 0#32
  ![0, v3606.toNat, 0, 0]
def k0_mult4 (i : grid0.Coords) (k0_t2 : Fin (k0_t2_loop i).trips) : BitVec 32 :=
  let c2_i32_2004 : BitVec 32 := 2#32
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_35 : BitVec 32 := 1#32
  let arg19 : BitVec 32 := Scf.iv v97 c1_i32_35 k0_t2
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  v3647
def k0_off7 (i : grid0.Coords) (k0_t2 : Fin (k0_t2_loop i).trips) : Fin 3 → Nat :=
  let c0_2045 : Index := 0#32
  let c2_i32_2004 : BitVec 32 := 2#32
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_35 : BitVec 32 := 1#32
  let arg19 : BitVec 32 := Scf.iv v97 c1_i32_35 k0_t2
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  let v3648 : BitVec 32 := v3647
  let v3649 : Index := Scalar.indexCast v3648
  let c0_2046 : Index := 0#32
  ![0, v3649.toNat, 0]
def k0_off8 (i : grid0.Coords) (k0_t2 : Fin (k0_t2_loop i).trips) (c0_i32_2063 : BitVec 32) : Fin 4 → Nat :=
  let c0_2064 : Index := 0#32
  let c2_i32_2004 : BitVec 32 := 2#32
  let c0_i32_32 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_26 : BitVec 32 := 0#32
  let v77 : BitVec 1 := Scalar.cmpi .sgt v20 c0_i32_26
  let v78 : BitVec 32 := Scalar.extui v77
  let c0_i32_27 : BitVec 32 := 0#32
  let v79 : BitVec 1 := Scalar.cmpi .slt v20 c0_i32_27
  let v80 : BitVec 32 := Scalar.extui v79
  let v81 : BitVec 32 := Scalar.subi v78 v80
  let c2_i32_25 : BitVec 32 := 2#32
  let c0_i32_28 : BitVec 32 := 0#32
  let v82 : BitVec 1 := Scalar.cmpi .sgt c2_i32_25 c0_i32_28
  let v83 : BitVec 32 := Scalar.extui v82
  let c0_i32_29 : BitVec 32 := 0#32
  let v84 : BitVec 1 := Scalar.cmpi .slt c2_i32_25 c0_i32_29
  let v85 : BitVec 32 := Scalar.extui v84
  let v86 : BitVec 32 := Scalar.subi v83 v85
  let v87 : BitVec 1 := Scalar.cmpi .ne v81 v86
  let v88 : BitVec 32 := Scalar.remsi v20 c2_i32_25
  let c0_i32_30 : BitVec 32 := 0#32
  let v89 : BitVec 1 := Scalar.cmpi .ne v88 c0_i32_30
  let v90 : BitVec 1 := Scalar.andi v87 v89
  let v76 : BitVec 32 := Scalar.divsi v20 c2_i32_25
  let c1_i32_31 : BitVec 32 := 1#32
  let v91 : BitVec 32 := Scalar.subi v76 c1_i32_31
  let v92 : BitVec 32 := Scalar.select v90 v91 v76
  let v93 : BitVec 32 := Scalar.subi v92 c0_i32_32
  let c1_i32_33 : BitVec 32 := 1#32
  let v95 : BitVec 32 := Scalar.divsi v93 c1_i32_33
  let v96 : BitVec 32 := Scalar.muli v95 c1_i32_33
  let v97 : BitVec 32 := Scalar.addi c0_i32_32 v96
  let c1_i32_35 : BitVec 32 := 1#32
  let arg19 : BitVec 32 := Scf.iv v97 c1_i32_35 k0_t2
  let v3548 : BitVec 32 := Scalar.muli c2_i32_2004 arg19
  let c1_i32_2005 : BitVec 32 := 1#32
  let v3549 : BitVec 32 := Scalar.addi v3548 c1_i32_2005
  let c4_i32_2062 : BitVec 32 := 4#32
  let v3700 : BitVec 32 := Scalar.muli v3549 c4_i32_2062
  let v3701 : BitVec 32 := Scalar.addi v3700 c0_i32_2063
  let v3702 : Index := Scalar.indexCast v3701
  let c0_2065 : Index := 0#32
  let c0_2066 : Index := 0#32
  ![0, v3702.toNat, 0, 0]
@[reducible] def k0_t3_loop (i : grid0.Coords) : Scf.Loop 32 :=
  let c0_i32_42 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_36 : BitVec 32 := 2#32
  let c0_i32_37 : BitVec 32 := 0#32
  let v100 : BitVec 1 := Scalar.cmpi .eq c2_i32_36 c0_i32_37
  let c1_i32_38 : BitVec 32 := 1#32
  let v101 : BitVec 32 := Scalar.select v100 c1_i32_38 c2_i32_36
  let v102 : BitVec 32 := Scalar.remsi v20 v101
  let c0_i32_40 : BitVec 32 := 0#32
  let v104 : BitVec 1 := Scalar.cmpi .slt v102 c0_i32_40
  let c0_i32_41 : BitVec 32 := 0#32
  let v105 : BitVec 1 := Scalar.cmpi .slt v101 c0_i32_41
  let v106 : BitVec 1 := Scalar.xori v104 v105
  let c0_i32_39 : BitVec 32 := 0#32
  let v103 : BitVec 1 := Scalar.cmpi .ne v102 c0_i32_39
  let v107 : BitVec 1 := Scalar.andi v106 v103
  let v108 : BitVec 32 := Scalar.addi v102 v101
  let v109 : BitVec 32 := Scalar.select v107 v108 v102
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let c1_i32_44 : BitVec 32 := 1#32
  ⟨c0_i32_42, v114, c1_i32_44⟩
def k0_mult5 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off9 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off10 (i : grid0.Coords) (c0_i32_2023 : BitVec 32) : Fin 4 → Nat :=
  let c0_2024 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2025 : Index := 0#32
  let c0_2026 : Index := 0#32
  ![0, v3604.toNat, 0, 0]
@[reducible] def k0_t4_loop (i : grid0.Coords) : Scf.Loop 32 :=
  let c0_i32_42 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_36 : BitVec 32 := 2#32
  let c0_i32_37 : BitVec 32 := 0#32
  let v100 : BitVec 1 := Scalar.cmpi .eq c2_i32_36 c0_i32_37
  let c1_i32_38 : BitVec 32 := 1#32
  let v101 : BitVec 32 := Scalar.select v100 c1_i32_38 c2_i32_36
  let v102 : BitVec 32 := Scalar.remsi v20 v101
  let c0_i32_40 : BitVec 32 := 0#32
  let v104 : BitVec 1 := Scalar.cmpi .slt v102 c0_i32_40
  let c0_i32_41 : BitVec 32 := 0#32
  let v105 : BitVec 1 := Scalar.cmpi .slt v101 c0_i32_41
  let v106 : BitVec 1 := Scalar.xori v104 v105
  let c0_i32_39 : BitVec 32 := 0#32
  let v103 : BitVec 1 := Scalar.cmpi .ne v102 c0_i32_39
  let v107 : BitVec 1 := Scalar.andi v106 v103
  let v108 : BitVec 32 := Scalar.addi v102 v101
  let v109 : BitVec 32 := Scalar.select v107 v108 v102
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let v111 : BitVec 32 := Scalar.addi c0_i32_42 v110
  let c1_i32_45 : BitVec 32 := 1#32
  ⟨v114, v111, c1_i32_45⟩
def k0_mult6 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off11 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off12 (i : grid0.Coords) (c0_i32_2023 : BitVec 32) : Fin 4 → Nat :=
  let c0_2024 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2025 : Index := 0#32
  let c0_2026 : Index := 0#32
  ![0, v3604.toNat, 0, 0]
@[reducible] def k0_t5_loop (i : grid0.Coords) : Scf.Loop 32 :=
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_87 : BitVec 32 := 1#32
  ⟨c0_i32_85, v217, c1_i32_87⟩
def k0_mult7 (i : grid0.Coords) (k0_t5 : Fin (k0_t5_loop i).trips) : BitVec 32 :=
  let c2_i32_2006 : BitVec 32 := 2#32
  let c0_i32_85 : BitVec 32 := 0#32
  let c1_i32_87 : BitVec 32 := 1#32
  let arg19 : BitVec 32 := Scf.iv c0_i32_85 c1_i32_87 k0_t5
  let v3550 : BitVec 32 := Scalar.muli c2_i32_2006 arg19
  let c512_i32 : BitVec 32 := 512#32
  let v3551 : BitVec 32 := Scalar.muli v3550 c512_i32
  v3551
def k0_off13 (i : grid0.Coords) (k0_t5 : Fin (k0_t5_loop i).trips) : Fin 3 → Nat :=
  let c0_2007 : Index := 0#32
  let c2_i32_2006 : BitVec 32 := 2#32
  let c0_i32_85 : BitVec 32 := 0#32
  let c1_i32_87 : BitVec 32 := 1#32
  let arg19 : BitVec 32 := Scf.iv c0_i32_85 c1_i32_87 k0_t5
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off14 (i : grid0.Coords) (k0_t5 : Fin (k0_t5_loop i).trips) (c0_i32_2025 : BitVec 32) : Fin 4 → Nat :=
  let c1_2026 : Index := 1#32
  let c2_i32_2006 : BitVec 32 := 2#32
  let c0_i32_85 : BitVec 32 := 0#32
  let c1_i32_87 : BitVec 32 := 1#32
  let arg19 : BitVec 32 := Scf.iv c0_i32_85 c1_i32_87 k0_t5
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2027 : Index := 0#32
  let c0_2028 : Index := 0#32
  ![1, v3606.toNat, 0, 0]
def k0_mult8 (i : grid0.Coords) (k0_t5 : Fin (k0_t5_loop i).trips) : BitVec 32 :=
  let c2_i32_2004 : BitVec 32 := 2#32
  let c0_i32_85 : BitVec 32 := 0#32
  let c1_i32_87 : BitVec 32 := 1#32
  let arg19 : BitVec 32 := Scf.iv c0_i32_85 c1_i32_87 k0_t5
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  v3647
def k0_off15 (i : grid0.Coords) (k0_t5 : Fin (k0_t5_loop i).trips) : Fin 3 → Nat :=
  let c0_2045 : Index := 0#32
  let c2_i32_2004 : BitVec 32 := 2#32
  let c0_i32_85 : BitVec 32 := 0#32
  let c1_i32_87 : BitVec 32 := 1#32
  let arg19 : BitVec 32 := Scf.iv c0_i32_85 c1_i32_87 k0_t5
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  let v3648 : BitVec 32 := v3647
  let v3649 : Index := Scalar.indexCast v3648
  let c0_2046 : Index := 0#32
  ![0, v3649.toNat, 0]
def k0_off16 (i : grid0.Coords) (k0_t5 : Fin (k0_t5_loop i).trips) (c0_i32_2063 : BitVec 32) : Fin 4 → Nat :=
  let c1_2064 : Index := 1#32
  let c2_i32_2004 : BitVec 32 := 2#32
  let c0_i32_85 : BitVec 32 := 0#32
  let c1_i32_87 : BitVec 32 := 1#32
  let arg19 : BitVec 32 := Scf.iv c0_i32_85 c1_i32_87 k0_t5
  let v3548 : BitVec 32 := Scalar.muli c2_i32_2004 arg19
  let c1_i32_2005 : BitVec 32 := 1#32
  let v3549 : BitVec 32 := Scalar.addi v3548 c1_i32_2005
  let c4_i32_2062 : BitVec 32 := 4#32
  let v3700 : BitVec 32 := Scalar.muli v3549 c4_i32_2062
  let v3701 : BitVec 32 := Scalar.addi v3700 c0_i32_2063
  let v3702 : Index := Scalar.indexCast v3701
  let c0_2065 : Index := 0#32
  let c0_2066 : Index := 0#32
  ![1, v3702.toNat, 0, 0]
@[reducible] def k0_t6_loop (i : grid0.Coords) : Scf.Loop 32 :=
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let v214 : BitVec 32 := Scalar.addi c0_i32_85 v213
  let c1_i32_88 : BitVec 32 := 1#32
  ⟨v217, v214, c1_i32_88⟩
def k0_mult9 (i : grid0.Coords) (k0_t6 : Fin (k0_t6_loop i).trips) : BitVec 32 :=
  let c2_i32_2006 : BitVec 32 := 2#32
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_88 : BitVec 32 := 1#32
  let arg19 : BitVec 32 := Scf.iv v217 c1_i32_88 k0_t6
  let v3550 : BitVec 32 := Scalar.muli c2_i32_2006 arg19
  let c512_i32 : BitVec 32 := 512#32
  let v3551 : BitVec 32 := Scalar.muli v3550 c512_i32
  v3551
def k0_off17 (i : grid0.Coords) (k0_t6 : Fin (k0_t6_loop i).trips) : Fin 3 → Nat :=
  let c0_2007 : Index := 0#32
  let c2_i32_2006 : BitVec 32 := 2#32
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_88 : BitVec 32 := 1#32
  let arg19 : BitVec 32 := Scf.iv v217 c1_i32_88 k0_t6
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off18 (i : grid0.Coords) (k0_t6 : Fin (k0_t6_loop i).trips) (c0_i32_2025 : BitVec 32) : Fin 4 → Nat :=
  let c1_2026 : Index := 1#32
  let c2_i32_2006 : BitVec 32 := 2#32
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_88 : BitVec 32 := 1#32
  let arg19 : BitVec 32 := Scf.iv v217 c1_i32_88 k0_t6
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2027 : Index := 0#32
  let c0_2028 : Index := 0#32
  ![1, v3606.toNat, 0, 0]
def k0_mult10 (i : grid0.Coords) (k0_t6 : Fin (k0_t6_loop i).trips) : BitVec 32 :=
  let c2_i32_2004 : BitVec 32 := 2#32
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_88 : BitVec 32 := 1#32
  let arg19 : BitVec 32 := Scf.iv v217 c1_i32_88 k0_t6
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  v3647
def k0_off19 (i : grid0.Coords) (k0_t6 : Fin (k0_t6_loop i).trips) : Fin 3 → Nat :=
  let c0_2045 : Index := 0#32
  let c2_i32_2004 : BitVec 32 := 2#32
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_88 : BitVec 32 := 1#32
  let arg19 : BitVec 32 := Scf.iv v217 c1_i32_88 k0_t6
  let v3548 : BitVec 32 := Scalar.muli c2_i32_2004 arg19
  let c1_i32_2005 : BitVec 32 := 1#32
  let v3549 : BitVec 32 := Scalar.addi v3548 c1_i32_2005
  let c512_i32_2044 : BitVec 32 := 512#32
  let v3647 : BitVec 32 := Scalar.muli v3549 c512_i32_2044
  let v3648 : BitVec 32 := v3647
  let v3649 : Index := Scalar.indexCast v3648
  let c0_2046 : Index := 0#32
  ![0, v3649.toNat, 0]
def k0_off20 (i : grid0.Coords) (k0_t6 : Fin (k0_t6_loop i).trips) (c0_i32_2063 : BitVec 32) : Fin 4 → Nat :=
  let c1_2064 : Index := 1#32
  let c2_i32_2004 : BitVec 32 := 2#32
  let c0_i32_85 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_79 : BitVec 32 := 0#32
  let v197 : BitVec 1 := Scalar.cmpi .sgt v20 c0_i32_79
  let v198 : BitVec 32 := Scalar.extui v197
  let c0_i32_80 : BitVec 32 := 0#32
  let v199 : BitVec 1 := Scalar.cmpi .slt v20 c0_i32_80
  let v200 : BitVec 32 := Scalar.extui v199
  let v201 : BitVec 32 := Scalar.subi v198 v200
  let c2_i32_78 : BitVec 32 := 2#32
  let c0_i32_81 : BitVec 32 := 0#32
  let v202 : BitVec 1 := Scalar.cmpi .sgt c2_i32_78 c0_i32_81
  let v203 : BitVec 32 := Scalar.extui v202
  let c0_i32_82 : BitVec 32 := 0#32
  let v204 : BitVec 1 := Scalar.cmpi .slt c2_i32_78 c0_i32_82
  let v205 : BitVec 32 := Scalar.extui v204
  let v206 : BitVec 32 := Scalar.subi v203 v205
  let v207 : BitVec 1 := Scalar.cmpi .ne v201 v206
  let v208 : BitVec 32 := Scalar.remsi v20 c2_i32_78
  let c0_i32_83 : BitVec 32 := 0#32
  let v209 : BitVec 1 := Scalar.cmpi .ne v208 c0_i32_83
  let v210 : BitVec 1 := Scalar.andi v207 v209
  let v196 : BitVec 32 := Scalar.divsi v20 c2_i32_78
  let c1_i32_84 : BitVec 32 := 1#32
  let v211 : BitVec 32 := Scalar.subi v196 c1_i32_84
  let v212 : BitVec 32 := Scalar.select v210 v211 v196
  let v213 : BitVec 32 := Scalar.subi v212 c0_i32_85
  let c1_i32_86 : BitVec 32 := 1#32
  let v215 : BitVec 32 := Scalar.divsi v213 c1_i32_86
  let v216 : BitVec 32 := Scalar.muli v215 c1_i32_86
  let v217 : BitVec 32 := Scalar.addi c0_i32_85 v216
  let c1_i32_88 : BitVec 32 := 1#32
  let arg19 : BitVec 32 := Scf.iv v217 c1_i32_88 k0_t6
  let v3548 : BitVec 32 := Scalar.muli c2_i32_2004 arg19
  let c1_i32_2005 : BitVec 32 := 1#32
  let v3549 : BitVec 32 := Scalar.addi v3548 c1_i32_2005
  let c4_i32_2062 : BitVec 32 := 4#32
  let v3700 : BitVec 32 := Scalar.muli v3549 c4_i32_2062
  let v3701 : BitVec 32 := Scalar.addi v3700 c0_i32_2063
  let v3702 : Index := Scalar.indexCast v3701
  let c0_2065 : Index := 0#32
  let c0_2066 : Index := 0#32
  ![1, v3702.toNat, 0, 0]
@[reducible] def k0_t7_loop (i : grid0.Coords) : Scf.Loop 32 :=
  let c0_i32_95 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_89 : BitVec 32 := 2#32
  let c0_i32_90 : BitVec 32 := 0#32
  let v220 : BitVec 1 := Scalar.cmpi .eq c2_i32_89 c0_i32_90
  let c1_i32_91 : BitVec 32 := 1#32
  let v221 : BitVec 32 := Scalar.select v220 c1_i32_91 c2_i32_89
  let v222 : BitVec 32 := Scalar.remsi v20 v221
  let c0_i32_93 : BitVec 32 := 0#32
  let v224 : BitVec 1 := Scalar.cmpi .slt v222 c0_i32_93
  let c0_i32_94 : BitVec 32 := 0#32
  let v225 : BitVec 1 := Scalar.cmpi .slt v221 c0_i32_94
  let v226 : BitVec 1 := Scalar.xori v224 v225
  let c0_i32_92 : BitVec 32 := 0#32
  let v223 : BitVec 1 := Scalar.cmpi .ne v222 c0_i32_92
  let v227 : BitVec 1 := Scalar.andi v226 v223
  let v228 : BitVec 32 := Scalar.addi v222 v221
  let v229 : BitVec 32 := Scalar.select v227 v228 v222
  let v230 : BitVec 32 := Scalar.subi v229 c0_i32_95
  let c1_i32_96 : BitVec 32 := 1#32
  let v232 : BitVec 32 := Scalar.divsi v230 c1_i32_96
  let v233 : BitVec 32 := Scalar.muli v232 c1_i32_96
  let v234 : BitVec 32 := Scalar.addi c0_i32_95 v233
  let c1_i32_97 : BitVec 32 := 1#32
  ⟨c0_i32_95, v234, c1_i32_97⟩
def k0_mult11 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off21 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off22 (i : grid0.Coords) (c0_i32_2023 : BitVec 32) : Fin 4 → Nat :=
  let c1_2024 : Index := 1#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2025 : Index := 0#32
  let c0_2026 : Index := 0#32
  ![1, v3604.toNat, 0, 0]
@[reducible] def k0_t8_loop (i : grid0.Coords) : Scf.Loop 32 :=
  let c0_i32_95 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_89 : BitVec 32 := 2#32
  let c0_i32_90 : BitVec 32 := 0#32
  let v220 : BitVec 1 := Scalar.cmpi .eq c2_i32_89 c0_i32_90
  let c1_i32_91 : BitVec 32 := 1#32
  let v221 : BitVec 32 := Scalar.select v220 c1_i32_91 c2_i32_89
  let v222 : BitVec 32 := Scalar.remsi v20 v221
  let c0_i32_93 : BitVec 32 := 0#32
  let v224 : BitVec 1 := Scalar.cmpi .slt v222 c0_i32_93
  let c0_i32_94 : BitVec 32 := 0#32
  let v225 : BitVec 1 := Scalar.cmpi .slt v221 c0_i32_94
  let v226 : BitVec 1 := Scalar.xori v224 v225
  let c0_i32_92 : BitVec 32 := 0#32
  let v223 : BitVec 1 := Scalar.cmpi .ne v222 c0_i32_92
  let v227 : BitVec 1 := Scalar.andi v226 v223
  let v228 : BitVec 32 := Scalar.addi v222 v221
  let v229 : BitVec 32 := Scalar.select v227 v228 v222
  let v230 : BitVec 32 := Scalar.subi v229 c0_i32_95
  let c1_i32_96 : BitVec 32 := 1#32
  let v232 : BitVec 32 := Scalar.divsi v230 c1_i32_96
  let v233 : BitVec 32 := Scalar.muli v232 c1_i32_96
  let v234 : BitVec 32 := Scalar.addi c0_i32_95 v233
  let v231 : BitVec 32 := Scalar.addi c0_i32_95 v230
  let c1_i32_98 : BitVec 32 := 1#32
  ⟨v234, v231, c1_i32_98⟩
def k0_mult12 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off23 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off24 (i : grid0.Coords) (c0_i32_2023 : BitVec 32) : Fin 4 → Nat :=
  let c1_2024 : Index := 1#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2025 : Index := 0#32
  let c0_2026 : Index := 0#32
  ![1, v3604.toNat, 0, 0]
@[reducible] def k0_t9_loop (i : grid0.Coords) : Scf.Loop 32 :=
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_142 : BitVec 32 := 1#32
  ⟨c0_i32_140, v337, c1_i32_142⟩
def k0_mult13 (i : grid0.Coords) (k0_t9 : Fin (k0_t9_loop i).trips) : BitVec 32 :=
  let c2_i32_2006 : BitVec 32 := 2#32
  let c0_i32_140 : BitVec 32 := 0#32
  let c1_i32_142 : BitVec 32 := 1#32
  let arg19 : BitVec 32 := Scf.iv c0_i32_140 c1_i32_142 k0_t9
  let v3550 : BitVec 32 := Scalar.muli c2_i32_2006 arg19
  let c512_i32 : BitVec 32 := 512#32
  let v3551 : BitVec 32 := Scalar.muli v3550 c512_i32
  v3551
def k0_off25 (i : grid0.Coords) (k0_t9 : Fin (k0_t9_loop i).trips) : Fin 3 → Nat :=
  let c0_2007 : Index := 0#32
  let c2_i32_2006 : BitVec 32 := 2#32
  let c0_i32_140 : BitVec 32 := 0#32
  let c1_i32_142 : BitVec 32 := 1#32
  let arg19 : BitVec 32 := Scf.iv c0_i32_140 c1_i32_142 k0_t9
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off26 (i : grid0.Coords) (k0_t9 : Fin (k0_t9_loop i).trips) (c0_i32_2025 : BitVec 32) : Fin 4 → Nat :=
  let c2 : Index := 2#32
  let c2_i32_2006 : BitVec 32 := 2#32
  let c0_i32_140 : BitVec 32 := 0#32
  let c1_i32_142 : BitVec 32 := 1#32
  let arg19 : BitVec 32 := Scf.iv c0_i32_140 c1_i32_142 k0_t9
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2026 : Index := 0#32
  let c0_2027 : Index := 0#32
  ![2, v3606.toNat, 0, 0]
def k0_mult14 (i : grid0.Coords) (k0_t9 : Fin (k0_t9_loop i).trips) : BitVec 32 :=
  let c2_i32_2004 : BitVec 32 := 2#32
  let c0_i32_140 : BitVec 32 := 0#32
  let c1_i32_142 : BitVec 32 := 1#32
  let arg19 : BitVec 32 := Scf.iv c0_i32_140 c1_i32_142 k0_t9
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  v3647
def k0_off27 (i : grid0.Coords) (k0_t9 : Fin (k0_t9_loop i).trips) : Fin 3 → Nat :=
  let c0_2044 : Index := 0#32
  let c2_i32_2004 : BitVec 32 := 2#32
  let c0_i32_140 : BitVec 32 := 0#32
  let c1_i32_142 : BitVec 32 := 1#32
  let arg19 : BitVec 32 := Scf.iv c0_i32_140 c1_i32_142 k0_t9
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  let v3648 : BitVec 32 := v3647
  let v3649 : Index := Scalar.indexCast v3648
  let c0_2045 : Index := 0#32
  ![0, v3649.toNat, 0]
def k0_off28 (i : grid0.Coords) (k0_t9 : Fin (k0_t9_loop i).trips) (c0_i32_2062 : BitVec 32) : Fin 4 → Nat :=
  let c2_2063 : Index := 2#32
  let c2_i32_2004 : BitVec 32 := 2#32
  let c0_i32_140 : BitVec 32 := 0#32
  let c1_i32_142 : BitVec 32 := 1#32
  let arg19 : BitVec 32 := Scf.iv c0_i32_140 c1_i32_142 k0_t9
  let v3548 : BitVec 32 := Scalar.muli c2_i32_2004 arg19
  let c1_i32_2005 : BitVec 32 := 1#32
  let v3549 : BitVec 32 := Scalar.addi v3548 c1_i32_2005
  let c4_i32_2061 : BitVec 32 := 4#32
  let v3700 : BitVec 32 := Scalar.muli v3549 c4_i32_2061
  let v3701 : BitVec 32 := Scalar.addi v3700 c0_i32_2062
  let v3702 : Index := Scalar.indexCast v3701
  let c0_2064 : Index := 0#32
  let c0_2065 : Index := 0#32
  ![2, v3702.toNat, 0, 0]
@[reducible] def k0_t10_loop (i : grid0.Coords) : Scf.Loop 32 :=
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let v334 : BitVec 32 := Scalar.addi c0_i32_140 v333
  let c1_i32_143 : BitVec 32 := 1#32
  ⟨v337, v334, c1_i32_143⟩
def k0_mult15 (i : grid0.Coords) (k0_t10 : Fin (k0_t10_loop i).trips) : BitVec 32 :=
  let c2_i32_2006 : BitVec 32 := 2#32
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_143 : BitVec 32 := 1#32
  let arg19 : BitVec 32 := Scf.iv v337 c1_i32_143 k0_t10
  let v3550 : BitVec 32 := Scalar.muli c2_i32_2006 arg19
  let c512_i32 : BitVec 32 := 512#32
  let v3551 : BitVec 32 := Scalar.muli v3550 c512_i32
  v3551
def k0_off29 (i : grid0.Coords) (k0_t10 : Fin (k0_t10_loop i).trips) : Fin 3 → Nat :=
  let c0_2007 : Index := 0#32
  let c2_i32_2006 : BitVec 32 := 2#32
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_143 : BitVec 32 := 1#32
  let arg19 : BitVec 32 := Scf.iv v337 c1_i32_143 k0_t10
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off30 (i : grid0.Coords) (k0_t10 : Fin (k0_t10_loop i).trips) (c0_i32_2025 : BitVec 32) : Fin 4 → Nat :=
  let c2 : Index := 2#32
  let c2_i32_2006 : BitVec 32 := 2#32
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_143 : BitVec 32 := 1#32
  let arg19 : BitVec 32 := Scf.iv v337 c1_i32_143 k0_t10
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2026 : Index := 0#32
  let c0_2027 : Index := 0#32
  ![2, v3606.toNat, 0, 0]
def k0_mult16 (i : grid0.Coords) (k0_t10 : Fin (k0_t10_loop i).trips) : BitVec 32 :=
  let c2_i32_2004 : BitVec 32 := 2#32
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_143 : BitVec 32 := 1#32
  let arg19 : BitVec 32 := Scf.iv v337 c1_i32_143 k0_t10
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  v3647
def k0_off31 (i : grid0.Coords) (k0_t10 : Fin (k0_t10_loop i).trips) : Fin 3 → Nat :=
  let c0_2044 : Index := 0#32
  let c2_i32_2004 : BitVec 32 := 2#32
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_143 : BitVec 32 := 1#32
  let arg19 : BitVec 32 := Scf.iv v337 c1_i32_143 k0_t10
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  let v3648 : BitVec 32 := v3647
  let v3649 : Index := Scalar.indexCast v3648
  let c0_2045 : Index := 0#32
  ![0, v3649.toNat, 0]
def k0_off32 (i : grid0.Coords) (k0_t10 : Fin (k0_t10_loop i).trips) (c0_i32_2062 : BitVec 32) : Fin 4 → Nat :=
  let c2_2063 : Index := 2#32
  let c2_i32_2004 : BitVec 32 := 2#32
  let c0_i32_140 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_134 : BitVec 32 := 0#32
  let v317 : BitVec 1 := Scalar.cmpi .sgt v20 c0_i32_134
  let v318 : BitVec 32 := Scalar.extui v317
  let c0_i32_135 : BitVec 32 := 0#32
  let v319 : BitVec 1 := Scalar.cmpi .slt v20 c0_i32_135
  let v320 : BitVec 32 := Scalar.extui v319
  let v321 : BitVec 32 := Scalar.subi v318 v320
  let c2_i32_133 : BitVec 32 := 2#32
  let c0_i32_136 : BitVec 32 := 0#32
  let v322 : BitVec 1 := Scalar.cmpi .sgt c2_i32_133 c0_i32_136
  let v323 : BitVec 32 := Scalar.extui v322
  let c0_i32_137 : BitVec 32 := 0#32
  let v324 : BitVec 1 := Scalar.cmpi .slt c2_i32_133 c0_i32_137
  let v325 : BitVec 32 := Scalar.extui v324
  let v326 : BitVec 32 := Scalar.subi v323 v325
  let v327 : BitVec 1 := Scalar.cmpi .ne v321 v326
  let v328 : BitVec 32 := Scalar.remsi v20 c2_i32_133
  let c0_i32_138 : BitVec 32 := 0#32
  let v329 : BitVec 1 := Scalar.cmpi .ne v328 c0_i32_138
  let v330 : BitVec 1 := Scalar.andi v327 v329
  let v316 : BitVec 32 := Scalar.divsi v20 c2_i32_133
  let c1_i32_139 : BitVec 32 := 1#32
  let v331 : BitVec 32 := Scalar.subi v316 c1_i32_139
  let v332 : BitVec 32 := Scalar.select v330 v331 v316
  let v333 : BitVec 32 := Scalar.subi v332 c0_i32_140
  let c1_i32_141 : BitVec 32 := 1#32
  let v335 : BitVec 32 := Scalar.divsi v333 c1_i32_141
  let v336 : BitVec 32 := Scalar.muli v335 c1_i32_141
  let v337 : BitVec 32 := Scalar.addi c0_i32_140 v336
  let c1_i32_143 : BitVec 32 := 1#32
  let arg19 : BitVec 32 := Scf.iv v337 c1_i32_143 k0_t10
  let v3548 : BitVec 32 := Scalar.muli c2_i32_2004 arg19
  let c1_i32_2005 : BitVec 32 := 1#32
  let v3549 : BitVec 32 := Scalar.addi v3548 c1_i32_2005
  let c4_i32_2061 : BitVec 32 := 4#32
  let v3700 : BitVec 32 := Scalar.muli v3549 c4_i32_2061
  let v3701 : BitVec 32 := Scalar.addi v3700 c0_i32_2062
  let v3702 : Index := Scalar.indexCast v3701
  let c0_2064 : Index := 0#32
  let c0_2065 : Index := 0#32
  ![2, v3702.toNat, 0, 0]
@[reducible] def k0_t11_loop (i : grid0.Coords) : Scf.Loop 32 :=
  let c0_i32_150 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_144 : BitVec 32 := 2#32
  let c0_i32_145 : BitVec 32 := 0#32
  let v340 : BitVec 1 := Scalar.cmpi .eq c2_i32_144 c0_i32_145
  let c1_i32_146 : BitVec 32 := 1#32
  let v341 : BitVec 32 := Scalar.select v340 c1_i32_146 c2_i32_144
  let v342 : BitVec 32 := Scalar.remsi v20 v341
  let c0_i32_148 : BitVec 32 := 0#32
  let v344 : BitVec 1 := Scalar.cmpi .slt v342 c0_i32_148
  let c0_i32_149 : BitVec 32 := 0#32
  let v345 : BitVec 1 := Scalar.cmpi .slt v341 c0_i32_149
  let v346 : BitVec 1 := Scalar.xori v344 v345
  let c0_i32_147 : BitVec 32 := 0#32
  let v343 : BitVec 1 := Scalar.cmpi .ne v342 c0_i32_147
  let v347 : BitVec 1 := Scalar.andi v346 v343
  let v348 : BitVec 32 := Scalar.addi v342 v341
  let v349 : BitVec 32 := Scalar.select v347 v348 v342
  let v350 : BitVec 32 := Scalar.subi v349 c0_i32_150
  let c1_i32_151 : BitVec 32 := 1#32
  let v352 : BitVec 32 := Scalar.divsi v350 c1_i32_151
  let v353 : BitVec 32 := Scalar.muli v352 c1_i32_151
  let v354 : BitVec 32 := Scalar.addi c0_i32_150 v353
  let c1_i32_152 : BitVec 32 := 1#32
  ⟨c0_i32_150, v354, c1_i32_152⟩
def k0_mult17 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off33 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off34 (i : grid0.Coords) (c0_i32_2023 : BitVec 32) : Fin 4 → Nat :=
  let c2 : Index := 2#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2024 : Index := 0#32
  let c0_2025 : Index := 0#32
  ![2, v3604.toNat, 0, 0]
@[reducible] def k0_t12_loop (i : grid0.Coords) : Scf.Loop 32 :=
  let c0_i32_150 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_144 : BitVec 32 := 2#32
  let c0_i32_145 : BitVec 32 := 0#32
  let v340 : BitVec 1 := Scalar.cmpi .eq c2_i32_144 c0_i32_145
  let c1_i32_146 : BitVec 32 := 1#32
  let v341 : BitVec 32 := Scalar.select v340 c1_i32_146 c2_i32_144
  let v342 : BitVec 32 := Scalar.remsi v20 v341
  let c0_i32_148 : BitVec 32 := 0#32
  let v344 : BitVec 1 := Scalar.cmpi .slt v342 c0_i32_148
  let c0_i32_149 : BitVec 32 := 0#32
  let v345 : BitVec 1 := Scalar.cmpi .slt v341 c0_i32_149
  let v346 : BitVec 1 := Scalar.xori v344 v345
  let c0_i32_147 : BitVec 32 := 0#32
  let v343 : BitVec 1 := Scalar.cmpi .ne v342 c0_i32_147
  let v347 : BitVec 1 := Scalar.andi v346 v343
  let v348 : BitVec 32 := Scalar.addi v342 v341
  let v349 : BitVec 32 := Scalar.select v347 v348 v342
  let v350 : BitVec 32 := Scalar.subi v349 c0_i32_150
  let c1_i32_151 : BitVec 32 := 1#32
  let v352 : BitVec 32 := Scalar.divsi v350 c1_i32_151
  let v353 : BitVec 32 := Scalar.muli v352 c1_i32_151
  let v354 : BitVec 32 := Scalar.addi c0_i32_150 v353
  let v351 : BitVec 32 := Scalar.addi c0_i32_150 v350
  let c1_i32_153 : BitVec 32 := 1#32
  ⟨v354, v351, c1_i32_153⟩
def k0_mult18 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off35 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off36 (i : grid0.Coords) (c0_i32_2023 : BitVec 32) : Fin 4 → Nat :=
  let c2 : Index := 2#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2024 : Index := 0#32
  let c0_2025 : Index := 0#32
  ![2, v3604.toNat, 0, 0]
@[reducible] def k0_t13_loop (i : grid0.Coords) : Scf.Loop 32 :=
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_197 : BitVec 32 := 1#32
  ⟨c0_i32_195, v457, c1_i32_197⟩
def k0_mult19 (i : grid0.Coords) (k0_t13 : Fin (k0_t13_loop i).trips) : BitVec 32 :=
  let c2_i32_2006 : BitVec 32 := 2#32
  let c0_i32_195 : BitVec 32 := 0#32
  let c1_i32_197 : BitVec 32 := 1#32
  let arg19 : BitVec 32 := Scf.iv c0_i32_195 c1_i32_197 k0_t13
  let v3550 : BitVec 32 := Scalar.muli c2_i32_2006 arg19
  let c512_i32 : BitVec 32 := 512#32
  let v3551 : BitVec 32 := Scalar.muli v3550 c512_i32
  v3551
def k0_off37 (i : grid0.Coords) (k0_t13 : Fin (k0_t13_loop i).trips) : Fin 3 → Nat :=
  let c0_2007 : Index := 0#32
  let c2_i32_2006 : BitVec 32 := 2#32
  let c0_i32_195 : BitVec 32 := 0#32
  let c1_i32_197 : BitVec 32 := 1#32
  let arg19 : BitVec 32 := Scf.iv c0_i32_195 c1_i32_197 k0_t13
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off38 (i : grid0.Coords) (k0_t13 : Fin (k0_t13_loop i).trips) (c0_i32_2025 : BitVec 32) : Fin 4 → Nat :=
  let c3 : Index := 3#32
  let c2_i32_2006 : BitVec 32 := 2#32
  let c0_i32_195 : BitVec 32 := 0#32
  let c1_i32_197 : BitVec 32 := 1#32
  let arg19 : BitVec 32 := Scf.iv c0_i32_195 c1_i32_197 k0_t13
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2026 : Index := 0#32
  let c0_2027 : Index := 0#32
  ![3, v3606.toNat, 0, 0]
def k0_mult20 (i : grid0.Coords) (k0_t13 : Fin (k0_t13_loop i).trips) : BitVec 32 :=
  let c2_i32_2004 : BitVec 32 := 2#32
  let c0_i32_195 : BitVec 32 := 0#32
  let c1_i32_197 : BitVec 32 := 1#32
  let arg19 : BitVec 32 := Scf.iv c0_i32_195 c1_i32_197 k0_t13
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  v3647
def k0_off39 (i : grid0.Coords) (k0_t13 : Fin (k0_t13_loop i).trips) : Fin 3 → Nat :=
  let c0_2044 : Index := 0#32
  let c2_i32_2004 : BitVec 32 := 2#32
  let c0_i32_195 : BitVec 32 := 0#32
  let c1_i32_197 : BitVec 32 := 1#32
  let arg19 : BitVec 32 := Scf.iv c0_i32_195 c1_i32_197 k0_t13
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  let v3648 : BitVec 32 := v3647
  let v3649 : Index := Scalar.indexCast v3648
  let c0_2045 : Index := 0#32
  ![0, v3649.toNat, 0]
def k0_off40 (i : grid0.Coords) (k0_t13 : Fin (k0_t13_loop i).trips) (c0_i32_2062 : BitVec 32) : Fin 4 → Nat :=
  let c3_2063 : Index := 3#32
  let c2_i32_2004 : BitVec 32 := 2#32
  let c0_i32_195 : BitVec 32 := 0#32
  let c1_i32_197 : BitVec 32 := 1#32
  let arg19 : BitVec 32 := Scf.iv c0_i32_195 c1_i32_197 k0_t13
  let v3548 : BitVec 32 := Scalar.muli c2_i32_2004 arg19
  let c1_i32_2005 : BitVec 32 := 1#32
  let v3549 : BitVec 32 := Scalar.addi v3548 c1_i32_2005
  let c4_i32_2061 : BitVec 32 := 4#32
  let v3700 : BitVec 32 := Scalar.muli v3549 c4_i32_2061
  let v3701 : BitVec 32 := Scalar.addi v3700 c0_i32_2062
  let v3702 : Index := Scalar.indexCast v3701
  let c0_2064 : Index := 0#32
  let c0_2065 : Index := 0#32
  ![3, v3702.toNat, 0, 0]
@[reducible] def k0_t14_loop (i : grid0.Coords) : Scf.Loop 32 :=
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let v454 : BitVec 32 := Scalar.addi c0_i32_195 v453
  let c1_i32_198 : BitVec 32 := 1#32
  ⟨v457, v454, c1_i32_198⟩
def k0_mult21 (i : grid0.Coords) (k0_t14 : Fin (k0_t14_loop i).trips) : BitVec 32 :=
  let c2_i32_2006 : BitVec 32 := 2#32
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_198 : BitVec 32 := 1#32
  let arg19 : BitVec 32 := Scf.iv v457 c1_i32_198 k0_t14
  let v3550 : BitVec 32 := Scalar.muli c2_i32_2006 arg19
  let c512_i32 : BitVec 32 := 512#32
  let v3551 : BitVec 32 := Scalar.muli v3550 c512_i32
  v3551
def k0_off41 (i : grid0.Coords) (k0_t14 : Fin (k0_t14_loop i).trips) : Fin 3 → Nat :=
  let c0_2007 : Index := 0#32
  let c2_i32_2006 : BitVec 32 := 2#32
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_198 : BitVec 32 := 1#32
  let arg19 : BitVec 32 := Scf.iv v457 c1_i32_198 k0_t14
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off42 (i : grid0.Coords) (k0_t14 : Fin (k0_t14_loop i).trips) (c0_i32_2025 : BitVec 32) : Fin 4 → Nat :=
  let c3 : Index := 3#32
  let c2_i32_2006 : BitVec 32 := 2#32
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_198 : BitVec 32 := 1#32
  let arg19 : BitVec 32 := Scf.iv v457 c1_i32_198 k0_t14
  let v3550 : BitVec 32 := Scalar.muli c2_i32_2006 arg19
  let c4_i32_2024 : BitVec 32 := 4#32
  let v3604 : BitVec 32 := Scalar.muli v3550 c4_i32_2024
  let v3605 : BitVec 32 := Scalar.addi v3604 c0_i32_2025
  let v3606 : Index := Scalar.indexCast v3605
  let c0_2026 : Index := 0#32
  let c0_2027 : Index := 0#32
  ![3, v3606.toNat, 0, 0]
def k0_mult22 (i : grid0.Coords) (k0_t14 : Fin (k0_t14_loop i).trips) : BitVec 32 :=
  let c2_i32_2004 : BitVec 32 := 2#32
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_198 : BitVec 32 := 1#32
  let arg19 : BitVec 32 := Scf.iv v457 c1_i32_198 k0_t14
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  v3647
def k0_off43 (i : grid0.Coords) (k0_t14 : Fin (k0_t14_loop i).trips) : Fin 3 → Nat :=
  let c0_2044 : Index := 0#32
  let c2_i32_2004 : BitVec 32 := 2#32
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_198 : BitVec 32 := 1#32
  let arg19 : BitVec 32 := Scf.iv v457 c1_i32_198 k0_t14
  let v3548 : BitVec 32 := Scalar.muli c2_i32_2004 arg19
  let c1_i32_2005 : BitVec 32 := 1#32
  let v3549 : BitVec 32 := Scalar.addi v3548 c1_i32_2005
  let c512_i32_2043 : BitVec 32 := 512#32
  let v3647 : BitVec 32 := Scalar.muli v3549 c512_i32_2043
  let v3648 : BitVec 32 := v3647
  let v3649 : Index := Scalar.indexCast v3648
  let c0_2045 : Index := 0#32
  ![0, v3649.toNat, 0]
def k0_off44 (i : grid0.Coords) (k0_t14 : Fin (k0_t14_loop i).trips) (c0_i32_2062 : BitVec 32) : Fin 4 → Nat :=
  let c3_2063 : Index := 3#32
  let c2_i32_2004 : BitVec 32 := 2#32
  let c0_i32_195 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_189 : BitVec 32 := 0#32
  let v437 : BitVec 1 := Scalar.cmpi .sgt v20 c0_i32_189
  let v438 : BitVec 32 := Scalar.extui v437
  let c0_i32_190 : BitVec 32 := 0#32
  let v439 : BitVec 1 := Scalar.cmpi .slt v20 c0_i32_190
  let v440 : BitVec 32 := Scalar.extui v439
  let v441 : BitVec 32 := Scalar.subi v438 v440
  let c2_i32_188 : BitVec 32 := 2#32
  let c0_i32_191 : BitVec 32 := 0#32
  let v442 : BitVec 1 := Scalar.cmpi .sgt c2_i32_188 c0_i32_191
  let v443 : BitVec 32 := Scalar.extui v442
  let c0_i32_192 : BitVec 32 := 0#32
  let v444 : BitVec 1 := Scalar.cmpi .slt c2_i32_188 c0_i32_192
  let v445 : BitVec 32 := Scalar.extui v444
  let v446 : BitVec 32 := Scalar.subi v443 v445
  let v447 : BitVec 1 := Scalar.cmpi .ne v441 v446
  let v448 : BitVec 32 := Scalar.remsi v20 c2_i32_188
  let c0_i32_193 : BitVec 32 := 0#32
  let v449 : BitVec 1 := Scalar.cmpi .ne v448 c0_i32_193
  let v450 : BitVec 1 := Scalar.andi v447 v449
  let v436 : BitVec 32 := Scalar.divsi v20 c2_i32_188
  let c1_i32_194 : BitVec 32 := 1#32
  let v451 : BitVec 32 := Scalar.subi v436 c1_i32_194
  let v452 : BitVec 32 := Scalar.select v450 v451 v436
  let v453 : BitVec 32 := Scalar.subi v452 c0_i32_195
  let c1_i32_196 : BitVec 32 := 1#32
  let v455 : BitVec 32 := Scalar.divsi v453 c1_i32_196
  let v456 : BitVec 32 := Scalar.muli v455 c1_i32_196
  let v457 : BitVec 32 := Scalar.addi c0_i32_195 v456
  let c1_i32_198 : BitVec 32 := 1#32
  let arg19 : BitVec 32 := Scf.iv v457 c1_i32_198 k0_t14
  let v3548 : BitVec 32 := Scalar.muli c2_i32_2004 arg19
  let c1_i32_2005 : BitVec 32 := 1#32
  let v3549 : BitVec 32 := Scalar.addi v3548 c1_i32_2005
  let c4_i32_2061 : BitVec 32 := 4#32
  let v3700 : BitVec 32 := Scalar.muli v3549 c4_i32_2061
  let v3701 : BitVec 32 := Scalar.addi v3700 c0_i32_2062
  let v3702 : Index := Scalar.indexCast v3701
  let c0_2064 : Index := 0#32
  let c0_2065 : Index := 0#32
  ![3, v3702.toNat, 0, 0]
@[reducible] def k0_t15_loop (i : grid0.Coords) : Scf.Loop 32 :=
  let c0_i32_205 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_199 : BitVec 32 := 2#32
  let c0_i32_200 : BitVec 32 := 0#32
  let v460 : BitVec 1 := Scalar.cmpi .eq c2_i32_199 c0_i32_200
  let c1_i32_201 : BitVec 32 := 1#32
  let v461 : BitVec 32 := Scalar.select v460 c1_i32_201 c2_i32_199
  let v462 : BitVec 32 := Scalar.remsi v20 v461
  let c0_i32_203 : BitVec 32 := 0#32
  let v464 : BitVec 1 := Scalar.cmpi .slt v462 c0_i32_203
  let c0_i32_204 : BitVec 32 := 0#32
  let v465 : BitVec 1 := Scalar.cmpi .slt v461 c0_i32_204
  let v466 : BitVec 1 := Scalar.xori v464 v465
  let c0_i32_202 : BitVec 32 := 0#32
  let v463 : BitVec 1 := Scalar.cmpi .ne v462 c0_i32_202
  let v467 : BitVec 1 := Scalar.andi v466 v463
  let v468 : BitVec 32 := Scalar.addi v462 v461
  let v469 : BitVec 32 := Scalar.select v467 v468 v462
  let v470 : BitVec 32 := Scalar.subi v469 c0_i32_205
  let c1_i32_206 : BitVec 32 := 1#32
  let v472 : BitVec 32 := Scalar.divsi v470 c1_i32_206
  let v473 : BitVec 32 := Scalar.muli v472 c1_i32_206
  let v474 : BitVec 32 := Scalar.addi c0_i32_205 v473
  let c1_i32_207 : BitVec 32 := 1#32
  ⟨c0_i32_205, v474, c1_i32_207⟩
def k0_mult23 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off45 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off46 (i : grid0.Coords) (c0_i32_2023 : BitVec 32) : Fin 4 → Nat :=
  let c3 : Index := 3#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2024 : Index := 0#32
  let c0_2025 : Index := 0#32
  ![3, v3604.toNat, 0, 0]
@[reducible] def k0_t16_loop (i : grid0.Coords) : Scf.Loop 32 :=
  let c0_i32_205 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c2_i32_199 : BitVec 32 := 2#32
  let c0_i32_200 : BitVec 32 := 0#32
  let v460 : BitVec 1 := Scalar.cmpi .eq c2_i32_199 c0_i32_200
  let c1_i32_201 : BitVec 32 := 1#32
  let v461 : BitVec 32 := Scalar.select v460 c1_i32_201 c2_i32_199
  let v462 : BitVec 32 := Scalar.remsi v20 v461
  let c0_i32_203 : BitVec 32 := 0#32
  let v464 : BitVec 1 := Scalar.cmpi .slt v462 c0_i32_203
  let c0_i32_204 : BitVec 32 := 0#32
  let v465 : BitVec 1 := Scalar.cmpi .slt v461 c0_i32_204
  let v466 : BitVec 1 := Scalar.xori v464 v465
  let c0_i32_202 : BitVec 32 := 0#32
  let v463 : BitVec 1 := Scalar.cmpi .ne v462 c0_i32_202
  let v467 : BitVec 1 := Scalar.andi v466 v463
  let v468 : BitVec 32 := Scalar.addi v462 v461
  let v469 : BitVec 32 := Scalar.select v467 v468 v462
  let v470 : BitVec 32 := Scalar.subi v469 c0_i32_205
  let c1_i32_206 : BitVec 32 := 1#32
  let v472 : BitVec 32 := Scalar.divsi v470 c1_i32_206
  let v473 : BitVec 32 := Scalar.muli v472 c1_i32_206
  let v474 : BitVec 32 := Scalar.addi c0_i32_205 v473
  let v471 : BitVec 32 := Scalar.addi c0_i32_205 v470
  let c1_i32_208 : BitVec 32 := 1#32
  ⟨v474, v471, c1_i32_208⟩
def k0_mult24 (i : grid0.Coords) : BitVec 32 :=
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  v3549
def k0_off47 (i : grid0.Coords) : Fin 3 → Nat :=
  let c0_2005 : Index := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off48 (i : grid0.Coords) (c0_i32_2023 : BitVec 32) : Fin 4 → Nat :=
  let c3 : Index := 3#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c1_i32_2004 : BitVec 32 := 1#32
  let v3548 : BitVec 32 := Scalar.subi v20 c1_i32_2004
  let c4_i32_2022 : BitVec 32 := 4#32
  let v3602 : BitVec 32 := Scalar.muli v3548 c4_i32_2022
  let v3603 : BitVec 32 := Scalar.addi v3602 c0_i32_2023
  let v3604 : Index := Scalar.indexCast v3603
  let c0_2024 : Index := 0#32
  let c0_2025 : Index := 0#32
  ![3, v3604.toNat, 0, 0]
@[reducible] def k0_t17_loop (v506 : BitVec 32) (v512 : BitVec 32) (v518 : BitVec 32) (v524 : BitVec 32) : Scf.Loop 32 :=
  let v525 : BitVec 32 := Scalar.minsi v506 v512
  let v526 : BitVec 32 := Scalar.minsi v525 v518
  let v527 : BitVec 32 := Scalar.minsi v526 v524
  let c31_i32_223 : BitVec 32 := 31#32
  let v528 : BitVec 32 := Scalar.minsi v527 c31_i32_223
  let c32_i32 : BitVec 32 := 32#32
  let v557 : BitVec 32 := Scalar.subi c32_i32 v528
  let c1_i32_234 : BitVec 32 := 1#32
  let v559 : BitVec 32 := Scalar.divsi v557 c1_i32_234
  let v560 : BitVec 32 := Scalar.muli v559 c1_i32_234
  let v561 : BitVec 32 := Scalar.addi v528 v560
  let c1_i32_235 : BitVec 32 := 1#32
  ⟨v528, v561, c1_i32_235⟩

@[reducible] def k0_t18_loop (i : grid0.Coords) : Scf.Loop 32 :=
  let c0_i32_2013 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3565 : BitVec 32 := Scalar.subi v20 c0_i32_2013
  let c1_i32_2014 : BitVec 32 := 1#32
  let v3567 : BitVec 32 := Scalar.divsi v3565 c1_i32_2014
  let v3568 : BitVec 32 := Scalar.muli v3567 c1_i32_2014
  let v3569 : BitVec 32 := Scalar.addi c0_i32_2013 v3568
  let c1_i32_2015 : BitVec 32 := 1#32
  ⟨c0_i32_2013, v3569, c1_i32_2015⟩
def k0_off49 (i : grid0.Coords) (k0_t18 : Fin (k0_t18_loop i).trips) (c0_i32_2041 : BitVec 32) : Fin 4 → Nat :=
  let c0_2042 : Index := 0#32
  let c0_i32_2013 : BitVec 32 := 0#32
  let c1_i32_2015 : BitVec 32 := 1#32
  let arg24 : BitVec 32 := Scf.iv c0_i32_2013 c1_i32_2015 k0_t18
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![0, v3618.toNat, 0, 0]
@[reducible] def k0_t19_loop (i : grid0.Coords) : Scf.Loop 32 :=
  let c0_i32_2013 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3565 : BitVec 32 := Scalar.subi v20 c0_i32_2013
  let c1_i32_2014 : BitVec 32 := 1#32
  let v3567 : BitVec 32 := Scalar.divsi v3565 c1_i32_2014
  let v3568 : BitVec 32 := Scalar.muli v3567 c1_i32_2014
  let v3569 : BitVec 32 := Scalar.addi c0_i32_2013 v3568
  let v3566 : BitVec 32 := Scalar.addi c0_i32_2013 v3565
  let c1_i32_2016 : BitVec 32 := 1#32
  ⟨v3569, v3566, c1_i32_2016⟩
def k0_off50 (i : grid0.Coords) (k0_t19 : Fin (k0_t19_loop i).trips) (c0_i32_2041 : BitVec 32) : Fin 4 → Nat :=
  let c0_2042 : Index := 0#32
  let c0_i32_2013 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3565 : BitVec 32 := Scalar.subi v20 c0_i32_2013
  let c1_i32_2014 : BitVec 32 := 1#32
  let v3567 : BitVec 32 := Scalar.divsi v3565 c1_i32_2014
  let v3568 : BitVec 32 := Scalar.muli v3567 c1_i32_2014
  let v3569 : BitVec 32 := Scalar.addi c0_i32_2013 v3568
  let c1_i32_2016 : BitVec 32 := 1#32
  let arg24 : BitVec 32 := Scf.iv v3569 c1_i32_2016 k0_t19
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![0, v3618.toNat, 0, 0]
@[reducible] def k0_t20_loop (i : grid0.Coords) : Scf.Loop 32 :=
  let c0_i32_2018 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3573 : BitVec 32 := Scalar.subi v20 c0_i32_2018
  let c1_i32_2019 : BitVec 32 := 1#32
  let v3575 : BitVec 32 := Scalar.divsi v3573 c1_i32_2019
  let v3576 : BitVec 32 := Scalar.muli v3575 c1_i32_2019
  let v3577 : BitVec 32 := Scalar.addi c0_i32_2018 v3576
  let c1_i32_2020 : BitVec 32 := 1#32
  ⟨c0_i32_2018, v3577, c1_i32_2020⟩
def k0_off51 (i : grid0.Coords) (k0_t20 : Fin (k0_t20_loop i).trips) (c0_i32_2041 : BitVec 32) : Fin 4 → Nat :=
  let c1_2042 : Index := 1#32
  let c0_i32_2018 : BitVec 32 := 0#32
  let c1_i32_2020 : BitVec 32 := 1#32
  let arg24 : BitVec 32 := Scf.iv c0_i32_2018 c1_i32_2020 k0_t20
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![1, v3618.toNat, 0, 0]
@[reducible] def k0_t21_loop (i : grid0.Coords) : Scf.Loop 32 :=
  let c0_i32_2018 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3573 : BitVec 32 := Scalar.subi v20 c0_i32_2018
  let c1_i32_2019 : BitVec 32 := 1#32
  let v3575 : BitVec 32 := Scalar.divsi v3573 c1_i32_2019
  let v3576 : BitVec 32 := Scalar.muli v3575 c1_i32_2019
  let v3577 : BitVec 32 := Scalar.addi c0_i32_2018 v3576
  let v3574 : BitVec 32 := Scalar.addi c0_i32_2018 v3573
  let c1_i32_2021 : BitVec 32 := 1#32
  ⟨v3577, v3574, c1_i32_2021⟩
def k0_off52 (i : grid0.Coords) (k0_t21 : Fin (k0_t21_loop i).trips) (c0_i32_2041 : BitVec 32) : Fin 4 → Nat :=
  let c1_2042 : Index := 1#32
  let c0_i32_2018 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3573 : BitVec 32 := Scalar.subi v20 c0_i32_2018
  let c1_i32_2019 : BitVec 32 := 1#32
  let v3575 : BitVec 32 := Scalar.divsi v3573 c1_i32_2019
  let v3576 : BitVec 32 := Scalar.muli v3575 c1_i32_2019
  let v3577 : BitVec 32 := Scalar.addi c0_i32_2018 v3576
  let c1_i32_2021 : BitVec 32 := 1#32
  let arg24 : BitVec 32 := Scf.iv v3577 c1_i32_2021 k0_t21
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![1, v3618.toNat, 0, 0]
@[reducible] def k0_t22_loop (i : grid0.Coords) : Scf.Loop 32 :=
  let c0_i32_2023 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3581 : BitVec 32 := Scalar.subi v20 c0_i32_2023
  let c1_i32_2024 : BitVec 32 := 1#32
  let v3583 : BitVec 32 := Scalar.divsi v3581 c1_i32_2024
  let v3584 : BitVec 32 := Scalar.muli v3583 c1_i32_2024
  let v3585 : BitVec 32 := Scalar.addi c0_i32_2023 v3584
  let c1_i32_2025 : BitVec 32 := 1#32
  ⟨c0_i32_2023, v3585, c1_i32_2025⟩
def k0_off53 (i : grid0.Coords) (k0_t22 : Fin (k0_t22_loop i).trips) (c0_i32_2041 : BitVec 32) : Fin 4 → Nat :=
  let c2 : Index := 2#32
  let c0_i32_2023 : BitVec 32 := 0#32
  let c1_i32_2025 : BitVec 32 := 1#32
  let arg24 : BitVec 32 := Scf.iv c0_i32_2023 c1_i32_2025 k0_t22
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![2, v3618.toNat, 0, 0]
@[reducible] def k0_t23_loop (i : grid0.Coords) : Scf.Loop 32 :=
  let c0_i32_2023 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3581 : BitVec 32 := Scalar.subi v20 c0_i32_2023
  let c1_i32_2024 : BitVec 32 := 1#32
  let v3583 : BitVec 32 := Scalar.divsi v3581 c1_i32_2024
  let v3584 : BitVec 32 := Scalar.muli v3583 c1_i32_2024
  let v3585 : BitVec 32 := Scalar.addi c0_i32_2023 v3584
  let v3582 : BitVec 32 := Scalar.addi c0_i32_2023 v3581
  let c1_i32_2026 : BitVec 32 := 1#32
  ⟨v3585, v3582, c1_i32_2026⟩
def k0_off54 (i : grid0.Coords) (k0_t23 : Fin (k0_t23_loop i).trips) (c0_i32_2041 : BitVec 32) : Fin 4 → Nat :=
  let c2 : Index := 2#32
  let c0_i32_2023 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3581 : BitVec 32 := Scalar.subi v20 c0_i32_2023
  let c1_i32_2024 : BitVec 32 := 1#32
  let v3583 : BitVec 32 := Scalar.divsi v3581 c1_i32_2024
  let v3584 : BitVec 32 := Scalar.muli v3583 c1_i32_2024
  let v3585 : BitVec 32 := Scalar.addi c0_i32_2023 v3584
  let c1_i32_2026 : BitVec 32 := 1#32
  let arg24 : BitVec 32 := Scf.iv v3585 c1_i32_2026 k0_t23
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![2, v3618.toNat, 0, 0]
@[reducible] def k0_t24_loop (i : grid0.Coords) : Scf.Loop 32 :=
  let c0_i32_2028 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3589 : BitVec 32 := Scalar.subi v20 c0_i32_2028
  let c1_i32_2029 : BitVec 32 := 1#32
  let v3591 : BitVec 32 := Scalar.divsi v3589 c1_i32_2029
  let v3592 : BitVec 32 := Scalar.muli v3591 c1_i32_2029
  let v3593 : BitVec 32 := Scalar.addi c0_i32_2028 v3592
  let c1_i32_2030 : BitVec 32 := 1#32
  ⟨c0_i32_2028, v3593, c1_i32_2030⟩
def k0_off55 (i : grid0.Coords) (k0_t24 : Fin (k0_t24_loop i).trips) (c0_i32_2041 : BitVec 32) : Fin 4 → Nat :=
  let c3 : Index := 3#32
  let c0_i32_2028 : BitVec 32 := 0#32
  let c1_i32_2030 : BitVec 32 := 1#32
  let arg24 : BitVec 32 := Scf.iv c0_i32_2028 c1_i32_2030 k0_t24
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![3, v3618.toNat, 0, 0]
@[reducible] def k0_t25_loop (i : grid0.Coords) : Scf.Loop 32 :=
  let c0_i32_2028 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3589 : BitVec 32 := Scalar.subi v20 c0_i32_2028
  let c1_i32_2029 : BitVec 32 := 1#32
  let v3591 : BitVec 32 := Scalar.divsi v3589 c1_i32_2029
  let v3592 : BitVec 32 := Scalar.muli v3591 c1_i32_2029
  let v3593 : BitVec 32 := Scalar.addi c0_i32_2028 v3592
  let v3590 : BitVec 32 := Scalar.addi c0_i32_2028 v3589
  let c1_i32_2031 : BitVec 32 := 1#32
  ⟨v3593, v3590, c1_i32_2031⟩
def k0_off56 (i : grid0.Coords) (k0_t25 : Fin (k0_t25_loop i).trips) (c0_i32_2041 : BitVec 32) : Fin 4 → Nat :=
  let c3 : Index := 3#32
  let c0_i32_2028 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3589 : BitVec 32 := Scalar.subi v20 c0_i32_2028
  let c1_i32_2029 : BitVec 32 := 1#32
  let v3591 : BitVec 32 := Scalar.divsi v3589 c1_i32_2029
  let v3592 : BitVec 32 := Scalar.muli v3591 c1_i32_2029
  let v3593 : BitVec 32 := Scalar.addi c0_i32_2028 v3592
  let c1_i32_2031 : BitVec 32 := 1#32
  let arg24 : BitVec 32 := Scf.iv v3593 c1_i32_2031 k0_t25
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![3, v3618.toNat, 0, 0]
@[reducible] def k0_t26_loop (v506 : BitVec 32) (v512 : BitVec 32) (v518 : BitVec 32) (v524 : BitVec 32) : Scf.Loop 32 :=
  let v525 : BitVec 32 := Scalar.minsi v506 v512
  let v526 : BitVec 32 := Scalar.minsi v525 v518
  let v527 : BitVec 32 := Scalar.minsi v526 v524
  let c31_i32_223 : BitVec 32 := 31#32
  let v528 : BitVec 32 := Scalar.minsi v527 c31_i32_223
  let c32_i32 : BitVec 32 := 32#32
  let v557 : BitVec 32 := Scalar.subi c32_i32 v528
  let c1_i32_234 : BitVec 32 := 1#32
  let v559 : BitVec 32 := Scalar.divsi v557 c1_i32_234
  let v560 : BitVec 32 := Scalar.muli v559 c1_i32_234
  let v561 : BitVec 32 := Scalar.addi v528 v560
  let v558 : BitVec 32 := Scalar.addi v528 v557
  let c1_i32_236 : BitVec 32 := 1#32
  ⟨v561, v558, c1_i32_236⟩

def k0_chk1 (v506 : BitVec 32) (v512 : BitVec 32) (v518 : BitVec 32) (v524 : BitVec 32) : Prop :=
  ((k0_t17_loop v506 v512 v518 v524).OK) ∧
  ((k0_t26_loop v506 v512 v518 v524).OK)
theorem k0_t17_ok : ∀ (v506 : BitVec 32) (v512 : BitVec 32) (v518 : BitVec 32) (v524 : BitVec 32) (k0_hw1 : k0_chk1 v506 v512 v518 v524), (k0_t17_loop v506 v512 v518 v524).OK := fun v506 v512 v518 v524 k0_hw1 => k0_hw1.1
theorem k0_t26_ok : ∀ (v506 : BitVec 32) (v512 : BitVec 32) (v518 : BitVec 32) (v524 : BitVec 32) (k0_hw1 : k0_chk1 v506 v512 v518 v524), (k0_t26_loop v506 v512 v518 v524).OK := fun v506 v512 v518 v524 k0_hw1 => k0_hw1.2

@[reducible] def k0_t27_loop (i : grid0.Coords) : Scf.Loop 32 :=
  let c0_i32_2013 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3565 : BitVec 32 := Scalar.subi v20 c0_i32_2013
  let c1_i32_2014 : BitVec 32 := 1#32
  let v3567 : BitVec 32 := Scalar.divsi v3565 c1_i32_2014
  let v3568 : BitVec 32 := Scalar.muli v3567 c1_i32_2014
  let v3569 : BitVec 32 := Scalar.addi c0_i32_2013 v3568
  let c1_i32_2015 : BitVec 32 := 1#32
  ⟨c0_i32_2013, v3569, c1_i32_2015⟩
def k0_off57 (i : grid0.Coords) (k0_t27 : Fin (k0_t27_loop i).trips) (c0_i32_2041 : BitVec 32) : Fin 4 → Nat :=
  let c0_2042 : Index := 0#32
  let c0_i32_2013 : BitVec 32 := 0#32
  let c1_i32_2015 : BitVec 32 := 1#32
  let arg24 : BitVec 32 := Scf.iv c0_i32_2013 c1_i32_2015 k0_t27
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![0, v3618.toNat, 0, 0]
@[reducible] def k0_t28_loop (i : grid0.Coords) : Scf.Loop 32 :=
  let c0_i32_2013 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3565 : BitVec 32 := Scalar.subi v20 c0_i32_2013
  let c1_i32_2014 : BitVec 32 := 1#32
  let v3567 : BitVec 32 := Scalar.divsi v3565 c1_i32_2014
  let v3568 : BitVec 32 := Scalar.muli v3567 c1_i32_2014
  let v3569 : BitVec 32 := Scalar.addi c0_i32_2013 v3568
  let v3566 : BitVec 32 := Scalar.addi c0_i32_2013 v3565
  let c1_i32_2016 : BitVec 32 := 1#32
  ⟨v3569, v3566, c1_i32_2016⟩
def k0_off58 (i : grid0.Coords) (k0_t28 : Fin (k0_t28_loop i).trips) (c0_i32_2041 : BitVec 32) : Fin 4 → Nat :=
  let c0_2042 : Index := 0#32
  let c0_i32_2013 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3565 : BitVec 32 := Scalar.subi v20 c0_i32_2013
  let c1_i32_2014 : BitVec 32 := 1#32
  let v3567 : BitVec 32 := Scalar.divsi v3565 c1_i32_2014
  let v3568 : BitVec 32 := Scalar.muli v3567 c1_i32_2014
  let v3569 : BitVec 32 := Scalar.addi c0_i32_2013 v3568
  let c1_i32_2016 : BitVec 32 := 1#32
  let arg24 : BitVec 32 := Scf.iv v3569 c1_i32_2016 k0_t28
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![0, v3618.toNat, 0, 0]
@[reducible] def k0_t29_loop (i : grid0.Coords) : Scf.Loop 32 :=
  let c0_i32_2018 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3573 : BitVec 32 := Scalar.subi v20 c0_i32_2018
  let c1_i32_2019 : BitVec 32 := 1#32
  let v3575 : BitVec 32 := Scalar.divsi v3573 c1_i32_2019
  let v3576 : BitVec 32 := Scalar.muli v3575 c1_i32_2019
  let v3577 : BitVec 32 := Scalar.addi c0_i32_2018 v3576
  let c1_i32_2020 : BitVec 32 := 1#32
  ⟨c0_i32_2018, v3577, c1_i32_2020⟩
def k0_off59 (i : grid0.Coords) (k0_t29 : Fin (k0_t29_loop i).trips) (c0_i32_2041 : BitVec 32) : Fin 4 → Nat :=
  let c1_2042 : Index := 1#32
  let c0_i32_2018 : BitVec 32 := 0#32
  let c1_i32_2020 : BitVec 32 := 1#32
  let arg24 : BitVec 32 := Scf.iv c0_i32_2018 c1_i32_2020 k0_t29
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![1, v3618.toNat, 0, 0]
@[reducible] def k0_t30_loop (i : grid0.Coords) : Scf.Loop 32 :=
  let c0_i32_2018 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3573 : BitVec 32 := Scalar.subi v20 c0_i32_2018
  let c1_i32_2019 : BitVec 32 := 1#32
  let v3575 : BitVec 32 := Scalar.divsi v3573 c1_i32_2019
  let v3576 : BitVec 32 := Scalar.muli v3575 c1_i32_2019
  let v3577 : BitVec 32 := Scalar.addi c0_i32_2018 v3576
  let v3574 : BitVec 32 := Scalar.addi c0_i32_2018 v3573
  let c1_i32_2021 : BitVec 32 := 1#32
  ⟨v3577, v3574, c1_i32_2021⟩
def k0_off60 (i : grid0.Coords) (k0_t30 : Fin (k0_t30_loop i).trips) (c0_i32_2041 : BitVec 32) : Fin 4 → Nat :=
  let c1_2042 : Index := 1#32
  let c0_i32_2018 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3573 : BitVec 32 := Scalar.subi v20 c0_i32_2018
  let c1_i32_2019 : BitVec 32 := 1#32
  let v3575 : BitVec 32 := Scalar.divsi v3573 c1_i32_2019
  let v3576 : BitVec 32 := Scalar.muli v3575 c1_i32_2019
  let v3577 : BitVec 32 := Scalar.addi c0_i32_2018 v3576
  let c1_i32_2021 : BitVec 32 := 1#32
  let arg24 : BitVec 32 := Scf.iv v3577 c1_i32_2021 k0_t30
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2043 : Index := 0#32
  let c0_2044 : Index := 0#32
  ![1, v3618.toNat, 0, 0]
@[reducible] def k0_t31_loop (i : grid0.Coords) : Scf.Loop 32 :=
  let c0_i32_2023 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3581 : BitVec 32 := Scalar.subi v20 c0_i32_2023
  let c1_i32_2024 : BitVec 32 := 1#32
  let v3583 : BitVec 32 := Scalar.divsi v3581 c1_i32_2024
  let v3584 : BitVec 32 := Scalar.muli v3583 c1_i32_2024
  let v3585 : BitVec 32 := Scalar.addi c0_i32_2023 v3584
  let c1_i32_2025 : BitVec 32 := 1#32
  ⟨c0_i32_2023, v3585, c1_i32_2025⟩
def k0_off61 (i : grid0.Coords) (k0_t31 : Fin (k0_t31_loop i).trips) (c0_i32_2041 : BitVec 32) : Fin 4 → Nat :=
  let c2 : Index := 2#32
  let c0_i32_2023 : BitVec 32 := 0#32
  let c1_i32_2025 : BitVec 32 := 1#32
  let arg24 : BitVec 32 := Scf.iv c0_i32_2023 c1_i32_2025 k0_t31
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![2, v3618.toNat, 0, 0]
@[reducible] def k0_t32_loop (i : grid0.Coords) : Scf.Loop 32 :=
  let c0_i32_2023 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3581 : BitVec 32 := Scalar.subi v20 c0_i32_2023
  let c1_i32_2024 : BitVec 32 := 1#32
  let v3583 : BitVec 32 := Scalar.divsi v3581 c1_i32_2024
  let v3584 : BitVec 32 := Scalar.muli v3583 c1_i32_2024
  let v3585 : BitVec 32 := Scalar.addi c0_i32_2023 v3584
  let v3582 : BitVec 32 := Scalar.addi c0_i32_2023 v3581
  let c1_i32_2026 : BitVec 32 := 1#32
  ⟨v3585, v3582, c1_i32_2026⟩
def k0_off62 (i : grid0.Coords) (k0_t32 : Fin (k0_t32_loop i).trips) (c0_i32_2041 : BitVec 32) : Fin 4 → Nat :=
  let c2 : Index := 2#32
  let c0_i32_2023 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3581 : BitVec 32 := Scalar.subi v20 c0_i32_2023
  let c1_i32_2024 : BitVec 32 := 1#32
  let v3583 : BitVec 32 := Scalar.divsi v3581 c1_i32_2024
  let v3584 : BitVec 32 := Scalar.muli v3583 c1_i32_2024
  let v3585 : BitVec 32 := Scalar.addi c0_i32_2023 v3584
  let c1_i32_2026 : BitVec 32 := 1#32
  let arg24 : BitVec 32 := Scf.iv v3585 c1_i32_2026 k0_t32
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![2, v3618.toNat, 0, 0]
@[reducible] def k0_t33_loop (i : grid0.Coords) : Scf.Loop 32 :=
  let c0_i32_2028 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3589 : BitVec 32 := Scalar.subi v20 c0_i32_2028
  let c1_i32_2029 : BitVec 32 := 1#32
  let v3591 : BitVec 32 := Scalar.divsi v3589 c1_i32_2029
  let v3592 : BitVec 32 := Scalar.muli v3591 c1_i32_2029
  let v3593 : BitVec 32 := Scalar.addi c0_i32_2028 v3592
  let c1_i32_2030 : BitVec 32 := 1#32
  ⟨c0_i32_2028, v3593, c1_i32_2030⟩
def k0_off63 (i : grid0.Coords) (k0_t33 : Fin (k0_t33_loop i).trips) (c0_i32_2041 : BitVec 32) : Fin 4 → Nat :=
  let c3 : Index := 3#32
  let c0_i32_2028 : BitVec 32 := 0#32
  let c1_i32_2030 : BitVec 32 := 1#32
  let arg24 : BitVec 32 := Scf.iv c0_i32_2028 c1_i32_2030 k0_t33
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![3, v3618.toNat, 0, 0]
@[reducible] def k0_t34_loop (i : grid0.Coords) : Scf.Loop 32 :=
  let c0_i32_2028 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3589 : BitVec 32 := Scalar.subi v20 c0_i32_2028
  let c1_i32_2029 : BitVec 32 := 1#32
  let v3591 : BitVec 32 := Scalar.divsi v3589 c1_i32_2029
  let v3592 : BitVec 32 := Scalar.muli v3591 c1_i32_2029
  let v3593 : BitVec 32 := Scalar.addi c0_i32_2028 v3592
  let v3590 : BitVec 32 := Scalar.addi c0_i32_2028 v3589
  let c1_i32_2031 : BitVec 32 := 1#32
  ⟨v3593, v3590, c1_i32_2031⟩
def k0_off64 (i : grid0.Coords) (k0_t34 : Fin (k0_t34_loop i).trips) (c0_i32_2041 : BitVec 32) : Fin 4 → Nat :=
  let c3 : Index := 3#32
  let c0_i32_2028 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v3589 : BitVec 32 := Scalar.subi v20 c0_i32_2028
  let c1_i32_2029 : BitVec 32 := 1#32
  let v3591 : BitVec 32 := Scalar.divsi v3589 c1_i32_2029
  let v3592 : BitVec 32 := Scalar.muli v3591 c1_i32_2029
  let v3593 : BitVec 32 := Scalar.addi c0_i32_2028 v3592
  let c1_i32_2031 : BitVec 32 := 1#32
  let arg24 : BitVec 32 := Scf.iv v3593 c1_i32_2031 k0_t34
  let c4_i32_2040 : BitVec 32 := 4#32
  let v3616 : BitVec 32 := Scalar.muli arg24 c4_i32_2040
  let v3617 : BitVec 32 := Scalar.addi v3616 c0_i32_2041
  let v3618 : Index := Scalar.indexCast v3617
  let c0_2042 : Index := 0#32
  let c0_2043 : Index := 0#32
  ![3, v3618.toNat, 0, 0]
@[reducible] def k0_t35_loop (i : grid0.Coords) : Scf.Loop 32 :=
  let c0_i32_238 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v565 : BitVec 32 := Scalar.subi v20 c0_i32_238
  let c1_i32_239 : BitVec 32 := 1#32
  let v567 : BitVec 32 := Scalar.divsi v565 c1_i32_239
  let v568 : BitVec 32 := Scalar.muli v567 c1_i32_239
  let v569 : BitVec 32 := Scalar.addi c0_i32_238 v568
  let c1_i32_240 : BitVec 32 := 1#32
  ⟨c0_i32_238, v569, c1_i32_240⟩
def k0_off65 (i : grid0.Coords) (k0_t35 : Fin (k0_t35_loop i).trips) (c0_i32_2005 : BitVec 32) : Fin 4 → Nat :=
  let c0_2006 : Index := 0#32
  let c0_i32_238 : BitVec 32 := 0#32
  let c1_i32_240 : BitVec 32 := 1#32
  let arg19 : BitVec 32 := Scf.iv c0_i32_238 c1_i32_240 k0_t35
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2007 : Index := 0#32
  let c0_2008 : Index := 0#32
  ![0, v3550.toNat, 0, 0]
@[reducible] def k0_t36_loop (i : grid0.Coords) : Scf.Loop 32 :=
  let c0_i32_238 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v565 : BitVec 32 := Scalar.subi v20 c0_i32_238
  let c1_i32_239 : BitVec 32 := 1#32
  let v567 : BitVec 32 := Scalar.divsi v565 c1_i32_239
  let v568 : BitVec 32 := Scalar.muli v567 c1_i32_239
  let v569 : BitVec 32 := Scalar.addi c0_i32_238 v568
  let v566 : BitVec 32 := Scalar.addi c0_i32_238 v565
  let c1_i32_241 : BitVec 32 := 1#32
  ⟨v569, v566, c1_i32_241⟩
def k0_off66 (i : grid0.Coords) (k0_t36 : Fin (k0_t36_loop i).trips) (c0_i32_2005 : BitVec 32) : Fin 4 → Nat :=
  let c0_2006 : Index := 0#32
  let c0_i32_238 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v565 : BitVec 32 := Scalar.subi v20 c0_i32_238
  let c1_i32_239 : BitVec 32 := 1#32
  let v567 : BitVec 32 := Scalar.divsi v565 c1_i32_239
  let v568 : BitVec 32 := Scalar.muli v567 c1_i32_239
  let v569 : BitVec 32 := Scalar.addi c0_i32_238 v568
  let c1_i32_241 : BitVec 32 := 1#32
  let arg19 : BitVec 32 := Scf.iv v569 c1_i32_241 k0_t36
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2007 : Index := 0#32
  let c0_2008 : Index := 0#32
  ![0, v3550.toNat, 0, 0]
@[reducible] def k0_t37_loop (i : grid0.Coords) : Scf.Loop 32 :=
  let c0_i32_243 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v573 : BitVec 32 := Scalar.subi v20 c0_i32_243
  let c1_i32_244 : BitVec 32 := 1#32
  let v575 : BitVec 32 := Scalar.divsi v573 c1_i32_244
  let v576 : BitVec 32 := Scalar.muli v575 c1_i32_244
  let v577 : BitVec 32 := Scalar.addi c0_i32_243 v576
  let c1_i32_245 : BitVec 32 := 1#32
  ⟨c0_i32_243, v577, c1_i32_245⟩
def k0_off67 (i : grid0.Coords) (k0_t37 : Fin (k0_t37_loop i).trips) (c0_i32_2005 : BitVec 32) : Fin 4 → Nat :=
  let c1_2006 : Index := 1#32
  let c0_i32_243 : BitVec 32 := 0#32
  let c1_i32_245 : BitVec 32 := 1#32
  let arg19 : BitVec 32 := Scf.iv c0_i32_243 c1_i32_245 k0_t37
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2007 : Index := 0#32
  let c0_2008 : Index := 0#32
  ![1, v3550.toNat, 0, 0]
@[reducible] def k0_t38_loop (i : grid0.Coords) : Scf.Loop 32 :=
  let c0_i32_243 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v573 : BitVec 32 := Scalar.subi v20 c0_i32_243
  let c1_i32_244 : BitVec 32 := 1#32
  let v575 : BitVec 32 := Scalar.divsi v573 c1_i32_244
  let v576 : BitVec 32 := Scalar.muli v575 c1_i32_244
  let v577 : BitVec 32 := Scalar.addi c0_i32_243 v576
  let v574 : BitVec 32 := Scalar.addi c0_i32_243 v573
  let c1_i32_246 : BitVec 32 := 1#32
  ⟨v577, v574, c1_i32_246⟩
def k0_off68 (i : grid0.Coords) (k0_t38 : Fin (k0_t38_loop i).trips) (c0_i32_2005 : BitVec 32) : Fin 4 → Nat :=
  let c1_2006 : Index := 1#32
  let c0_i32_243 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v573 : BitVec 32 := Scalar.subi v20 c0_i32_243
  let c1_i32_244 : BitVec 32 := 1#32
  let v575 : BitVec 32 := Scalar.divsi v573 c1_i32_244
  let v576 : BitVec 32 := Scalar.muli v575 c1_i32_244
  let v577 : BitVec 32 := Scalar.addi c0_i32_243 v576
  let c1_i32_246 : BitVec 32 := 1#32
  let arg19 : BitVec 32 := Scf.iv v577 c1_i32_246 k0_t38
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2007 : Index := 0#32
  let c0_2008 : Index := 0#32
  ![1, v3550.toNat, 0, 0]
@[reducible] def k0_t39_loop (i : grid0.Coords) : Scf.Loop 32 :=
  let c0_i32_248 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v581 : BitVec 32 := Scalar.subi v20 c0_i32_248
  let c1_i32_249 : BitVec 32 := 1#32
  let v583 : BitVec 32 := Scalar.divsi v581 c1_i32_249
  let v584 : BitVec 32 := Scalar.muli v583 c1_i32_249
  let v585 : BitVec 32 := Scalar.addi c0_i32_248 v584
  let c1_i32_250 : BitVec 32 := 1#32
  ⟨c0_i32_248, v585, c1_i32_250⟩
def k0_off69 (i : grid0.Coords) (k0_t39 : Fin (k0_t39_loop i).trips) (c0_i32_2005 : BitVec 32) : Fin 4 → Nat :=
  let c2 : Index := 2#32
  let c0_i32_248 : BitVec 32 := 0#32
  let c1_i32_250 : BitVec 32 := 1#32
  let arg19 : BitVec 32 := Scf.iv c0_i32_248 c1_i32_250 k0_t39
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2006 : Index := 0#32
  let c0_2007 : Index := 0#32
  ![2, v3550.toNat, 0, 0]
@[reducible] def k0_t40_loop (i : grid0.Coords) : Scf.Loop 32 :=
  let c0_i32_248 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v581 : BitVec 32 := Scalar.subi v20 c0_i32_248
  let c1_i32_249 : BitVec 32 := 1#32
  let v583 : BitVec 32 := Scalar.divsi v581 c1_i32_249
  let v584 : BitVec 32 := Scalar.muli v583 c1_i32_249
  let v585 : BitVec 32 := Scalar.addi c0_i32_248 v584
  let v582 : BitVec 32 := Scalar.addi c0_i32_248 v581
  let c1_i32_251 : BitVec 32 := 1#32
  ⟨v585, v582, c1_i32_251⟩
def k0_off70 (i : grid0.Coords) (k0_t40 : Fin (k0_t40_loop i).trips) (c0_i32_2005 : BitVec 32) : Fin 4 → Nat :=
  let c2 : Index := 2#32
  let c0_i32_248 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v581 : BitVec 32 := Scalar.subi v20 c0_i32_248
  let c1_i32_249 : BitVec 32 := 1#32
  let v583 : BitVec 32 := Scalar.divsi v581 c1_i32_249
  let v584 : BitVec 32 := Scalar.muli v583 c1_i32_249
  let v585 : BitVec 32 := Scalar.addi c0_i32_248 v584
  let c1_i32_251 : BitVec 32 := 1#32
  let arg19 : BitVec 32 := Scf.iv v585 c1_i32_251 k0_t40
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2006 : Index := 0#32
  let c0_2007 : Index := 0#32
  ![2, v3550.toNat, 0, 0]
@[reducible] def k0_t41_loop (i : grid0.Coords) : Scf.Loop 32 :=
  let c0_i32_253 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v589 : BitVec 32 := Scalar.subi v20 c0_i32_253
  let c1_i32_254 : BitVec 32 := 1#32
  let v591 : BitVec 32 := Scalar.divsi v589 c1_i32_254
  let v592 : BitVec 32 := Scalar.muli v591 c1_i32_254
  let v593 : BitVec 32 := Scalar.addi c0_i32_253 v592
  let c1_i32_255 : BitVec 32 := 1#32
  ⟨c0_i32_253, v593, c1_i32_255⟩
def k0_off71 (i : grid0.Coords) (k0_t41 : Fin (k0_t41_loop i).trips) (c0_i32_2005 : BitVec 32) : Fin 4 → Nat :=
  let c3 : Index := 3#32
  let c0_i32_253 : BitVec 32 := 0#32
  let c1_i32_255 : BitVec 32 := 1#32
  let arg19 : BitVec 32 := Scf.iv c0_i32_253 c1_i32_255 k0_t41
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2006 : Index := 0#32
  let c0_2007 : Index := 0#32
  ![3, v3550.toNat, 0, 0]
@[reducible] def k0_t42_loop (i : grid0.Coords) : Scf.Loop 32 :=
  let c0_i32_253 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v589 : BitVec 32 := Scalar.subi v20 c0_i32_253
  let c1_i32_254 : BitVec 32 := 1#32
  let v591 : BitVec 32 := Scalar.divsi v589 c1_i32_254
  let v592 : BitVec 32 := Scalar.muli v591 c1_i32_254
  let v593 : BitVec 32 := Scalar.addi c0_i32_253 v592
  let v590 : BitVec 32 := Scalar.addi c0_i32_253 v589
  let c1_i32_256 : BitVec 32 := 1#32
  ⟨v593, v590, c1_i32_256⟩
def k0_off72 (i : grid0.Coords) (k0_t42 : Fin (k0_t42_loop i).trips) (c0_i32_2005 : BitVec 32) : Fin 4 → Nat :=
  let c3 : Index := 3#32
  let c0_i32_253 : BitVec 32 := 0#32
  let arg1 : BitVec 32 := BitVec.ofNat 32 (i 1).val
  let c4_i32 : BitVec 32 := 4#32
  let v2 : BitVec 32 := Scalar.muli arg1 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32_0 : BitVec 32 := 4#32
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let v3 : BitVec 32 := Scalar.divsi v2 c4_i32_0
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let v589 : BitVec 32 := Scalar.subi v20 c0_i32_253
  let c1_i32_254 : BitVec 32 := 1#32
  let v591 : BitVec 32 := Scalar.divsi v589 c1_i32_254
  let v592 : BitVec 32 := Scalar.muli v591 c1_i32_254
  let v593 : BitVec 32 := Scalar.addi c0_i32_253 v592
  let c1_i32_256 : BitVec 32 := 1#32
  let arg19 : BitVec 32 := Scf.iv v593 c1_i32_256 k0_t42
  let c4_i32_2004 : BitVec 32 := 4#32
  let v3548 : BitVec 32 := Scalar.muli arg19 c4_i32_2004
  let v3549 : BitVec 32 := Scalar.addi v3548 c0_i32_2005
  let v3550 : Index := Scalar.indexCast v3549
  let c0_2006 : Index := 0#32
  let c0_2007 : Index := 0#32
  ![3, v3550.toNat, 0, 0]
@[reducible] def k0_t43_loop (i : grid0.Coords) : Scf.Loop 32 :=
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_345 : BitVec 32 := 1#32
  ⟨c0_i32_343, v786, c1_i32_345⟩
def k0_mult25 (i : grid0.Coords) (k0_t43 : Fin (k0_t43_loop i).trips) : BitVec 32 :=
  let c2_i32_2006 : BitVec 32 := 2#32
  let c0_i32_343 : BitVec 32 := 0#32
  let c1_i32_345 : BitVec 32 := 1#32
  let arg19 : BitVec 32 := Scf.iv c0_i32_343 c1_i32_345 k0_t43
  let v3550 : BitVec 32 := Scalar.muli c2_i32_2006 arg19
  let c512_i32 : BitVec 32 := 512#32
  let v3551 : BitVec 32 := Scalar.muli v3550 c512_i32
  v3551
def k0_off73 (i : grid0.Coords) (k0_t43 : Fin (k0_t43_loop i).trips) : Fin 3 → Nat :=
  let c0_2007 : Index := 0#32
  let c2_i32_2006 : BitVec 32 := 2#32
  let c0_i32_343 : BitVec 32 := 0#32
  let c1_i32_345 : BitVec 32 := 1#32
  let arg19 : BitVec 32 := Scf.iv c0_i32_343 c1_i32_345 k0_t43
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off74 (i : grid0.Coords) (k0_t43 : Fin (k0_t43_loop i).trips) (c0_i32_2010 : BitVec 32) : Fin 3 → Nat :=
  let c2_i32_2006 : BitVec 32 := 2#32
  let c0_i32_343 : BitVec 32 := 0#32
  let c1_i32_345 : BitVec 32 := 1#32
  let arg19 : BitVec 32 := Scf.iv c0_i32_343 c1_i32_345 k0_t43
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off75 (i : grid0.Coords) (k0_t43 : Fin (k0_t43_loop i).trips) : Fin 4 → Nat :=
  let c2_i32_2006 : BitVec 32 := 2#32
  let c0_i32_343 : BitVec 32 := 0#32
  let c1_i32_345 : BitVec 32 := 1#32
  let arg19 : BitVec 32 := Scf.iv c0_i32_343 c1_i32_345 k0_t43
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult26 (i : grid0.Coords) (k0_t43 : Fin (k0_t43_loop i).trips) : BitVec 32 :=
  let c2_i32_2004 : BitVec 32 := 2#32
  let c0_i32_343 : BitVec 32 := 0#32
  let c1_i32_345 : BitVec 32 := 1#32
  let arg19 : BitVec 32 := Scf.iv c0_i32_343 c1_i32_345 k0_t43
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off76 (i : grid0.Coords) (k0_t43 : Fin (k0_t43_loop i).trips) : Fin 3 → Nat :=
  let c0_2170 : Index := 0#32
  let c2_i32_2004 : BitVec 32 := 2#32
  let c0_i32_343 : BitVec 32 := 0#32
  let c1_i32_345 : BitVec 32 := 1#32
  let arg19 : BitVec 32 := Scf.iv c0_i32_343 c1_i32_345 k0_t43
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off77 (i : grid0.Coords) (k0_t43 : Fin (k0_t43_loop i).trips) (c0_i32_2173 : BitVec 32) : Fin 3 → Nat :=
  let c2_i32_2004 : BitVec 32 := 2#32
  let c0_i32_343 : BitVec 32 := 0#32
  let c1_i32_345 : BitVec 32 := 1#32
  let arg19 : BitVec 32 := Scf.iv c0_i32_343 c1_i32_345 k0_t43
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off78 (i : grid0.Coords) (k0_t43 : Fin (k0_t43_loop i).trips) : Fin 4 → Nat :=
  let c2_i32_2004 : BitVec 32 := 2#32
  let c0_i32_343 : BitVec 32 := 0#32
  let c1_i32_345 : BitVec 32 := 1#32
  let arg19 : BitVec 32 := Scf.iv c0_i32_343 c1_i32_345 k0_t43
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t44_loop (i : grid0.Coords) : Scf.Loop 32 :=
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let v783 : BitVec 32 := Scalar.addi c0_i32_343 v782
  let c1_i32_346 : BitVec 32 := 1#32
  ⟨v786, v783, c1_i32_346⟩
def k0_mult27 (i : grid0.Coords) (k0_t44 : Fin (k0_t44_loop i).trips) : BitVec 32 :=
  let c2_i32_2006 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3550 : BitVec 32 := Scalar.muli c2_i32_2006 arg19
  let c512_i32 : BitVec 32 := 512#32
  let v3551 : BitVec 32 := Scalar.muli v3550 c512_i32
  v3551
def k0_off79 (i : grid0.Coords) (k0_t44 : Fin (k0_t44_loop i).trips) : Fin 3 → Nat :=
  let c0_2007 : Index := 0#32
  let c2_i32_2006 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off80 (i : grid0.Coords) (k0_t44 : Fin (k0_t44_loop i).trips) (c0_i32_2010 : BitVec 32) : Fin 3 → Nat :=
  let c2_i32_2006 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off81 (i : grid0.Coords) (k0_t44 : Fin (k0_t44_loop i).trips) : Fin 4 → Nat :=
  let c2_i32_2006 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult28 (i : grid0.Coords) (k0_t44 : Fin (k0_t44_loop i).trips) : BitVec 32 :=
  let c2_i32_2004 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off82 (i : grid0.Coords) (k0_t44 : Fin (k0_t44_loop i).trips) : Fin 3 → Nat :=
  let c0_2170 : Index := 0#32
  let c2_i32_2004 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off83 (i : grid0.Coords) (k0_t44 : Fin (k0_t44_loop i).trips) (c0_i32_2173 : BitVec 32) : Fin 3 → Nat :=
  let c2_i32_2004 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off84 (i : grid0.Coords) (k0_t44 : Fin (k0_t44_loop i).trips) : Fin 4 → Nat :=
  let c2_i32_2004 : BitVec 32 := 2#32
  let c0_i32_343 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_335 : BitVec 32 := 0#32
  let v765 : BitVec 1 := Scalar.cmpi .sgt v763 c0_i32_335
  let v766 : BitVec 32 := Scalar.extui v765
  let c0_i32_336 : BitVec 32 := 0#32
  let v767 : BitVec 1 := Scalar.cmpi .slt v763 c0_i32_336
  let v768 : BitVec 32 := Scalar.extui v767
  let v769 : BitVec 32 := Scalar.subi v766 v768
  let c2_i32_334 : BitVec 32 := 2#32
  let c0_i32_337 : BitVec 32 := 0#32
  let v770 : BitVec 1 := Scalar.cmpi .sgt c2_i32_334 c0_i32_337
  let v771 : BitVec 32 := Scalar.extui v770
  let c0_i32_338 : BitVec 32 := 0#32
  let v772 : BitVec 1 := Scalar.cmpi .slt c2_i32_334 c0_i32_338
  let v773 : BitVec 32 := Scalar.extui v772
  let v774 : BitVec 32 := Scalar.subi v771 v773
  let v775 : BitVec 1 := Scalar.cmpi .ne v769 v774
  let v776 : BitVec 32 := Scalar.remsi v763 c2_i32_334
  let c0_i32_339 : BitVec 32 := 0#32
  let v777 : BitVec 1 := Scalar.cmpi .ne v776 c0_i32_339
  let v778 : BitVec 1 := Scalar.andi v775 v777
  let v764 : BitVec 32 := Scalar.divsi v763 c2_i32_334
  let c1_i32_340 : BitVec 32 := 1#32
  let v779 : BitVec 32 := Scalar.subi v764 c1_i32_340
  let v780 : BitVec 32 := Scalar.select v778 v779 v764
  let v782 : BitVec 32 := Scalar.subi v780 c0_i32_343
  let c1_i32_344 : BitVec 32 := 1#32
  let v784 : BitVec 32 := Scalar.divsi v782 c1_i32_344
  let v785 : BitVec 32 := Scalar.muli v784 c1_i32_344
  let v786 : BitVec 32 := Scalar.addi c0_i32_343 v785
  let c1_i32_346 : BitVec 32 := 1#32
  let arg19 : BitVec 32 := Scf.iv v786 c1_i32_346 k0_t44
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t45_loop (i : grid0.Coords) : Scf.Loop 32 :=
  let c0_i32_354 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c2_i32_347 : BitVec 32 := 2#32
  let c0_i32_348 : BitVec 32 := 0#32
  let v789 : BitVec 1 := Scalar.cmpi .eq c2_i32_347 c0_i32_348
  let c1_i32_349 : BitVec 32 := 1#32
  let v790 : BitVec 32 := Scalar.select v789 c1_i32_349 c2_i32_347
  let v791 : BitVec 32 := Scalar.remsi v763 v790
  let c0_i32_351 : BitVec 32 := 0#32
  let v793 : BitVec 1 := Scalar.cmpi .slt v791 c0_i32_351
  let c0_i32_352 : BitVec 32 := 0#32
  let v794 : BitVec 1 := Scalar.cmpi .slt v790 c0_i32_352
  let v795 : BitVec 1 := Scalar.xori v793 v794
  let c0_i32_350 : BitVec 32 := 0#32
  let v792 : BitVec 1 := Scalar.cmpi .ne v791 c0_i32_350
  let v796 : BitVec 1 := Scalar.andi v795 v792
  let v797 : BitVec 32 := Scalar.addi v791 v790
  let v798 : BitVec 32 := Scalar.select v796 v797 v791
  let v799 : BitVec 32 := Scalar.subi v798 c0_i32_354
  let c1_i32_355 : BitVec 32 := 1#32
  let v801 : BitVec 32 := Scalar.divsi v799 c1_i32_355
  let v802 : BitVec 32 := Scalar.muli v801 c1_i32_355
  let v803 : BitVec 32 := Scalar.addi c0_i32_354 v802
  let c1_i32_356 : BitVec 32 := 1#32
  ⟨c0_i32_354, v803, c1_i32_356⟩
def k0_mult29 (i : grid0.Coords) : BitVec 32 :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  v3549
def k0_off85 (i : grid0.Coords) : Fin 3 → Nat :=
  let c0_2005 : Index := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off86 (i : grid0.Coords) (c0_i32_2008 : BitVec 32) : Fin 3 → Nat :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off87 (i : grid0.Coords) : Fin 4 → Nat :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c0_i32_2067 : BitVec 32 := 0#32
  let c0_i32_2068 : BitVec 32 := 0#32
  let c0_i32_2069 : BitVec 32 := 0#32
  ![v3548.toNat, 0, 0, 0]
@[reducible] def k0_t46_loop (i : grid0.Coords) : Scf.Loop 32 :=
  let c0_i32_354 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c2_i32_347 : BitVec 32 := 2#32
  let c0_i32_348 : BitVec 32 := 0#32
  let v789 : BitVec 1 := Scalar.cmpi .eq c2_i32_347 c0_i32_348
  let c1_i32_349 : BitVec 32 := 1#32
  let v790 : BitVec 32 := Scalar.select v789 c1_i32_349 c2_i32_347
  let v791 : BitVec 32 := Scalar.remsi v763 v790
  let c0_i32_351 : BitVec 32 := 0#32
  let v793 : BitVec 1 := Scalar.cmpi .slt v791 c0_i32_351
  let c0_i32_352 : BitVec 32 := 0#32
  let v794 : BitVec 1 := Scalar.cmpi .slt v790 c0_i32_352
  let v795 : BitVec 1 := Scalar.xori v793 v794
  let c0_i32_350 : BitVec 32 := 0#32
  let v792 : BitVec 1 := Scalar.cmpi .ne v791 c0_i32_350
  let v796 : BitVec 1 := Scalar.andi v795 v792
  let v797 : BitVec 32 := Scalar.addi v791 v790
  let v798 : BitVec 32 := Scalar.select v796 v797 v791
  let v799 : BitVec 32 := Scalar.subi v798 c0_i32_354
  let c1_i32_355 : BitVec 32 := 1#32
  let v801 : BitVec 32 := Scalar.divsi v799 c1_i32_355
  let v802 : BitVec 32 := Scalar.muli v801 c1_i32_355
  let v803 : BitVec 32 := Scalar.addi c0_i32_354 v802
  let v800 : BitVec 32 := Scalar.addi c0_i32_354 v799
  let c1_i32_357 : BitVec 32 := 1#32
  ⟨v803, v800, c1_i32_357⟩
def k0_mult30 (i : grid0.Coords) : BitVec 32 :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  v3549
def k0_off88 (i : grid0.Coords) : Fin 3 → Nat :=
  let c0_2005 : Index := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off89 (i : grid0.Coords) (c0_i32_2008 : BitVec 32) : Fin 3 → Nat :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off90 (i : grid0.Coords) : Fin 4 → Nat :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c0_i32_2067 : BitVec 32 := 0#32
  let c0_i32_2068 : BitVec 32 := 0#32
  let c0_i32_2069 : BitVec 32 := 0#32
  ![v3548.toNat, 0, 0, 0]
def k0_mult31 (i : grid0.Coords) : BitVec 32 :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c1_i32_358 : BitVec 32 := 1#32
  let v806 : BitVec 32 := Scalar.subi v613 c1_i32_358
  let c0_i32_359 : BitVec 32 := 0#32
  let v807 : BitVec 32 := Scalar.maxsi v806 c0_i32_359
  let c128_i32_360 : BitVec 32 := 128#32
  let v808 : BitVec 32 := Scalar.muli v807 c128_i32_360
  v808
def k0_mult32 (i : grid0.Coords) : BitVec 32 :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c128_i32_361 : BitVec 32 := 128#32
  let v810 : BitVec 32 := Scalar.muli v613 c128_i32_361
  v810
def k0_off91 (i : grid0.Coords) (c0_i32_266 : BitVec 32) : Fin 3 → Nat :=
  let arg1 : BitVec 32 := BitVec.ofNat 32 (i 1).val
  let c4_i32_265 : BitVec 32 := 4#32
  let v612 : BitVec 32 := Scalar.muli arg1 c4_i32_265
  let v613 : BitVec 32 := Scalar.addi v612 c0_i32_266
  let c1_i32_358 : BitVec 32 := 1#32
  let v806 : BitVec 32 := Scalar.subi v613 c1_i32_358
  let c0_i32_359 : BitVec 32 := 0#32
  let v807 : BitVec 32 := Scalar.maxsi v806 c0_i32_359
  let v815 : Index := Scalar.indexCast v807
  let c0_366 : Index := 0#32
  let c0_367 : Index := 0#32
  ![v815.toNat, 0, 0]
def k0_off92 (i : grid0.Coords) (c0_i32_266 : BitVec 32) : Fin 3 → Nat :=
  let arg1 : BitVec 32 := BitVec.ofNat 32 (i 1).val
  let c4_i32_265 : BitVec 32 := 4#32
  let v612 : BitVec 32 := Scalar.muli arg1 c4_i32_265
  let v613 : BitVec 32 := Scalar.addi v612 c0_i32_266
  let v841 : Index := Scalar.indexCast v613
  let c0_378 : Index := 0#32
  let c0_379 : Index := 0#32
  ![v841.toNat, 0, 0]
def k0_off93 (i : grid0.Coords) (c0_i32_266 : BitVec 32) : Fin 3 → Nat :=
  let c0_388 : Index := 0#32
  let arg1 : BitVec 32 := BitVec.ofNat 32 (i 1).val
  let c4_i32_265 : BitVec 32 := 4#32
  let v612 : BitVec 32 := Scalar.muli arg1 c4_i32_265
  let v613 : BitVec 32 := Scalar.addi v612 c0_i32_266
  let c1_i32_358 : BitVec 32 := 1#32
  let v806 : BitVec 32 := Scalar.subi v613 c1_i32_358
  let c0_i32_359 : BitVec 32 := 0#32
  let v807 : BitVec 32 := Scalar.maxsi v806 c0_i32_359
  let c128_i32_360 : BitVec 32 := 128#32
  let v808 : BitVec 32 := Scalar.muli v807 c128_i32_360
  let v809 : BitVec 32 := v808
  let v871 : Index := Scalar.indexCast v809
  let c0_389 : Index := 0#32
  ![0, v871.toNat, 0]
def k0_off94 (i : grid0.Coords) (c0_i32_266 : BitVec 32) : Fin 3 → Nat :=
  let c0_390 : Index := 0#32
  let arg1 : BitVec 32 := BitVec.ofNat 32 (i 1).val
  let c4_i32_265 : BitVec 32 := 4#32
  let v612 : BitVec 32 := Scalar.muli arg1 c4_i32_265
  let v613 : BitVec 32 := Scalar.addi v612 c0_i32_266
  let c128_i32_361 : BitVec 32 := 128#32
  let v810 : BitVec 32 := Scalar.muli v613 c128_i32_361
  let v811 : BitVec 32 := v810
  let v874 : Index := Scalar.indexCast v811
  let c0_391 : Index := 0#32
  ![0, v874.toNat, 0]
@[reducible] def k0_t47_loop (i : grid0.Coords) : Scf.Loop 32 :=
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_520 : BitVec 32 := 1#32
  ⟨c0_i32_518, v1060, c1_i32_520⟩
def k0_mult33 (i : grid0.Coords) (k0_t47 : Fin (k0_t47_loop i).trips) : BitVec 32 :=
  let c2_i32_2004 : BitVec 32 := 2#32
  let c0_i32_518 : BitVec 32 := 0#32
  let c1_i32_520 : BitVec 32 := 1#32
  let arg19 : BitVec 32 := Scf.iv c0_i32_518 c1_i32_520 k0_t47
  let v3548 : BitVec 32 := Scalar.muli c2_i32_2004 arg19
  let c512_i32 : BitVec 32 := 512#32
  let v3549 : BitVec 32 := Scalar.muli v3548 c512_i32
  v3549
def k0_off95 (i : grid0.Coords) (k0_t47 : Fin (k0_t47_loop i).trips) : Fin 3 → Nat :=
  let c0_2005 : Index := 0#32
  let c2_i32_2004 : BitVec 32 := 2#32
  let c0_i32_518 : BitVec 32 := 0#32
  let c1_i32_520 : BitVec 32 := 1#32
  let arg19 : BitVec 32 := Scf.iv c0_i32_518 c1_i32_520 k0_t47
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off96 (i : grid0.Coords) (k0_t47 : Fin (k0_t47_loop i).trips) : Fin 4 → Nat :=
  let c2_i32_2004 : BitVec 32 := 2#32
  let c0_i32_518 : BitVec 32 := 0#32
  let c1_i32_520 : BitVec 32 := 1#32
  let arg19 : BitVec 32 := Scf.iv c0_i32_518 c1_i32_520 k0_t47
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult34 (i : grid0.Coords) (k0_t47 : Fin (k0_t47_loop i).trips) : BitVec 32 :=
  let c2_i32_2161 : BitVec 32 := 2#32
  let c0_i32_518 : BitVec 32 := 0#32
  let c1_i32_520 : BitVec 32 := 1#32
  let arg19 : BitVec 32 := Scf.iv c0_i32_518 c1_i32_520 k0_t47
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off97 (i : grid0.Coords) (k0_t47 : Fin (k0_t47_loop i).trips) : Fin 3 → Nat :=
  let c0_2164 : Index := 0#32
  let c2_i32_2161 : BitVec 32 := 2#32
  let c0_i32_518 : BitVec 32 := 0#32
  let c1_i32_520 : BitVec 32 := 1#32
  let arg19 : BitVec 32 := Scf.iv c0_i32_518 c1_i32_520 k0_t47
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off98 (i : grid0.Coords) (k0_t47 : Fin (k0_t47_loop i).trips) : Fin 4 → Nat :=
  let c2_i32_2161 : BitVec 32 := 2#32
  let c0_i32_518 : BitVec 32 := 0#32
  let c1_i32_520 : BitVec 32 := 1#32
  let arg19 : BitVec 32 := Scf.iv c0_i32_518 c1_i32_520 k0_t47
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t48_loop (i : grid0.Coords) : Scf.Loop 32 :=
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let v1057 : BitVec 32 := Scalar.addi c0_i32_518 v1056
  let c1_i32_521 : BitVec 32 := 1#32
  ⟨v1060, v1057, c1_i32_521⟩
def k0_mult35 (i : grid0.Coords) (k0_t48 : Fin (k0_t48_loop i).trips) : BitVec 32 :=
  let c2_i32_2004 : BitVec 32 := 2#32
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_521 : BitVec 32 := 1#32
  let arg19 : BitVec 32 := Scf.iv v1060 c1_i32_521 k0_t48
  let v3548 : BitVec 32 := Scalar.muli c2_i32_2004 arg19
  let c512_i32 : BitVec 32 := 512#32
  let v3549 : BitVec 32 := Scalar.muli v3548 c512_i32
  v3549
def k0_off99 (i : grid0.Coords) (k0_t48 : Fin (k0_t48_loop i).trips) : Fin 3 → Nat :=
  let c0_2005 : Index := 0#32
  let c2_i32_2004 : BitVec 32 := 2#32
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_521 : BitVec 32 := 1#32
  let arg19 : BitVec 32 := Scf.iv v1060 c1_i32_521 k0_t48
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off100 (i : grid0.Coords) (k0_t48 : Fin (k0_t48_loop i).trips) : Fin 4 → Nat :=
  let c2_i32_2004 : BitVec 32 := 2#32
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_521 : BitVec 32 := 1#32
  let arg19 : BitVec 32 := Scf.iv v1060 c1_i32_521 k0_t48
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult36 (i : grid0.Coords) (k0_t48 : Fin (k0_t48_loop i).trips) : BitVec 32 :=
  let c2_i32_2161 : BitVec 32 := 2#32
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_521 : BitVec 32 := 1#32
  let arg19 : BitVec 32 := Scf.iv v1060 c1_i32_521 k0_t48
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off101 (i : grid0.Coords) (k0_t48 : Fin (k0_t48_loop i).trips) : Fin 3 → Nat :=
  let c0_2164 : Index := 0#32
  let c2_i32_2161 : BitVec 32 := 2#32
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_521 : BitVec 32 := 1#32
  let arg19 : BitVec 32 := Scf.iv v1060 c1_i32_521 k0_t48
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off102 (i : grid0.Coords) (k0_t48 : Fin (k0_t48_loop i).trips) : Fin 4 → Nat :=
  let c2_i32_2161 : BitVec 32 := 2#32
  let c0_i32_518 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c0_i32_511 : BitVec 32 := 0#32
  let v1040 : BitVec 1 := Scalar.cmpi .sgt v763 c0_i32_511
  let v1041 : BitVec 32 := Scalar.extui v1040
  let c0_i32_512 : BitVec 32 := 0#32
  let v1042 : BitVec 1 := Scalar.cmpi .slt v763 c0_i32_512
  let v1043 : BitVec 32 := Scalar.extui v1042
  let v1044 : BitVec 32 := Scalar.subi v1041 v1043
  let c2_i32_510 : BitVec 32 := 2#32
  let c0_i32_513 : BitVec 32 := 0#32
  let v1045 : BitVec 1 := Scalar.cmpi .sgt c2_i32_510 c0_i32_513
  let v1046 : BitVec 32 := Scalar.extui v1045
  let c0_i32_514 : BitVec 32 := 0#32
  let v1047 : BitVec 1 := Scalar.cmpi .slt c2_i32_510 c0_i32_514
  let v1048 : BitVec 32 := Scalar.extui v1047
  let v1049 : BitVec 32 := Scalar.subi v1046 v1048
  let v1050 : BitVec 1 := Scalar.cmpi .ne v1044 v1049
  let v1051 : BitVec 32 := Scalar.remsi v763 c2_i32_510
  let c0_i32_515 : BitVec 32 := 0#32
  let v1052 : BitVec 1 := Scalar.cmpi .ne v1051 c0_i32_515
  let v1053 : BitVec 1 := Scalar.andi v1050 v1052
  let v1039 : BitVec 32 := Scalar.divsi v763 c2_i32_510
  let c1_i32_516 : BitVec 32 := 1#32
  let v1054 : BitVec 32 := Scalar.subi v1039 c1_i32_516
  let v1055 : BitVec 32 := Scalar.select v1053 v1054 v1039
  let v1056 : BitVec 32 := Scalar.subi v1055 c0_i32_518
  let c1_i32_519 : BitVec 32 := 1#32
  let v1058 : BitVec 32 := Scalar.divsi v1056 c1_i32_519
  let v1059 : BitVec 32 := Scalar.muli v1058 c1_i32_519
  let v1060 : BitVec 32 := Scalar.addi c0_i32_518 v1059
  let c1_i32_521 : BitVec 32 := 1#32
  let arg19 : BitVec 32 := Scf.iv v1060 c1_i32_521 k0_t48
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t49_loop (i : grid0.Coords) : Scf.Loop 32 :=
  let c0_i32_529 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c2_i32_522 : BitVec 32 := 2#32
  let c0_i32_523 : BitVec 32 := 0#32
  let v1061 : BitVec 1 := Scalar.cmpi .eq c2_i32_522 c0_i32_523
  let c1_i32_524 : BitVec 32 := 1#32
  let v1062 : BitVec 32 := Scalar.select v1061 c1_i32_524 c2_i32_522
  let v1063 : BitVec 32 := Scalar.remsi v763 v1062
  let c0_i32_526 : BitVec 32 := 0#32
  let v1065 : BitVec 1 := Scalar.cmpi .slt v1063 c0_i32_526
  let c0_i32_527 : BitVec 32 := 0#32
  let v1066 : BitVec 1 := Scalar.cmpi .slt v1062 c0_i32_527
  let v1067 : BitVec 1 := Scalar.xori v1065 v1066
  let c0_i32_525 : BitVec 32 := 0#32
  let v1064 : BitVec 1 := Scalar.cmpi .ne v1063 c0_i32_525
  let v1068 : BitVec 1 := Scalar.andi v1067 v1064
  let v1069 : BitVec 32 := Scalar.addi v1063 v1062
  let v1070 : BitVec 32 := Scalar.select v1068 v1069 v1063
  let v1071 : BitVec 32 := Scalar.subi v1070 c0_i32_529
  let c1_i32_530 : BitVec 32 := 1#32
  let v1073 : BitVec 32 := Scalar.divsi v1071 c1_i32_530
  let v1074 : BitVec 32 := Scalar.muli v1073 c1_i32_530
  let v1075 : BitVec 32 := Scalar.addi c0_i32_529 v1074
  let c1_i32_531 : BitVec 32 := 1#32
  ⟨c0_i32_529, v1075, c1_i32_531⟩
def k0_mult37 (i : grid0.Coords) : BitVec 32 :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  v3549
def k0_off103 (i : grid0.Coords) : Fin 3 → Nat :=
  let c0_2005 : Index := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off104 (i : grid0.Coords) : Fin 4 → Nat :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c0_i32_2010 : BitVec 32 := 0#32
  let c0_i32_2011 : BitVec 32 := 0#32
  let c0_i32_2012 : BitVec 32 := 0#32
  ![v3548.toNat, 0, 0, 0]
@[reducible] def k0_t50_loop (i : grid0.Coords) : Scf.Loop 32 :=
  let c0_i32_529 : BitVec 32 := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c2_i32_522 : BitVec 32 := 2#32
  let c0_i32_523 : BitVec 32 := 0#32
  let v1061 : BitVec 1 := Scalar.cmpi .eq c2_i32_522 c0_i32_523
  let c1_i32_524 : BitVec 32 := 1#32
  let v1062 : BitVec 32 := Scalar.select v1061 c1_i32_524 c2_i32_522
  let v1063 : BitVec 32 := Scalar.remsi v763 v1062
  let c0_i32_526 : BitVec 32 := 0#32
  let v1065 : BitVec 1 := Scalar.cmpi .slt v1063 c0_i32_526
  let c0_i32_527 : BitVec 32 := 0#32
  let v1066 : BitVec 1 := Scalar.cmpi .slt v1062 c0_i32_527
  let v1067 : BitVec 1 := Scalar.xori v1065 v1066
  let c0_i32_525 : BitVec 32 := 0#32
  let v1064 : BitVec 1 := Scalar.cmpi .ne v1063 c0_i32_525
  let v1068 : BitVec 1 := Scalar.andi v1067 v1064
  let v1069 : BitVec 32 := Scalar.addi v1063 v1062
  let v1070 : BitVec 32 := Scalar.select v1068 v1069 v1063
  let v1071 : BitVec 32 := Scalar.subi v1070 c0_i32_529
  let c1_i32_530 : BitVec 32 := 1#32
  let v1073 : BitVec 32 := Scalar.divsi v1071 c1_i32_530
  let v1074 : BitVec 32 := Scalar.muli v1073 c1_i32_530
  let v1075 : BitVec 32 := Scalar.addi c0_i32_529 v1074
  let v1072 : BitVec 32 := Scalar.addi c0_i32_529 v1071
  let c1_i32_532 : BitVec 32 := 1#32
  ⟨v1075, v1072, c1_i32_532⟩
def k0_mult38 (i : grid0.Coords) : BitVec 32 :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  v3549
def k0_off105 (i : grid0.Coords) : Fin 3 → Nat :=
  let c0_2005 : Index := 0#32
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off106 (i : grid0.Coords) : Fin 4 → Nat :=
  let arg1 : BitVec 32 := BitVec.ofNat 32 (i 1).val
  let c4_i32_265 : BitVec 32 := 4#32
  let v612 : BitVec 32 := Scalar.muli arg1 c4_i32_265
  let c0_i32_266 : BitVec 32 := 0#32
  let v613 : BitVec 32 := Scalar.addi v612 c0_i32_266
  let c2_i32_326 : BitVec 32 := 2#32
  let v746 : BitVec 32 := Scalar.addi v613 c2_i32_326
  let c0_i32_328 : BitVec 32 := 0#32
  let v748 : BitVec 1 := Scalar.cmpi .sgt v746 c0_i32_328
  let v749 : BitVec 32 := Scalar.extui v748
  let c0_i32_329 : BitVec 32 := 0#32
  let v750 : BitVec 1 := Scalar.cmpi .slt v746 c0_i32_329
  let v751 : BitVec 32 := Scalar.extui v750
  let v752 : BitVec 32 := Scalar.subi v749 v751
  let c4_i32_327 : BitVec 32 := 4#32
  let c0_i32_330 : BitVec 32 := 0#32
  let v753 : BitVec 1 := Scalar.cmpi .sgt c4_i32_327 c0_i32_330
  let v754 : BitVec 32 := Scalar.extui v753
  let c0_i32_331 : BitVec 32 := 0#32
  let v755 : BitVec 1 := Scalar.cmpi .slt c4_i32_327 c0_i32_331
  let v756 : BitVec 32 := Scalar.extui v755
  let v757 : BitVec 32 := Scalar.subi v754 v756
  let v758 : BitVec 1 := Scalar.cmpi .ne v752 v757
  let v759 : BitVec 32 := Scalar.remsi v746 c4_i32_327
  let c0_i32_332 : BitVec 32 := 0#32
  let v760 : BitVec 1 := Scalar.cmpi .ne v759 c0_i32_332
  let v761 : BitVec 1 := Scalar.andi v758 v760
  let v747 : BitVec 32 := Scalar.divsi v746 c4_i32_327
  let c1_i32_333 : BitVec 32 := 1#32
  let v762 : BitVec 32 := Scalar.subi v747 c1_i32_333
  let v763 : BitVec 32 := Scalar.select v761 v762 v747
  let c1_i32_2004 : BitVec 32 := 1#32
  let v3548 : BitVec 32 := Scalar.subi v763 c1_i32_2004
  let c0_i32_2010 : BitVec 32 := 0#32
  let c0_i32_2011 : BitVec 32 := 0#32
  let c0_i32_2012 : BitVec 32 := 0#32
  ![v3548.toNat, 0, 0, 0]
@[reducible] def k0_t51_loop (i : grid0.Coords) : Scf.Loop 32 :=
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_780 : BitVec 32 := 1#32
  ⟨c0_i32_778, v1520, c1_i32_780⟩
def k0_mult39 (i : grid0.Coords) (k0_t51 : Fin (k0_t51_loop i).trips) : BitVec 32 :=
  let c2_i32_2006 : BitVec 32 := 2#32
  let c0_i32_778 : BitVec 32 := 0#32
  let c1_i32_780 : BitVec 32 := 1#32
  let arg19 : BitVec 32 := Scf.iv c0_i32_778 c1_i32_780 k0_t51
  let v3550 : BitVec 32 := Scalar.muli c2_i32_2006 arg19
  let c512_i32 : BitVec 32 := 512#32
  let v3551 : BitVec 32 := Scalar.muli v3550 c512_i32
  v3551
def k0_off107 (i : grid0.Coords) (k0_t51 : Fin (k0_t51_loop i).trips) : Fin 3 → Nat :=
  let c0_2007 : Index := 0#32
  let c2_i32_2006 : BitVec 32 := 2#32
  let c0_i32_778 : BitVec 32 := 0#32
  let c1_i32_780 : BitVec 32 := 1#32
  let arg19 : BitVec 32 := Scf.iv c0_i32_778 c1_i32_780 k0_t51
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off108 (i : grid0.Coords) (k0_t51 : Fin (k0_t51_loop i).trips) (c0_i32_2010 : BitVec 32) : Fin 3 → Nat :=
  let c2_i32_2006 : BitVec 32 := 2#32
  let c0_i32_778 : BitVec 32 := 0#32
  let c1_i32_780 : BitVec 32 := 1#32
  let arg19 : BitVec 32 := Scf.iv c0_i32_778 c1_i32_780 k0_t51
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off109 (i : grid0.Coords) (k0_t51 : Fin (k0_t51_loop i).trips) : Fin 4 → Nat :=
  let c2_i32_2006 : BitVec 32 := 2#32
  let c0_i32_778 : BitVec 32 := 0#32
  let c1_i32_780 : BitVec 32 := 1#32
  let arg19 : BitVec 32 := Scf.iv c0_i32_778 c1_i32_780 k0_t51
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult40 (i : grid0.Coords) (k0_t51 : Fin (k0_t51_loop i).trips) : BitVec 32 :=
  let c2_i32_2004 : BitVec 32 := 2#32
  let c0_i32_778 : BitVec 32 := 0#32
  let c1_i32_780 : BitVec 32 := 1#32
  let arg19 : BitVec 32 := Scf.iv c0_i32_778 c1_i32_780 k0_t51
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off110 (i : grid0.Coords) (k0_t51 : Fin (k0_t51_loop i).trips) : Fin 3 → Nat :=
  let c0_2170 : Index := 0#32
  let c2_i32_2004 : BitVec 32 := 2#32
  let c0_i32_778 : BitVec 32 := 0#32
  let c1_i32_780 : BitVec 32 := 1#32
  let arg19 : BitVec 32 := Scf.iv c0_i32_778 c1_i32_780 k0_t51
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off111 (i : grid0.Coords) (k0_t51 : Fin (k0_t51_loop i).trips) (c0_i32_2173 : BitVec 32) : Fin 3 → Nat :=
  let c2_i32_2004 : BitVec 32 := 2#32
  let c0_i32_778 : BitVec 32 := 0#32
  let c1_i32_780 : BitVec 32 := 1#32
  let arg19 : BitVec 32 := Scf.iv c0_i32_778 c1_i32_780 k0_t51
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off112 (i : grid0.Coords) (k0_t51 : Fin (k0_t51_loop i).trips) : Fin 4 → Nat :=
  let c2_i32_2004 : BitVec 32 := 2#32
  let c0_i32_778 : BitVec 32 := 0#32
  let c1_i32_780 : BitVec 32 := 1#32
  let arg19 : BitVec 32 := Scf.iv c0_i32_778 c1_i32_780 k0_t51
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t52_loop (i : grid0.Coords) : Scf.Loop 32 :=
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let v1517 : BitVec 32 := Scalar.addi c0_i32_778 v1516
  let c1_i32_781 : BitVec 32 := 1#32
  ⟨v1520, v1517, c1_i32_781⟩
def k0_mult41 (i : grid0.Coords) (k0_t52 : Fin (k0_t52_loop i).trips) : BitVec 32 :=
  let c2_i32_2006 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3550 : BitVec 32 := Scalar.muli c2_i32_2006 arg19
  let c512_i32 : BitVec 32 := 512#32
  let v3551 : BitVec 32 := Scalar.muli v3550 c512_i32
  v3551
def k0_off113 (i : grid0.Coords) (k0_t52 : Fin (k0_t52_loop i).trips) : Fin 3 → Nat :=
  let c0_2007 : Index := 0#32
  let c2_i32_2006 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off114 (i : grid0.Coords) (k0_t52 : Fin (k0_t52_loop i).trips) (c0_i32_2010 : BitVec 32) : Fin 3 → Nat :=
  let c2_i32_2006 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off115 (i : grid0.Coords) (k0_t52 : Fin (k0_t52_loop i).trips) : Fin 4 → Nat :=
  let c2_i32_2006 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult42 (i : grid0.Coords) (k0_t52 : Fin (k0_t52_loop i).trips) : BitVec 32 :=
  let c2_i32_2004 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off116 (i : grid0.Coords) (k0_t52 : Fin (k0_t52_loop i).trips) : Fin 3 → Nat :=
  let c0_2170 : Index := 0#32
  let c2_i32_2004 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off117 (i : grid0.Coords) (k0_t52 : Fin (k0_t52_loop i).trips) (c0_i32_2173 : BitVec 32) : Fin 3 → Nat :=
  let c2_i32_2004 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off118 (i : grid0.Coords) (k0_t52 : Fin (k0_t52_loop i).trips) : Fin 4 → Nat :=
  let c2_i32_2004 : BitVec 32 := 2#32
  let c0_i32_778 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_770 : BitVec 32 := 0#32
  let v1499 : BitVec 1 := Scalar.cmpi .sgt v1497 c0_i32_770
  let v1500 : BitVec 32 := Scalar.extui v1499
  let c0_i32_771 : BitVec 32 := 0#32
  let v1501 : BitVec 1 := Scalar.cmpi .slt v1497 c0_i32_771
  let v1502 : BitVec 32 := Scalar.extui v1501
  let v1503 : BitVec 32 := Scalar.subi v1500 v1502
  let c2_i32_769 : BitVec 32 := 2#32
  let c0_i32_772 : BitVec 32 := 0#32
  let v1504 : BitVec 1 := Scalar.cmpi .sgt c2_i32_769 c0_i32_772
  let v1505 : BitVec 32 := Scalar.extui v1504
  let c0_i32_773 : BitVec 32 := 0#32
  let v1506 : BitVec 1 := Scalar.cmpi .slt c2_i32_769 c0_i32_773
  let v1507 : BitVec 32 := Scalar.extui v1506
  let v1508 : BitVec 32 := Scalar.subi v1505 v1507
  let v1509 : BitVec 1 := Scalar.cmpi .ne v1503 v1508
  let v1510 : BitVec 32 := Scalar.remsi v1497 c2_i32_769
  let c0_i32_774 : BitVec 32 := 0#32
  let v1511 : BitVec 1 := Scalar.cmpi .ne v1510 c0_i32_774
  let v1512 : BitVec 1 := Scalar.andi v1509 v1511
  let v1498 : BitVec 32 := Scalar.divsi v1497 c2_i32_769
  let c1_i32_775 : BitVec 32 := 1#32
  let v1513 : BitVec 32 := Scalar.subi v1498 c1_i32_775
  let v1514 : BitVec 32 := Scalar.select v1512 v1513 v1498
  let v1516 : BitVec 32 := Scalar.subi v1514 c0_i32_778
  let c1_i32_779 : BitVec 32 := 1#32
  let v1518 : BitVec 32 := Scalar.divsi v1516 c1_i32_779
  let v1519 : BitVec 32 := Scalar.muli v1518 c1_i32_779
  let v1520 : BitVec 32 := Scalar.addi c0_i32_778 v1519
  let c1_i32_781 : BitVec 32 := 1#32
  let arg19 : BitVec 32 := Scf.iv v1520 c1_i32_781 k0_t52
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t53_loop (i : grid0.Coords) : Scf.Loop 32 :=
  let c0_i32_789 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c2_i32_782 : BitVec 32 := 2#32
  let c0_i32_783 : BitVec 32 := 0#32
  let v1523 : BitVec 1 := Scalar.cmpi .eq c2_i32_782 c0_i32_783
  let c1_i32_784 : BitVec 32 := 1#32
  let v1524 : BitVec 32 := Scalar.select v1523 c1_i32_784 c2_i32_782
  let v1525 : BitVec 32 := Scalar.remsi v1497 v1524
  let c0_i32_786 : BitVec 32 := 0#32
  let v1527 : BitVec 1 := Scalar.cmpi .slt v1525 c0_i32_786
  let c0_i32_787 : BitVec 32 := 0#32
  let v1528 : BitVec 1 := Scalar.cmpi .slt v1524 c0_i32_787
  let v1529 : BitVec 1 := Scalar.xori v1527 v1528
  let c0_i32_785 : BitVec 32 := 0#32
  let v1526 : BitVec 1 := Scalar.cmpi .ne v1525 c0_i32_785
  let v1530 : BitVec 1 := Scalar.andi v1529 v1526
  let v1531 : BitVec 32 := Scalar.addi v1525 v1524
  let v1532 : BitVec 32 := Scalar.select v1530 v1531 v1525
  let v1533 : BitVec 32 := Scalar.subi v1532 c0_i32_789
  let c1_i32_790 : BitVec 32 := 1#32
  let v1535 : BitVec 32 := Scalar.divsi v1533 c1_i32_790
  let v1536 : BitVec 32 := Scalar.muli v1535 c1_i32_790
  let v1537 : BitVec 32 := Scalar.addi c0_i32_789 v1536
  let c1_i32_791 : BitVec 32 := 1#32
  ⟨c0_i32_789, v1537, c1_i32_791⟩
def k0_mult43 (i : grid0.Coords) : BitVec 32 :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  v3549
def k0_off119 (i : grid0.Coords) : Fin 3 → Nat :=
  let c0_2005 : Index := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off120 (i : grid0.Coords) (c0_i32_2008 : BitVec 32) : Fin 3 → Nat :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off121 (i : grid0.Coords) : Fin 4 → Nat :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c0_i32_2067 : BitVec 32 := 0#32
  let c0_i32_2068 : BitVec 32 := 0#32
  let c0_i32_2069 : BitVec 32 := 0#32
  ![v3548.toNat, 0, 0, 0]
@[reducible] def k0_t54_loop (i : grid0.Coords) : Scf.Loop 32 :=
  let c0_i32_789 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c2_i32_782 : BitVec 32 := 2#32
  let c0_i32_783 : BitVec 32 := 0#32
  let v1523 : BitVec 1 := Scalar.cmpi .eq c2_i32_782 c0_i32_783
  let c1_i32_784 : BitVec 32 := 1#32
  let v1524 : BitVec 32 := Scalar.select v1523 c1_i32_784 c2_i32_782
  let v1525 : BitVec 32 := Scalar.remsi v1497 v1524
  let c0_i32_786 : BitVec 32 := 0#32
  let v1527 : BitVec 1 := Scalar.cmpi .slt v1525 c0_i32_786
  let c0_i32_787 : BitVec 32 := 0#32
  let v1528 : BitVec 1 := Scalar.cmpi .slt v1524 c0_i32_787
  let v1529 : BitVec 1 := Scalar.xori v1527 v1528
  let c0_i32_785 : BitVec 32 := 0#32
  let v1526 : BitVec 1 := Scalar.cmpi .ne v1525 c0_i32_785
  let v1530 : BitVec 1 := Scalar.andi v1529 v1526
  let v1531 : BitVec 32 := Scalar.addi v1525 v1524
  let v1532 : BitVec 32 := Scalar.select v1530 v1531 v1525
  let v1533 : BitVec 32 := Scalar.subi v1532 c0_i32_789
  let c1_i32_790 : BitVec 32 := 1#32
  let v1535 : BitVec 32 := Scalar.divsi v1533 c1_i32_790
  let v1536 : BitVec 32 := Scalar.muli v1535 c1_i32_790
  let v1537 : BitVec 32 := Scalar.addi c0_i32_789 v1536
  let v1534 : BitVec 32 := Scalar.addi c0_i32_789 v1533
  let c1_i32_792 : BitVec 32 := 1#32
  ⟨v1537, v1534, c1_i32_792⟩
def k0_mult44 (i : grid0.Coords) : BitVec 32 :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  v3549
def k0_off122 (i : grid0.Coords) : Fin 3 → Nat :=
  let c0_2005 : Index := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off123 (i : grid0.Coords) (c0_i32_2008 : BitVec 32) : Fin 3 → Nat :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off124 (i : grid0.Coords) : Fin 4 → Nat :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c0_i32_2067 : BitVec 32 := 0#32
  let c0_i32_2068 : BitVec 32 := 0#32
  let c0_i32_2069 : BitVec 32 := 0#32
  ![v3548.toNat, 0, 0, 0]
def k0_mult45 (i : grid0.Coords) : BitVec 32 :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c1_i32_793 : BitVec 32 := 1#32
  let v1540 : BitVec 32 := Scalar.subi v1347 c1_i32_793
  let c0_i32_794 : BitVec 32 := 0#32
  let v1541 : BitVec 32 := Scalar.maxsi v1540 c0_i32_794
  let c128_i32_795 : BitVec 32 := 128#32
  let v1542 : BitVec 32 := Scalar.muli v1541 c128_i32_795
  v1542
def k0_mult46 (i : grid0.Coords) : BitVec 32 :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c128_i32_796 : BitVec 32 := 128#32
  let v1544 : BitVec 32 := Scalar.muli v1347 c128_i32_796
  v1544
@[reducible] def k0_t55_loop (i : grid0.Coords) : Scf.Loop 32 :=
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_955 : BitVec 32 := 1#32
  ⟨c0_i32_953, v1794, c1_i32_955⟩
def k0_mult47 (i : grid0.Coords) (k0_t55 : Fin (k0_t55_loop i).trips) : BitVec 32 :=
  let c2_i32_2004 : BitVec 32 := 2#32
  let c0_i32_953 : BitVec 32 := 0#32
  let c1_i32_955 : BitVec 32 := 1#32
  let arg19 : BitVec 32 := Scf.iv c0_i32_953 c1_i32_955 k0_t55
  let v3548 : BitVec 32 := Scalar.muli c2_i32_2004 arg19
  let c512_i32 : BitVec 32 := 512#32
  let v3549 : BitVec 32 := Scalar.muli v3548 c512_i32
  v3549
def k0_off125 (i : grid0.Coords) (k0_t55 : Fin (k0_t55_loop i).trips) : Fin 3 → Nat :=
  let c0_2005 : Index := 0#32
  let c2_i32_2004 : BitVec 32 := 2#32
  let c0_i32_953 : BitVec 32 := 0#32
  let c1_i32_955 : BitVec 32 := 1#32
  let arg19 : BitVec 32 := Scf.iv c0_i32_953 c1_i32_955 k0_t55
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off126 (i : grid0.Coords) (k0_t55 : Fin (k0_t55_loop i).trips) : Fin 4 → Nat :=
  let c2_i32_2004 : BitVec 32 := 2#32
  let c0_i32_953 : BitVec 32 := 0#32
  let c1_i32_955 : BitVec 32 := 1#32
  let arg19 : BitVec 32 := Scf.iv c0_i32_953 c1_i32_955 k0_t55
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult48 (i : grid0.Coords) (k0_t55 : Fin (k0_t55_loop i).trips) : BitVec 32 :=
  let c2_i32_2161 : BitVec 32 := 2#32
  let c0_i32_953 : BitVec 32 := 0#32
  let c1_i32_955 : BitVec 32 := 1#32
  let arg19 : BitVec 32 := Scf.iv c0_i32_953 c1_i32_955 k0_t55
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off127 (i : grid0.Coords) (k0_t55 : Fin (k0_t55_loop i).trips) : Fin 3 → Nat :=
  let c0_2164 : Index := 0#32
  let c2_i32_2161 : BitVec 32 := 2#32
  let c0_i32_953 : BitVec 32 := 0#32
  let c1_i32_955 : BitVec 32 := 1#32
  let arg19 : BitVec 32 := Scf.iv c0_i32_953 c1_i32_955 k0_t55
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off128 (i : grid0.Coords) (k0_t55 : Fin (k0_t55_loop i).trips) : Fin 4 → Nat :=
  let c2_i32_2161 : BitVec 32 := 2#32
  let c0_i32_953 : BitVec 32 := 0#32
  let c1_i32_955 : BitVec 32 := 1#32
  let arg19 : BitVec 32 := Scf.iv c0_i32_953 c1_i32_955 k0_t55
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t56_loop (i : grid0.Coords) : Scf.Loop 32 :=
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let v1791 : BitVec 32 := Scalar.addi c0_i32_953 v1790
  let c1_i32_956 : BitVec 32 := 1#32
  ⟨v1794, v1791, c1_i32_956⟩
def k0_mult49 (i : grid0.Coords) (k0_t56 : Fin (k0_t56_loop i).trips) : BitVec 32 :=
  let c2_i32_2004 : BitVec 32 := 2#32
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_956 : BitVec 32 := 1#32
  let arg19 : BitVec 32 := Scf.iv v1794 c1_i32_956 k0_t56
  let v3548 : BitVec 32 := Scalar.muli c2_i32_2004 arg19
  let c512_i32 : BitVec 32 := 512#32
  let v3549 : BitVec 32 := Scalar.muli v3548 c512_i32
  v3549
def k0_off129 (i : grid0.Coords) (k0_t56 : Fin (k0_t56_loop i).trips) : Fin 3 → Nat :=
  let c0_2005 : Index := 0#32
  let c2_i32_2004 : BitVec 32 := 2#32
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_956 : BitVec 32 := 1#32
  let arg19 : BitVec 32 := Scf.iv v1794 c1_i32_956 k0_t56
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off130 (i : grid0.Coords) (k0_t56 : Fin (k0_t56_loop i).trips) : Fin 4 → Nat :=
  let c2_i32_2004 : BitVec 32 := 2#32
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_956 : BitVec 32 := 1#32
  let arg19 : BitVec 32 := Scf.iv v1794 c1_i32_956 k0_t56
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult50 (i : grid0.Coords) (k0_t56 : Fin (k0_t56_loop i).trips) : BitVec 32 :=
  let c2_i32_2161 : BitVec 32 := 2#32
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_956 : BitVec 32 := 1#32
  let arg19 : BitVec 32 := Scf.iv v1794 c1_i32_956 k0_t56
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off131 (i : grid0.Coords) (k0_t56 : Fin (k0_t56_loop i).trips) : Fin 3 → Nat :=
  let c0_2164 : Index := 0#32
  let c2_i32_2161 : BitVec 32 := 2#32
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_956 : BitVec 32 := 1#32
  let arg19 : BitVec 32 := Scf.iv v1794 c1_i32_956 k0_t56
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off132 (i : grid0.Coords) (k0_t56 : Fin (k0_t56_loop i).trips) : Fin 4 → Nat :=
  let c2_i32_2161 : BitVec 32 := 2#32
  let c0_i32_953 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c0_i32_946 : BitVec 32 := 0#32
  let v1774 : BitVec 1 := Scalar.cmpi .sgt v1497 c0_i32_946
  let v1775 : BitVec 32 := Scalar.extui v1774
  let c0_i32_947 : BitVec 32 := 0#32
  let v1776 : BitVec 1 := Scalar.cmpi .slt v1497 c0_i32_947
  let v1777 : BitVec 32 := Scalar.extui v1776
  let v1778 : BitVec 32 := Scalar.subi v1775 v1777
  let c2_i32_945 : BitVec 32 := 2#32
  let c0_i32_948 : BitVec 32 := 0#32
  let v1779 : BitVec 1 := Scalar.cmpi .sgt c2_i32_945 c0_i32_948
  let v1780 : BitVec 32 := Scalar.extui v1779
  let c0_i32_949 : BitVec 32 := 0#32
  let v1781 : BitVec 1 := Scalar.cmpi .slt c2_i32_945 c0_i32_949
  let v1782 : BitVec 32 := Scalar.extui v1781
  let v1783 : BitVec 32 := Scalar.subi v1780 v1782
  let v1784 : BitVec 1 := Scalar.cmpi .ne v1778 v1783
  let v1785 : BitVec 32 := Scalar.remsi v1497 c2_i32_945
  let c0_i32_950 : BitVec 32 := 0#32
  let v1786 : BitVec 1 := Scalar.cmpi .ne v1785 c0_i32_950
  let v1787 : BitVec 1 := Scalar.andi v1784 v1786
  let v1773 : BitVec 32 := Scalar.divsi v1497 c2_i32_945
  let c1_i32_951 : BitVec 32 := 1#32
  let v1788 : BitVec 32 := Scalar.subi v1773 c1_i32_951
  let v1789 : BitVec 32 := Scalar.select v1787 v1788 v1773
  let v1790 : BitVec 32 := Scalar.subi v1789 c0_i32_953
  let c1_i32_954 : BitVec 32 := 1#32
  let v1792 : BitVec 32 := Scalar.divsi v1790 c1_i32_954
  let v1793 : BitVec 32 := Scalar.muli v1792 c1_i32_954
  let v1794 : BitVec 32 := Scalar.addi c0_i32_953 v1793
  let c1_i32_956 : BitVec 32 := 1#32
  let arg19 : BitVec 32 := Scf.iv v1794 c1_i32_956 k0_t56
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t57_loop (i : grid0.Coords) : Scf.Loop 32 :=
  let c0_i32_964 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c2_i32_957 : BitVec 32 := 2#32
  let c0_i32_958 : BitVec 32 := 0#32
  let v1795 : BitVec 1 := Scalar.cmpi .eq c2_i32_957 c0_i32_958
  let c1_i32_959 : BitVec 32 := 1#32
  let v1796 : BitVec 32 := Scalar.select v1795 c1_i32_959 c2_i32_957
  let v1797 : BitVec 32 := Scalar.remsi v1497 v1796
  let c0_i32_961 : BitVec 32 := 0#32
  let v1799 : BitVec 1 := Scalar.cmpi .slt v1797 c0_i32_961
  let c0_i32_962 : BitVec 32 := 0#32
  let v1800 : BitVec 1 := Scalar.cmpi .slt v1796 c0_i32_962
  let v1801 : BitVec 1 := Scalar.xori v1799 v1800
  let c0_i32_960 : BitVec 32 := 0#32
  let v1798 : BitVec 1 := Scalar.cmpi .ne v1797 c0_i32_960
  let v1802 : BitVec 1 := Scalar.andi v1801 v1798
  let v1803 : BitVec 32 := Scalar.addi v1797 v1796
  let v1804 : BitVec 32 := Scalar.select v1802 v1803 v1797
  let v1805 : BitVec 32 := Scalar.subi v1804 c0_i32_964
  let c1_i32_965 : BitVec 32 := 1#32
  let v1807 : BitVec 32 := Scalar.divsi v1805 c1_i32_965
  let v1808 : BitVec 32 := Scalar.muli v1807 c1_i32_965
  let v1809 : BitVec 32 := Scalar.addi c0_i32_964 v1808
  let c1_i32_966 : BitVec 32 := 1#32
  ⟨c0_i32_964, v1809, c1_i32_966⟩
def k0_mult51 (i : grid0.Coords) : BitVec 32 :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  v3549
def k0_off133 (i : grid0.Coords) : Fin 3 → Nat :=
  let c0_2005 : Index := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off134 (i : grid0.Coords) : Fin 4 → Nat :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c0_i32_2010 : BitVec 32 := 0#32
  let c0_i32_2011 : BitVec 32 := 0#32
  let c0_i32_2012 : BitVec 32 := 0#32
  ![v3548.toNat, 0, 0, 0]
@[reducible] def k0_t58_loop (i : grid0.Coords) : Scf.Loop 32 :=
  let c0_i32_964 : BitVec 32 := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c2_i32_957 : BitVec 32 := 2#32
  let c0_i32_958 : BitVec 32 := 0#32
  let v1795 : BitVec 1 := Scalar.cmpi .eq c2_i32_957 c0_i32_958
  let c1_i32_959 : BitVec 32 := 1#32
  let v1796 : BitVec 32 := Scalar.select v1795 c1_i32_959 c2_i32_957
  let v1797 : BitVec 32 := Scalar.remsi v1497 v1796
  let c0_i32_961 : BitVec 32 := 0#32
  let v1799 : BitVec 1 := Scalar.cmpi .slt v1797 c0_i32_961
  let c0_i32_962 : BitVec 32 := 0#32
  let v1800 : BitVec 1 := Scalar.cmpi .slt v1796 c0_i32_962
  let v1801 : BitVec 1 := Scalar.xori v1799 v1800
  let c0_i32_960 : BitVec 32 := 0#32
  let v1798 : BitVec 1 := Scalar.cmpi .ne v1797 c0_i32_960
  let v1802 : BitVec 1 := Scalar.andi v1801 v1798
  let v1803 : BitVec 32 := Scalar.addi v1797 v1796
  let v1804 : BitVec 32 := Scalar.select v1802 v1803 v1797
  let v1805 : BitVec 32 := Scalar.subi v1804 c0_i32_964
  let c1_i32_965 : BitVec 32 := 1#32
  let v1807 : BitVec 32 := Scalar.divsi v1805 c1_i32_965
  let v1808 : BitVec 32 := Scalar.muli v1807 c1_i32_965
  let v1809 : BitVec 32 := Scalar.addi c0_i32_964 v1808
  let v1806 : BitVec 32 := Scalar.addi c0_i32_964 v1805
  let c1_i32_967 : BitVec 32 := 1#32
  ⟨v1809, v1806, c1_i32_967⟩
def k0_mult52 (i : grid0.Coords) : BitVec 32 :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  v3549
def k0_off135 (i : grid0.Coords) : Fin 3 → Nat :=
  let c0_2005 : Index := 0#32
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off136 (i : grid0.Coords) : Fin 4 → Nat :=
  let arg1 : BitVec 32 := BitVec.ofNat 32 (i 1).val
  let c4_i32_699 : BitVec 32 := 4#32
  let v1346 : BitVec 32 := Scalar.muli arg1 c4_i32_699
  let c1_i32_700 : BitVec 32 := 1#32
  let v1347 : BitVec 32 := Scalar.addi v1346 c1_i32_700
  let c2_i32_761 : BitVec 32 := 2#32
  let v1480 : BitVec 32 := Scalar.addi v1347 c2_i32_761
  let c0_i32_763 : BitVec 32 := 0#32
  let v1482 : BitVec 1 := Scalar.cmpi .sgt v1480 c0_i32_763
  let v1483 : BitVec 32 := Scalar.extui v1482
  let c0_i32_764 : BitVec 32 := 0#32
  let v1484 : BitVec 1 := Scalar.cmpi .slt v1480 c0_i32_764
  let v1485 : BitVec 32 := Scalar.extui v1484
  let v1486 : BitVec 32 := Scalar.subi v1483 v1485
  let c4_i32_762 : BitVec 32 := 4#32
  let c0_i32_765 : BitVec 32 := 0#32
  let v1487 : BitVec 1 := Scalar.cmpi .sgt c4_i32_762 c0_i32_765
  let v1488 : BitVec 32 := Scalar.extui v1487
  let c0_i32_766 : BitVec 32 := 0#32
  let v1489 : BitVec 1 := Scalar.cmpi .slt c4_i32_762 c0_i32_766
  let v1490 : BitVec 32 := Scalar.extui v1489
  let v1491 : BitVec 32 := Scalar.subi v1488 v1490
  let v1492 : BitVec 1 := Scalar.cmpi .ne v1486 v1491
  let v1493 : BitVec 32 := Scalar.remsi v1480 c4_i32_762
  let c0_i32_767 : BitVec 32 := 0#32
  let v1494 : BitVec 1 := Scalar.cmpi .ne v1493 c0_i32_767
  let v1495 : BitVec 1 := Scalar.andi v1492 v1494
  let v1481 : BitVec 32 := Scalar.divsi v1480 c4_i32_762
  let c1_i32_768 : BitVec 32 := 1#32
  let v1496 : BitVec 32 := Scalar.subi v1481 c1_i32_768
  let v1497 : BitVec 32 := Scalar.select v1495 v1496 v1481
  let c1_i32_2004 : BitVec 32 := 1#32
  let v3548 : BitVec 32 := Scalar.subi v1497 c1_i32_2004
  let c0_i32_2010 : BitVec 32 := 0#32
  let c0_i32_2011 : BitVec 32 := 0#32
  let c0_i32_2012 : BitVec 32 := 0#32
  ![v3548.toNat, 0, 0, 0]
@[reducible] def k0_t59_loop (i : grid0.Coords) : Scf.Loop 32 :=
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1215 : BitVec 32 := 1#32
  ⟨c0_i32_1213, v2254, c1_i32_1215⟩
def k0_mult53 (i : grid0.Coords) (k0_t59 : Fin (k0_t59_loop i).trips) : BitVec 32 :=
  let c2_i32_2006 : BitVec 32 := 2#32
  let c0_i32_1213 : BitVec 32 := 0#32
  let c1_i32_1215 : BitVec 32 := 1#32
  let arg19 : BitVec 32 := Scf.iv c0_i32_1213 c1_i32_1215 k0_t59
  let v3550 : BitVec 32 := Scalar.muli c2_i32_2006 arg19
  let c512_i32 : BitVec 32 := 512#32
  let v3551 : BitVec 32 := Scalar.muli v3550 c512_i32
  v3551
def k0_off137 (i : grid0.Coords) (k0_t59 : Fin (k0_t59_loop i).trips) : Fin 3 → Nat :=
  let c0_2007 : Index := 0#32
  let c2_i32_2006 : BitVec 32 := 2#32
  let c0_i32_1213 : BitVec 32 := 0#32
  let c1_i32_1215 : BitVec 32 := 1#32
  let arg19 : BitVec 32 := Scf.iv c0_i32_1213 c1_i32_1215 k0_t59
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off138 (i : grid0.Coords) (k0_t59 : Fin (k0_t59_loop i).trips) (c0_i32_2010 : BitVec 32) : Fin 3 → Nat :=
  let c2_i32_2006 : BitVec 32 := 2#32
  let c0_i32_1213 : BitVec 32 := 0#32
  let c1_i32_1215 : BitVec 32 := 1#32
  let arg19 : BitVec 32 := Scf.iv c0_i32_1213 c1_i32_1215 k0_t59
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off139 (i : grid0.Coords) (k0_t59 : Fin (k0_t59_loop i).trips) : Fin 4 → Nat :=
  let c2_i32_2006 : BitVec 32 := 2#32
  let c0_i32_1213 : BitVec 32 := 0#32
  let c1_i32_1215 : BitVec 32 := 1#32
  let arg19 : BitVec 32 := Scf.iv c0_i32_1213 c1_i32_1215 k0_t59
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult54 (i : grid0.Coords) (k0_t59 : Fin (k0_t59_loop i).trips) : BitVec 32 :=
  let c2_i32_2004 : BitVec 32 := 2#32
  let c0_i32_1213 : BitVec 32 := 0#32
  let c1_i32_1215 : BitVec 32 := 1#32
  let arg19 : BitVec 32 := Scf.iv c0_i32_1213 c1_i32_1215 k0_t59
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off140 (i : grid0.Coords) (k0_t59 : Fin (k0_t59_loop i).trips) : Fin 3 → Nat :=
  let c0_2170 : Index := 0#32
  let c2_i32_2004 : BitVec 32 := 2#32
  let c0_i32_1213 : BitVec 32 := 0#32
  let c1_i32_1215 : BitVec 32 := 1#32
  let arg19 : BitVec 32 := Scf.iv c0_i32_1213 c1_i32_1215 k0_t59
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off141 (i : grid0.Coords) (k0_t59 : Fin (k0_t59_loop i).trips) (c0_i32_2173 : BitVec 32) : Fin 3 → Nat :=
  let c2_i32_2004 : BitVec 32 := 2#32
  let c0_i32_1213 : BitVec 32 := 0#32
  let c1_i32_1215 : BitVec 32 := 1#32
  let arg19 : BitVec 32 := Scf.iv c0_i32_1213 c1_i32_1215 k0_t59
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off142 (i : grid0.Coords) (k0_t59 : Fin (k0_t59_loop i).trips) : Fin 4 → Nat :=
  let c2_i32_2004 : BitVec 32 := 2#32
  let c0_i32_1213 : BitVec 32 := 0#32
  let c1_i32_1215 : BitVec 32 := 1#32
  let arg19 : BitVec 32 := Scf.iv c0_i32_1213 c1_i32_1215 k0_t59
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t60_loop (i : grid0.Coords) : Scf.Loop 32 :=
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let v2251 : BitVec 32 := Scalar.addi c0_i32_1213 v2250
  let c1_i32_1216 : BitVec 32 := 1#32
  ⟨v2254, v2251, c1_i32_1216⟩
def k0_mult55 (i : grid0.Coords) (k0_t60 : Fin (k0_t60_loop i).trips) : BitVec 32 :=
  let c2_i32_2006 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3550 : BitVec 32 := Scalar.muli c2_i32_2006 arg19
  let c512_i32 : BitVec 32 := 512#32
  let v3551 : BitVec 32 := Scalar.muli v3550 c512_i32
  v3551
def k0_off143 (i : grid0.Coords) (k0_t60 : Fin (k0_t60_loop i).trips) : Fin 3 → Nat :=
  let c0_2007 : Index := 0#32
  let c2_i32_2006 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off144 (i : grid0.Coords) (k0_t60 : Fin (k0_t60_loop i).trips) (c0_i32_2010 : BitVec 32) : Fin 3 → Nat :=
  let c2_i32_2006 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off145 (i : grid0.Coords) (k0_t60 : Fin (k0_t60_loop i).trips) : Fin 4 → Nat :=
  let c2_i32_2006 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult56 (i : grid0.Coords) (k0_t60 : Fin (k0_t60_loop i).trips) : BitVec 32 :=
  let c2_i32_2004 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off146 (i : grid0.Coords) (k0_t60 : Fin (k0_t60_loop i).trips) : Fin 3 → Nat :=
  let c0_2170 : Index := 0#32
  let c2_i32_2004 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off147 (i : grid0.Coords) (k0_t60 : Fin (k0_t60_loop i).trips) (c0_i32_2173 : BitVec 32) : Fin 3 → Nat :=
  let c2_i32_2004 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off148 (i : grid0.Coords) (k0_t60 : Fin (k0_t60_loop i).trips) : Fin 4 → Nat :=
  let c2_i32_2004 : BitVec 32 := 2#32
  let c0_i32_1213 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1205 : BitVec 32 := 0#32
  let v2233 : BitVec 1 := Scalar.cmpi .sgt v2231 c0_i32_1205
  let v2234 : BitVec 32 := Scalar.extui v2233
  let c0_i32_1206 : BitVec 32 := 0#32
  let v2235 : BitVec 1 := Scalar.cmpi .slt v2231 c0_i32_1206
  let v2236 : BitVec 32 := Scalar.extui v2235
  let v2237 : BitVec 32 := Scalar.subi v2234 v2236
  let c2_i32_1204 : BitVec 32 := 2#32
  let c0_i32_1207 : BitVec 32 := 0#32
  let v2238 : BitVec 1 := Scalar.cmpi .sgt c2_i32_1204 c0_i32_1207
  let v2239 : BitVec 32 := Scalar.extui v2238
  let c0_i32_1208 : BitVec 32 := 0#32
  let v2240 : BitVec 1 := Scalar.cmpi .slt c2_i32_1204 c0_i32_1208
  let v2241 : BitVec 32 := Scalar.extui v2240
  let v2242 : BitVec 32 := Scalar.subi v2239 v2241
  let v2243 : BitVec 1 := Scalar.cmpi .ne v2237 v2242
  let v2244 : BitVec 32 := Scalar.remsi v2231 c2_i32_1204
  let c0_i32_1209 : BitVec 32 := 0#32
  let v2245 : BitVec 1 := Scalar.cmpi .ne v2244 c0_i32_1209
  let v2246 : BitVec 1 := Scalar.andi v2243 v2245
  let v2232 : BitVec 32 := Scalar.divsi v2231 c2_i32_1204
  let c1_i32_1210 : BitVec 32 := 1#32
  let v2247 : BitVec 32 := Scalar.subi v2232 c1_i32_1210
  let v2248 : BitVec 32 := Scalar.select v2246 v2247 v2232
  let v2250 : BitVec 32 := Scalar.subi v2248 c0_i32_1213
  let c1_i32_1214 : BitVec 32 := 1#32
  let v2252 : BitVec 32 := Scalar.divsi v2250 c1_i32_1214
  let v2253 : BitVec 32 := Scalar.muli v2252 c1_i32_1214
  let v2254 : BitVec 32 := Scalar.addi c0_i32_1213 v2253
  let c1_i32_1216 : BitVec 32 := 1#32
  let arg19 : BitVec 32 := Scf.iv v2254 c1_i32_1216 k0_t60
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t61_loop (i : grid0.Coords) : Scf.Loop 32 :=
  let c0_i32_1224 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c2_i32_1217 : BitVec 32 := 2#32
  let c0_i32_1218 : BitVec 32 := 0#32
  let v2257 : BitVec 1 := Scalar.cmpi .eq c2_i32_1217 c0_i32_1218
  let c1_i32_1219 : BitVec 32 := 1#32
  let v2258 : BitVec 32 := Scalar.select v2257 c1_i32_1219 c2_i32_1217
  let v2259 : BitVec 32 := Scalar.remsi v2231 v2258
  let c0_i32_1221 : BitVec 32 := 0#32
  let v2261 : BitVec 1 := Scalar.cmpi .slt v2259 c0_i32_1221
  let c0_i32_1222 : BitVec 32 := 0#32
  let v2262 : BitVec 1 := Scalar.cmpi .slt v2258 c0_i32_1222
  let v2263 : BitVec 1 := Scalar.xori v2261 v2262
  let c0_i32_1220 : BitVec 32 := 0#32
  let v2260 : BitVec 1 := Scalar.cmpi .ne v2259 c0_i32_1220
  let v2264 : BitVec 1 := Scalar.andi v2263 v2260
  let v2265 : BitVec 32 := Scalar.addi v2259 v2258
  let v2266 : BitVec 32 := Scalar.select v2264 v2265 v2259
  let v2267 : BitVec 32 := Scalar.subi v2266 c0_i32_1224
  let c1_i32_1225 : BitVec 32 := 1#32
  let v2269 : BitVec 32 := Scalar.divsi v2267 c1_i32_1225
  let v2270 : BitVec 32 := Scalar.muli v2269 c1_i32_1225
  let v2271 : BitVec 32 := Scalar.addi c0_i32_1224 v2270
  let c1_i32_1226 : BitVec 32 := 1#32
  ⟨c0_i32_1224, v2271, c1_i32_1226⟩
def k0_mult57 (i : grid0.Coords) : BitVec 32 :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  v3549
def k0_off149 (i : grid0.Coords) : Fin 3 → Nat :=
  let c0_2005 : Index := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off150 (i : grid0.Coords) (c0_i32_2008 : BitVec 32) : Fin 3 → Nat :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off151 (i : grid0.Coords) : Fin 4 → Nat :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c0_i32_2067 : BitVec 32 := 0#32
  let c0_i32_2068 : BitVec 32 := 0#32
  let c0_i32_2069 : BitVec 32 := 0#32
  ![v3548.toNat, 0, 0, 0]
@[reducible] def k0_t62_loop (i : grid0.Coords) : Scf.Loop 32 :=
  let c0_i32_1224 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c2_i32_1217 : BitVec 32 := 2#32
  let c0_i32_1218 : BitVec 32 := 0#32
  let v2257 : BitVec 1 := Scalar.cmpi .eq c2_i32_1217 c0_i32_1218
  let c1_i32_1219 : BitVec 32 := 1#32
  let v2258 : BitVec 32 := Scalar.select v2257 c1_i32_1219 c2_i32_1217
  let v2259 : BitVec 32 := Scalar.remsi v2231 v2258
  let c0_i32_1221 : BitVec 32 := 0#32
  let v2261 : BitVec 1 := Scalar.cmpi .slt v2259 c0_i32_1221
  let c0_i32_1222 : BitVec 32 := 0#32
  let v2262 : BitVec 1 := Scalar.cmpi .slt v2258 c0_i32_1222
  let v2263 : BitVec 1 := Scalar.xori v2261 v2262
  let c0_i32_1220 : BitVec 32 := 0#32
  let v2260 : BitVec 1 := Scalar.cmpi .ne v2259 c0_i32_1220
  let v2264 : BitVec 1 := Scalar.andi v2263 v2260
  let v2265 : BitVec 32 := Scalar.addi v2259 v2258
  let v2266 : BitVec 32 := Scalar.select v2264 v2265 v2259
  let v2267 : BitVec 32 := Scalar.subi v2266 c0_i32_1224
  let c1_i32_1225 : BitVec 32 := 1#32
  let v2269 : BitVec 32 := Scalar.divsi v2267 c1_i32_1225
  let v2270 : BitVec 32 := Scalar.muli v2269 c1_i32_1225
  let v2271 : BitVec 32 := Scalar.addi c0_i32_1224 v2270
  let v2268 : BitVec 32 := Scalar.addi c0_i32_1224 v2267
  let c1_i32_1227 : BitVec 32 := 1#32
  ⟨v2271, v2268, c1_i32_1227⟩
def k0_mult58 (i : grid0.Coords) : BitVec 32 :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  v3549
def k0_off152 (i : grid0.Coords) : Fin 3 → Nat :=
  let c0_2005 : Index := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off153 (i : grid0.Coords) (c0_i32_2008 : BitVec 32) : Fin 3 → Nat :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off154 (i : grid0.Coords) : Fin 4 → Nat :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c0_i32_2067 : BitVec 32 := 0#32
  let c0_i32_2068 : BitVec 32 := 0#32
  let c0_i32_2069 : BitVec 32 := 0#32
  ![v3548.toNat, 0, 0, 0]
def k0_mult59 (i : grid0.Coords) : BitVec 32 :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c1_i32_1228 : BitVec 32 := 1#32
  let v2274 : BitVec 32 := Scalar.subi v2081 c1_i32_1228
  let c0_i32_1229 : BitVec 32 := 0#32
  let v2275 : BitVec 32 := Scalar.maxsi v2274 c0_i32_1229
  let c128_i32_1230 : BitVec 32 := 128#32
  let v2276 : BitVec 32 := Scalar.muli v2275 c128_i32_1230
  v2276
def k0_mult60 (i : grid0.Coords) : BitVec 32 :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c128_i32_1231 : BitVec 32 := 128#32
  let v2278 : BitVec 32 := Scalar.muli v2081 c128_i32_1231
  v2278
@[reducible] def k0_t63_loop (i : grid0.Coords) : Scf.Loop 32 :=
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1390 : BitVec 32 := 1#32
  ⟨c0_i32_1388, v2528, c1_i32_1390⟩
def k0_mult61 (i : grid0.Coords) (k0_t63 : Fin (k0_t63_loop i).trips) : BitVec 32 :=
  let c2_i32_2004 : BitVec 32 := 2#32
  let c0_i32_1388 : BitVec 32 := 0#32
  let c1_i32_1390 : BitVec 32 := 1#32
  let arg19 : BitVec 32 := Scf.iv c0_i32_1388 c1_i32_1390 k0_t63
  let v3548 : BitVec 32 := Scalar.muli c2_i32_2004 arg19
  let c512_i32 : BitVec 32 := 512#32
  let v3549 : BitVec 32 := Scalar.muli v3548 c512_i32
  v3549
def k0_off155 (i : grid0.Coords) (k0_t63 : Fin (k0_t63_loop i).trips) : Fin 3 → Nat :=
  let c0_2005 : Index := 0#32
  let c2_i32_2004 : BitVec 32 := 2#32
  let c0_i32_1388 : BitVec 32 := 0#32
  let c1_i32_1390 : BitVec 32 := 1#32
  let arg19 : BitVec 32 := Scf.iv c0_i32_1388 c1_i32_1390 k0_t63
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off156 (i : grid0.Coords) (k0_t63 : Fin (k0_t63_loop i).trips) : Fin 4 → Nat :=
  let c2_i32_2004 : BitVec 32 := 2#32
  let c0_i32_1388 : BitVec 32 := 0#32
  let c1_i32_1390 : BitVec 32 := 1#32
  let arg19 : BitVec 32 := Scf.iv c0_i32_1388 c1_i32_1390 k0_t63
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult62 (i : grid0.Coords) (k0_t63 : Fin (k0_t63_loop i).trips) : BitVec 32 :=
  let c2_i32_2161 : BitVec 32 := 2#32
  let c0_i32_1388 : BitVec 32 := 0#32
  let c1_i32_1390 : BitVec 32 := 1#32
  let arg19 : BitVec 32 := Scf.iv c0_i32_1388 c1_i32_1390 k0_t63
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off157 (i : grid0.Coords) (k0_t63 : Fin (k0_t63_loop i).trips) : Fin 3 → Nat :=
  let c0_2164 : Index := 0#32
  let c2_i32_2161 : BitVec 32 := 2#32
  let c0_i32_1388 : BitVec 32 := 0#32
  let c1_i32_1390 : BitVec 32 := 1#32
  let arg19 : BitVec 32 := Scf.iv c0_i32_1388 c1_i32_1390 k0_t63
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off158 (i : grid0.Coords) (k0_t63 : Fin (k0_t63_loop i).trips) : Fin 4 → Nat :=
  let c2_i32_2161 : BitVec 32 := 2#32
  let c0_i32_1388 : BitVec 32 := 0#32
  let c1_i32_1390 : BitVec 32 := 1#32
  let arg19 : BitVec 32 := Scf.iv c0_i32_1388 c1_i32_1390 k0_t63
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t64_loop (i : grid0.Coords) : Scf.Loop 32 :=
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let v2525 : BitVec 32 := Scalar.addi c0_i32_1388 v2524
  let c1_i32_1391 : BitVec 32 := 1#32
  ⟨v2528, v2525, c1_i32_1391⟩
def k0_mult63 (i : grid0.Coords) (k0_t64 : Fin (k0_t64_loop i).trips) : BitVec 32 :=
  let c2_i32_2004 : BitVec 32 := 2#32
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1391 : BitVec 32 := 1#32
  let arg19 : BitVec 32 := Scf.iv v2528 c1_i32_1391 k0_t64
  let v3548 : BitVec 32 := Scalar.muli c2_i32_2004 arg19
  let c512_i32 : BitVec 32 := 512#32
  let v3549 : BitVec 32 := Scalar.muli v3548 c512_i32
  v3549
def k0_off159 (i : grid0.Coords) (k0_t64 : Fin (k0_t64_loop i).trips) : Fin 3 → Nat :=
  let c0_2005 : Index := 0#32
  let c2_i32_2004 : BitVec 32 := 2#32
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1391 : BitVec 32 := 1#32
  let arg19 : BitVec 32 := Scf.iv v2528 c1_i32_1391 k0_t64
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off160 (i : grid0.Coords) (k0_t64 : Fin (k0_t64_loop i).trips) : Fin 4 → Nat :=
  let c2_i32_2004 : BitVec 32 := 2#32
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1391 : BitVec 32 := 1#32
  let arg19 : BitVec 32 := Scf.iv v2528 c1_i32_1391 k0_t64
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult64 (i : grid0.Coords) (k0_t64 : Fin (k0_t64_loop i).trips) : BitVec 32 :=
  let c2_i32_2161 : BitVec 32 := 2#32
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1391 : BitVec 32 := 1#32
  let arg19 : BitVec 32 := Scf.iv v2528 c1_i32_1391 k0_t64
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off161 (i : grid0.Coords) (k0_t64 : Fin (k0_t64_loop i).trips) : Fin 3 → Nat :=
  let c0_2164 : Index := 0#32
  let c2_i32_2161 : BitVec 32 := 2#32
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1391 : BitVec 32 := 1#32
  let arg19 : BitVec 32 := Scf.iv v2528 c1_i32_1391 k0_t64
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off162 (i : grid0.Coords) (k0_t64 : Fin (k0_t64_loop i).trips) : Fin 4 → Nat :=
  let c2_i32_2161 : BitVec 32 := 2#32
  let c0_i32_1388 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c0_i32_1381 : BitVec 32 := 0#32
  let v2508 : BitVec 1 := Scalar.cmpi .sgt v2231 c0_i32_1381
  let v2509 : BitVec 32 := Scalar.extui v2508
  let c0_i32_1382 : BitVec 32 := 0#32
  let v2510 : BitVec 1 := Scalar.cmpi .slt v2231 c0_i32_1382
  let v2511 : BitVec 32 := Scalar.extui v2510
  let v2512 : BitVec 32 := Scalar.subi v2509 v2511
  let c2_i32_1380 : BitVec 32 := 2#32
  let c0_i32_1383 : BitVec 32 := 0#32
  let v2513 : BitVec 1 := Scalar.cmpi .sgt c2_i32_1380 c0_i32_1383
  let v2514 : BitVec 32 := Scalar.extui v2513
  let c0_i32_1384 : BitVec 32 := 0#32
  let v2515 : BitVec 1 := Scalar.cmpi .slt c2_i32_1380 c0_i32_1384
  let v2516 : BitVec 32 := Scalar.extui v2515
  let v2517 : BitVec 32 := Scalar.subi v2514 v2516
  let v2518 : BitVec 1 := Scalar.cmpi .ne v2512 v2517
  let v2519 : BitVec 32 := Scalar.remsi v2231 c2_i32_1380
  let c0_i32_1385 : BitVec 32 := 0#32
  let v2520 : BitVec 1 := Scalar.cmpi .ne v2519 c0_i32_1385
  let v2521 : BitVec 1 := Scalar.andi v2518 v2520
  let v2507 : BitVec 32 := Scalar.divsi v2231 c2_i32_1380
  let c1_i32_1386 : BitVec 32 := 1#32
  let v2522 : BitVec 32 := Scalar.subi v2507 c1_i32_1386
  let v2523 : BitVec 32 := Scalar.select v2521 v2522 v2507
  let v2524 : BitVec 32 := Scalar.subi v2523 c0_i32_1388
  let c1_i32_1389 : BitVec 32 := 1#32
  let v2526 : BitVec 32 := Scalar.divsi v2524 c1_i32_1389
  let v2527 : BitVec 32 := Scalar.muli v2526 c1_i32_1389
  let v2528 : BitVec 32 := Scalar.addi c0_i32_1388 v2527
  let c1_i32_1391 : BitVec 32 := 1#32
  let arg19 : BitVec 32 := Scf.iv v2528 c1_i32_1391 k0_t64
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t65_loop (i : grid0.Coords) : Scf.Loop 32 :=
  let c0_i32_1399 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c2_i32_1392 : BitVec 32 := 2#32
  let c0_i32_1393 : BitVec 32 := 0#32
  let v2529 : BitVec 1 := Scalar.cmpi .eq c2_i32_1392 c0_i32_1393
  let c1_i32_1394 : BitVec 32 := 1#32
  let v2530 : BitVec 32 := Scalar.select v2529 c1_i32_1394 c2_i32_1392
  let v2531 : BitVec 32 := Scalar.remsi v2231 v2530
  let c0_i32_1396 : BitVec 32 := 0#32
  let v2533 : BitVec 1 := Scalar.cmpi .slt v2531 c0_i32_1396
  let c0_i32_1397 : BitVec 32 := 0#32
  let v2534 : BitVec 1 := Scalar.cmpi .slt v2530 c0_i32_1397
  let v2535 : BitVec 1 := Scalar.xori v2533 v2534
  let c0_i32_1395 : BitVec 32 := 0#32
  let v2532 : BitVec 1 := Scalar.cmpi .ne v2531 c0_i32_1395
  let v2536 : BitVec 1 := Scalar.andi v2535 v2532
  let v2537 : BitVec 32 := Scalar.addi v2531 v2530
  let v2538 : BitVec 32 := Scalar.select v2536 v2537 v2531
  let v2539 : BitVec 32 := Scalar.subi v2538 c0_i32_1399
  let c1_i32_1400 : BitVec 32 := 1#32
  let v2541 : BitVec 32 := Scalar.divsi v2539 c1_i32_1400
  let v2542 : BitVec 32 := Scalar.muli v2541 c1_i32_1400
  let v2543 : BitVec 32 := Scalar.addi c0_i32_1399 v2542
  let c1_i32_1401 : BitVec 32 := 1#32
  ⟨c0_i32_1399, v2543, c1_i32_1401⟩
def k0_mult65 (i : grid0.Coords) : BitVec 32 :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  v3549
def k0_off163 (i : grid0.Coords) : Fin 3 → Nat :=
  let c0_2005 : Index := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off164 (i : grid0.Coords) : Fin 4 → Nat :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c0_i32_2010 : BitVec 32 := 0#32
  let c0_i32_2011 : BitVec 32 := 0#32
  let c0_i32_2012 : BitVec 32 := 0#32
  ![v3548.toNat, 0, 0, 0]
@[reducible] def k0_t66_loop (i : grid0.Coords) : Scf.Loop 32 :=
  let c0_i32_1399 : BitVec 32 := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c2_i32_1392 : BitVec 32 := 2#32
  let c0_i32_1393 : BitVec 32 := 0#32
  let v2529 : BitVec 1 := Scalar.cmpi .eq c2_i32_1392 c0_i32_1393
  let c1_i32_1394 : BitVec 32 := 1#32
  let v2530 : BitVec 32 := Scalar.select v2529 c1_i32_1394 c2_i32_1392
  let v2531 : BitVec 32 := Scalar.remsi v2231 v2530
  let c0_i32_1396 : BitVec 32 := 0#32
  let v2533 : BitVec 1 := Scalar.cmpi .slt v2531 c0_i32_1396
  let c0_i32_1397 : BitVec 32 := 0#32
  let v2534 : BitVec 1 := Scalar.cmpi .slt v2530 c0_i32_1397
  let v2535 : BitVec 1 := Scalar.xori v2533 v2534
  let c0_i32_1395 : BitVec 32 := 0#32
  let v2532 : BitVec 1 := Scalar.cmpi .ne v2531 c0_i32_1395
  let v2536 : BitVec 1 := Scalar.andi v2535 v2532
  let v2537 : BitVec 32 := Scalar.addi v2531 v2530
  let v2538 : BitVec 32 := Scalar.select v2536 v2537 v2531
  let v2539 : BitVec 32 := Scalar.subi v2538 c0_i32_1399
  let c1_i32_1400 : BitVec 32 := 1#32
  let v2541 : BitVec 32 := Scalar.divsi v2539 c1_i32_1400
  let v2542 : BitVec 32 := Scalar.muli v2541 c1_i32_1400
  let v2543 : BitVec 32 := Scalar.addi c0_i32_1399 v2542
  let v2540 : BitVec 32 := Scalar.addi c0_i32_1399 v2539
  let c1_i32_1402 : BitVec 32 := 1#32
  ⟨v2543, v2540, c1_i32_1402⟩
def k0_mult66 (i : grid0.Coords) : BitVec 32 :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  v3549
def k0_off165 (i : grid0.Coords) : Fin 3 → Nat :=
  let c0_2005 : Index := 0#32
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off166 (i : grid0.Coords) : Fin 4 → Nat :=
  let arg1 : BitVec 32 := BitVec.ofNat 32 (i 1).val
  let c4_i32_1134 : BitVec 32 := 4#32
  let v2080 : BitVec 32 := Scalar.muli arg1 c4_i32_1134
  let c2_i32_1135 : BitVec 32 := 2#32
  let v2081 : BitVec 32 := Scalar.addi v2080 c2_i32_1135
  let c2_i32_1196 : BitVec 32 := 2#32
  let v2214 : BitVec 32 := Scalar.addi v2081 c2_i32_1196
  let c0_i32_1198 : BitVec 32 := 0#32
  let v2216 : BitVec 1 := Scalar.cmpi .sgt v2214 c0_i32_1198
  let v2217 : BitVec 32 := Scalar.extui v2216
  let c0_i32_1199 : BitVec 32 := 0#32
  let v2218 : BitVec 1 := Scalar.cmpi .slt v2214 c0_i32_1199
  let v2219 : BitVec 32 := Scalar.extui v2218
  let v2220 : BitVec 32 := Scalar.subi v2217 v2219
  let c4_i32_1197 : BitVec 32 := 4#32
  let c0_i32_1200 : BitVec 32 := 0#32
  let v2221 : BitVec 1 := Scalar.cmpi .sgt c4_i32_1197 c0_i32_1200
  let v2222 : BitVec 32 := Scalar.extui v2221
  let c0_i32_1201 : BitVec 32 := 0#32
  let v2223 : BitVec 1 := Scalar.cmpi .slt c4_i32_1197 c0_i32_1201
  let v2224 : BitVec 32 := Scalar.extui v2223
  let v2225 : BitVec 32 := Scalar.subi v2222 v2224
  let v2226 : BitVec 1 := Scalar.cmpi .ne v2220 v2225
  let v2227 : BitVec 32 := Scalar.remsi v2214 c4_i32_1197
  let c0_i32_1202 : BitVec 32 := 0#32
  let v2228 : BitVec 1 := Scalar.cmpi .ne v2227 c0_i32_1202
  let v2229 : BitVec 1 := Scalar.andi v2226 v2228
  let v2215 : BitVec 32 := Scalar.divsi v2214 c4_i32_1197
  let c1_i32_1203 : BitVec 32 := 1#32
  let v2230 : BitVec 32 := Scalar.subi v2215 c1_i32_1203
  let v2231 : BitVec 32 := Scalar.select v2229 v2230 v2215
  let c1_i32_2004 : BitVec 32 := 1#32
  let v3548 : BitVec 32 := Scalar.subi v2231 c1_i32_2004
  let c0_i32_2010 : BitVec 32 := 0#32
  let c0_i32_2011 : BitVec 32 := 0#32
  let c0_i32_2012 : BitVec 32 := 0#32
  ![v3548.toNat, 0, 0, 0]
@[reducible] def k0_t67_loop (i : grid0.Coords) : Scf.Loop 32 :=
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1650 : BitVec 32 := 1#32
  ⟨c0_i32_1648, v2988, c1_i32_1650⟩
def k0_mult67 (i : grid0.Coords) (k0_t67 : Fin (k0_t67_loop i).trips) : BitVec 32 :=
  let c2_i32_2006 : BitVec 32 := 2#32
  let c0_i32_1648 : BitVec 32 := 0#32
  let c1_i32_1650 : BitVec 32 := 1#32
  let arg19 : BitVec 32 := Scf.iv c0_i32_1648 c1_i32_1650 k0_t67
  let v3550 : BitVec 32 := Scalar.muli c2_i32_2006 arg19
  let c512_i32 : BitVec 32 := 512#32
  let v3551 : BitVec 32 := Scalar.muli v3550 c512_i32
  v3551
def k0_off167 (i : grid0.Coords) (k0_t67 : Fin (k0_t67_loop i).trips) : Fin 3 → Nat :=
  let c0_2007 : Index := 0#32
  let c2_i32_2006 : BitVec 32 := 2#32
  let c0_i32_1648 : BitVec 32 := 0#32
  let c1_i32_1650 : BitVec 32 := 1#32
  let arg19 : BitVec 32 := Scf.iv c0_i32_1648 c1_i32_1650 k0_t67
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off168 (i : grid0.Coords) (k0_t67 : Fin (k0_t67_loop i).trips) (c0_i32_2010 : BitVec 32) : Fin 3 → Nat :=
  let c2_i32_2006 : BitVec 32 := 2#32
  let c0_i32_1648 : BitVec 32 := 0#32
  let c1_i32_1650 : BitVec 32 := 1#32
  let arg19 : BitVec 32 := Scf.iv c0_i32_1648 c1_i32_1650 k0_t67
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off169 (i : grid0.Coords) (k0_t67 : Fin (k0_t67_loop i).trips) : Fin 4 → Nat :=
  let c2_i32_2006 : BitVec 32 := 2#32
  let c0_i32_1648 : BitVec 32 := 0#32
  let c1_i32_1650 : BitVec 32 := 1#32
  let arg19 : BitVec 32 := Scf.iv c0_i32_1648 c1_i32_1650 k0_t67
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult68 (i : grid0.Coords) (k0_t67 : Fin (k0_t67_loop i).trips) : BitVec 32 :=
  let c2_i32_2004 : BitVec 32 := 2#32
  let c0_i32_1648 : BitVec 32 := 0#32
  let c1_i32_1650 : BitVec 32 := 1#32
  let arg19 : BitVec 32 := Scf.iv c0_i32_1648 c1_i32_1650 k0_t67
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off170 (i : grid0.Coords) (k0_t67 : Fin (k0_t67_loop i).trips) : Fin 3 → Nat :=
  let c0_2170 : Index := 0#32
  let c2_i32_2004 : BitVec 32 := 2#32
  let c0_i32_1648 : BitVec 32 := 0#32
  let c1_i32_1650 : BitVec 32 := 1#32
  let arg19 : BitVec 32 := Scf.iv c0_i32_1648 c1_i32_1650 k0_t67
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off171 (i : grid0.Coords) (k0_t67 : Fin (k0_t67_loop i).trips) (c0_i32_2173 : BitVec 32) : Fin 3 → Nat :=
  let c2_i32_2004 : BitVec 32 := 2#32
  let c0_i32_1648 : BitVec 32 := 0#32
  let c1_i32_1650 : BitVec 32 := 1#32
  let arg19 : BitVec 32 := Scf.iv c0_i32_1648 c1_i32_1650 k0_t67
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off172 (i : grid0.Coords) (k0_t67 : Fin (k0_t67_loop i).trips) : Fin 4 → Nat :=
  let c2_i32_2004 : BitVec 32 := 2#32
  let c0_i32_1648 : BitVec 32 := 0#32
  let c1_i32_1650 : BitVec 32 := 1#32
  let arg19 : BitVec 32 := Scf.iv c0_i32_1648 c1_i32_1650 k0_t67
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t68_loop (i : grid0.Coords) : Scf.Loop 32 :=
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let v2985 : BitVec 32 := Scalar.addi c0_i32_1648 v2984
  let c1_i32_1651 : BitVec 32 := 1#32
  ⟨v2988, v2985, c1_i32_1651⟩
def k0_mult69 (i : grid0.Coords) (k0_t68 : Fin (k0_t68_loop i).trips) : BitVec 32 :=
  let c2_i32_2006 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3550 : BitVec 32 := Scalar.muli c2_i32_2006 arg19
  let c512_i32 : BitVec 32 := 512#32
  let v3551 : BitVec 32 := Scalar.muli v3550 c512_i32
  v3551
def k0_off173 (i : grid0.Coords) (k0_t68 : Fin (k0_t68_loop i).trips) : Fin 3 → Nat :=
  let c0_2007 : Index := 0#32
  let c2_i32_2006 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3550 : BitVec 32 := Scalar.muli c2_i32_2006 arg19
  let c512_i32 : BitVec 32 := 512#32
  let v3551 : BitVec 32 := Scalar.muli v3550 c512_i32
  let v3552 : BitVec 32 := v3551
  let v3553 : Index := Scalar.indexCast v3552
  let c0_2008 : Index := 0#32
  ![0, v3553.toNat, 0]
def k0_off174 (i : grid0.Coords) (k0_t68 : Fin (k0_t68_loop i).trips) (c0_i32_2010 : BitVec 32) : Fin 3 → Nat :=
  let c2_i32_2006 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3550 : BitVec 32 := Scalar.muli c2_i32_2006 arg19
  let c4_i32_2009 : BitVec 32 := 4#32
  let v3557 : BitVec 32 := Scalar.muli v3550 c4_i32_2009
  let v3558 : BitVec 32 := Scalar.addi v3557 c0_i32_2010
  let v3563 : Index := Scalar.indexCast v3558
  let c0_2015 : Index := 0#32
  let c0_2016 : Index := 0#32
  ![v3563.toNat, 0, 0]
def k0_off175 (i : grid0.Coords) (k0_t68 : Fin (k0_t68_loop i).trips) : Fin 4 → Nat :=
  let c2_i32_2006 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3550 : BitVec 32 := Scalar.muli c2_i32_2006 arg19
  let c0_i32_2069 : BitVec 32 := 0#32
  let c0_i32_2070 : BitVec 32 := 0#32
  let c0_i32_2071 : BitVec 32 := 0#32
  ![v3550.toNat, 0, 0, 0]
def k0_mult70 (i : grid0.Coords) (k0_t68 : Fin (k0_t68_loop i).trips) : BitVec 32 :=
  let c2_i32_2004 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  v3848
def k0_off176 (i : grid0.Coords) (k0_t68 : Fin (k0_t68_loop i).trips) : Fin 3 → Nat :=
  let c0_2170 : Index := 0#32
  let c2_i32_2004 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3548 : BitVec 32 := Scalar.muli c2_i32_2004 arg19
  let c1_i32_2005 : BitVec 32 := 1#32
  let v3549 : BitVec 32 := Scalar.addi v3548 c1_i32_2005
  let c512_i32_2169 : BitVec 32 := 512#32
  let v3848 : BitVec 32 := Scalar.muli v3549 c512_i32_2169
  let v3849 : BitVec 32 := v3848
  let v3850 : Index := Scalar.indexCast v3849
  let c0_2171 : Index := 0#32
  ![0, v3850.toNat, 0]
def k0_off177 (i : grid0.Coords) (k0_t68 : Fin (k0_t68_loop i).trips) (c0_i32_2173 : BitVec 32) : Fin 3 → Nat :=
  let c2_i32_2004 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3548 : BitVec 32 := Scalar.muli c2_i32_2004 arg19
  let c1_i32_2005 : BitVec 32 := 1#32
  let v3549 : BitVec 32 := Scalar.addi v3548 c1_i32_2005
  let c4_i32_2172 : BitVec 32 := 4#32
  let v3854 : BitVec 32 := Scalar.muli v3549 c4_i32_2172
  let v3855 : BitVec 32 := Scalar.addi v3854 c0_i32_2173
  let v3860 : Index := Scalar.indexCast v3855
  let c0_2178 : Index := 0#32
  let c0_2179 : Index := 0#32
  ![v3860.toNat, 0, 0]
def k0_off178 (i : grid0.Coords) (k0_t68 : Fin (k0_t68_loop i).trips) : Fin 4 → Nat :=
  let c2_i32_2004 : BitVec 32 := 2#32
  let c0_i32_1648 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1640 : BitVec 32 := 0#32
  let v2967 : BitVec 1 := Scalar.cmpi .sgt v2965 c0_i32_1640
  let v2968 : BitVec 32 := Scalar.extui v2967
  let c0_i32_1641 : BitVec 32 := 0#32
  let v2969 : BitVec 1 := Scalar.cmpi .slt v2965 c0_i32_1641
  let v2970 : BitVec 32 := Scalar.extui v2969
  let v2971 : BitVec 32 := Scalar.subi v2968 v2970
  let c2_i32_1639 : BitVec 32 := 2#32
  let c0_i32_1642 : BitVec 32 := 0#32
  let v2972 : BitVec 1 := Scalar.cmpi .sgt c2_i32_1639 c0_i32_1642
  let v2973 : BitVec 32 := Scalar.extui v2972
  let c0_i32_1643 : BitVec 32 := 0#32
  let v2974 : BitVec 1 := Scalar.cmpi .slt c2_i32_1639 c0_i32_1643
  let v2975 : BitVec 32 := Scalar.extui v2974
  let v2976 : BitVec 32 := Scalar.subi v2973 v2975
  let v2977 : BitVec 1 := Scalar.cmpi .ne v2971 v2976
  let v2978 : BitVec 32 := Scalar.remsi v2965 c2_i32_1639
  let c0_i32_1644 : BitVec 32 := 0#32
  let v2979 : BitVec 1 := Scalar.cmpi .ne v2978 c0_i32_1644
  let v2980 : BitVec 1 := Scalar.andi v2977 v2979
  let v2966 : BitVec 32 := Scalar.divsi v2965 c2_i32_1639
  let c1_i32_1645 : BitVec 32 := 1#32
  let v2981 : BitVec 32 := Scalar.subi v2966 c1_i32_1645
  let v2982 : BitVec 32 := Scalar.select v2980 v2981 v2966
  let v2984 : BitVec 32 := Scalar.subi v2982 c0_i32_1648
  let c1_i32_1649 : BitVec 32 := 1#32
  let v2986 : BitVec 32 := Scalar.divsi v2984 c1_i32_1649
  let v2987 : BitVec 32 := Scalar.muli v2986 c1_i32_1649
  let v2988 : BitVec 32 := Scalar.addi c0_i32_1648 v2987
  let c1_i32_1651 : BitVec 32 := 1#32
  let arg19 : BitVec 32 := Scf.iv v2988 c1_i32_1651 k0_t68
  let v3548 : BitVec 32 := Scalar.muli c2_i32_2004 arg19
  let c1_i32_2005 : BitVec 32 := 1#32
  let v3549 : BitVec 32 := Scalar.addi v3548 c1_i32_2005
  let c0_i32_2232 : BitVec 32 := 0#32
  let c0_i32_2233 : BitVec 32 := 0#32
  let c0_i32_2234 : BitVec 32 := 0#32
  ![v3549.toNat, 0, 0, 0]
@[reducible] def k0_t69_loop (i : grid0.Coords) : Scf.Loop 32 :=
  let c0_i32_1659 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c2_i32_1652 : BitVec 32 := 2#32
  let c0_i32_1653 : BitVec 32 := 0#32
  let v2991 : BitVec 1 := Scalar.cmpi .eq c2_i32_1652 c0_i32_1653
  let c1_i32_1654 : BitVec 32 := 1#32
  let v2992 : BitVec 32 := Scalar.select v2991 c1_i32_1654 c2_i32_1652
  let v2993 : BitVec 32 := Scalar.remsi v2965 v2992
  let c0_i32_1656 : BitVec 32 := 0#32
  let v2995 : BitVec 1 := Scalar.cmpi .slt v2993 c0_i32_1656
  let c0_i32_1657 : BitVec 32 := 0#32
  let v2996 : BitVec 1 := Scalar.cmpi .slt v2992 c0_i32_1657
  let v2997 : BitVec 1 := Scalar.xori v2995 v2996
  let c0_i32_1655 : BitVec 32 := 0#32
  let v2994 : BitVec 1 := Scalar.cmpi .ne v2993 c0_i32_1655
  let v2998 : BitVec 1 := Scalar.andi v2997 v2994
  let v2999 : BitVec 32 := Scalar.addi v2993 v2992
  let v3000 : BitVec 32 := Scalar.select v2998 v2999 v2993
  let v3001 : BitVec 32 := Scalar.subi v3000 c0_i32_1659
  let c1_i32_1660 : BitVec 32 := 1#32
  let v3003 : BitVec 32 := Scalar.divsi v3001 c1_i32_1660
  let v3004 : BitVec 32 := Scalar.muli v3003 c1_i32_1660
  let v3005 : BitVec 32 := Scalar.addi c0_i32_1659 v3004
  let c1_i32_1661 : BitVec 32 := 1#32
  ⟨c0_i32_1659, v3005, c1_i32_1661⟩
def k0_mult71 (i : grid0.Coords) : BitVec 32 :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  v3549
def k0_off179 (i : grid0.Coords) : Fin 3 → Nat :=
  let c0_2005 : Index := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off180 (i : grid0.Coords) (c0_i32_2008 : BitVec 32) : Fin 3 → Nat :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off181 (i : grid0.Coords) : Fin 4 → Nat :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c0_i32_2067 : BitVec 32 := 0#32
  let c0_i32_2068 : BitVec 32 := 0#32
  let c0_i32_2069 : BitVec 32 := 0#32
  ![v3548.toNat, 0, 0, 0]
@[reducible] def k0_t70_loop (i : grid0.Coords) : Scf.Loop 32 :=
  let c0_i32_1659 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c2_i32_1652 : BitVec 32 := 2#32
  let c0_i32_1653 : BitVec 32 := 0#32
  let v2991 : BitVec 1 := Scalar.cmpi .eq c2_i32_1652 c0_i32_1653
  let c1_i32_1654 : BitVec 32 := 1#32
  let v2992 : BitVec 32 := Scalar.select v2991 c1_i32_1654 c2_i32_1652
  let v2993 : BitVec 32 := Scalar.remsi v2965 v2992
  let c0_i32_1656 : BitVec 32 := 0#32
  let v2995 : BitVec 1 := Scalar.cmpi .slt v2993 c0_i32_1656
  let c0_i32_1657 : BitVec 32 := 0#32
  let v2996 : BitVec 1 := Scalar.cmpi .slt v2992 c0_i32_1657
  let v2997 : BitVec 1 := Scalar.xori v2995 v2996
  let c0_i32_1655 : BitVec 32 := 0#32
  let v2994 : BitVec 1 := Scalar.cmpi .ne v2993 c0_i32_1655
  let v2998 : BitVec 1 := Scalar.andi v2997 v2994
  let v2999 : BitVec 32 := Scalar.addi v2993 v2992
  let v3000 : BitVec 32 := Scalar.select v2998 v2999 v2993
  let v3001 : BitVec 32 := Scalar.subi v3000 c0_i32_1659
  let c1_i32_1660 : BitVec 32 := 1#32
  let v3003 : BitVec 32 := Scalar.divsi v3001 c1_i32_1660
  let v3004 : BitVec 32 := Scalar.muli v3003 c1_i32_1660
  let v3005 : BitVec 32 := Scalar.addi c0_i32_1659 v3004
  let v3002 : BitVec 32 := Scalar.addi c0_i32_1659 v3001
  let c1_i32_1662 : BitVec 32 := 1#32
  ⟨v3005, v3002, c1_i32_1662⟩
def k0_mult72 (i : grid0.Coords) : BitVec 32 :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  v3549
def k0_off182 (i : grid0.Coords) : Fin 3 → Nat :=
  let c0_2005 : Index := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off183 (i : grid0.Coords) (c0_i32_2008 : BitVec 32) : Fin 3 → Nat :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c4_i32_2007 : BitVec 32 := 4#32
  let v3555 : BitVec 32 := Scalar.muli v3548 c4_i32_2007
  let v3556 : BitVec 32 := Scalar.addi v3555 c0_i32_2008
  let v3561 : Index := Scalar.indexCast v3556
  let c0_2013 : Index := 0#32
  let c0_2014 : Index := 0#32
  ![v3561.toNat, 0, 0]
def k0_off184 (i : grid0.Coords) : Fin 4 → Nat :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c0_i32_2067 : BitVec 32 := 0#32
  let c0_i32_2068 : BitVec 32 := 0#32
  let c0_i32_2069 : BitVec 32 := 0#32
  ![v3548.toNat, 0, 0, 0]
def k0_mult73 (i : grid0.Coords) : BitVec 32 :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c1_i32_1663 : BitVec 32 := 1#32
  let v3008 : BitVec 32 := Scalar.subi v2815 c1_i32_1663
  let c0_i32_1664 : BitVec 32 := 0#32
  let v3009 : BitVec 32 := Scalar.maxsi v3008 c0_i32_1664
  let c128_i32_1665 : BitVec 32 := 128#32
  let v3010 : BitVec 32 := Scalar.muli v3009 c128_i32_1665
  v3010
def k0_mult74 (i : grid0.Coords) : BitVec 32 :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c128_i32_1666 : BitVec 32 := 128#32
  let v3012 : BitVec 32 := Scalar.muli v2815 c128_i32_1666
  v3012
@[reducible] def k0_t71_loop (i : grid0.Coords) : Scf.Loop 32 :=
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1825 : BitVec 32 := 1#32
  ⟨c0_i32_1823, v3262, c1_i32_1825⟩
def k0_mult75 (i : grid0.Coords) (k0_t71 : Fin (k0_t71_loop i).trips) : BitVec 32 :=
  let c2_i32_2004 : BitVec 32 := 2#32
  let c0_i32_1823 : BitVec 32 := 0#32
  let c1_i32_1825 : BitVec 32 := 1#32
  let arg19 : BitVec 32 := Scf.iv c0_i32_1823 c1_i32_1825 k0_t71
  let v3548 : BitVec 32 := Scalar.muli c2_i32_2004 arg19
  let c512_i32 : BitVec 32 := 512#32
  let v3549 : BitVec 32 := Scalar.muli v3548 c512_i32
  v3549
def k0_off185 (i : grid0.Coords) (k0_t71 : Fin (k0_t71_loop i).trips) : Fin 3 → Nat :=
  let c0_2005 : Index := 0#32
  let c2_i32_2004 : BitVec 32 := 2#32
  let c0_i32_1823 : BitVec 32 := 0#32
  let c1_i32_1825 : BitVec 32 := 1#32
  let arg19 : BitVec 32 := Scf.iv c0_i32_1823 c1_i32_1825 k0_t71
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off186 (i : grid0.Coords) (k0_t71 : Fin (k0_t71_loop i).trips) : Fin 4 → Nat :=
  let c2_i32_2004 : BitVec 32 := 2#32
  let c0_i32_1823 : BitVec 32 := 0#32
  let c1_i32_1825 : BitVec 32 := 1#32
  let arg19 : BitVec 32 := Scf.iv c0_i32_1823 c1_i32_1825 k0_t71
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult76 (i : grid0.Coords) (k0_t71 : Fin (k0_t71_loop i).trips) : BitVec 32 :=
  let c2_i32_2161 : BitVec 32 := 2#32
  let c0_i32_1823 : BitVec 32 := 0#32
  let c1_i32_1825 : BitVec 32 := 1#32
  let arg19 : BitVec 32 := Scf.iv c0_i32_1823 c1_i32_1825 k0_t71
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off187 (i : grid0.Coords) (k0_t71 : Fin (k0_t71_loop i).trips) : Fin 3 → Nat :=
  let c0_2164 : Index := 0#32
  let c2_i32_2161 : BitVec 32 := 2#32
  let c0_i32_1823 : BitVec 32 := 0#32
  let c1_i32_1825 : BitVec 32 := 1#32
  let arg19 : BitVec 32 := Scf.iv c0_i32_1823 c1_i32_1825 k0_t71
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off188 (i : grid0.Coords) (k0_t71 : Fin (k0_t71_loop i).trips) : Fin 4 → Nat :=
  let c2_i32_2161 : BitVec 32 := 2#32
  let c0_i32_1823 : BitVec 32 := 0#32
  let c1_i32_1825 : BitVec 32 := 1#32
  let arg19 : BitVec 32 := Scf.iv c0_i32_1823 c1_i32_1825 k0_t71
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t72_loop (i : grid0.Coords) : Scf.Loop 32 :=
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let v3259 : BitVec 32 := Scalar.addi c0_i32_1823 v3258
  let c1_i32_1826 : BitVec 32 := 1#32
  ⟨v3262, v3259, c1_i32_1826⟩
def k0_mult77 (i : grid0.Coords) (k0_t72 : Fin (k0_t72_loop i).trips) : BitVec 32 :=
  let c2_i32_2004 : BitVec 32 := 2#32
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1826 : BitVec 32 := 1#32
  let arg19 : BitVec 32 := Scf.iv v3262 c1_i32_1826 k0_t72
  let v3548 : BitVec 32 := Scalar.muli c2_i32_2004 arg19
  let c512_i32 : BitVec 32 := 512#32
  let v3549 : BitVec 32 := Scalar.muli v3548 c512_i32
  v3549
def k0_off189 (i : grid0.Coords) (k0_t72 : Fin (k0_t72_loop i).trips) : Fin 3 → Nat :=
  let c0_2005 : Index := 0#32
  let c2_i32_2004 : BitVec 32 := 2#32
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1826 : BitVec 32 := 1#32
  let arg19 : BitVec 32 := Scf.iv v3262 c1_i32_1826 k0_t72
  let v3548 : BitVec 32 := Scalar.muli c2_i32_2004 arg19
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off190 (i : grid0.Coords) (k0_t72 : Fin (k0_t72_loop i).trips) : Fin 4 → Nat :=
  let c2_i32_2004 : BitVec 32 := 2#32
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1826 : BitVec 32 := 1#32
  let arg19 : BitVec 32 := Scf.iv v3262 c1_i32_1826 k0_t72
  let v3548 : BitVec 32 := Scalar.muli c2_i32_2004 arg19
  let c0_i32_2010 : BitVec 32 := 0#32
  let c0_i32_2011 : BitVec 32 := 0#32
  let c0_i32_2012 : BitVec 32 := 0#32
  ![v3548.toNat, 0, 0, 0]
def k0_mult78 (i : grid0.Coords) (k0_t72 : Fin (k0_t72_loop i).trips) : BitVec 32 :=
  let c2_i32_2161 : BitVec 32 := 2#32
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1826 : BitVec 32 := 1#32
  let arg19 : BitVec 32 := Scf.iv v3262 c1_i32_1826 k0_t72
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  v3829
def k0_off191 (i : grid0.Coords) (k0_t72 : Fin (k0_t72_loop i).trips) : Fin 3 → Nat :=
  let c0_2164 : Index := 0#32
  let c2_i32_2161 : BitVec 32 := 2#32
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1826 : BitVec 32 := 1#32
  let arg19 : BitVec 32 := Scf.iv v3262 c1_i32_1826 k0_t72
  let v3827 : BitVec 32 := Scalar.muli c2_i32_2161 arg19
  let c1_i32_2162 : BitVec 32 := 1#32
  let v3828 : BitVec 32 := Scalar.addi v3827 c1_i32_2162
  let c512_i32_2163 : BitVec 32 := 512#32
  let v3829 : BitVec 32 := Scalar.muli v3828 c512_i32_2163
  let v3830 : BitVec 32 := v3829
  let v3831 : Index := Scalar.indexCast v3830
  let c0_2165 : Index := 0#32
  ![0, v3831.toNat, 0]
def k0_off192 (i : grid0.Coords) (k0_t72 : Fin (k0_t72_loop i).trips) : Fin 4 → Nat :=
  let c2_i32_2161 : BitVec 32 := 2#32
  let c0_i32_1823 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c0_i32_1816 : BitVec 32 := 0#32
  let v3242 : BitVec 1 := Scalar.cmpi .sgt v2965 c0_i32_1816
  let v3243 : BitVec 32 := Scalar.extui v3242
  let c0_i32_1817 : BitVec 32 := 0#32
  let v3244 : BitVec 1 := Scalar.cmpi .slt v2965 c0_i32_1817
  let v3245 : BitVec 32 := Scalar.extui v3244
  let v3246 : BitVec 32 := Scalar.subi v3243 v3245
  let c2_i32_1815 : BitVec 32 := 2#32
  let c0_i32_1818 : BitVec 32 := 0#32
  let v3247 : BitVec 1 := Scalar.cmpi .sgt c2_i32_1815 c0_i32_1818
  let v3248 : BitVec 32 := Scalar.extui v3247
  let c0_i32_1819 : BitVec 32 := 0#32
  let v3249 : BitVec 1 := Scalar.cmpi .slt c2_i32_1815 c0_i32_1819
  let v3250 : BitVec 32 := Scalar.extui v3249
  let v3251 : BitVec 32 := Scalar.subi v3248 v3250
  let v3252 : BitVec 1 := Scalar.cmpi .ne v3246 v3251
  let v3253 : BitVec 32 := Scalar.remsi v2965 c2_i32_1815
  let c0_i32_1820 : BitVec 32 := 0#32
  let v3254 : BitVec 1 := Scalar.cmpi .ne v3253 c0_i32_1820
  let v3255 : BitVec 1 := Scalar.andi v3252 v3254
  let v3241 : BitVec 32 := Scalar.divsi v2965 c2_i32_1815
  let c1_i32_1821 : BitVec 32 := 1#32
  let v3256 : BitVec 32 := Scalar.subi v3241 c1_i32_1821
  let v3257 : BitVec 32 := Scalar.select v3255 v3256 v3241
  let v3258 : BitVec 32 := Scalar.subi v3257 c0_i32_1823
  let c1_i32_1824 : BitVec 32 := 1#32
  let v3260 : BitVec 32 := Scalar.divsi v3258 c1_i32_1824
  let v3261 : BitVec 32 := Scalar.muli v3260 c1_i32_1824
  let v3262 : BitVec 32 := Scalar.addi c0_i32_1823 v3261
  let c1_i32_1826 : BitVec 32 := 1#32
  let arg19 : BitVec 32 := Scf.iv v3262 c1_i32_1826 k0_t72
  let v3827 : BitVec 32 := Scalar.muli c2_i32_2161 arg19
  let c1_i32_2162 : BitVec 32 := 1#32
  let v3828 : BitVec 32 := Scalar.addi v3827 c1_i32_2162
  let c0_i32_2169 : BitVec 32 := 0#32
  let c0_i32_2170 : BitVec 32 := 0#32
  let c0_i32_2171 : BitVec 32 := 0#32
  ![v3828.toNat, 0, 0, 0]
@[reducible] def k0_t73_loop (i : grid0.Coords) : Scf.Loop 32 :=
  let c0_i32_1834 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c2_i32_1827 : BitVec 32 := 2#32
  let c0_i32_1828 : BitVec 32 := 0#32
  let v3263 : BitVec 1 := Scalar.cmpi .eq c2_i32_1827 c0_i32_1828
  let c1_i32_1829 : BitVec 32 := 1#32
  let v3264 : BitVec 32 := Scalar.select v3263 c1_i32_1829 c2_i32_1827
  let v3265 : BitVec 32 := Scalar.remsi v2965 v3264
  let c0_i32_1831 : BitVec 32 := 0#32
  let v3267 : BitVec 1 := Scalar.cmpi .slt v3265 c0_i32_1831
  let c0_i32_1832 : BitVec 32 := 0#32
  let v3268 : BitVec 1 := Scalar.cmpi .slt v3264 c0_i32_1832
  let v3269 : BitVec 1 := Scalar.xori v3267 v3268
  let c0_i32_1830 : BitVec 32 := 0#32
  let v3266 : BitVec 1 := Scalar.cmpi .ne v3265 c0_i32_1830
  let v3270 : BitVec 1 := Scalar.andi v3269 v3266
  let v3271 : BitVec 32 := Scalar.addi v3265 v3264
  let v3272 : BitVec 32 := Scalar.select v3270 v3271 v3265
  let v3273 : BitVec 32 := Scalar.subi v3272 c0_i32_1834
  let c1_i32_1835 : BitVec 32 := 1#32
  let v3275 : BitVec 32 := Scalar.divsi v3273 c1_i32_1835
  let v3276 : BitVec 32 := Scalar.muli v3275 c1_i32_1835
  let v3277 : BitVec 32 := Scalar.addi c0_i32_1834 v3276
  let c1_i32_1836 : BitVec 32 := 1#32
  ⟨c0_i32_1834, v3277, c1_i32_1836⟩
def k0_mult79 (i : grid0.Coords) : BitVec 32 :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  v3549
def k0_off193 (i : grid0.Coords) : Fin 3 → Nat :=
  let c0_2005 : Index := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off194 (i : grid0.Coords) : Fin 4 → Nat :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c0_i32_2010 : BitVec 32 := 0#32
  let c0_i32_2011 : BitVec 32 := 0#32
  let c0_i32_2012 : BitVec 32 := 0#32
  ![v3548.toNat, 0, 0, 0]
@[reducible] def k0_t74_loop (i : grid0.Coords) : Scf.Loop 32 :=
  let c0_i32_1834 : BitVec 32 := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c2_i32_1827 : BitVec 32 := 2#32
  let c0_i32_1828 : BitVec 32 := 0#32
  let v3263 : BitVec 1 := Scalar.cmpi .eq c2_i32_1827 c0_i32_1828
  let c1_i32_1829 : BitVec 32 := 1#32
  let v3264 : BitVec 32 := Scalar.select v3263 c1_i32_1829 c2_i32_1827
  let v3265 : BitVec 32 := Scalar.remsi v2965 v3264
  let c0_i32_1831 : BitVec 32 := 0#32
  let v3267 : BitVec 1 := Scalar.cmpi .slt v3265 c0_i32_1831
  let c0_i32_1832 : BitVec 32 := 0#32
  let v3268 : BitVec 1 := Scalar.cmpi .slt v3264 c0_i32_1832
  let v3269 : BitVec 1 := Scalar.xori v3267 v3268
  let c0_i32_1830 : BitVec 32 := 0#32
  let v3266 : BitVec 1 := Scalar.cmpi .ne v3265 c0_i32_1830
  let v3270 : BitVec 1 := Scalar.andi v3269 v3266
  let v3271 : BitVec 32 := Scalar.addi v3265 v3264
  let v3272 : BitVec 32 := Scalar.select v3270 v3271 v3265
  let v3273 : BitVec 32 := Scalar.subi v3272 c0_i32_1834
  let c1_i32_1835 : BitVec 32 := 1#32
  let v3275 : BitVec 32 := Scalar.divsi v3273 c1_i32_1835
  let v3276 : BitVec 32 := Scalar.muli v3275 c1_i32_1835
  let v3277 : BitVec 32 := Scalar.addi c0_i32_1834 v3276
  let v3274 : BitVec 32 := Scalar.addi c0_i32_1834 v3273
  let c1_i32_1837 : BitVec 32 := 1#32
  ⟨v3277, v3274, c1_i32_1837⟩
def k0_mult80 (i : grid0.Coords) : BitVec 32 :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  v3549
def k0_off195 (i : grid0.Coords) : Fin 3 → Nat :=
  let c0_2005 : Index := 0#32
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c512_i32 : BitVec 32 := 512#32
  let v3549 : BitVec 32 := Scalar.muli v3548 c512_i32
  let v3550 : BitVec 32 := v3549
  let v3551 : Index := Scalar.indexCast v3550
  let c0_2006 : Index := 0#32
  ![0, v3551.toNat, 0]
def k0_off196 (i : grid0.Coords) : Fin 4 → Nat :=
  let arg1 : BitVec 32 := BitVec.ofNat 32 (i 1).val
  let c4_i32_1569 : BitVec 32 := 4#32
  let v2814 : BitVec 32 := Scalar.muli arg1 c4_i32_1569
  let c3_i32_1570 : BitVec 32 := 3#32
  let v2815 : BitVec 32 := Scalar.addi v2814 c3_i32_1570
  let c2_i32_1631 : BitVec 32 := 2#32
  let v2948 : BitVec 32 := Scalar.addi v2815 c2_i32_1631
  let c0_i32_1633 : BitVec 32 := 0#32
  let v2950 : BitVec 1 := Scalar.cmpi .sgt v2948 c0_i32_1633
  let v2951 : BitVec 32 := Scalar.extui v2950
  let c0_i32_1634 : BitVec 32 := 0#32
  let v2952 : BitVec 1 := Scalar.cmpi .slt v2948 c0_i32_1634
  let v2953 : BitVec 32 := Scalar.extui v2952
  let v2954 : BitVec 32 := Scalar.subi v2951 v2953
  let c4_i32_1632 : BitVec 32 := 4#32
  let c0_i32_1635 : BitVec 32 := 0#32
  let v2955 : BitVec 1 := Scalar.cmpi .sgt c4_i32_1632 c0_i32_1635
  let v2956 : BitVec 32 := Scalar.extui v2955
  let c0_i32_1636 : BitVec 32 := 0#32
  let v2957 : BitVec 1 := Scalar.cmpi .slt c4_i32_1632 c0_i32_1636
  let v2958 : BitVec 32 := Scalar.extui v2957
  let v2959 : BitVec 32 := Scalar.subi v2956 v2958
  let v2960 : BitVec 1 := Scalar.cmpi .ne v2954 v2959
  let v2961 : BitVec 32 := Scalar.remsi v2948 c4_i32_1632
  let c0_i32_1637 : BitVec 32 := 0#32
  let v2962 : BitVec 1 := Scalar.cmpi .ne v2961 c0_i32_1637
  let v2963 : BitVec 1 := Scalar.andi v2960 v2962
  let v2949 : BitVec 32 := Scalar.divsi v2948 c4_i32_1632
  let c1_i32_1638 : BitVec 32 := 1#32
  let v2964 : BitVec 32 := Scalar.subi v2949 c1_i32_1638
  let v2965 : BitVec 32 := Scalar.select v2963 v2964 v2949
  let c1_i32_2004 : BitVec 32 := 1#32
  let v3548 : BitVec 32 := Scalar.subi v2965 c1_i32_2004
  let c0_i32_2010 : BitVec 32 := 0#32
  let c0_i32_2011 : BitVec 32 := 0#32
  let c0_i32_2012 : BitVec 32 := 0#32
  ![v3548.toNat, 0, 0, 0]
def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_2 (i : grid0.Coords) : Fin 3 → Nat :=
  let arg0 : BitVec 32 := BitVec.ofNat 32 (i 0).val
  let arg1 : BitVec 32 := BitVec.ofNat 32 (i 1).val
  let c50_i32 : BitVec 32 := 50#32
  let c0_i32 : BitVec 32 := 0#32
  ![arg0.toNat, arg1.toNat, c50_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c24_i32 : BitVec 32 := 24#32
  let c0_i32_0 : BitVec 32 := 0#32
  ![arg0.toNat, c0_i32.toNat, c24_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c46_i32 : BitVec 32 := 46#32
  let c0_i32_0 : BitVec 32 := 0#32
  ![arg0.toNat, c0_i32.toNat, c46_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c47_i32 : BitVec 32 := 47#32
  let c0_i32_0 : BitVec 32 := 0#32
  ![arg0.toNat, c0_i32.toNat, c47_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProj.lean ====
abbrev S4x4096x1024 : Shape := ⟨3, ![4, 4096, 1024]⟩
abbrev S4x6144 : Shape := ⟨2, ![4, 6144]⟩
abbrev S1024x6212 : Shape := ⟨2, ![1024, 6212]⟩
abbrev S6212 : Shape := ⟨1, ![6212]⟩
abbrev S1024x64 : Shape := ⟨2, ![1024, 64]⟩
abbrev S1024x1024 : Shape := ⟨2, ![1024, 1024]⟩
abbrev S1024x3072 : Shape := ⟨2, ![1024, 3072]⟩
abbrev S1024x512 : Shape := ⟨2, ![1024, 512]⟩
abbrev S1024x256 : Shape := ⟨2, ![1024, 256]⟩
abbrev S1024x128 : Shape := ⟨2, ![1024, 128]⟩
abbrev S1024x4 : Shape := ⟨2, ![1024, 4]⟩
abbrev S_ : Shape := ⟨0, ![]⟩
abbrev S1024x252 : Shape := ⟨2, ![1024, 252]⟩
abbrev S1024x6656 : Shape := ⟨2, ![1024, 6656]⟩
abbrev S64 : Shape := ⟨1, ![64]⟩
abbrev S1024 : Shape := ⟨1, ![1024]⟩
abbrev S3072 : Shape := ⟨1, ![3072]⟩
abbrev S512 : Shape := ⟨1, ![512]⟩
abbrev S256 : Shape := ⟨1, ![256]⟩
abbrev S128 : Shape := ⟨1, ![128]⟩
abbrev S4 : Shape := ⟨1, ![4]⟩
abbrev S252 : Shape := ⟨1, ![252]⟩
abbrev S6656 : Shape := ⟨1, ![6656]⟩
abbrev S1x6656 : Shape := ⟨2, ![1, 6656]⟩
abbrev S4x1x6144 : Shape := ⟨3, ![4, 1, 6144]⟩
abbrev S4x4096x6656 : Shape := ⟨3, ![4, 4096, 6656]⟩
abbrev S1x512x1024 : Shape := ⟨3, ![1, 512, 1024]⟩
abbrev S1x1x1024 : Shape := ⟨3, ![1, 1, 1024]⟩
abbrev S1024x3328 : Shape := ⟨2, ![1024, 3328]⟩
abbrev S1x3328 : Shape := ⟨2, ![1, 3328]⟩
abbrev S1x512x3328 : Shape := ⟨3, ![1, 512, 3328]⟩
abbrev S512x1024 : Shape := ⟨2, ![512, 1024]⟩
abbrev S512x3328 : Shape := ⟨2, ![512, 3328]⟩

abbrev nBuf : Space → Nat
  | .hbm => 32
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024x6212, .f32⟩
  | .hbm, ⟨3, _⟩ => ⟨S6212, .f32⟩
  | .hbm, ⟨4, _⟩ => ⟨S1024x64, .f32⟩
  | .hbm, ⟨5, _⟩ => ⟨S1024x1024, .f32⟩
  | .hbm, ⟨6, _⟩ => ⟨S1024x1024, .f32⟩
  | .hbm, ⟨7, _⟩ => ⟨S1024x3072, .f32⟩
  | .hbm, ⟨8, _⟩ => ⟨S1024x512, .f32⟩
  | .hbm, ⟨9, _⟩ => ⟨S1024x256, .f32⟩
  | .hbm, ⟨10, _⟩ => ⟨S1024x128, .f32⟩
  | .hbm, ⟨11, _⟩ => ⟨S1024x128, .f32⟩
  | .hbm, ⟨12, _⟩ => ⟨S1024x4, .f32⟩
  | .hbm, ⟨13, _⟩ => ⟨S_, .f32⟩
  | .hbm, ⟨14, _⟩ => ⟨S1024x252, .f32⟩
  | .hbm, ⟨15, _⟩ => ⟨S1024x6656, .f32⟩
  | .hbm, ⟨16, _⟩ => ⟨S1024x6656, .bf16⟩
  | .hbm, ⟨17, _⟩ => ⟨S64, .f32⟩
  | .hbm, ⟨18, _⟩ => ⟨S1024, .f32⟩
  | .hbm, ⟨19, _⟩ => ⟨S1024, .f32⟩
  | .hbm, ⟨20, _⟩ => ⟨S3072, .f32⟩
  | .hbm, ⟨21, _⟩ => ⟨S512, .f32⟩
  | .hbm, ⟨22, _⟩ => ⟨S256, .f32⟩
  | .hbm, ⟨23, _⟩ => ⟨S128, .f32⟩
  | .hbm, ⟨24, _⟩ => ⟨S128, .f32⟩
  | .hbm, ⟨25, _⟩ => ⟨S4, .f32⟩
  | .hbm, ⟨26, _⟩ => ⟨S_, .f32⟩
  | .hbm, ⟨27, _⟩ => ⟨S252, .f32⟩
  | .hbm, ⟨28, _⟩ => ⟨S6656, .f32⟩
  | .hbm, ⟨29, _⟩ => ⟨S1x6656, .f32⟩
  | .hbm, ⟨30, _⟩ => ⟨S4x1x6144, .f32⟩
  | .hbm, ⟨31, _⟩ => ⟨S4x4096x6656, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3328, .bf16⟩
  | .local _ .vmem, ⟨7, _⟩ => ⟨S1024x3328, .bf16⟩
  | .local _ .vmem, ⟨8, _⟩ => ⟨S1x3328, .f32⟩
  | .local _ .vmem, ⟨9, _⟩ => ⟨S1x3328, .f32⟩
  | .local _ .vmem, ⟨10, _⟩ => ⟨S1x512x3328, .f32⟩
  | .local _ .vmem, ⟨11, _⟩ => ⟨S1x512x3328, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg1.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x3328 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjRefIdeal.lean ====
abbrev S4x4096x1024 : Shape := ⟨3, ![4, 4096, 1024]⟩
abbrev S4x6144 : Shape := ⟨2, ![4, 6144]⟩
abbrev S1024x6212 : Shape := ⟨2, ![1024, 6212]⟩
abbrev S6212 : Shape := ⟨1, ![6212]⟩
abbrev S4x1024 : Shape := ⟨2, ![4, 1024]⟩
abbrev S4x1x1024 : Shape := ⟨3, ![4, 1, 1024]⟩
abbrev S_ : Shape := ⟨0, ![]⟩
abbrev S4x4096x6212 : Shape := ⟨3, ![4, 4096, 6212]⟩
abbrev S1x1x6212 : Shape := ⟨3, ![1, 1, 6212]⟩
abbrev S4x4096x512 : Shape := ⟨3, ![4, 4096, 512]⟩
abbrev S4x4096x128 : Shape := ⟨3, ![4, 4096, 128]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x3072 : Shape := ⟨3, ![4, 4096, 3072]⟩
abbrev S4x4096x252 : Shape := ⟨3, ![4, 4096, 252]⟩
abbrev S4x4096x6656 : Shape := ⟨3, ![4, 4096, 6656]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024x6212, .f32⟩
  | .hbm, ⟨3, _⟩ => ⟨S6212, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S_, .f32⟩
  | .hbm, ⟨17, _⟩ => ⟨S4x1x1024, .f32⟩
  | .hbm, ⟨18, _⟩ => ⟨S4x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x6212, .f32⟩
  | .hbm, ⟨24, _⟩ => ⟨S1x1x6212, .f32⟩
  | .hbm, ⟨25, _⟩ => ⟨S4x4096x6212, .f32⟩
  | .hbm, ⟨26, _⟩ => ⟨S4x4096x6212, .f32⟩
  | .hbm, ⟨27, _⟩ => ⟨S4x4096x1024, .f32⟩
  | .hbm, ⟨28, _⟩ => ⟨S4x4096x512, .f32⟩
  | .hbm, ⟨29, _⟩ => ⟨S4x4096x128, .f32⟩
  | .hbm, ⟨30, _⟩ => ⟨S4x4096x128, .f32⟩
  | .hbm, ⟨31, _⟩ => ⟨S4x4096x256, .f32⟩
  | .hbm, ⟨32, _⟩ => ⟨S4x4096x64, .f32⟩
  | .hbm, ⟨33, _⟩ => ⟨S4x4096x4, .f32⟩
  | .hbm, ⟨34, _⟩ => ⟨S4x4096x1024, .f32⟩
  | .hbm, ⟨35, _⟩ => ⟨S4x4096x3072, .f32⟩
  | .hbm, ⟨36, _⟩ => ⟨S_, .f32⟩
  | .hbm, ⟨37, _⟩ => ⟨S4x4096x252, .f32⟩
  | .hbm, ⟨38, _⟩ => ⟨S4x4096x6656, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Moe.lean ====
abbrev S4x4096x1024 : Shape := ⟨3, ![4, 4096, 1024]⟩
abbrev S16384x16 : Shape := ⟨2, ![16384, 16]⟩
abbrev S4x6144 : Shape := ⟨2, ![4, 6144]⟩
abbrev S4x16x1024x512 : Shape := ⟨4, ![4, 16, 1024, 512]⟩
abbrev S4x16x512x1024 : Shape := ⟨4, ![4, 16, 512, 1024]⟩
abbrev S1024 : Shape := ⟨1, ![1024]⟩
abbrev S4x1x6144 : Shape := ⟨3, ![4, 1, 6144]⟩
abbrev S1x1024 : Shape := ⟨2, ![1, 1024]⟩
abbrev S1x1024x1024 : Shape := ⟨3, ![1, 1024, 1024]⟩
abbrev S1024x16 : Shape := ⟨2, ![1024, 16]⟩
abbrev S1x1x1024 : Shape := ⟨3, ![1, 1, 1024]⟩
abbrev S1x2x1024x512 : Shape := ⟨4, ![1, 2, 1024, 512]⟩
abbrev S1x2x512x1024 : Shape := ⟨4, ![1, 2, 512, 1024]⟩
abbrev S1024x1024 : Shape := ⟨2, ![1024, 1024]⟩
abbrev S1x1x1024x512 : Shape := ⟨4, ![1, 1, 1024, 512]⟩
abbrev S1024x512 : Shape := ⟨2, ![1024, 512]⟩
abbrev S1024x1 : Shape := ⟨2, ![1024, 1]⟩
abbrev S2x512x1024 : Shape := ⟨3, ![2, 512, 1024]⟩
abbrev S1x1024x1 : Shape := ⟨3, ![1, 1024, 1]⟩

abbrev nBuf : Space → Nat
  | .hbm => 16
  | .vmem => 19
  | .smem => 0
  | _ => 0

abbrev bufTy : (tb : Table) → Fin (tcTables nBuf tb) → BufTy
  | .hbm, ⟨0, _⟩ => ⟨S4x4096x1024, .bf16⟩
  | .hbm, ⟨1, _⟩ => ⟨S16384x16, .f32⟩
  | .hbm, ⟨2, _⟩ => ⟨S4x4096x1024, .f32⟩
  | .hbm, ⟨3, _⟩ => ⟨S4x6144, .f32⟩
  | .hbm, ⟨4, _⟩ => ⟨S4x16x1024x512, .f32⟩
  | .hbm, ⟨5, _⟩ => ⟨S4x16x1024x512, .f32⟩
  | .hbm, ⟨6, _⟩ => ⟨S4x16x512x1024, .f32⟩
  | .hbm, ⟨7, _⟩ => ⟨S1024, .f32⟩
  | .hbm, ⟨8, _⟩ => ⟨S1024, .f32⟩
  | .hbm, ⟨9, _⟩ => ⟨S4x1x6144, .f32⟩
  | .hbm, ⟨10, _⟩ => ⟨S4x16x1024x512, .bf16⟩
  | .hbm, ⟨11, _⟩ => ⟨S4x16x1024x512, .bf16⟩
  | .hbm, ⟨12, _⟩ => ⟨S4x16x512x1024, .bf16⟩
  | .hbm, ⟨13, _⟩ => ⟨S1x1024, .f32⟩
  | .hbm, ⟨14, _⟩ => ⟨S1x1024, .f32⟩
  | .hbm, ⟨15, _⟩ => ⟨S4x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x16, .f32⟩
  | .local _ .vmem, ⟨3, _⟩ => ⟨S1024x16, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x2x1024x512, .bf16⟩
  | .local _ .vmem, ⟨9, _⟩ => ⟨S1x2x1024x512, .bf16⟩
  | .local _ .vmem, ⟨10, _⟩ => ⟨S1x2x1024x512, .bf16⟩
  | .local _ .vmem, ⟨11, _⟩ => ⟨S1x2x1024x512, .bf16⟩
  | .local _ .vmem, ⟨12, _⟩ => ⟨S1x2x512x1024, .bf16⟩
  | .local _ .vmem, ⟨13, _⟩ => ⟨S1x2x512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v57 : BitVec 1 := Scalar.cmpi .eq arg2 c7_i32
  let v58 : BitVec 32 := Scalar.extui v57
  let c0_i32_38 : BitVec 32 := 0#32
  let v59 : BitVec 1 := Scalar.cmpi .ne v58 c0_i32_38
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, arg2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MoeRefIdeal.lean ====
abbrev S4x4096x1024 : Shape := ⟨3, ![4, 4096, 1024]⟩
abbrev S16384x16 : Shape := ⟨2, ![16384, 16]⟩
abbrev S4x6144 : Shape := ⟨2, ![4, 6144]⟩
abbrev S4x16x1024x512 : Shape := ⟨4, ![4, 16, 1024, 512]⟩
abbrev S4x16x512x1024 : Shape := ⟨4, ![4, 16, 512, 1024]⟩
abbrev S1024 : Shape := ⟨1, ![1024]⟩
abbrev S4x1024 : Shape := ⟨2, ![4, 1024]⟩
abbrev S4x1x1024 : Shape := ⟨3, ![4, 1, 1024]⟩
abbrev S4x4096x16 : Shape := ⟨3, ![4, 4096, 16]⟩
abbrev S1x16x1024x512 : Shape := ⟨4, ![1, 16, 1024, 512]⟩
abbrev S16x1024x512 : Shape := ⟨3, ![16, 1024, 512]⟩
abbrev S4x4096x16x512 : Shape := ⟨4, ![4, 4096, 16, 512]⟩
abbrev S_ : Shape := ⟨0, ![]⟩
abbrev S4x4096x16x1 : Shape := ⟨4, ![4, 4096, 16, 1]⟩
abbrev S1x16x512x1024 : Shape := ⟨4, ![1, 16, 512, 1024]⟩
abbrev S16x512x1024 : Shape := ⟨3, ![16, 512, 1024]⟩
abbrev S16x1024x4x4096 : Shape := ⟨4, ![16, 1024, 4, 4096]⟩
abbrev S4x4096x16x1024 : Shape := ⟨4, ![4, 4096, 16, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S16384x16, .f32⟩
  | .hbm, ⟨2, _⟩ => ⟨S4x4096x1024, .f32⟩
  | .hbm, ⟨3, _⟩ => ⟨S4x6144, .f32⟩
  | .hbm, ⟨4, _⟩ => ⟨S4x16x1024x512, .f32⟩
  | .hbm, ⟨5, _⟩ => ⟨S4x16x1024x512, .f32⟩
  | .hbm, ⟨6, _⟩ => ⟨S4x16x512x1024, .f32⟩
  | .hbm, ⟨7, _⟩ => ⟨S1024, .f32⟩
  | .hbm, ⟨8, _⟩ => ⟨S1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1x1024, .f32⟩
  | .hbm, ⟨16, _⟩ => ⟨S4x4096x1024, .f32⟩
  | .hbm, ⟨17, _⟩ => ⟨S4x4096x16, .f32⟩
  | .hbm, ⟨18, _⟩ => ⟨S1x16x1024x512, .f32⟩
  | .hbm, ⟨19, _⟩ => ⟨S16x1024x512, .f32⟩
  | .hbm, ⟨20, _⟩ => ⟨S4x4096x16x512, .f32⟩
  | .hbm, ⟨21, _⟩ => ⟨S4x4096x16x512, .f32⟩
  | .hbm, ⟨22, _⟩ => ⟨S4x4096x16x512, .f32⟩
  | .hbm, ⟨23, _⟩ => ⟨S_, .f32⟩
  | .hbm, ⟨24, _⟩ => ⟨S4x4096x16x512, .f32⟩
  | .hbm, ⟨25, _⟩ => ⟨S4x4096x16x512, .f32⟩
  | .hbm, ⟨26, _⟩ => ⟨S_, .f32⟩
  | .hbm, ⟨27, _⟩ => ⟨S4x4096x16x512, .f32⟩
  | .hbm, ⟨28, _⟩ => ⟨S4x4096x16x512, .f32⟩
  | .hbm, ⟨29, _⟩ => ⟨S4x4096x16x512, .f32⟩
  | .hbm, ⟨30, _⟩ => ⟨S1x16x1024x512, .f32⟩
  | .hbm, ⟨31, _⟩ => ⟨S16x1024x512, .f32⟩
  | .hbm, ⟨32, _⟩ => ⟨S4x4096x16x512, .f32⟩
  | .hbm, ⟨33, _⟩ => ⟨S4x4096x16x512, .f32⟩
  | .hbm, ⟨34, _⟩ => ⟨S4x4096x16x1, .f32⟩
  | .hbm, ⟨35, _⟩ => ⟨S1x16x512x1024, .f32⟩
  | .hbm, ⟨36, _⟩ => ⟨S16x512x1024, .f32⟩
  | .hbm, ⟨37, _⟩ => ⟨S16x1024x4x4096, .f32⟩
  | .hbm, ⟨38, _⟩ => ⟨S4x4096x16x1024, .f32⟩
  | .hbm, ⟨39, _⟩ => ⟨S4x4096x16x1024, .f32⟩
  | .hbm, ⟨40, _⟩ => ⟨S4x4096x16x1024, .f32⟩
  | .hbm, ⟨41, _⟩ => ⟨S_, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x1x1024, .f32⟩
  | .hbm, ⟨48, _⟩ => ⟨S4x1x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x1024, .f32⟩
  | .hbm, ⟨74, _⟩ => ⟨S4x4096x1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Gating.lean ====
abbrev S128x8x6656 : Shape := ⟨3, ![128, 8, 6656]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x512 : Shape := ⟨2, ![8, 512]⟩
abbrev S8x8x8 : Shape := ⟨3, ![8, 8, 8]⟩
abbrev S8x8x8x64 : Shape := ⟨4, ![8, 8, 8, 64]⟩
abbrev S8x8x512 : Shape := ⟨3, ![8, 8, 512]⟩
abbrev S1x512 : Shape := ⟨2, ![1, 512]⟩
abbrev S128x8x512 : Shape := ⟨3, ![128, 8, 512]⟩
abbrev S128x8x1 : Shape := ⟨3, ![128, 8, 1]⟩
abbrev S1x1x512 : Shape := ⟨3, ![1, 1, 512]⟩
abbrev S1x8x512 : Shape := ⟨3, ![1, 8, 512]⟩
abbrev S128x1x512 : Shape := ⟨3, ![128, 1, 512]⟩

abbrev nBuf : Space → Nat
  | .hbm => 17
  | .vmem => 8
  | .smem => 0
  | _ => 0

abbrev bufTy : (tb : Table) → Fin (tcTables nBuf tb) → BufTy
  | .hbm, ⟨0, _⟩ => ⟨S128x8x6656, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x64, .f32⟩
  | .hbm, ⟨7, _⟩ => ⟨S128x512, .f32⟩
  | .hbm, ⟨8, _⟩ => ⟨S8x512, .f32⟩
  | .hbm, ⟨9, _⟩ => ⟨S8x8x8, .f32⟩
  | .hbm, ⟨10, _⟩ => ⟨S8x8x8, .f32⟩
  | .hbm, ⟨11, _⟩ => ⟨S8x8x8x64, .f32⟩
  | .hbm, ⟨12, _⟩ => ⟨S8x8x512, .f32⟩
  | .hbm, ⟨13, _⟩ => ⟨S1x512, .f32⟩
  | .hbm, ⟨14, _⟩ => ⟨S1x512, .f32⟩
  | .hbm, ⟨15, _⟩ => ⟨S128x8x512, .f32⟩
  | .hbm, ⟨16, _⟩ => ⟨S128x8x512, .f32⟩
  | .local _ .vmem, ⟨0, _⟩ => ⟨S128x8x512, .f32⟩
  | .local _ .vmem, ⟨1, _⟩ => ⟨S128x8x512, .f32⟩
  | .local _ .vmem, ⟨2, _⟩ => ⟨S1x512, .f32⟩
  | .local _ .vmem, ⟨3, _⟩ => ⟨S1x512, .f32⟩
  | .local _ .vmem, ⟨4, _⟩ => ⟨S8x8x512, .f32⟩
  | .local _ .vmem, ⟨5, _⟩ => ⟨S8x512, .f32⟩
  | .local _ .vmem, ⟨6, _⟩ => ⟨S128x8x512, .f32⟩
  | .local _ .vmem, ⟨7, _⟩ => ⟨S128x8x512, .f32⟩
  | _, _ => ⟨S128x8x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GatingRefIdeal.lean ====
abbrev S128x8x6656 : Shape := ⟨3, ![128, 8, 6656]⟩
abbrev S512 : Shape := ⟨1, ![512]⟩
abbrev S8x128x128 : Shape := ⟨3, ![8, 128, 128]⟩
abbrev S8x128 : Shape := ⟨2, ![8, 128]⟩
abbrev S128x8x1024 : Shape := ⟨3, ![128, 8, 1024]⟩
abbrev S128x8x512 : Shape := ⟨3, ![128, 8, 512]⟩
abbrev S_ : Shape := ⟨0, ![]⟩
abbrev S128x8 : Shape := ⟨2, ![128, 8]⟩
abbrev S128x8x1 : Shape := ⟨3, ![128, 8, 1]⟩
abbrev S1x1x512 : Shape := ⟨3, ![1, 1, 512]⟩
abbrev S8x8 : Shape := ⟨2, ![8, 8]⟩
abbrev S8x8x8 : Shape := ⟨3, ![8, 8, 8]⟩
abbrev S128x1x8x8x64 : Shape := ⟨5, ![128, 1, 8, 8, 64]⟩
abbrev S8x128x1x64x8 : Shape := ⟨5, ![8, 128, 1, 64, 8]⟩
abbrev S1x1x8x8x1 : Shape := ⟨5, ![1, 1, 8, 8, 1]⟩

abbrev nBuf : Space → Nat
  | .hbm => 64
  | .vmem => 0
  | .smem => 0
  | _ => 0

abbrev bufTy : (tb : Table) → Fin (tcTables nBuf tb) → BufTy
  | .hbm, ⟨0, _⟩ => ⟨S128x8x6656, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S128x8x1024, .f32⟩
  | .hbm, ⟨6, _⟩ => ⟨S128x8x512, .f32⟩
  | .hbm, ⟨7, _⟩ => ⟨S128x8x512, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x512, .f32⟩
  | .hbm, ⟨15, _⟩ => ⟨S128x8x512, .f32⟩
  | .hbm, ⟨16, _⟩ => ⟨S128x8x512, .f32⟩
  | .hbm, ⟨17, _⟩ => ⟨S_, .f32⟩
  | .hbm, ⟨18, _⟩ => ⟨S128x8, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S128x8x512, .f32⟩
  | .hbm, ⟨24, _⟩ => ⟨S128x8x512, .f32⟩
  | .hbm, ⟨25, _⟩ => ⟨S_, .f32⟩
  | .hbm, ⟨26, _⟩ => ⟨S128x8x1, .f32⟩
  | .hbm, ⟨27, _⟩ => ⟨S128x8x1, .f32⟩
  | .hbm, ⟨28, _⟩ => ⟨S128x8x1, .f32⟩
  | .hbm, ⟨29, _⟩ => ⟨S128x8x512, .f32⟩
  | .hbm, ⟨30, _⟩ => ⟨S128x8x512, .f32⟩
  | .hbm, ⟨31, _⟩ => ⟨S1x1x512, .f32⟩
  | .hbm, ⟨32, _⟩ => ⟨S128x8x512, .f32⟩
  | .hbm, ⟨33, _⟩ => ⟨S128x8x512, .f32⟩
  | .hbm, ⟨34, _⟩ => ⟨S1x1x512, .f32⟩
  | .hbm, ⟨35, _⟩ => ⟨S128x8x512, .f32⟩
  | .hbm, ⟨36, _⟩ => ⟨S128x8x512, .f32⟩
  | .hbm, ⟨37, _⟩ => ⟨S_, .i1⟩
  | .hbm, ⟨38, _⟩ => ⟨S8x8, .i1⟩
  | .hbm, ⟨39, _⟩ => ⟨S8x8, .i32⟩
  | .hbm, ⟨40, _⟩ => ⟨S_, .i32⟩
  | .hbm, ⟨41, _⟩ => ⟨S8x8, .i32⟩
  | .hbm, ⟨42, _⟩ => ⟨S8x8, .i32⟩
  | .hbm, ⟨43, _⟩ => ⟨S8x8, .i32⟩
  | .hbm, ⟨44, _⟩ => ⟨S8x8, .i1⟩
  | .hbm, ⟨45, _⟩ => ⟨S_, .i1⟩
  | .hbm, ⟨46, _⟩ => ⟨S8x8, .i1⟩
  | .hbm, ⟨47, _⟩ => ⟨S8x8, .i1⟩
  | .hbm, ⟨48, _⟩ => ⟨S8x8x8, .f32⟩
  | .hbm, ⟨49, _⟩ => ⟨S_, .i32⟩
  | .hbm, ⟨50, _⟩ => ⟨S_, .f32⟩
  | .hbm, ⟨51, _⟩ => ⟨S8x8x8, .i1⟩
  | .hbm, ⟨52, _⟩ => ⟨S8x8x8, .f32⟩
  | .hbm, ⟨53, _⟩ => ⟨S8x8x8, .f32⟩
  | .hbm, ⟨54, _⟩ => ⟨S128x1x8x8x64, .f32⟩
  | .hbm, ⟨55, _⟩ => ⟨S8x128x1x64x8, .f32⟩
  | .hbm, ⟨56, _⟩ => ⟨S128x1x8x8x64, .f32⟩
  | .hbm, ⟨57, _⟩ => ⟨S8x8, .f32⟩
  | .hbm, ⟨58, _⟩ => ⟨S8x8, .f32⟩
  | .hbm, ⟨59, _⟩ => ⟨S1x1x8x8x1, .f32⟩
  | .hbm, ⟨60, _⟩ => ⟨S128x1x8x8x64, .f32⟩
  | .hbm, ⟨61, _⟩ => ⟨S128x1x8x8x64, .f32⟩
  | .hbm, ⟨62, _⟩ => ⟨S128x8x512, .f32⟩
  | .hbm, ⟨63, _⟩ => ⟨S128x8x512, .f32⟩
  | _, _ => ⟨S128x8x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== InProjSample.lean ====
abbrev S128x8x1024 : Shape := ⟨3, ![128, 8, 1024]⟩
abbrev S128x6144 : Shape := ⟨2, ![128, 6144]⟩
abbrev S1024x6212 : Shape := ⟨2, ![1024, 6212]⟩
abbrev S6212 : Shape := ⟨1, ![6212]⟩
abbrev S1024x64 : Shape := ⟨2, ![1024, 64]⟩
abbrev S1024x1024 : Shape := ⟨2, ![1024, 1024]⟩
abbrev S1024x3072 : Shape := ⟨2, ![1024, 3072]⟩
abbrev S1024x512 : Shape := ⟨2, ![1024, 512]⟩
abbrev S1024x256 : Shape := ⟨2, ![1024, 256]⟩
abbrev S1024x128 : Shape := ⟨2, ![1024, 128]⟩
abbrev S1024x4 : Shape := ⟨2, ![1024, 4]⟩
abbrev S_ : Shape := ⟨0, ![]⟩
abbrev S1024x252 : Shape := ⟨2, ![1024, 252]⟩
abbrev S1024x6656 : Shape := ⟨2, ![1024, 6656]⟩
abbrev S64 : Shape := ⟨1, ![64]⟩
abbrev S1024 : Shape := ⟨1, ![1024]⟩
abbrev S3072 : Shape := ⟨1, ![3072]⟩
abbrev S512 : Shape := ⟨1, ![512]⟩
abbrev S256 : Shape := ⟨1, ![256]⟩
abbrev S128 : Shape := ⟨1, ![128]⟩
abbrev S4 : Shape := ⟨1, ![4]⟩
abbrev S252 : Shape := ⟨1, ![252]⟩
abbrev S6656 : Shape := ⟨1, ![6656]⟩
abbrev S1x6656 : Shape := ⟨2, ![1, 6656]⟩
abbrev S128x1x6144 : Shape := ⟨3, ![128, 1, 6144]⟩
abbrev S128x8x6656 : Shape := ⟨3, ![128, 8, 6656]⟩
abbrev S128x1x1024 : Shape := ⟨3, ![128, 1, 1024]⟩
abbrev S1024x1664 : Shape := ⟨2, ![1024, 1664]⟩
abbrev S1x1664 : Shape := ⟨2, ![1, 1664]⟩
abbrev S128x8x1664 : Shape := ⟨3, ![128, 8, 1664]⟩

abbrev nBuf : Space → Nat
  | .hbm => 32
  | .vmem => 9
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024x6212, .f32⟩
  | .hbm, ⟨3, _⟩ => ⟨S6212, .f32⟩
  | .hbm, ⟨4, _⟩ => ⟨S1024x64, .f32⟩
  | .hbm, ⟨5, _⟩ => ⟨S1024x1024, .f32⟩
  | .hbm, ⟨6, _⟩ => ⟨S1024x1024, .f32⟩
  | .hbm, ⟨7, _⟩ => ⟨S1024x3072, .f32⟩
  | .hbm, ⟨8, _⟩ => ⟨S1024x512, .f32⟩
  | .hbm, ⟨9, _⟩ => ⟨S1024x256, .f32⟩
  | .hbm, ⟨10, _⟩ => ⟨S1024x128, .f32⟩
  | .hbm, ⟨11, _⟩ => ⟨S1024x128, .f32⟩
  | .hbm, ⟨12, _⟩ => ⟨S1024x4, .f32⟩
  | .hbm, ⟨13, _⟩ => ⟨S_, .f32⟩
  | .hbm, ⟨14, _⟩ => ⟨S1024x252, .f32⟩
  | .hbm, ⟨15, _⟩ => ⟨S1024x6656, .f32⟩
  | .hbm, ⟨16, _⟩ => ⟨S1024x6656, .bf16⟩
  | .hbm, ⟨17, _⟩ => ⟨S64, .f32⟩
  | .hbm, ⟨18, _⟩ => ⟨S1024, .f32⟩
  | .hbm, ⟨19, _⟩ => ⟨S1024, .f32⟩
  | .hbm, ⟨20, _⟩ => ⟨S3072, .f32⟩
  | .hbm, ⟨21, _⟩ => ⟨S512, .f32⟩
  | .hbm, ⟨22, _⟩ => ⟨S256, .f32⟩
  | .hbm, ⟨23, _⟩ => ⟨S128, .f32⟩
  | .hbm, ⟨24, _⟩ => ⟨S128, .f32⟩
  | .hbm, ⟨25, _⟩ => ⟨S4, .f32⟩
  | .hbm, ⟨26, _⟩ => ⟨S_, .f32⟩
  | .hbm, ⟨27, _⟩ => ⟨S252, .f32⟩
  | .hbm, ⟨28, _⟩ => ⟨S6656, .f32⟩
  | .hbm, ⟨29, _⟩ => ⟨S1x6656, .f32⟩
  | .hbm, ⟨30, _⟩ => ⟨S128x1x6144, .f32⟩
  | .hbm, ⟨31, _⟩ => ⟨S128x8x6656, .f32⟩
  | .local _ .vmem, ⟨0, _⟩ => ⟨S128x8x1024, .f32⟩
  | .local _ .vmem, ⟨1, _⟩ => ⟨S128x1x1024, .f32⟩
  | .local _ .vmem, ⟨2, _⟩ => ⟨S128x1x1024, .f32⟩
  | .local _ .vmem, ⟨3, _⟩ => ⟨S1024x1664, .bf16⟩
  | .local _ .vmem, ⟨4, _⟩ => ⟨S1024x1664, .bf16⟩
  | .local _ .vmem, ⟨5, _⟩ => ⟨S1x1664, .f32⟩
  | .local _ .vmem, ⟨6, _⟩ => ⟨S1x1664, .f32⟩
  | .local _ .vmem, ⟨7, _⟩ => ⟨S128x8x1664, .f32⟩
  | .local _ .vmem, ⟨8, _⟩ => ⟨S128x8x1664, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg1.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 1 → Memref sig .tc .vmem S128x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S128x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S128x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S128x8x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjSampleRefIdeal.lean ====
abbrev S128x8x1024 : Shape := ⟨3, ![128, 8, 1024]⟩
abbrev S128x6144 : Shape := ⟨2, ![128, 6144]⟩
abbrev S1024x6212 : Shape := ⟨2, ![1024, 6212]⟩
abbrev S6212 : Shape := ⟨1, ![6212]⟩
abbrev S128x1024 : Shape := ⟨2, ![128, 1024]⟩
abbrev S128x1x1024 : Shape := ⟨3, ![128, 1, 1024]⟩
abbrev S_ : Shape := ⟨0, ![]⟩
abbrev S128x8x6212 : Shape := ⟨3, ![128, 8, 6212]⟩
abbrev S1x1x6212 : Shape := ⟨3, ![1, 1, 6212]⟩
abbrev S128x8x512 : Shape := ⟨3, ![128, 8, 512]⟩
abbrev S128x8x128 : Shape := ⟨3, ![128, 8, 128]⟩
abbrev S128x8x256 : Shape := ⟨3, ![128, 8, 256]⟩
abbrev S128x8x64 : Shape := ⟨3, ![128, 8, 64]⟩
abbrev S128x8x4 : Shape := ⟨3, ![128, 8, 4]⟩
abbrev S128x8x3072 : Shape := ⟨3, ![128, 8, 3072]⟩
abbrev S128x8x252 : Shape := ⟨3, ![128, 8, 252]⟩
abbrev S128x8x6656 : Shape := ⟨3, ![128, 8, 6656]⟩

abbrev nBuf : Space → Nat
  | .hbm => 39
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024x6212, .f32⟩
  | .hbm, ⟨3, _⟩ => ⟨S6212, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S_, .f32⟩
  | .hbm, ⟨17, _⟩ => ⟨S128x1x1024, .f32⟩
  | .hbm, ⟨18, _⟩ => ⟨S128x1x1024, .f32⟩
  | .hbm, ⟨19, _⟩ => ⟨S128x8x1024, .f32⟩
  | .hbm, ⟨20, _⟩ => ⟨S128x8x1024, .f32⟩
  | .hbm, ⟨21, _⟩ => ⟨S128x8x1024, .f32⟩
  | .hbm, ⟨22, _⟩ => ⟨S128x8x1024, .f32⟩
  | .hbm, ⟨23, _⟩ => ⟨S128x8x6212, .f32⟩
  | .hbm, ⟨24, _⟩ => ⟨S1x1x6212, .f32⟩
  | .hbm, ⟨25, _⟩ => ⟨S128x8x6212, .f32⟩
  | .hbm, ⟨26, _⟩ => ⟨S128x8x6212, .f32⟩
  | .hbm, ⟨27, _⟩ => ⟨S128x8x1024, .f32⟩
  | .hbm, ⟨28, _⟩ => ⟨S128x8x512, .f32⟩
  | .hbm, ⟨29, _⟩ => ⟨S128x8x128, .f32⟩
  | .hbm, ⟨30, _⟩ => ⟨S128x8x128, .f32⟩
  | .hbm, ⟨31, _⟩ => ⟨S128x8x256, .f32⟩
  | .hbm, ⟨32, _⟩ => ⟨S128x8x64, .f32⟩
  | .hbm, ⟨33, _⟩ => ⟨S128x8x4, .f32⟩
  | .hbm, ⟨34, _⟩ => ⟨S128x8x1024, .f32⟩
  | .hbm, ⟨35, _⟩ => ⟨S128x8x3072, .f32⟩
  | .hbm, ⟨36, _⟩ => ⟨S_, .f32⟩
  | .hbm, ⟨37, _⟩ => ⟨S128x8x252, .f32⟩
  | .hbm, ⟨38, _⟩ => ⟨S128x8x6656, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== MoeSample.lean ====
abbrev S128x8x1024 : Shape := ⟨3, ![128, 8, 1024]⟩
abbrev S1024x16 : Shape := ⟨2, ![1024, 16]⟩
abbrev S128x6144 : Shape := ⟨2, ![128, 6144]⟩
abbrev S4x16x1024x512 : Shape := ⟨4, ![4, 16, 1024, 512]⟩
abbrev S4x16x512x1024 : Shape := ⟨4, ![4, 16, 512, 1024]⟩
abbrev S1024 : Shape := ⟨1, ![1024]⟩
abbrev S128x1x6144 : Shape := ⟨3, ![128, 1, 6144]⟩
abbrev S1x1024 : Shape := ⟨2, ![1, 1024]⟩
abbrev S128x1x1024 : Shape := ⟨3, ![128, 1, 1024]⟩
abbrev S1x2x1024x512 : Shape := ⟨4, ![1, 2, 1024, 512]⟩
abbrev S1x2x512x1024 : Shape := ⟨4, ![1, 2, 512, 1024]⟩
abbrev S1024x1024 : Shape := ⟨2, ![1024, 1024]⟩
abbrev S1x1x1024x512 : Shape := ⟨4, ![1, 1, 1024, 512]⟩
abbrev S1024x512 : Shape := ⟨2, ![1024, 512]⟩
abbrev S1024x1 : Shape := ⟨2, ![1024, 1]⟩
abbrev S2x512x1024 : Shape := ⟨3, ![2, 512, 1024]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 16
  | .vmem => 14
  | .smem => 0
  | _ => 0

abbrev bufTy : (tb : Table) → Fin (tcTables nBuf tb) → BufTy
  | .hbm, ⟨0, _⟩ => ⟨S128x8x1024, .f32⟩
  | .hbm, ⟨1, _⟩ => ⟨S1024x16, .f32⟩
  | .hbm, ⟨2, _⟩ => ⟨S128x8x1024, .f32⟩
  | .hbm, ⟨3, _⟩ => ⟨S128x6144, .f32⟩
  | .hbm, ⟨4, _⟩ => ⟨S4x16x1024x512, .f32⟩
  | .hbm, ⟨5, _⟩ => ⟨S4x16x1024x512, .f32⟩
  | .hbm, ⟨6, _⟩ => ⟨S4x16x512x1024, .f32⟩
  | .hbm, ⟨7, _⟩ => ⟨S1024, .f32⟩
  | .hbm, ⟨8, _⟩ => ⟨S1024, .f32⟩
  | .hbm, ⟨9, _⟩ => ⟨S128x1x6144, .f32⟩
  | .hbm, ⟨10, _⟩ => ⟨S4x16x1024x512, .bf16⟩
  | .hbm, ⟨11, _⟩ => ⟨S4x16x1024x512, .bf16⟩
  | .hbm, ⟨12, _⟩ => ⟨S4x16x512x1024, .bf16⟩
  | .hbm, ⟨13, _⟩ => ⟨S1x1024, .f32⟩
  | .hbm, ⟨14, _⟩ => ⟨S1x1024, .f32⟩
  | .hbm, ⟨15, _⟩ => ⟨S128x8x1024, .f32⟩
  | .local _ .vmem, ⟨0, _⟩ => ⟨S128x8x1024, .f32⟩
  | .local _ .vmem, ⟨1, _⟩ => ⟨S1024x16, .f32⟩
  | .local _ .vmem, ⟨2, _⟩ => ⟨S128x8x1024, .f32⟩
  | .local _ .vmem, ⟨3, _⟩ => ⟨S128x1x1024, .f32⟩
  | .local _ .vmem, ⟨4, _⟩ => ⟨S1x2x1024x512, .bf16⟩
  | .local _ .vmem, ⟨5, _⟩ => ⟨S1x2x1024x512, .bf16⟩
  | .local _ .vmem, ⟨6, _⟩ => ⟨S1x2x1024x512, .bf16⟩
  | .local _ .vmem, ⟨7, _⟩ => ⟨S1x2x1024x512, .bf16⟩
  | .local _ .vmem, ⟨8, _⟩ => ⟨S1x2x512x1024, .bf16⟩
  | .local _ .vmem, ⟨9, _⟩ => ⟨S1x2x512x1024, .bf16⟩
  | .local _ .vmem, ⟨10, _⟩ => ⟨S1x1024, .f32⟩
  | .local _ .vmem, ⟨11, _⟩ => ⟨S1x1024, .f32⟩
  | .local _ .vmem, ⟨12, _⟩ => ⟨S128x8x1024, .f32⟩
  | .local _ .vmem, ⟨13, _⟩ => ⟨S1024x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v58 : BitVec 1 := Scalar.cmpi .eq arg2 c7_i32
  let v59 : BitVec 32 := Scalar.extui v58
  let c0_i32_38 : BitVec 32 := 0#32
  let v60 : BitVec 1 := Scalar.cmpi .ne v59 c0_i32_38
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, arg2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S128x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S128x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S128x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true, false]
-- ==== MoeSampleRefIdeal.lean ====
abbrev S128x8x1024 : Shape := ⟨3, ![128, 8, 1024]⟩
abbrev S1024x16 : Shape := ⟨2, ![1024, 16]⟩
abbrev S128x6144 : Shape := ⟨2, ![128, 6144]⟩
abbrev S4x16x1024x512 : Shape := ⟨4, ![4, 16, 1024, 512]⟩
abbrev S4x16x512x1024 : Shape := ⟨4, ![4, 16, 512, 1024]⟩
abbrev S1024 : Shape := ⟨1, ![1024]⟩
abbrev S128x1024 : Shape := ⟨2, ![128, 1024]⟩
abbrev S128x1x1024 : Shape := ⟨3, ![128, 1, 1024]⟩
abbrev S128x8x16 : Shape := ⟨3, ![128, 8, 16]⟩
abbrev S1x16x1024x512 : Shape := ⟨4, ![1, 16, 1024, 512]⟩
abbrev S16x1024x512 : Shape := ⟨3, ![16, 1024, 512]⟩
abbrev S128x8x16x512 : Shape := ⟨4, ![128, 8, 16, 512]⟩
abbrev S_ : Shape := ⟨0, ![]⟩
abbrev S128x8x16x1 : Shape := ⟨4, ![128, 8, 16, 1]⟩
abbrev S1x16x512x1024 : Shape := ⟨4, ![1, 16, 512, 1024]⟩
abbrev S16x512x1024 : Shape := ⟨3, ![16, 512, 1024]⟩
abbrev S16x1024x128x8 : Shape := ⟨4, ![16, 1024, 128, 8]⟩
abbrev S128x8x16x1024 : Shape := ⟨4, ![128, 8, 16, 1024]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x16, .f32⟩
  | .hbm, ⟨2, _⟩ => ⟨S128x8x1024, .f32⟩
  | .hbm, ⟨3, _⟩ => ⟨S128x6144, .f32⟩
  | .hbm, ⟨4, _⟩ => ⟨S4x16x1024x512, .f32⟩
  | .hbm, ⟨5, _⟩ => ⟨S4x16x1024x512, .f32⟩
  | .hbm, ⟨6, _⟩ => ⟨S4x16x512x1024, .f32⟩
  | .hbm, ⟨7, _⟩ => ⟨S1024, .f32⟩
  | .hbm, ⟨8, _⟩ => ⟨S1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1x1024, .f32⟩
  | .hbm, ⟨16, _⟩ => ⟨S128x8x16, .f32⟩
  | .hbm, ⟨17, _⟩ => ⟨S1x16x1024x512, .f32⟩
  | .hbm, ⟨18, _⟩ => ⟨S16x1024x512, .f32⟩
  | .hbm, ⟨19, _⟩ => ⟨S128x8x16x512, .f32⟩
  | .hbm, ⟨20, _⟩ => ⟨S128x8x16x512, .f32⟩
  | .hbm, ⟨21, _⟩ => ⟨S128x8x16x512, .f32⟩
  | .hbm, ⟨22, _⟩ => ⟨S_, .f32⟩
  | .hbm, ⟨23, _⟩ => ⟨S128x8x16x512, .f32⟩
  | .hbm, ⟨24, _⟩ => ⟨S128x8x16x512, .f32⟩
  | .hbm, ⟨25, _⟩ => ⟨S_, .f32⟩
  | .hbm, ⟨26, _⟩ => ⟨S128x8x16x512, .f32⟩
  | .hbm, ⟨27, _⟩ => ⟨S128x8x16x512, .f32⟩
  | .hbm, ⟨28, _⟩ => ⟨S128x8x16x512, .f32⟩
  | .hbm, ⟨29, _⟩ => ⟨S1x16x1024x512, .f32⟩
  | .hbm, ⟨30, _⟩ => ⟨S16x1024x512, .f32⟩
  | .hbm, ⟨31, _⟩ => ⟨S128x8x16x512, .f32⟩
  | .hbm, ⟨32, _⟩ => ⟨S128x8x16x512, .f32⟩
  | .hbm, ⟨33, _⟩ => ⟨S128x8x16x1, .f32⟩
  | .hbm, ⟨34, _⟩ => ⟨S1x16x512x1024, .f32⟩
  | .hbm, ⟨35, _⟩ => ⟨S16x512x1024, .f32⟩
  | .hbm, ⟨36, _⟩ => ⟨S16x1024x128x8, .f32⟩
  | .hbm, ⟨37, _⟩ => ⟨S128x8x16x1024, .f32⟩
  | .hbm, ⟨38, _⟩ => ⟨S128x8x16x1024, .f32⟩
  | .hbm, ⟨39, _⟩ => ⟨S128x8x16x1024, .f32⟩
  | .hbm, ⟨40, _⟩ => ⟨S_, .f32⟩
  | .hbm, ⟨41, _⟩ => ⟨S128x8x1024, .f32⟩
  | .hbm, ⟨42, _⟩ => ⟨S_, .f32⟩
  | .hbm, ⟨43, _⟩ => ⟨S128x8x1024, .f32⟩
  | .hbm, ⟨44, _⟩ => ⟨S128x8x1024, .f32⟩
  | .hbm, ⟨45, _⟩ => ⟨S_, .f32⟩
  | .hbm, ⟨46, _⟩ => ⟨S128x1x1024, .f32⟩
  | .hbm, ⟨47, _⟩ => ⟨S128x1x1024, .f32⟩
  | .hbm, ⟨48, _⟩ => ⟨S128x8x1024, .f32⟩
  | .hbm, ⟨49, _⟩ => ⟨S128x8x1024, .f32⟩
  | .hbm, ⟨50, _⟩ => ⟨S128x8x1024, .f32⟩
  | .hbm, ⟨51, _⟩ => ⟨S_, .f32⟩
  | .hbm, ⟨52, _⟩ => ⟨S128x8, .f32⟩
  | .hbm, ⟨53, _⟩ => ⟨S128x8x1, .f32⟩
  | .hbm, ⟨54, _⟩ => ⟨S_, .f32⟩
  | .hbm, ⟨55, _⟩ => ⟨S128x8x1, .f32⟩
  | .hbm, ⟨56, _⟩ => ⟨S128x8x1, .f32⟩
  | .hbm, ⟨57, _⟩ => ⟨S128x8x1024, .f32⟩
  | .hbm, ⟨58, _⟩ => ⟨S128x8x1024, .f32⟩
  | .hbm, ⟨59, _⟩ => ⟨S128x8x1024, .f32⟩
  | .hbm, ⟨60, _⟩ => ⟨S_, .f32⟩
  | .hbm, ⟨61, _⟩ => ⟨S128x8, .f32⟩
  | .hbm, ⟨62, _⟩ => ⟨S128x8x1, .f32⟩
  | .hbm, ⟨63, _⟩ => ⟨S_, .f32⟩
  | .hbm, ⟨64, _⟩ => ⟨S128x8x1, .f32⟩
  | .hbm, ⟨65, _⟩ => ⟨S128x8x1, .f32⟩
  | .hbm, ⟨66, _⟩ => ⟨S128x8x1024, .f32⟩
  | .hbm, ⟨67, _⟩ => ⟨S128x8x1024, .f32⟩
  | .hbm, ⟨68, _⟩ => ⟨S_, .f32⟩
  | .hbm, ⟨69, _⟩ => ⟨S128x8x1, .f32⟩
  | .hbm, ⟨70, _⟩ => ⟨S128x8x1, .f32⟩
  | .hbm, ⟨71, _⟩ => ⟨S128x8x1, .f32⟩
  | .hbm, ⟨72, _⟩ => ⟨S128x8x1024, .f32⟩
  | .hbm, ⟨73, _⟩ => ⟨S128x8x1024, .f32⟩
  | .hbm, ⟨74, _⟩ => ⟨S1x1x1024, .f32⟩
  | .hbm, ⟨75, _⟩ => ⟨S128x8x1024, .f32⟩
  | .hbm, ⟨76, _⟩ => ⟨S128x8x1024, .f32⟩
  | .hbm, ⟨77, _⟩ => ⟨S1x1x1024, .f32⟩
  | .hbm, ⟨78, _⟩ => ⟨S128x8x1024, .f32⟩
  | .hbm, ⟨79, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== GatingPrompt.lean ====
abbrev S4x4096x6656 : Shape := ⟨3, ![4, 4096, 6656]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x512 : Shape := ⟨2, ![1, 512]⟩
abbrev S4x4096x512 : Shape := ⟨3, ![4, 4096, 512]⟩
abbrev S1x512x512 : Shape := ⟨3, ![1, 512, 512]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S1x128x512 : Shape := ⟨3, ![1, 128, 512]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x6656, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x64, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S4x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S1x512x512, .bf16⟩
  | .local _ .vmem, ⟨9, _⟩ => ⟨S1x512x512, .bf16⟩
  | _, _ => ⟨S4x4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GatingPromptRefIdeal.lean ====
abbrev S4x4096x6656 : Shape := ⟨3, ![4, 4096, 6656]⟩
abbrev S512 : Shape := ⟨1, ![512]⟩
abbrev S8x128x128 : Shape := ⟨3, ![8, 128, 128]⟩
abbrev S8x128 : Shape := ⟨2, ![8, 128]⟩
abbrev S4x4096x1024 : Shape := ⟨3, ![4, 4096, 1024]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S128x128 : Shape := ⟨2, ![128, 128]⟩
abbrev S4x32x128x8x64 : Shape := ⟨5, ![4, 32, 128, 8, 64]⟩
abbrev S8x4x32x64x128 : Shape := ⟨5, ![8, 4, 32, 64, 128]⟩
abbrev S128x8 : Shape := ⟨2, ![128, 8]⟩
abbrev S1x1x128x8x1 : Shape := ⟨5, ![1, 1, 128, 8, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x6656, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S4x4096x1024, .f32⟩
  | .hbm, ⟨6, _⟩ => ⟨S4x4096x512, .f32⟩
  | .hbm, ⟨7, _⟩ => ⟨S4x4096x512, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x512, .f32⟩
  | .hbm, ⟨30, _⟩ => ⟨S4x4096x512, .f32⟩
  | .hbm, ⟨31, _⟩ => ⟨S1x1x512, .f32⟩
  | .hbm, ⟨32, _⟩ => ⟨S4x4096x512, .f32⟩
  | .hbm, ⟨33, _⟩ => ⟨S4x4096x512, .f32⟩
  | .hbm, ⟨34, _⟩ => ⟨S1x1x512, .f32⟩
  | .hbm, ⟨35, _⟩ => ⟨S4x4096x512, .f32⟩
  | .hbm, ⟨36, _⟩ => ⟨S4x4096x512, .f32⟩
  | .hbm, ⟨37, _⟩ => ⟨S_, .i1⟩
  | .hbm, ⟨38, _⟩ => ⟨S128x128, .i1⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S_, .i1⟩
  | .hbm, ⟨46, _⟩ => ⟨S128x128, .i1⟩
  | .hbm, ⟨47, _⟩ => ⟨S128x128, .i1⟩
  | .hbm, ⟨48, _⟩ => ⟨S_, .i32⟩
  | .hbm, ⟨49, _⟩ => ⟨S_, .f32⟩
  | .hbm, ⟨50, _⟩ => ⟨S8x128x128, .i1⟩
  | .hbm, ⟨51, _⟩ => ⟨S8x128x128, .f32⟩
  | .hbm, ⟨52, _⟩ => ⟨S8x128x128, .f32⟩
  | .hbm, ⟨53, _⟩ => ⟨S4x32x128x8x64, .f32⟩
  | .hbm, ⟨54, _⟩ => ⟨S8x4x32x64x128, .f32⟩
  | .hbm, ⟨55, _⟩ => ⟨S4x32x128x8x64, .f32⟩
  | .hbm, ⟨56, _⟩ => ⟨S128x8, .f32⟩
  | .hbm, ⟨57, _⟩ => ⟨S1x1x128x8x1, .f32⟩
  | .hbm, ⟨58, _⟩ => ⟨S4x32x128x8x64, .f32⟩
  | .hbm, ⟨59, _⟩ => ⟨S4x32x128x8x64, .f32⟩
  | .hbm, ⟨60, _⟩ => ⟨S4x4096x512, .f32⟩
  | .hbm, ⟨61, _⟩ => ⟨S4x4096x512, .f32⟩
  | .hbm, ⟨62, _⟩ => ⟨S4x4096x512, .bf16⟩
  | _, _ => ⟨S4x4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v28 : Ref sig .tc := ⟨.hbm, 47, rfl⟩
abbrev main_c_4 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Proof.Keeps.lean ====
/- Programs that keep an assertion: whatever they compute, they need no more of memory than the assertion grants, and hand
   it back. The frame of a call whose stored values nothing is claimed of is proved through this one property. -/
module

public import Idealize.ShloMosaic.Lib.Pipeline.FrameBody
public import Idealize.ShloMosaic.Lib.Tactic
public import Idealize.ShloMosaic.Lib.Scf

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Λ : Labels}

local notation "𝕄" => MT nD τ sig Unit Val ℕ (UR sig nD τ) ℕ

variable (defs : Defs nD τ sig Val Λ) (𝒱 : Variants) (c : Thread nD τ)

/-- `B` grants a memref: some contents of a set that takes in its elements are owned in full, and may be replaced. -/
class Has (B : sProp 𝕄) {cs : CoreSpace} {s : Shape} {e : EltTy} (m : Memref sig c.2.kind cs s e) : Prop where
  out : ∃ S : Finset (Idx (m.view.loc c)), m.view.set ⊆ S ∧ (B ⊢ iprop(∃ f : Buf Val (m.view.loc c), (m.view.loc c ↦[S]{fullShare} f : sProp 𝕄)
    ∗ ((∃ f : Buf Val (m.view.loc c), (m.view.loc c ↦[S]{fullShare} f : sProp 𝕄)) -∗ B)))

/-- A program that keeps `B`: started with it, the program runs to its end and has it again, whatever it returns. -/
class Keeps (B : sProp 𝕄) {α : Type} (p : Prog (TpuEff nD τ sig Val Λ c.2) α) : Prop where
  out : B ⊢ wp (M := 𝕄) frame (wpE defs 𝒱 c none) Set.univ p (fun _ => B)

variable {defs 𝒱 c}
variable {α β : Type}

/-- A slice of a granted memref is granted. -/
instance has_slice {d : Dev nD} {B : sProp 𝕄} {cs : CoreSpace} {s : Shape} {e : EltTy} (m : Memref sig .tc cs s e) [h : Has (d : Thread nD τ) B m]
    (r : Rect s) (hr : ∀ a, r.stride a = 1) : Has (d : Thread nD τ) B (m.slice r hr) :=
  ⟨by
    obtain ⟨S, hS, hB⟩ := h.out
    exact ⟨S, (m.view.set_slice_subset r).trans hS, hB⟩⟩

/-- A granted memref with its unit axes dropped is granted. -/
instance has_squeeze {d : Dev nD} {B : sProp 𝕄} {cs : CoreSpace} {s : Shape} {e : EltTy} (m : Memref sig .tc cs s e) [h : Has (d : Thread nD τ) B m]
    (s' : Shape) (hs : s.Squeezes s') : Has (d : Thread nD τ) B (m.squeeze s' hs) :=
  ⟨by
    obtain ⟨S, hS, hB⟩ := h.out
    exact ⟨S, (View.set_reshape _ _).subset.trans hS, hB⟩⟩

/-- A finished program keeps the ownership. -/
theorem keeps_pure {B : sProp 𝕄} (v : α) : Keeps defs 𝒱 c B (pure v : Prog (TpuEff nD τ sig Val Λ c.2) α) :=
  ⟨by show B ⊢ wp (M := 𝕄) frame _ _ (Prog.ret v) _; rw [wp_ret]; iintro H; imodintro; iexact H⟩

/-- A program keeps the ownership if its first step does and the rest does after it. -/
theorem keeps_bind {B : sProp 𝕄} {p : Prog (TpuEff nD τ sig Val Λ c.2) α} {k : α → Prog (TpuEff nD τ sig Val Λ c.2) β}
    (hp : Keeps defs 𝒱 c B p) (hk : ∀ v, Keeps defs 𝒱 c B (k v)) : Keeps defs 𝒱 c B (p >>= k) :=
  ⟨by
    rw [wp_bind]
    iintro H
    iapply (wp_wand_r (M := 𝕄) frame (wpE defs 𝒱 c none) Set.univ)
    isplitl [H]
    · iapply hp.out; iexact H
    · iintro %v H
      iapply (hk v).out; iexact H⟩

/-- A load keeps the ownership that includes what it reads. -/
theorem keeps_load {B : sProp 𝕄} {cs : CoreSpace} {s : Shape} {e : EltTy} (m : Memref sig c.2.kind cs s e) [h : Has c B m]
    (r : LoadRect s) (hl : m.view.LoadsAt r) :
    Keeps defs 𝒱 c B (Prog.lift (.load m r hl) : Prog (TpuEff nD τ sig Val Λ c.2) (r.shape.Idx → Val e)) :=
  ⟨by
    obtain ⟨S, hS, hB⟩ := h.out
    refine hB.trans ?_
    iintro ⟨%f, Hf, Hb⟩
    iapply (wp_load (Name := ℕ) (U := UR sig nD τ) (Lvl := ℕ) (defs := defs) 𝒱 c none Set.univ (k := fun v => .ret v) (hl := hl) (f := f) ((m.view.setOn_subset_set r.set).trans hS)) $$ Hf
    iintro Hf
    rw [wp_ret]; imodintro
    iapply Hb; iexists f; iexact Hf⟩

/-- A load through a slice of a granted memref, its unit axes dropped. -/
theorem keeps_load_sub {d : Dev nD} {B : sProp 𝕄} {cs : CoreSpace} {s : Shape} {e : EltTy} (m : Memref sig .tc cs s e) [h : Has (d : Thread nD τ) B m]
    (r₀ : Rect s) (hr : ∀ a, r₀.stride a = 1) (s' : Shape) (hs : r₀.shape.Squeezes s')
    (r : LoadRect s') (hl : ((m.slice r₀ hr).squeeze s' hs).view.LoadsAt r) :
    Keeps defs 𝒱 (d : Thread nD τ) B (Prog.lift (.load ((m.slice r₀ hr).squeeze s' hs) r hl) : Prog (TpuEff nD τ sig Val Λ .tc) (r.shape.Idx → Val e)) :=
  keeps_load (h := has_squeeze (h := has_slice (h := h) m r₀ hr) _ s' hs) _ r hl

/-- A store keeps the ownership that includes what it writes, whole. -/
theorem keeps_store {B : sProp 𝕄} {cs : CoreSpace} {s : Shape} {e : EltTy} (m : Memref sig c.2.kind cs s e) [h : Has c B m]
    (r : Rect s) (w : r.shape.Idx → Val e) (Mk : Finset r.shape.Idx) (hx : (m.access r).Stores Mk)
    (hm : Mk = Finset.univ ∨ ∀ a, r.stride a = 1) :
    Keeps defs 𝒱 c B (Prog.lift (.store m r w Mk hx hm) : Prog (TpuEff nD τ sig Val Λ c.2) PUnit) :=
  ⟨by
    obtain ⟨S, hS, hB⟩ := h.out
    refine hB.trans ?_
    iintro ⟨%f, Hf, Hb⟩
    iapply (wp_store (Name := ℕ) (U := UR sig nD τ) (Lvl := ℕ) (defs := defs) 𝒱 c none Set.univ (k := fun v => .ret v) (hx := hx) (hm := hm) (f := f) (S := S)
      (((m.access r).setOn_subset_set Mk).trans ((m.view.set_slice_subset r).trans hS))) $$ Hf
    iintro Hf
    rw [wp_ret]; imodintro
    iapply Hb; iexists _; iexact Hf⟩

/-- A store through a slice of a granted memref, its unit axes dropped. -/
theorem keeps_store_sub {d : Dev nD} {B : sProp 𝕄} {cs : CoreSpace} {s : Shape} {e : EltTy} (m : Memref sig .tc cs s e) [h : Has (d : Thread nD τ) B m]
    (r₀ : Rect s) (hr : ∀ a, r₀.stride a = 1) (s' : Shape) (hs : r₀.shape.Squeezes s')
    (r : Rect s') (w : r.shape.Idx → Val e) (Mk : Finset r.shape.Idx) (hx : (((m.slice r₀ hr).squeeze s' hs).access r).Stores Mk)
    (hm : Mk = Finset.univ ∨ ∀ a, r.stride a = 1) :
    Keeps defs 𝒱 (d : Thread nD τ) B (Prog.lift (.store ((m.slice r₀ hr).squeeze s' hs) r w Mk hx hm) : Prog (TpuEff nD τ sig Val Λ .tc) PUnit) :=
  keeps_store (h := has_squeeze (h := has_slice (h := h) m r₀ hr) _ s' hs) _ r w Mk hx hm

/-- A loop keeps the ownership if every turn does. -/
theorem keeps_for {B : sProp 𝕄} {σ : Type} (l : Scf.Loop 32) (hok : l.OK) (init : σ) (body : Fin l.trips → σ → Prog (TpuEff nD τ sig Val Λ c.2) σ)
    (hb : ∀ k acc, Keeps defs 𝒱 c B (body k acc)) : Keeps defs 𝒱 c B (Scf.Loop.for l hok init body) :=
  ⟨by
    iintro H
    iapply (Scf.wp_for (M := 𝕄) frame (wpE defs 𝒱 c none) Set.univ l.lb l.ub l.st hok init body (fun _ _ => B) (fun k acc => (hb k acc).out))
    isplitl [H]; · iexact H
    iintro %acc H; iexact H⟩

/-- An assumption that holds keeps the ownership. -/
theorem keeps_assume {B : sProp 𝕄} {P : Prop} {d : Decidable P} (h : P) :
    Keeps defs 𝒱 c B (Prog.lift (.assume P d) : Prog (TpuEff nD τ sig Val Λ c.2) (PLift P)) :=
  ⟨by
    show B ⊢ wp (M := 𝕄) frame _ _ (Prog.op _ fun v => .ret v) _
    refine BIBase.Entails.trans ?_ (wp_assume (Name := ℕ) (U := UR sig nD τ) (Lvl := ℕ) (defs := defs) 𝒱 c none Set.univ h)
    rw [wp_ret]; iintro H; imodintro; iexact H⟩

/-- What holds of all components holds of every dependent pair. -/
theorem forall_psigma {a : Sort*} {b : a → Sort*} {P : PSigma b → Prop} (h : ∀ x y, P ⟨x, y⟩) : ∀ x, P x := fun ⟨x, y⟩ => h x y
/-- What holds of all components holds of every pair. -/
theorem forall_prod {a b : Type} {P : a × b → Prop} (h : ∀ x y, P (x, y)) : ∀ x, P x := fun ⟨x, y⟩ => h x y

end Cert.Proof

end
-- ==== Proof.FrameBase.lean ====
/- The pieces of the attention call each keep the staged blocks and the scratch buffers they work on (part 0). -/
module

public import proofs.«01_k».proof.Proof.Gen.Kernel.Skeleton
public import proofs.«01_k».proof.Proof.Keeps

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Adding back what was subtracted. -/
theorem add_sub_word (a b : BitVec 32) : b + (a - b) = a := by bv_omega

/-- The first bound of a loop that runs from `b` to 32 in steps of one. -/
theorem bound_div (b : BitVec 32) :
    Scalar.addi b (Scalar.muli (Scalar.divsi (Scalar.subi 32#32 b) 1#32) 1#32) = 32#32 := by
  have hc : ¬ IntOp.SDivCorner (32#32 - b) 1#32 := fun h => by
    rcases h with h | h
    · exact absurd h (by decide)
    · exact absurd h.2 (by decide)
  have hd : Scalar.divsi (Scalar.subi 32#32 b) 1#32 = 32#32 - b := by
    unfold Scalar.divsi Scalar.subi IntOp.divsi IntOp.subi
    rw [if_neg hc, BitVec.sdiv_one]
  have hm : Scalar.muli (32#32 - b) 1#32 = 32#32 - b := BitVec.mul_one _
  rw [hd, hm]
  exact add_sub_word (32#32) b

/-- The second bound of such a loop. -/
theorem bound_sub (b : BitVec 32) : Scalar.addi b (Scalar.subi 32#32 b) = 32#32 :=
  add_sub_word (32#32) b

/-- A loop from any word to 32 in steps of one has a meaning. -/
theorem loop_ok (b : BitVec 32) : Scf.Loop.OK ⟨b, 32#32, 1#32⟩ := by
  refine ⟨(by decide : 0 < (1#32 : BitVec 32).toInt), ?_⟩
  have h := b.toInt_lt
  have h1 : (1#32 : BitVec 32).toInt = 1 := by decide
  have h2 : (32#32 : BitVec 32).toInt = 32 := by decide
  have h3 := b.le_toInt
  simp only [Scf.trips, h1, h2]
  omega

/-- The bit search's loops have a meaning whatever words their bounds are computed from. -/
theorem chk1_all (v w x y : BitVec 32) : k0_chk1 v w x y := by
  refine ⟨?_, ?_⟩
  · unfold k0_t17_loop
    dsimp only
    rw [bound_div]
    exact loop_ok _
  · unfold k0_t26_loop
    dsimp only
    rw [bound_div, bound_sub]
    exact loop_ok _

/-- What every piece of the call takes: the grid point and the buffers it works on. -/
structure Args where
  i : grid0.Coords
  arg2 : Memref sig .tc .vmem S1x512x512 .f32
  harg2 : arg2.IsWhole
  arg3 : Memref sig .tc .vmem S1x512x256 .f32
  harg3 : arg3.IsWhole
  arg4 : Memref sig .tc .vmem S1x512x128 .f32
  harg4 : arg4.IsWhole
  arg5 : Memref sig .tc .vmem S1x4096x256 .f32
  harg5 : arg5.IsWhole
  arg6 : Memref sig .tc .vmem S1x4096x128 .f32
  harg6 : arg6.IsWhole
  arg7 : Memref sig .tc .vmem S1x4096x128 .f32
  harg7 : arg7.IsWhole
  arg8 : Memref sig .tc .vmem S2x512x256 .f32
  harg8 : arg8.IsWhole
  arg9 : Memref sig .tc .vmem S1x512x512 .bf16
  harg9 : arg9.IsWhole
  arg10 : Memref sig .tc .vmem S4x32x128x128 .i32
  harg10 : arg10.IsWhole
  arg11 : Memref sig .tc .vmem S2x512x128 .bf16
  harg11 : arg11.IsWhole
  arg12 : Memref sig .tc .vmem S2x512x128 .f32
  harg12 : arg12.IsWhole
  arg13 : Memref sig .tc .vmem S2x512x128 .f32
  harg13 : arg13.IsWhole
  arg14 : Memref sig .tc .vmem S2x512x128 .f32
  harg14 : arg14.IsWhole
  arg15 : Memref sig .tc .vmem S2x512x128 .f32
  harg15 : arg15.IsWhole
  arg16 : Memref sig .tc .vmem S512x512 .bf16
  harg16 : arg16.IsWhole
  arg17 : Memref sig .tc .vmem S8x2x512x512 .f32
  harg17 : arg17.IsWhole
  arg18 : Memref sig .tc .vmem S2x512x256 .f32
  harg18 : arg18.IsWhole

/-- A piece at these arguments. -/
abbrev Args.at {T : grid0.Coords → Type 1} (a : Args)
    (f : ∀ (i : grid0.Coords) (arg2 : Memref sig .tc .vmem S1x512x512 .f32) (harg2 : arg2.IsWhole) (arg3 : Memref sig .tc .vmem S1x512x256 .f32) (harg3 : arg3.IsWhole) (arg4 : Memref sig .tc .vmem S1x512x128 .f32) (harg4 : arg4.IsWhole) (arg5 : Memref sig .tc .vmem S1x4096x256 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S2x512x256 .f32) (harg8 : arg8.IsWhole) (arg9 : Memref sig .tc .vmem S1x512x512 .bf16) (harg9 : arg9.IsWhole) (arg10 : Memref sig .tc .vmem S4x32x128x128 .i32) (harg10 : arg10.IsWhole) (arg11 : Memref sig .tc .vmem S2x512x128 .bf16) (harg11 : arg11.IsWhole) (arg12 : Memref sig .tc .vmem S2x512x128 .f32) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x128 .f32) (harg15 : arg15.IsWhole) (arg16 : Memref sig .tc .vmem S512x512 .bf16) (harg16 : arg16.IsWhole) (arg17 : Memref sig .tc .vmem S8x2x512x512 .f32) (harg17 : arg17.IsWhole) (arg18 : Memref sig .tc .vmem S2x512x256 .f32) (harg18 : arg18.IsWhole), T i) : T a.i :=
  f a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18

variable {F : FTy → Type} [BitOps F] (d : Dev nD) (B : sProp (MT nD τ sig Unit (Elt F) ℕ (UR sig nD τ) ℕ))

/-- A piece keeps `B`. -/
abbrev Kept {α : Type} (p : Prog (TpuEff nD τ sig (Elt F) Λ₀ .tc) α) : Prop :=
  Keeps (defs₀ (F := F)) Variants.none (d : Thread nD τ) B p

variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

end Cert.Proof.Kernel

end
-- ==== Proof.FramePieces1.lean ====
/- The pieces of the attention call each keep the staged blocks and the scratch buffers they work on (part 1). -/
module

public import proofs.«01_k».proof.Proof.FrameBase

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_part443 : Kept d B (a.at (k0_part443 (F := F))) := by
  rw [k0_part443_eq_skeleton]; unfold k0_part443_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part444 : ∀ x0 x1 x2 x3 x4 x5 x6, Kept d B (a.at (k0_part444 (F := F)) x0 x1 x2 x3 x4 x5 x6) := by
  intros; rw [k0_part444_eq_skeleton]; unfold k0_part444_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part1 : ∀ x0 x1 x2 x3 x4 x5 x6 x7 x8 x9, Kept d B (a.at (k0_part1 (F := F)) x0 x1 x2 x3 x4 x5 x6 x7 x8 x9) := by
  intros; rw [k0_part1_eq_skeleton]; unfold k0_part1_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part2 : ∀ x0 x1 x2 x3, Kept d B (a.at (k0_part2 (F := F)) x0 x1 x2 x3) := by
  intros; rw [k0_part2_eq_skeleton]; unfold k0_part2_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part3 : ∀ x0 x1 x2 x3 x4 x5 x6 x7 x8 x9 x10 x11, Kept d B (a.at (k0_part3 (F := F)) x0 x1 x2 x3 x4 x5 x6 x7 x8 x9 x10 x11) := by
  intros; rw [k0_part3_eq_skeleton]; unfold k0_part3_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part4 : ∀ x0 x1 x2 x3 x4 x5 x6 x7 x8 x9, Kept d B (a.at (k0_part4 (F := F)) x0 x1 x2 x3 x4 x5 x6 x7 x8 x9) := by
  intros; rw [k0_part4_eq_skeleton]; unfold k0_part4_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part5 : ∀ x0 x1 x2 x3 x4 x5 x6 x7 x8 x9, Kept d B (a.at (k0_part5 (F := F)) x0 x1 x2 x3 x4 x5 x6 x7 x8 x9) := by
  intros; rw [k0_part5_eq_skeleton]; unfold k0_part5_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part6 : ∀ x0 x1 x2 x3, Kept d B (a.at (k0_part6 (F := F)) x0 x1 x2 x3) := by
  intros; rw [k0_part6_eq_skeleton]; unfold k0_part6_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part7 : ∀ x0 x1 x2 x3 x4 x5 x6 x7 x8 x9 x10 x11, Kept d B (a.at (k0_part7 (F := F)) x0 x1 x2 x3 x4 x5 x6 x7 x8 x9 x10 x11) := by
  intros; rw [k0_part7_eq_skeleton]; unfold k0_part7_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part8 : ∀ x0 x1 x2 x3 x4 x5 x6 x7 x8 x9, Kept d B (a.at (k0_part8 (F := F)) x0 x1 x2 x3 x4 x5 x6 x7 x8 x9) := by
  intros; rw [k0_part8_eq_skeleton]; unfold k0_part8_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part9 : ∀ x0 x1 x2 x3 x4 x5 x6 x7 x8 x9 x10, Kept d B (a.at (k0_part9 (F := F)) x0 x1 x2 x3 x4 x5 x6 x7 x8 x9 x10) := by
  intros; rw [k0_part9_eq_skeleton]; unfold k0_part9_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part10 : ∀ x0 x1 x2, Kept d B (a.at (k0_part10 (F := F)) x0 x1 x2) := by
  intros; rw [k0_part10_eq_skeleton]; unfold k0_part10_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part11 : ∀ x0 x1 x2 x3 x4 x5 x6 x7 x8 x9 x10, Kept d B (a.at (k0_part11 (F := F)) x0 x1 x2 x3 x4 x5 x6 x7 x8 x9 x10) := by
  intros; rw [k0_part11_eq_skeleton]; unfold k0_part11_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part12 : ∀ x0 x1 x2, Kept d B (a.at (k0_part12 (F := F)) x0 x1 x2) := by
  intros; rw [k0_part12_eq_skeleton]; unfold k0_part12_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part446 : ∀ x0 x1 x2 x3 x4, Kept d B (a.at (k0_part446 (F := F)) x0 x1 x2 x3 x4) := by
  intros; rw [k0_part446_eq_skeleton]; unfold k0_part446_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part447 : ∀ x0 x1 x2 x3 x4 x5 x6 x7, Kept d B (a.at (k0_part447 (F := F)) x0 x1 x2 x3 x4 x5 x6 x7) := by
  intros; rw [k0_part447_eq_skeleton]; unfold k0_part447_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part13 : ∀ x0 x1 x2 x3 x4 x5 x6 x7 x8 x9, Kept d B (a.at (k0_part13 (F := F)) x0 x1 x2 x3 x4 x5 x6 x7 x8 x9) := by
  intros; rw [k0_part13_eq_skeleton]; unfold k0_part13_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part14 : ∀ x0 x1 x2 x3, Kept d B (a.at (k0_part14 (F := F)) x0 x1 x2 x3) := by
  intros; rw [k0_part14_eq_skeleton]; unfold k0_part14_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part15 : ∀ x0 x1 x2 x3 x4 x5 x6 x7 x8 x9 x10 x11, Kept d B (a.at (k0_part15 (F := F)) x0 x1 x2 x3 x4 x5 x6 x7 x8 x9 x10 x11) := by
  intros; rw [k0_part15_eq_skeleton]; unfold k0_part15_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part16 : ∀ x0 x1 x2 x3 x4 x5 x6 x7 x8 x9, Kept d B (a.at (k0_part16 (F := F)) x0 x1 x2 x3 x4 x5 x6 x7 x8 x9) := by
  intros; rw [k0_part16_eq_skeleton]; unfold k0_part16_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part17 : ∀ x0 x1 x2 x3 x4 x5 x6 x7 x8 x9, Kept d B (a.at (k0_part17 (F := F)) x0 x1 x2 x3 x4 x5 x6 x7 x8 x9) := by
  intros; rw [k0_part17_eq_skeleton]; unfold k0_part17_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part18 : ∀ x0 x1 x2 x3, Kept d B (a.at (k0_part18 (F := F)) x0 x1 x2 x3) := by
  intros; rw [k0_part18_eq_skeleton]; unfold k0_part18_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part19 : ∀ x0 x1 x2 x3 x4 x5 x6 x7 x8 x9 x10 x11, Kept d B (a.at (k0_part19 (F := F)) x0 x1 x2 x3 x4 x5 x6 x7 x8 x9 x10 x11) := by
  intros; rw [k0_part19_eq_skeleton]; unfold k0_part19_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part20 : ∀ x0 x1 x2 x3 x4 x5 x6 x7 x8 x9, Kept d B (a.at (k0_part20 (F := F)) x0 x1 x2 x3 x4 x5 x6 x7 x8 x9) := by
  intros; rw [k0_part20_eq_skeleton]; unfold k0_part20_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part21 : ∀ x0 x1 x2 x3 x4 x5 x6 x7 x8 x9 x10, Kept d B (a.at (k0_part21 (F := F)) x0 x1 x2 x3 x4 x5 x6 x7 x8 x9 x10) := by
  intros; rw [k0_part21_eq_skeleton]; unfold k0_part21_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part22 : ∀ x0 x1 x2, Kept d B (a.at (k0_part22 (F := F)) x0 x1 x2) := by
  intros; rw [k0_part22_eq_skeleton]; unfold k0_part22_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part23 : ∀ x0 x1 x2 x3 x4 x5 x6 x7 x8 x9 x10, Kept d B (a.at (k0_part23 (F := F)) x0 x1 x2 x3 x4 x5 x6 x7 x8 x9 x10) := by
  intros; rw [k0_part23_eq_skeleton]; unfold k0_part23_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part24 : ∀ x0 x1 x2, Kept d B (a.at (k0_part24 (F := F)) x0 x1 x2) := by
  intros; rw [k0_part24_eq_skeleton]; unfold k0_part24_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part449 : ∀ x0 x1 x2 x3, Kept d B (a.at (k0_part449 (F := F)) x0 x1 x2 x3) := by
  intros; rw [k0_part449_eq_skeleton]; unfold k0_part449_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part450 : ∀ x0 x1 x2 x3 x4 x5, Kept d B (a.at (k0_part450 (F := F)) x0 x1 x2 x3 x4 x5) := by
  intros; rw [k0_part450_eq_skeleton]; unfold k0_part450_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part25 : ∀ x0 x1 x2 x3 x4 x5 x6 x7 x8 x9, Kept d B (a.at (k0_part25 (F := F)) x0 x1 x2 x3 x4 x5 x6 x7 x8 x9) := by
  intros; rw [k0_part25_eq_skeleton]; unfold k0_part25_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part26 : ∀ x0 x1 x2 x3, Kept d B (a.at (k0_part26 (F := F)) x0 x1 x2 x3) := by
  intros; rw [k0_part26_eq_skeleton]; unfold k0_part26_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part27 : ∀ x0 x1 x2 x3 x4 x5 x6 x7 x8 x9 x10 x11, Kept d B (a.at (k0_part27 (F := F)) x0 x1 x2 x3 x4 x5 x6 x7 x8 x9 x10 x11) := by
  intros; rw [k0_part27_eq_skeleton]; unfold k0_part27_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part28 : ∀ x0 x1 x2 x3 x4 x5 x6 x7 x8 x9, Kept d B (a.at (k0_part28 (F := F)) x0 x1 x2 x3 x4 x5 x6 x7 x8 x9) := by
  intros; rw [k0_part28_eq_skeleton]; unfold k0_part28_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part29 : ∀ x0 x1 x2 x3 x4 x5 x6 x7 x8 x9, Kept d B (a.at (k0_part29 (F := F)) x0 x1 x2 x3 x4 x5 x6 x7 x8 x9) := by
  intros; rw [k0_part29_eq_skeleton]; unfold k0_part29_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part30 : ∀ x0 x1 x2 x3, Kept d B (a.at (k0_part30 (F := F)) x0 x1 x2 x3) := by
  intros; rw [k0_part30_eq_skeleton]; unfold k0_part30_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part31 : ∀ x0 x1 x2 x3 x4 x5 x6 x7 x8 x9 x10 x11, Kept d B (a.at (k0_part31 (F := F)) x0 x1 x2 x3 x4 x5 x6 x7 x8 x9 x10 x11) := by
  intros; rw [k0_part31_eq_skeleton]; unfold k0_part31_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part32 : ∀ x0 x1 x2 x3 x4 x5 x6 x7 x8 x9, Kept d B (a.at (k0_part32 (F := F)) x0 x1 x2 x3 x4 x5 x6 x7 x8 x9) := by
  intros; rw [k0_part32_eq_skeleton]; unfold k0_part32_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part33 : ∀ x0 x1 x2 x3 x4 x5 x6 x7 x8 x9 x10, Kept d B (a.at (k0_part33 (F := F)) x0 x1 x2 x3 x4 x5 x6 x7 x8 x9 x10) := by
  intros; rw [k0_part33_eq_skeleton]; unfold k0_part33_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part34 : ∀ x0 x1 x2, Kept d B (a.at (k0_part34 (F := F)) x0 x1 x2) := by
  intros; rw [k0_part34_eq_skeleton]; unfold k0_part34_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part35 : ∀ x0 x1 x2 x3 x4 x5 x6 x7 x8 x9 x10, Kept d B (a.at (k0_part35 (F := F)) x0 x1 x2 x3 x4 x5 x6 x7 x8 x9 x10) := by
  intros; rw [k0_part35_eq_skeleton]; unfold k0_part35_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part36 : ∀ x0 x1 x2, Kept d B (a.at (k0_part36 (F := F)) x0 x1 x2) := by
  intros; rw [k0_part36_eq_skeleton]; unfold k0_part36_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part452 : ∀ x0 x1 x2 x3 x4 x5, Kept d B (a.at (k0_part452 (F := F)) x0 x1 x2 x3 x4 x5) := by
  intros; rw [k0_part452_eq_skeleton]; unfold k0_part452_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part453 : ∀ x0 x1 x2 x3 x4, Kept d B (a.at (k0_part453 (F := F)) x0 x1 x2 x3 x4) := by
  intros; rw [k0_part453_eq_skeleton]; unfold k0_part453_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part37 : ∀ x0 x1 x2 x3 x4 x5 x6 x7 x8 x9, Kept d B (a.at (k0_part37 (F := F)) x0 x1 x2 x3 x4 x5 x6 x7 x8 x9) := by
  intros; rw [k0_part37_eq_skeleton]; unfold k0_part37_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part38 : ∀ x0 x1 x2 x3, Kept d B (a.at (k0_part38 (F := F)) x0 x1 x2 x3) := by
  intros; rw [k0_part38_eq_skeleton]; unfold k0_part38_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part39 : ∀ x0 x1 x2 x3 x4 x5 x6 x7 x8 x9 x10 x11, Kept d B (a.at (k0_part39 (F := F)) x0 x1 x2 x3 x4 x5 x6 x7 x8 x9 x10 x11) := by
  intros; rw [k0_part39_eq_skeleton]; unfold k0_part39_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part40 : ∀ x0 x1 x2 x3 x4 x5 x6 x7 x8 x9, Kept d B (a.at (k0_part40 (F := F)) x0 x1 x2 x3 x4 x5 x6 x7 x8 x9) := by
  intros; rw [k0_part40_eq_skeleton]; unfold k0_part40_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part41 : ∀ x0 x1 x2 x3 x4 x5 x6 x7 x8 x9, Kept d B (a.at (k0_part41 (F := F)) x0 x1 x2 x3 x4 x5 x6 x7 x8 x9) := by
  intros; rw [k0_part41_eq_skeleton]; unfold k0_part41_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part42 : ∀ x0 x1 x2 x3, Kept d B (a.at (k0_part42 (F := F)) x0 x1 x2 x3) := by
  intros; rw [k0_part42_eq_skeleton]; unfold k0_part42_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part43 : ∀ x0 x1 x2 x3 x4 x5 x6 x7 x8 x9 x10 x11, Kept d B (a.at (k0_part43 (F := F)) x0 x1 x2 x3 x4 x5 x6 x7 x8 x9 x10 x11) := by
  intros; rw [k0_part43_eq_skeleton]; unfold k0_part43_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part44 : ∀ x0 x1 x2 x3 x4 x5 x6 x7 x8 x9, Kept d B (a.at (k0_part44 (F := F)) x0 x1 x2 x3 x4 x5 x6 x7 x8 x9) := by
  intros; rw [k0_part44_eq_skeleton]; unfold k0_part44_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part45 : ∀ x0 x1 x2 x3 x4 x5 x6 x7 x8 x9 x10, Kept d B (a.at (k0_part45 (F := F)) x0 x1 x2 x3 x4 x5 x6 x7 x8 x9 x10) := by
  intros; rw [k0_part45_eq_skeleton]; unfold k0_part45_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part46 : ∀ x0 x1 x2, Kept d B (a.at (k0_part46 (F := F)) x0 x1 x2) := by
  intros; rw [k0_part46_eq_skeleton]; unfold k0_part46_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part47 : ∀ x0 x1 x2 x3 x4 x5 x6 x7 x8 x9 x10, Kept d B (a.at (k0_part47 (F := F)) x0 x1 x2 x3 x4 x5 x6 x7 x8 x9 x10) := by
  intros; rw [k0_part47_eq_skeleton]; unfold k0_part47_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part48 : ∀ x0 x1 x2, Kept d B (a.at (k0_part48 (F := F)) x0 x1 x2) := by
  intros; rw [k0_part48_eq_skeleton]; unfold k0_part48_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part455 : ∀ x0 x1 x2 x3 x4 x5 x6 x7, Kept d B (a.at (k0_part455 (F := F)) x0 x1 x2 x3 x4 x5 x6 x7) := by
  intros; rw [k0_part455_eq_skeleton]; unfold k0_part455_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part49 : ∀ x0 x1 x2 x3 x4, Kept d B (a.at (k0_part49 (F := F)) x0 x1 x2 x3 x4) := by
  intros; rw [k0_part49_eq_skeleton]; unfold k0_part49_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part50 : ∀ x0 x1 x2 x3 x4, Kept d B (a.at (k0_part50 (F := F)) x0 x1 x2 x3 x4) := by
  intros; rw [k0_part50_eq_skeleton]; unfold k0_part50_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part51 : ∀ x0 x1 x2 x3 x4, Kept d B (a.at (k0_part51 (F := F)) x0 x1 x2 x3 x4) := by
  intros; rw [k0_part51_eq_skeleton]; unfold k0_part51_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part52 : ∀ x0 x1 x2 x3 x4, Kept d B (a.at (k0_part52 (F := F)) x0 x1 x2 x3 x4) := by
  intros; rw [k0_part52_eq_skeleton]; unfold k0_part52_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part53 : ∀ x0 x1 x2 x3 x4, Kept d B (a.at (k0_part53 (F := F)) x0 x1 x2 x3 x4) := by
  intros; rw [k0_part53_eq_skeleton]; unfold k0_part53_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part54 : ∀ x0 x1 x2 x3 x4, Kept d B (a.at (k0_part54 (F := F)) x0 x1 x2 x3 x4) := by
  intros; rw [k0_part54_eq_skeleton]; unfold k0_part54_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part55 : ∀ x0 x1 x2 x3 x4, Kept d B (a.at (k0_part55 (F := F)) x0 x1 x2 x3 x4) := by
  intros; rw [k0_part55_eq_skeleton]; unfold k0_part55_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part56 : ∀ x0 x1 x2 x3 x4, Kept d B (a.at (k0_part56 (F := F)) x0 x1 x2 x3 x4) := by
  intros; rw [k0_part56_eq_skeleton]; unfold k0_part56_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part58 : ∀ x0 x1 x2 x3 x4, Kept d B (a.at (k0_part58 (F := F)) x0 x1 x2 x3 x4) := by
  intros; rw [k0_part58_eq_skeleton]; unfold k0_part58_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part59 : ∀ x0 x1 x2 x3 x4, Kept d B (a.at (k0_part59 (F := F)) x0 x1 x2 x3 x4) := by
  intros; rw [k0_part59_eq_skeleton]; unfold k0_part59_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part60 : ∀ x0 x1 x2 x3 x4, Kept d B (a.at (k0_part60 (F := F)) x0 x1 x2 x3 x4) := by
  intros; rw [k0_part60_eq_skeleton]; unfold k0_part60_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part61 : ∀ x0 x1 x2 x3 x4, Kept d B (a.at (k0_part61 (F := F)) x0 x1 x2 x3 x4) := by
  intros; rw [k0_part61_eq_skeleton]; unfold k0_part61_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part62 : ∀ x0 x1 x2 x3 x4, Kept d B (a.at (k0_part62 (F := F)) x0 x1 x2 x3 x4) := by
  intros; rw [k0_part62_eq_skeleton]; unfold k0_part62_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part63 : ∀ x0 x1 x2 x3 x4, Kept d B (a.at (k0_part63 (F := F)) x0 x1 x2 x3 x4) := by
  intros; rw [k0_part63_eq_skeleton]; unfold k0_part63_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part64 : ∀ x0 x1 x2 x3 x4, Kept d B (a.at (k0_part64 (F := F)) x0 x1 x2 x3 x4) := by
  intros; rw [k0_part64_eq_skeleton]; unfold k0_part64_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part65 : ∀ x0 x1 x2 x3 x4, Kept d B (a.at (k0_part65 (F := F)) x0 x1 x2 x3 x4) := by
  intros; rw [k0_part65_eq_skeleton]; unfold k0_part65_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part67 : ∀ x0 x1 x2 x3 x4, Kept d B (a.at (k0_part67 (F := F)) x0 x1 x2 x3 x4) := by
  intros; rw [k0_part67_eq_skeleton]; unfold k0_part67_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part68 : ∀ x0 x1 x2 x3 x4, Kept d B (a.at (k0_part68 (F := F)) x0 x1 x2 x3 x4) := by
  intros; rw [k0_part68_eq_skeleton]; unfold k0_part68_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part69 : ∀ x0 x1 x2 x3 x4, Kept d B (a.at (k0_part69 (F := F)) x0 x1 x2 x3 x4) := by
  intros; rw [k0_part69_eq_skeleton]; unfold k0_part69_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part70 : ∀ x0 x1 x2 x3 x4, Kept d B (a.at (k0_part70 (F := F)) x0 x1 x2 x3 x4) := by
  intros; rw [k0_part70_eq_skeleton]; unfold k0_part70_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part71 : ∀ x0 x1 x2 x3 x4, Kept d B (a.at (k0_part71 (F := F)) x0 x1 x2 x3 x4) := by
  intros; rw [k0_part71_eq_skeleton]; unfold k0_part71_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part72 : ∀ x0 x1 x2 x3 x4, Kept d B (a.at (k0_part72 (F := F)) x0 x1 x2 x3 x4) := by
  intros; rw [k0_part72_eq_skeleton]; unfold k0_part72_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part73 : ∀ x0 x1 x2 x3 x4, Kept d B (a.at (k0_part73 (F := F)) x0 x1 x2 x3 x4) := by
  intros; rw [k0_part73_eq_skeleton]; unfold k0_part73_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part74 : ∀ x0 x1 x2 x3 x4, Kept d B (a.at (k0_part74 (F := F)) x0 x1 x2 x3 x4) := by
  intros; rw [k0_part74_eq_skeleton]; unfold k0_part74_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part458 : ∀ x0 x1, Kept d B (a.at (k0_part458 (F := F)) x0 x1) := by
  intros; rw [k0_part458_eq_skeleton]; unfold k0_part458_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part459 : ∀ x0 x1 x2 x3, Kept d B (a.at (k0_part459 (F := F)) x0 x1 x2 x3) := by
  intros; rw [k0_part459_eq_skeleton]; unfold k0_part459_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part460 : ∀ x0 x1 x2 x3 x4, Kept d B (a.at (k0_part460 (F := F)) x0 x1 x2 x3 x4) := by
  intros; rw [k0_part460_eq_skeleton]; unfold k0_part460_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

end Cert.Proof.Kernel

end
-- ==== Proof.FramePieces2.lean ====
/- The pieces of the attention call each keep the staged blocks and the scratch buffers they work on (part 2). -/
module

public import proofs.«01_k».proof.Proof.FrameBase

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_part461 : ∀ x0, Kept d B (a.at (k0_part461 (F := F)) x0) := by
  intros; rw [k0_part461_eq_skeleton]; unfold k0_part461_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part75 : ∀ x0 x1 x2 x3 x4 x5 x6 x7 x8, Kept d B (a.at (k0_part75 (F := F)) x0 x1 x2 x3 x4 x5 x6 x7 x8) := by
  intros; rw [k0_part75_eq_skeleton]; unfold k0_part75_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part76 : ∀ x0 x1 x2 x3 x4 x5 x6 x7 x8 x9 x10, Kept d B (a.at (k0_part76 (F := F)) x0 x1 x2 x3 x4 x5 x6 x7 x8 x9 x10) := by
  intros; rw [k0_part76_eq_skeleton]; unfold k0_part76_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part77 : ∀ x0 x1 x2 x3 x4 x5 x6 x7 x8, Kept d B (a.at (k0_part77 (F := F)) x0 x1 x2 x3 x4 x5 x6 x7 x8) := by
  intros; rw [k0_part77_eq_skeleton]; unfold k0_part77_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part78 : ∀ x0 x1 x2 x3 x4 x5 x6 x7 x8 x9 x10 x11 x12, Kept d B (a.at (k0_part78 (F := F)) x0 x1 x2 x3 x4 x5 x6 x7 x8 x9 x10 x11 x12) := by
  intros; rw [k0_part78_eq_skeleton]; unfold k0_part78_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part79 : ∀ x0 x1 x2 x3, Kept d B (a.at (k0_part79 (F := F)) x0 x1 x2 x3) := by
  intros; rw [k0_part79_eq_skeleton]; unfold k0_part79_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part80 : ∀ x0 x1 x2 x3 x4, Kept d B (a.at (k0_part80 (F := F)) x0 x1 x2 x3 x4) := by
  intros; rw [k0_part80_eq_skeleton]; unfold k0_part80_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part81 : ∀ x0 x1 x2 x3 x4, Kept d B (a.at (k0_part81 (F := F)) x0 x1 x2 x3 x4) := by
  intros; rw [k0_part81_eq_skeleton]; unfold k0_part81_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part82 : ∀ x0 x1 x2 x3, Kept d B (a.at (k0_part82 (F := F)) x0 x1 x2 x3) := by
  intros; rw [k0_part82_eq_skeleton]; unfold k0_part82_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part83 : ∀ x0 x1 x2 x3 x4 x5 x6 x7 x8 x9, Kept d B (a.at (k0_part83 (F := F)) x0 x1 x2 x3 x4 x5 x6 x7 x8 x9) := by
  intros; rw [k0_part83_eq_skeleton]; unfold k0_part83_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part84 : ∀ x0 x1 x2 x3 x4 x5 x6 x7 x8 x9, Kept d B (a.at (k0_part84 (F := F)) x0 x1 x2 x3 x4 x5 x6 x7 x8 x9) := by
  intros; rw [k0_part84_eq_skeleton]; unfold k0_part84_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part85 : ∀ x0 x1 x2 x3 x4 x5 x6 x7 x8 x9 x10, Kept d B (a.at (k0_part85 (F := F)) x0 x1 x2 x3 x4 x5 x6 x7 x8 x9 x10) := by
  intros; rw [k0_part85_eq_skeleton]; unfold k0_part85_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part86 : ∀ x0 x1 x2 x3 x4 x5 x6 x7 x8 x9 x10, Kept d B (a.at (k0_part86 (F := F)) x0 x1 x2 x3 x4 x5 x6 x7 x8 x9 x10) := by
  intros; rw [k0_part86_eq_skeleton]; unfold k0_part86_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part87 : ∀ x0 x1 x2 x3, Kept d B (a.at (k0_part87 (F := F)) x0 x1 x2 x3) := by
  intros; rw [k0_part87_eq_skeleton]; unfold k0_part87_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part88 : ∀ x0 x1 x2 x3 x4, Kept d B (a.at (k0_part88 (F := F)) x0 x1 x2 x3 x4) := by
  intros; rw [k0_part88_eq_skeleton]; unfold k0_part88_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part89 : ∀ x0 x1 x2 x3, Kept d B (a.at (k0_part89 (F := F)) x0 x1 x2 x3) := by
  intros; rw [k0_part89_eq_skeleton]; unfold k0_part89_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part91 : ∀ x0 x1 x2 x3 x4 x5 x6 x7 x8, Kept d B (a.at (k0_part91 (F := F)) x0 x1 x2 x3 x4 x5 x6 x7 x8) := by
  intros; rw [k0_part91_eq_skeleton]; unfold k0_part91_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part92 : ∀ x0 x1 x2 x3 x4 x5 x6 x7 x8 x9 x10, Kept d B (a.at (k0_part92 (F := F)) x0 x1 x2 x3 x4 x5 x6 x7 x8 x9 x10) := by
  intros; rw [k0_part92_eq_skeleton]; unfold k0_part92_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part93 : ∀ x0 x1 x2 x3 x4 x5 x6 x7 x8, Kept d B (a.at (k0_part93 (F := F)) x0 x1 x2 x3 x4 x5 x6 x7 x8) := by
  intros; rw [k0_part93_eq_skeleton]; unfold k0_part93_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part94 : ∀ x0 x1 x2 x3 x4 x5 x6 x7 x8 x9 x10 x11 x12, Kept d B (a.at (k0_part94 (F := F)) x0 x1 x2 x3 x4 x5 x6 x7 x8 x9 x10 x11 x12) := by
  intros; rw [k0_part94_eq_skeleton]; unfold k0_part94_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part95 : ∀ x0 x1 x2 x3, Kept d B (a.at (k0_part95 (F := F)) x0 x1 x2 x3) := by
  intros; rw [k0_part95_eq_skeleton]; unfold k0_part95_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part96 : ∀ x0 x1 x2 x3 x4, Kept d B (a.at (k0_part96 (F := F)) x0 x1 x2 x3 x4) := by
  intros; rw [k0_part96_eq_skeleton]; unfold k0_part96_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part97 : ∀ x0 x1 x2 x3 x4, Kept d B (a.at (k0_part97 (F := F)) x0 x1 x2 x3 x4) := by
  intros; rw [k0_part97_eq_skeleton]; unfold k0_part97_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part98 : ∀ x0 x1 x2 x3, Kept d B (a.at (k0_part98 (F := F)) x0 x1 x2 x3) := by
  intros; rw [k0_part98_eq_skeleton]; unfold k0_part98_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part99 : ∀ x0 x1 x2 x3 x4 x5 x6 x7 x8 x9, Kept d B (a.at (k0_part99 (F := F)) x0 x1 x2 x3 x4 x5 x6 x7 x8 x9) := by
  intros; rw [k0_part99_eq_skeleton]; unfold k0_part99_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part100 : ∀ x0 x1 x2 x3 x4 x5 x6 x7 x8 x9, Kept d B (a.at (k0_part100 (F := F)) x0 x1 x2 x3 x4 x5 x6 x7 x8 x9) := by
  intros; rw [k0_part100_eq_skeleton]; unfold k0_part100_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part101 : ∀ x0 x1 x2 x3 x4 x5 x6 x7 x8 x9 x10, Kept d B (a.at (k0_part101 (F := F)) x0 x1 x2 x3 x4 x5 x6 x7 x8 x9 x10) := by
  intros; rw [k0_part101_eq_skeleton]; unfold k0_part101_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part102 : ∀ x0 x1 x2 x3 x4 x5 x6 x7 x8 x9 x10, Kept d B (a.at (k0_part102 (F := F)) x0 x1 x2 x3 x4 x5 x6 x7 x8 x9 x10) := by
  intros; rw [k0_part102_eq_skeleton]; unfold k0_part102_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part103 : ∀ x0 x1 x2 x3, Kept d B (a.at (k0_part103 (F := F)) x0 x1 x2 x3) := by
  intros; rw [k0_part103_eq_skeleton]; unfold k0_part103_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part104 : ∀ x0 x1 x2 x3 x4, Kept d B (a.at (k0_part104 (F := F)) x0 x1 x2 x3 x4) := by
  intros; rw [k0_part104_eq_skeleton]; unfold k0_part104_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part105 : ∀ x0 x1 x2 x3, Kept d B (a.at (k0_part105 (F := F)) x0 x1 x2 x3) := by
  intros; rw [k0_part105_eq_skeleton]; unfold k0_part105_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part107 : ∀ x0 x1 x2 x3 x4 x5 x6 x7 x8 x9, Kept d B (a.at (k0_part107 (F := F)) x0 x1 x2 x3 x4 x5 x6 x7 x8 x9) := by
  intros; rw [k0_part107_eq_skeleton]; unfold k0_part107_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part108 : ∀ x0 x1 x2 x3 x4 x5 x6 x7 x8 x9, Kept d B (a.at (k0_part108 (F := F)) x0 x1 x2 x3 x4 x5 x6 x7 x8 x9) := by
  intros; rw [k0_part108_eq_skeleton]; unfold k0_part108_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part109 : ∀ x0 x1 x2 x3 x4 x5 x6 x7 x8 x9 x10, Kept d B (a.at (k0_part109 (F := F)) x0 x1 x2 x3 x4 x5 x6 x7 x8 x9 x10) := by
  intros; rw [k0_part109_eq_skeleton]; unfold k0_part109_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part110 : ∀ x0 x1 x2 x3 x4 x5 x6 x7 x8 x9 x10, Kept d B (a.at (k0_part110 (F := F)) x0 x1 x2 x3 x4 x5 x6 x7 x8 x9 x10) := by
  intros; rw [k0_part110_eq_skeleton]; unfold k0_part110_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part111 : ∀ x0 x1 x2 x3, Kept d B (a.at (k0_part111 (F := F)) x0 x1 x2 x3) := by
  intros; rw [k0_part111_eq_skeleton]; unfold k0_part111_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part112 : ∀ x0 x1 x2 x3 x4, Kept d B (a.at (k0_part112 (F := F)) x0 x1 x2 x3 x4) := by
  intros; rw [k0_part112_eq_skeleton]; unfold k0_part112_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part113 : ∀ x0 x1 x2 x3, Kept d B (a.at (k0_part113 (F := F)) x0 x1 x2 x3) := by
  intros; rw [k0_part113_eq_skeleton]; unfold k0_part113_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part115 : ∀ x0 x1 x2 x3 x4 x5 x6 x7 x8 x9, Kept d B (a.at (k0_part115 (F := F)) x0 x1 x2 x3 x4 x5 x6 x7 x8 x9) := by
  intros; rw [k0_part115_eq_skeleton]; unfold k0_part115_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part116 : ∀ x0 x1 x2 x3 x4 x5 x6 x7 x8 x9, Kept d B (a.at (k0_part116 (F := F)) x0 x1 x2 x3 x4 x5 x6 x7 x8 x9) := by
  intros; rw [k0_part116_eq_skeleton]; unfold k0_part116_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part117 : ∀ x0 x1 x2 x3 x4 x5 x6 x7 x8 x9 x10, Kept d B (a.at (k0_part117 (F := F)) x0 x1 x2 x3 x4 x5 x6 x7 x8 x9 x10) := by
  intros; rw [k0_part117_eq_skeleton]; unfold k0_part117_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part118 : ∀ x0 x1 x2 x3 x4 x5 x6 x7 x8 x9 x10, Kept d B (a.at (k0_part118 (F := F)) x0 x1 x2 x3 x4 x5 x6 x7 x8 x9 x10) := by
  intros; rw [k0_part118_eq_skeleton]; unfold k0_part118_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part119 : ∀ x0 x1 x2 x3, Kept d B (a.at (k0_part119 (F := F)) x0 x1 x2 x3) := by
  intros; rw [k0_part119_eq_skeleton]; unfold k0_part119_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part120 : ∀ x0 x1 x2 x3 x4, Kept d B (a.at (k0_part120 (F := F)) x0 x1 x2 x3 x4) := by
  intros; rw [k0_part120_eq_skeleton]; unfold k0_part120_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part121 : ∀ x0 x1 x2 x3, Kept d B (a.at (k0_part121 (F := F)) x0 x1 x2 x3) := by
  intros; rw [k0_part121_eq_skeleton]; unfold k0_part121_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part463 : ∀ x0 x1 x2 x3 x4 x5 x6, Kept d B (a.at (k0_part463 (F := F)) x0 x1 x2 x3 x4 x5 x6) := by
  intros; rw [k0_part463_eq_skeleton]; unfold k0_part463_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part464 : ∀ x0 x1 x2 x3 x4 x5 x6 x7 x8 x9 x10 x11, Kept d B (a.at (k0_part464 (F := F)) x0 x1 x2 x3 x4 x5 x6 x7 x8 x9 x10 x11) := by
  intros; rw [k0_part464_eq_skeleton]; unfold k0_part464_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part465 : ∀ x0 x1 x2, Kept d B (a.at (k0_part465 (F := F)) x0 x1 x2) := by
  intros; rw [k0_part465_eq_skeleton]; unfold k0_part465_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part466 : ∀ x0 x1 x2 x3 x4, Kept d B (a.at (k0_part466 (F := F)) x0 x1 x2 x3 x4) := by
  intros; rw [k0_part466_eq_skeleton]; unfold k0_part466_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part467 : ∀ x0 x1 x2, Kept d B (a.at (k0_part467 (F := F)) x0 x1 x2) := by
  intros; rw [k0_part467_eq_skeleton]; unfold k0_part467_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part468 : ∀ x0 x1 x2, Kept d B (a.at (k0_part468 (F := F)) x0 x1 x2) := by
  intros; rw [k0_part468_eq_skeleton]; unfold k0_part468_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part469 : ∀ x0, Kept d B (a.at (k0_part469 (F := F)) x0) := by
  intros; rw [k0_part469_eq_skeleton]; unfold k0_part469_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part123 : ∀ x0 x1 x2, Kept d B (a.at (k0_part123 (F := F)) x0 x1 x2) := by
  intros; rw [k0_part123_eq_skeleton]; unfold k0_part123_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part124 : ∀ x0 x1 x2, Kept d B (a.at (k0_part124 (F := F)) x0 x1 x2) := by
  intros; rw [k0_part124_eq_skeleton]; unfold k0_part124_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part125 : ∀ x0 x1, Kept d B (a.at (k0_part125 (F := F)) x0 x1) := by
  intros; rw [k0_part125_eq_skeleton]; unfold k0_part125_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part126 : ∀ x0 x1 x2, Kept d B (a.at (k0_part126 (F := F)) x0 x1 x2) := by
  intros; rw [k0_part126_eq_skeleton]; unfold k0_part126_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part127 : ∀ x0 x1, Kept d B (a.at (k0_part127 (F := F)) x0 x1) := by
  intros; rw [k0_part127_eq_skeleton]; unfold k0_part127_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part128 : ∀ x0 x1 x2, Kept d B (a.at (k0_part128 (F := F)) x0 x1 x2) := by
  intros; rw [k0_part128_eq_skeleton]; unfold k0_part128_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part129 : ∀ x0 x1 x2 x3 x4 x5, Kept d B (a.at (k0_part129 (F := F)) x0 x1 x2 x3 x4 x5) := by
  intros; rw [k0_part129_eq_skeleton]; unfold k0_part129_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part130 : ∀ x0 x1 x2 x3 x4 x5 x6 x7 x8, Kept d B (a.at (k0_part130 (F := F)) x0 x1 x2 x3 x4 x5 x6 x7 x8) := by
  intros; rw [k0_part130_eq_skeleton]; unfold k0_part130_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part131 : ∀ x0 x1, Kept d B (a.at (k0_part131 (F := F)) x0 x1) := by
  intros; rw [k0_part131_eq_skeleton]; unfold k0_part131_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part132 : ∀ x0 x1 x2 x3 x4 x5, Kept d B (a.at (k0_part132 (F := F)) x0 x1 x2 x3 x4 x5) := by
  intros; rw [k0_part132_eq_skeleton]; unfold k0_part132_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part133 : ∀ x0 x1 x2 x3 x4, Kept d B (a.at (k0_part133 (F := F)) x0 x1 x2 x3 x4) := by
  intros; rw [k0_part133_eq_skeleton]; unfold k0_part133_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part134 : ∀ x0 x1 x2 x3 x4 x5 x6, Kept d B (a.at (k0_part134 (F := F)) x0 x1 x2 x3 x4 x5 x6) := by
  intros; rw [k0_part134_eq_skeleton]; unfold k0_part134_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part135 : ∀ x0 x1 x2 x3 x4, Kept d B (a.at (k0_part135 (F := F)) x0 x1 x2 x3 x4) := by
  intros; rw [k0_part135_eq_skeleton]; unfold k0_part135_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part136 : ∀ x0 x1 x2 x3 x4 x5, Kept d B (a.at (k0_part136 (F := F)) x0 x1 x2 x3 x4 x5) := by
  intros; rw [k0_part136_eq_skeleton]; unfold k0_part136_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part137 : ∀ x0 x1, Kept d B (a.at (k0_part137 (F := F)) x0 x1) := by
  intros; rw [k0_part137_eq_skeleton]; unfold k0_part137_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part138 : ∀ x0 x1 x2, Kept d B (a.at (k0_part138 (F := F)) x0 x1 x2) := by
  intros; rw [k0_part138_eq_skeleton]; unfold k0_part138_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part139 : ∀ x0 x1 x2, Kept d B (a.at (k0_part139 (F := F)) x0 x1 x2) := by
  intros; rw [k0_part139_eq_skeleton]; unfold k0_part139_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part140 : ∀ x0 x1, Kept d B (a.at (k0_part140 (F := F)) x0 x1) := by
  intros; rw [k0_part140_eq_skeleton]; unfold k0_part140_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part141 : ∀ x0 x1 x2, Kept d B (a.at (k0_part141 (F := F)) x0 x1 x2) := by
  intros; rw [k0_part141_eq_skeleton]; unfold k0_part141_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part142 : ∀ x0 x1, Kept d B (a.at (k0_part142 (F := F)) x0 x1) := by
  intros; rw [k0_part142_eq_skeleton]; unfold k0_part142_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part143 : ∀ x0 x1 x2, Kept d B (a.at (k0_part143 (F := F)) x0 x1 x2) := by
  intros; rw [k0_part143_eq_skeleton]; unfold k0_part143_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part144 : ∀ x0 x1 x2 x3 x4 x5, Kept d B (a.at (k0_part144 (F := F)) x0 x1 x2 x3 x4 x5) := by
  intros; rw [k0_part144_eq_skeleton]; unfold k0_part144_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part145 : ∀ x0 x1 x2 x3 x4 x5 x6 x7 x8, Kept d B (a.at (k0_part145 (F := F)) x0 x1 x2 x3 x4 x5 x6 x7 x8) := by
  intros; rw [k0_part145_eq_skeleton]; unfold k0_part145_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part146 : ∀ x0 x1, Kept d B (a.at (k0_part146 (F := F)) x0 x1) := by
  intros; rw [k0_part146_eq_skeleton]; unfold k0_part146_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part147 : ∀ x0 x1 x2 x3 x4 x5, Kept d B (a.at (k0_part147 (F := F)) x0 x1 x2 x3 x4 x5) := by
  intros; rw [k0_part147_eq_skeleton]; unfold k0_part147_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part148 : ∀ x0 x1 x2 x3 x4, Kept d B (a.at (k0_part148 (F := F)) x0 x1 x2 x3 x4) := by
  intros; rw [k0_part148_eq_skeleton]; unfold k0_part148_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part149 : ∀ x0 x1 x2 x3 x4 x5 x6, Kept d B (a.at (k0_part149 (F := F)) x0 x1 x2 x3 x4 x5 x6) := by
  intros; rw [k0_part149_eq_skeleton]; unfold k0_part149_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part150 : ∀ x0 x1 x2 x3 x4, Kept d B (a.at (k0_part150 (F := F)) x0 x1 x2 x3 x4) := by
  intros; rw [k0_part150_eq_skeleton]; unfold k0_part150_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part151 : ∀ x0 x1 x2 x3 x4 x5, Kept d B (a.at (k0_part151 (F := F)) x0 x1 x2 x3 x4 x5) := by
  intros; rw [k0_part151_eq_skeleton]; unfold k0_part151_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part152 : ∀ x0 x1, Kept d B (a.at (k0_part152 (F := F)) x0 x1) := by
  intros; rw [k0_part152_eq_skeleton]; unfold k0_part152_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part153 : ∀ x0 x1 x2 x3, Kept d B (a.at (k0_part153 (F := F)) x0 x1 x2 x3) := by
  intros; rw [k0_part153_eq_skeleton]; unfold k0_part153_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part154 : ∀ x0 x1 x2, Kept d B (a.at (k0_part154 (F := F)) x0 x1 x2) := by
  intros; rw [k0_part154_eq_skeleton]; unfold k0_part154_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

end Cert.Proof.Kernel

end
-- ==== Proof.FramePieces3.lean ====
/- The pieces of the attention call each keep the staged blocks and the scratch buffers they work on (part 3). -/
module

public import proofs.«01_k».proof.Proof.FrameBase

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_part155 : ∀ x0 x1, Kept d B (a.at (k0_part155 (F := F)) x0 x1) := by
  intros; rw [k0_part155_eq_skeleton]; unfold k0_part155_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part156 : ∀ x0 x1 x2, Kept d B (a.at (k0_part156 (F := F)) x0 x1 x2) := by
  intros; rw [k0_part156_eq_skeleton]; unfold k0_part156_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part157 : ∀ x0 x1, Kept d B (a.at (k0_part157 (F := F)) x0 x1) := by
  intros; rw [k0_part157_eq_skeleton]; unfold k0_part157_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part158 : ∀ x0 x1 x2, Kept d B (a.at (k0_part158 (F := F)) x0 x1 x2) := by
  intros; rw [k0_part158_eq_skeleton]; unfold k0_part158_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part159 : ∀ x0 x1 x2 x3 x4 x5, Kept d B (a.at (k0_part159 (F := F)) x0 x1 x2 x3 x4 x5) := by
  intros; rw [k0_part159_eq_skeleton]; unfold k0_part159_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part160 : ∀ x0 x1 x2 x3, Kept d B (a.at (k0_part160 (F := F)) x0 x1 x2 x3) := by
  intros; rw [k0_part160_eq_skeleton]; unfold k0_part160_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part161 : ∀ x0 x1 x2, Kept d B (a.at (k0_part161 (F := F)) x0 x1 x2) := by
  intros; rw [k0_part161_eq_skeleton]; unfold k0_part161_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part162 : ∀ x0 x1, Kept d B (a.at (k0_part162 (F := F)) x0 x1) := by
  intros; rw [k0_part162_eq_skeleton]; unfold k0_part162_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part163 : ∀ x0 x1 x2, Kept d B (a.at (k0_part163 (F := F)) x0 x1 x2) := by
  intros; rw [k0_part163_eq_skeleton]; unfold k0_part163_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part164 : ∀ x0 x1, Kept d B (a.at (k0_part164 (F := F)) x0 x1) := by
  intros; rw [k0_part164_eq_skeleton]; unfold k0_part164_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part165 : ∀ x0 x1 x2, Kept d B (a.at (k0_part165 (F := F)) x0 x1 x2) := by
  intros; rw [k0_part165_eq_skeleton]; unfold k0_part165_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part166 : ∀ x0 x1 x2 x3 x4 x5, Kept d B (a.at (k0_part166 (F := F)) x0 x1 x2 x3 x4 x5) := by
  intros; rw [k0_part166_eq_skeleton]; unfold k0_part166_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part471 : ∀ x0 x1 x2, Kept d B (a.at (k0_part471 (F := F)) x0 x1 x2) := by
  intros; rw [k0_part471_eq_skeleton]; unfold k0_part471_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part472 : ∀ x0, Kept d B (a.at (k0_part472 (F := F)) x0) := by
  intros; rw [k0_part472_eq_skeleton]; unfold k0_part472_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part473 : ∀ x0 x1 x2, Kept d B (a.at (k0_part473 (F := F)) x0 x1 x2) := by
  intros; rw [k0_part473_eq_skeleton]; unfold k0_part473_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part474 : ∀ x0 x1 x2, Kept d B (a.at (k0_part474 (F := F)) x0 x1 x2) := by
  intros; rw [k0_part474_eq_skeleton]; unfold k0_part474_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part475 : ∀ x0, Kept d B (a.at (k0_part475 (F := F)) x0) := by
  intros; rw [k0_part475_eq_skeleton]; unfold k0_part475_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part476 : ∀ x0 x1 x2 x3 x4, Kept d B (a.at (k0_part476 (F := F)) x0 x1 x2 x3 x4) := by
  intros; rw [k0_part476_eq_skeleton]; unfold k0_part476_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part477 : ∀ x0 x1 x2, Kept d B (a.at (k0_part477 (F := F)) x0 x1 x2) := by
  intros; rw [k0_part477_eq_skeleton]; unfold k0_part477_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part478 : ∀ x0 x1 x2 x3 x4 x5 x6 x7, Kept d B (a.at (k0_part478 (F := F)) x0 x1 x2 x3 x4 x5 x6 x7) := by
  intros; rw [k0_part478_eq_skeleton]; unfold k0_part478_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part479 : ∀ x0 x1 x2 x3 x4 x5, Kept d B (a.at (k0_part479 (F := F)) x0 x1 x2 x3 x4 x5) := by
  intros; rw [k0_part479_eq_skeleton]; unfold k0_part479_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part480 : ∀ x0 x1 x2 x3 x4, Kept d B (a.at (k0_part480 (F := F)) x0 x1 x2 x3 x4) := by
  intros; rw [k0_part480_eq_skeleton]; unfold k0_part480_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part481 : ∀ x0 x1, Kept d B (a.at (k0_part481 (F := F)) x0 x1) := by
  intros; rw [k0_part481_eq_skeleton]; unfold k0_part481_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part167 : ∀ x0 x1 x2 x3 x4 x5 x6 x7 x8, Kept d B (a.at (k0_part167 (F := F)) x0 x1 x2 x3 x4 x5 x6 x7 x8) := by
  intros; rw [k0_part167_eq_skeleton]; unfold k0_part167_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part168 : ∀ x0 x1 x2 x3 x4 x5 x6 x7 x8 x9 x10, Kept d B (a.at (k0_part168 (F := F)) x0 x1 x2 x3 x4 x5 x6 x7 x8 x9 x10) := by
  intros; rw [k0_part168_eq_skeleton]; unfold k0_part168_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part169 : ∀ x0 x1 x2 x3 x4 x5 x6 x7 x8, Kept d B (a.at (k0_part169 (F := F)) x0 x1 x2 x3 x4 x5 x6 x7 x8) := by
  intros; rw [k0_part169_eq_skeleton]; unfold k0_part169_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part170 : ∀ x0 x1 x2 x3 x4 x5 x6 x7 x8 x9 x10 x11 x12, Kept d B (a.at (k0_part170 (F := F)) x0 x1 x2 x3 x4 x5 x6 x7 x8 x9 x10 x11 x12) := by
  intros; rw [k0_part170_eq_skeleton]; unfold k0_part170_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part171 : ∀ x0 x1 x2 x3, Kept d B (a.at (k0_part171 (F := F)) x0 x1 x2 x3) := by
  intros; rw [k0_part171_eq_skeleton]; unfold k0_part171_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part172 : ∀ x0 x1 x2 x3 x4, Kept d B (a.at (k0_part172 (F := F)) x0 x1 x2 x3 x4) := by
  intros; rw [k0_part172_eq_skeleton]; unfold k0_part172_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part173 : ∀ x0 x1 x2 x3 x4, Kept d B (a.at (k0_part173 (F := F)) x0 x1 x2 x3 x4) := by
  intros; rw [k0_part173_eq_skeleton]; unfold k0_part173_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part174 : ∀ x0 x1 x2 x3, Kept d B (a.at (k0_part174 (F := F)) x0 x1 x2 x3) := by
  intros; rw [k0_part174_eq_skeleton]; unfold k0_part174_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part175 : ∀ x0 x1 x2 x3 x4 x5 x6 x7 x8 x9, Kept d B (a.at (k0_part175 (F := F)) x0 x1 x2 x3 x4 x5 x6 x7 x8 x9) := by
  intros; rw [k0_part175_eq_skeleton]; unfold k0_part175_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part176 : ∀ x0 x1 x2 x3 x4 x5 x6 x7 x8 x9, Kept d B (a.at (k0_part176 (F := F)) x0 x1 x2 x3 x4 x5 x6 x7 x8 x9) := by
  intros; rw [k0_part176_eq_skeleton]; unfold k0_part176_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part177 : ∀ x0 x1 x2 x3 x4 x5 x6 x7 x8 x9 x10, Kept d B (a.at (k0_part177 (F := F)) x0 x1 x2 x3 x4 x5 x6 x7 x8 x9 x10) := by
  intros; rw [k0_part177_eq_skeleton]; unfold k0_part177_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part178 : ∀ x0 x1 x2 x3 x4 x5 x6 x7 x8 x9 x10, Kept d B (a.at (k0_part178 (F := F)) x0 x1 x2 x3 x4 x5 x6 x7 x8 x9 x10) := by
  intros; rw [k0_part178_eq_skeleton]; unfold k0_part178_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part179 : ∀ x0 x1 x2 x3, Kept d B (a.at (k0_part179 (F := F)) x0 x1 x2 x3) := by
  intros; rw [k0_part179_eq_skeleton]; unfold k0_part179_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part180 : ∀ x0 x1 x2 x3 x4, Kept d B (a.at (k0_part180 (F := F)) x0 x1 x2 x3 x4) := by
  intros; rw [k0_part180_eq_skeleton]; unfold k0_part180_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part181 : ∀ x0 x1 x2 x3, Kept d B (a.at (k0_part181 (F := F)) x0 x1 x2 x3) := by
  intros; rw [k0_part181_eq_skeleton]; unfold k0_part181_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part183 : ∀ x0 x1 x2 x3 x4 x5 x6 x7 x8, Kept d B (a.at (k0_part183 (F := F)) x0 x1 x2 x3 x4 x5 x6 x7 x8) := by
  intros; rw [k0_part183_eq_skeleton]; unfold k0_part183_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part184 : ∀ x0 x1 x2 x3 x4 x5 x6 x7 x8 x9 x10, Kept d B (a.at (k0_part184 (F := F)) x0 x1 x2 x3 x4 x5 x6 x7 x8 x9 x10) := by
  intros; rw [k0_part184_eq_skeleton]; unfold k0_part184_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part185 : ∀ x0 x1 x2 x3 x4 x5 x6 x7 x8, Kept d B (a.at (k0_part185 (F := F)) x0 x1 x2 x3 x4 x5 x6 x7 x8) := by
  intros; rw [k0_part185_eq_skeleton]; unfold k0_part185_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part186 : ∀ x0 x1 x2 x3 x4 x5 x6 x7 x8 x9 x10 x11 x12, Kept d B (a.at (k0_part186 (F := F)) x0 x1 x2 x3 x4 x5 x6 x7 x8 x9 x10 x11 x12) := by
  intros; rw [k0_part186_eq_skeleton]; unfold k0_part186_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part187 : ∀ x0 x1 x2 x3, Kept d B (a.at (k0_part187 (F := F)) x0 x1 x2 x3) := by
  intros; rw [k0_part187_eq_skeleton]; unfold k0_part187_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part188 : ∀ x0 x1 x2 x3 x4, Kept d B (a.at (k0_part188 (F := F)) x0 x1 x2 x3 x4) := by
  intros; rw [k0_part188_eq_skeleton]; unfold k0_part188_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part189 : ∀ x0 x1 x2 x3 x4, Kept d B (a.at (k0_part189 (F := F)) x0 x1 x2 x3 x4) := by
  intros; rw [k0_part189_eq_skeleton]; unfold k0_part189_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part190 : ∀ x0 x1 x2 x3, Kept d B (a.at (k0_part190 (F := F)) x0 x1 x2 x3) := by
  intros; rw [k0_part190_eq_skeleton]; unfold k0_part190_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part191 : ∀ x0 x1 x2 x3 x4 x5 x6 x7 x8 x9, Kept d B (a.at (k0_part191 (F := F)) x0 x1 x2 x3 x4 x5 x6 x7 x8 x9) := by
  intros; rw [k0_part191_eq_skeleton]; unfold k0_part191_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part192 : ∀ x0 x1 x2 x3 x4 x5 x6 x7 x8 x9, Kept d B (a.at (k0_part192 (F := F)) x0 x1 x2 x3 x4 x5 x6 x7 x8 x9) := by
  intros; rw [k0_part192_eq_skeleton]; unfold k0_part192_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part193 : ∀ x0 x1 x2 x3 x4 x5 x6 x7 x8 x9 x10, Kept d B (a.at (k0_part193 (F := F)) x0 x1 x2 x3 x4 x5 x6 x7 x8 x9 x10) := by
  intros; rw [k0_part193_eq_skeleton]; unfold k0_part193_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part194 : ∀ x0 x1 x2 x3 x4 x5 x6 x7 x8 x9 x10, Kept d B (a.at (k0_part194 (F := F)) x0 x1 x2 x3 x4 x5 x6 x7 x8 x9 x10) := by
  intros; rw [k0_part194_eq_skeleton]; unfold k0_part194_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part195 : ∀ x0 x1 x2 x3, Kept d B (a.at (k0_part195 (F := F)) x0 x1 x2 x3) := by
  intros; rw [k0_part195_eq_skeleton]; unfold k0_part195_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part196 : ∀ x0 x1 x2 x3 x4, Kept d B (a.at (k0_part196 (F := F)) x0 x1 x2 x3 x4) := by
  intros; rw [k0_part196_eq_skeleton]; unfold k0_part196_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part197 : ∀ x0 x1 x2 x3, Kept d B (a.at (k0_part197 (F := F)) x0 x1 x2 x3) := by
  intros; rw [k0_part197_eq_skeleton]; unfold k0_part197_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part199 : ∀ x0 x1 x2 x3 x4 x5 x6 x7 x8 x9, Kept d B (a.at (k0_part199 (F := F)) x0 x1 x2 x3 x4 x5 x6 x7 x8 x9) := by
  intros; rw [k0_part199_eq_skeleton]; unfold k0_part199_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part200 : ∀ x0 x1 x2 x3 x4 x5 x6 x7 x8 x9, Kept d B (a.at (k0_part200 (F := F)) x0 x1 x2 x3 x4 x5 x6 x7 x8 x9) := by
  intros; rw [k0_part200_eq_skeleton]; unfold k0_part200_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part201 : ∀ x0 x1 x2 x3 x4 x5 x6 x7 x8 x9 x10, Kept d B (a.at (k0_part201 (F := F)) x0 x1 x2 x3 x4 x5 x6 x7 x8 x9 x10) := by
  intros; rw [k0_part201_eq_skeleton]; unfold k0_part201_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part202 : ∀ x0 x1 x2 x3 x4 x5 x6 x7 x8 x9 x10, Kept d B (a.at (k0_part202 (F := F)) x0 x1 x2 x3 x4 x5 x6 x7 x8 x9 x10) := by
  intros; rw [k0_part202_eq_skeleton]; unfold k0_part202_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part203 : ∀ x0 x1 x2 x3, Kept d B (a.at (k0_part203 (F := F)) x0 x1 x2 x3) := by
  intros; rw [k0_part203_eq_skeleton]; unfold k0_part203_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part204 : ∀ x0 x1 x2 x3 x4, Kept d B (a.at (k0_part204 (F := F)) x0 x1 x2 x3 x4) := by
  intros; rw [k0_part204_eq_skeleton]; unfold k0_part204_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part205 : ∀ x0 x1 x2 x3, Kept d B (a.at (k0_part205 (F := F)) x0 x1 x2 x3) := by
  intros; rw [k0_part205_eq_skeleton]; unfold k0_part205_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part207 : ∀ x0 x1 x2 x3 x4 x5 x6 x7 x8 x9, Kept d B (a.at (k0_part207 (F := F)) x0 x1 x2 x3 x4 x5 x6 x7 x8 x9) := by
  intros; rw [k0_part207_eq_skeleton]; unfold k0_part207_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part208 : ∀ x0 x1 x2 x3 x4 x5 x6 x7 x8 x9, Kept d B (a.at (k0_part208 (F := F)) x0 x1 x2 x3 x4 x5 x6 x7 x8 x9) := by
  intros; rw [k0_part208_eq_skeleton]; unfold k0_part208_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part209 : ∀ x0 x1 x2 x3 x4 x5 x6 x7 x8 x9 x10, Kept d B (a.at (k0_part209 (F := F)) x0 x1 x2 x3 x4 x5 x6 x7 x8 x9 x10) := by
  intros; rw [k0_part209_eq_skeleton]; unfold k0_part209_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part210 : ∀ x0 x1 x2 x3 x4 x5 x6 x7 x8 x9 x10, Kept d B (a.at (k0_part210 (F := F)) x0 x1 x2 x3 x4 x5 x6 x7 x8 x9 x10) := by
  intros; rw [k0_part210_eq_skeleton]; unfold k0_part210_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part211 : ∀ x0 x1 x2 x3, Kept d B (a.at (k0_part211 (F := F)) x0 x1 x2 x3) := by
  intros; rw [k0_part211_eq_skeleton]; unfold k0_part211_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part212 : ∀ x0 x1 x2 x3 x4, Kept d B (a.at (k0_part212 (F := F)) x0 x1 x2 x3 x4) := by
  intros; rw [k0_part212_eq_skeleton]; unfold k0_part212_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part213 : ∀ x0 x1 x2 x3, Kept d B (a.at (k0_part213 (F := F)) x0 x1 x2 x3) := by
  intros; rw [k0_part213_eq_skeleton]; unfold k0_part213_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part484 : ∀ x0 x1 x2 x3 x4 x5 x6 x7 x8 x9, Kept d B (a.at (k0_part484 (F := F)) x0 x1 x2 x3 x4 x5 x6 x7 x8 x9) := by
  intros; rw [k0_part484_eq_skeleton]; unfold k0_part484_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part485 : ∀ x0 x1 x2, Kept d B (a.at (k0_part485 (F := F)) x0 x1 x2) := by
  intros; rw [k0_part485_eq_skeleton]; unfold k0_part485_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part486 : ∀ x0 x1 x2, Kept d B (a.at (k0_part486 (F := F)) x0 x1 x2) := by
  intros; rw [k0_part486_eq_skeleton]; unfold k0_part486_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part487 : ∀ x0 x1 x2 x3, Kept d B (a.at (k0_part487 (F := F)) x0 x1 x2 x3) := by
  intros; rw [k0_part487_eq_skeleton]; unfold k0_part487_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part488 : ∀ x0 x1 x2 x3, Kept d B (a.at (k0_part488 (F := F)) x0 x1 x2 x3) := by
  intros; rw [k0_part488_eq_skeleton]; unfold k0_part488_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part489 : ∀ x0 x1, Kept d B (a.at (k0_part489 (F := F)) x0 x1) := by
  intros; rw [k0_part489_eq_skeleton]; unfold k0_part489_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part215 : ∀ x0 x1 x2, Kept d B (a.at (k0_part215 (F := F)) x0 x1 x2) := by
  intros; rw [k0_part215_eq_skeleton]; unfold k0_part215_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part216 : ∀ x0 x1 x2, Kept d B (a.at (k0_part216 (F := F)) x0 x1 x2) := by
  intros; rw [k0_part216_eq_skeleton]; unfold k0_part216_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part217 : ∀ x0 x1, Kept d B (a.at (k0_part217 (F := F)) x0 x1) := by
  intros; rw [k0_part217_eq_skeleton]; unfold k0_part217_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part218 : ∀ x0 x1 x2, Kept d B (a.at (k0_part218 (F := F)) x0 x1 x2) := by
  intros; rw [k0_part218_eq_skeleton]; unfold k0_part218_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part219 : ∀ x0 x1, Kept d B (a.at (k0_part219 (F := F)) x0 x1) := by
  intros; rw [k0_part219_eq_skeleton]; unfold k0_part219_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part220 : ∀ x0 x1 x2, Kept d B (a.at (k0_part220 (F := F)) x0 x1 x2) := by
  intros; rw [k0_part220_eq_skeleton]; unfold k0_part220_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part221 : ∀ x0 x1 x2 x3 x4 x5, Kept d B (a.at (k0_part221 (F := F)) x0 x1 x2 x3 x4 x5) := by
  intros; rw [k0_part221_eq_skeleton]; unfold k0_part221_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part222 : ∀ x0 x1 x2 x3 x4 x5 x6 x7 x8, Kept d B (a.at (k0_part222 (F := F)) x0 x1 x2 x3 x4 x5 x6 x7 x8) := by
  intros; rw [k0_part222_eq_skeleton]; unfold k0_part222_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part223 : ∀ x0 x1, Kept d B (a.at (k0_part223 (F := F)) x0 x1) := by
  intros; rw [k0_part223_eq_skeleton]; unfold k0_part223_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part224 : ∀ x0 x1 x2 x3 x4 x5, Kept d B (a.at (k0_part224 (F := F)) x0 x1 x2 x3 x4 x5) := by
  intros; rw [k0_part224_eq_skeleton]; unfold k0_part224_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part225 : ∀ x0 x1 x2 x3 x4, Kept d B (a.at (k0_part225 (F := F)) x0 x1 x2 x3 x4) := by
  intros; rw [k0_part225_eq_skeleton]; unfold k0_part225_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

end Cert.Proof.Kernel

end
-- ==== Proof.FramePieces4.lean ====
/- The pieces of the attention call each keep the staged blocks and the scratch buffers they work on (part 4). -/
module

public import proofs.«01_k».proof.Proof.FrameBase

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_part226 : ∀ x0 x1 x2 x3 x4 x5 x6, Kept d B (a.at (k0_part226 (F := F)) x0 x1 x2 x3 x4 x5 x6) := by
  intros; rw [k0_part226_eq_skeleton]; unfold k0_part226_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part227 : ∀ x0 x1 x2 x3 x4, Kept d B (a.at (k0_part227 (F := F)) x0 x1 x2 x3 x4) := by
  intros; rw [k0_part227_eq_skeleton]; unfold k0_part227_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part228 : ∀ x0 x1 x2 x3 x4 x5, Kept d B (a.at (k0_part228 (F := F)) x0 x1 x2 x3 x4 x5) := by
  intros; rw [k0_part228_eq_skeleton]; unfold k0_part228_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part229 : ∀ x0 x1, Kept d B (a.at (k0_part229 (F := F)) x0 x1) := by
  intros; rw [k0_part229_eq_skeleton]; unfold k0_part229_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part230 : ∀ x0 x1 x2, Kept d B (a.at (k0_part230 (F := F)) x0 x1 x2) := by
  intros; rw [k0_part230_eq_skeleton]; unfold k0_part230_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part231 : ∀ x0 x1 x2, Kept d B (a.at (k0_part231 (F := F)) x0 x1 x2) := by
  intros; rw [k0_part231_eq_skeleton]; unfold k0_part231_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part232 : ∀ x0 x1, Kept d B (a.at (k0_part232 (F := F)) x0 x1) := by
  intros; rw [k0_part232_eq_skeleton]; unfold k0_part232_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part233 : ∀ x0 x1 x2, Kept d B (a.at (k0_part233 (F := F)) x0 x1 x2) := by
  intros; rw [k0_part233_eq_skeleton]; unfold k0_part233_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part234 : ∀ x0 x1, Kept d B (a.at (k0_part234 (F := F)) x0 x1) := by
  intros; rw [k0_part234_eq_skeleton]; unfold k0_part234_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part235 : ∀ x0 x1 x2, Kept d B (a.at (k0_part235 (F := F)) x0 x1 x2) := by
  intros; rw [k0_part235_eq_skeleton]; unfold k0_part235_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part236 : ∀ x0 x1 x2 x3 x4 x5, Kept d B (a.at (k0_part236 (F := F)) x0 x1 x2 x3 x4 x5) := by
  intros; rw [k0_part236_eq_skeleton]; unfold k0_part236_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part237 : ∀ x0 x1 x2 x3 x4 x5 x6 x7 x8, Kept d B (a.at (k0_part237 (F := F)) x0 x1 x2 x3 x4 x5 x6 x7 x8) := by
  intros; rw [k0_part237_eq_skeleton]; unfold k0_part237_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part238 : ∀ x0 x1, Kept d B (a.at (k0_part238 (F := F)) x0 x1) := by
  intros; rw [k0_part238_eq_skeleton]; unfold k0_part238_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part239 : ∀ x0 x1 x2 x3 x4 x5, Kept d B (a.at (k0_part239 (F := F)) x0 x1 x2 x3 x4 x5) := by
  intros; rw [k0_part239_eq_skeleton]; unfold k0_part239_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part240 : ∀ x0 x1 x2 x3 x4, Kept d B (a.at (k0_part240 (F := F)) x0 x1 x2 x3 x4) := by
  intros; rw [k0_part240_eq_skeleton]; unfold k0_part240_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part241 : ∀ x0 x1 x2 x3 x4 x5 x6, Kept d B (a.at (k0_part241 (F := F)) x0 x1 x2 x3 x4 x5 x6) := by
  intros; rw [k0_part241_eq_skeleton]; unfold k0_part241_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part242 : ∀ x0 x1 x2 x3 x4, Kept d B (a.at (k0_part242 (F := F)) x0 x1 x2 x3 x4) := by
  intros; rw [k0_part242_eq_skeleton]; unfold k0_part242_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part243 : ∀ x0 x1 x2 x3 x4 x5, Kept d B (a.at (k0_part243 (F := F)) x0 x1 x2 x3 x4 x5) := by
  intros; rw [k0_part243_eq_skeleton]; unfold k0_part243_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part244 : ∀ x0 x1, Kept d B (a.at (k0_part244 (F := F)) x0 x1) := by
  intros; rw [k0_part244_eq_skeleton]; unfold k0_part244_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part245 : ∀ x0 x1 x2 x3, Kept d B (a.at (k0_part245 (F := F)) x0 x1 x2 x3) := by
  intros; rw [k0_part245_eq_skeleton]; unfold k0_part245_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part246 : ∀ x0 x1 x2, Kept d B (a.at (k0_part246 (F := F)) x0 x1 x2) := by
  intros; rw [k0_part246_eq_skeleton]; unfold k0_part246_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part247 : ∀ x0 x1, Kept d B (a.at (k0_part247 (F := F)) x0 x1) := by
  intros; rw [k0_part247_eq_skeleton]; unfold k0_part247_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part248 : ∀ x0 x1 x2, Kept d B (a.at (k0_part248 (F := F)) x0 x1 x2) := by
  intros; rw [k0_part248_eq_skeleton]; unfold k0_part248_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part249 : ∀ x0 x1, Kept d B (a.at (k0_part249 (F := F)) x0 x1) := by
  intros; rw [k0_part249_eq_skeleton]; unfold k0_part249_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part250 : ∀ x0 x1 x2, Kept d B (a.at (k0_part250 (F := F)) x0 x1 x2) := by
  intros; rw [k0_part250_eq_skeleton]; unfold k0_part250_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part251 : ∀ x0 x1 x2 x3 x4 x5, Kept d B (a.at (k0_part251 (F := F)) x0 x1 x2 x3 x4 x5) := by
  intros; rw [k0_part251_eq_skeleton]; unfold k0_part251_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part252 : ∀ x0 x1 x2 x3, Kept d B (a.at (k0_part252 (F := F)) x0 x1 x2 x3) := by
  intros; rw [k0_part252_eq_skeleton]; unfold k0_part252_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part253 : ∀ x0 x1 x2, Kept d B (a.at (k0_part253 (F := F)) x0 x1 x2) := by
  intros; rw [k0_part253_eq_skeleton]; unfold k0_part253_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part254 : ∀ x0 x1, Kept d B (a.at (k0_part254 (F := F)) x0 x1) := by
  intros; rw [k0_part254_eq_skeleton]; unfold k0_part254_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part255 : ∀ x0 x1 x2, Kept d B (a.at (k0_part255 (F := F)) x0 x1 x2) := by
  intros; rw [k0_part255_eq_skeleton]; unfold k0_part255_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part256 : ∀ x0 x1, Kept d B (a.at (k0_part256 (F := F)) x0 x1) := by
  intros; rw [k0_part256_eq_skeleton]; unfold k0_part256_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part257 : ∀ x0 x1 x2, Kept d B (a.at (k0_part257 (F := F)) x0 x1 x2) := by
  intros; rw [k0_part257_eq_skeleton]; unfold k0_part257_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part258 : ∀ x0 x1 x2 x3 x4 x5, Kept d B (a.at (k0_part258 (F := F)) x0 x1 x2 x3 x4 x5) := by
  intros; rw [k0_part258_eq_skeleton]; unfold k0_part258_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part491 : ∀ x0, Kept d B (a.at (k0_part491 (F := F)) x0) := by
  intros; rw [k0_part491_eq_skeleton]; unfold k0_part491_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part492 : ∀ x0 x1, Kept d B (a.at (k0_part492 (F := F)) x0 x1) := by
  intros; rw [k0_part492_eq_skeleton]; unfold k0_part492_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part493 : ∀ x0, Kept d B (a.at (k0_part493 (F := F)) x0) := by
  intros; rw [k0_part493_eq_skeleton]; unfold k0_part493_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part494 : ∀ x0, Kept d B (a.at (k0_part494 (F := F)) x0) := by
  intros; rw [k0_part494_eq_skeleton]; unfold k0_part494_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part495 : ∀ x0 x1 x2, Kept d B (a.at (k0_part495 (F := F)) x0 x1 x2) := by
  intros; rw [k0_part495_eq_skeleton]; unfold k0_part495_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part496 : ∀ x0 x1 x2 x3, Kept d B (a.at (k0_part496 (F := F)) x0 x1 x2 x3) := by
  intros; rw [k0_part496_eq_skeleton]; unfold k0_part496_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part497 : ∀ x0, Kept d B (a.at (k0_part497 (F := F)) x0) := by
  intros; rw [k0_part497_eq_skeleton]; unfold k0_part497_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part498 : ∀ x0 x1 x2 x3 x4 x5 x6, Kept d B (a.at (k0_part498 (F := F)) x0 x1 x2 x3 x4 x5 x6) := by
  intros; rw [k0_part498_eq_skeleton]; unfold k0_part498_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part499 : ∀ x0 x1 x2 x3 x4, Kept d B (a.at (k0_part499 (F := F)) x0 x1 x2 x3 x4) := by
  intros; rw [k0_part499_eq_skeleton]; unfold k0_part499_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part500 : ∀ x0 x1, Kept d B (a.at (k0_part500 (F := F)) x0 x1) := by
  intros; rw [k0_part500_eq_skeleton]; unfold k0_part500_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part501 : ∀ x0 x1 x2 x3 x4 x5 x6, Kept d B (a.at (k0_part501 (F := F)) x0 x1 x2 x3 x4 x5 x6) := by
  intros; rw [k0_part501_eq_skeleton]; unfold k0_part501_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part259 : ∀ x0 x1 x2 x3 x4 x5 x6 x7 x8, Kept d B (a.at (k0_part259 (F := F)) x0 x1 x2 x3 x4 x5 x6 x7 x8) := by
  intros; rw [k0_part259_eq_skeleton]; unfold k0_part259_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part260 : ∀ x0 x1 x2 x3 x4 x5 x6 x7 x8 x9 x10, Kept d B (a.at (k0_part260 (F := F)) x0 x1 x2 x3 x4 x5 x6 x7 x8 x9 x10) := by
  intros; rw [k0_part260_eq_skeleton]; unfold k0_part260_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part261 : ∀ x0 x1 x2 x3 x4 x5 x6 x7 x8, Kept d B (a.at (k0_part261 (F := F)) x0 x1 x2 x3 x4 x5 x6 x7 x8) := by
  intros; rw [k0_part261_eq_skeleton]; unfold k0_part261_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part262 : ∀ x0 x1 x2 x3 x4 x5 x6 x7 x8 x9 x10 x11 x12, Kept d B (a.at (k0_part262 (F := F)) x0 x1 x2 x3 x4 x5 x6 x7 x8 x9 x10 x11 x12) := by
  intros; rw [k0_part262_eq_skeleton]; unfold k0_part262_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part263 : ∀ x0 x1 x2 x3, Kept d B (a.at (k0_part263 (F := F)) x0 x1 x2 x3) := by
  intros; rw [k0_part263_eq_skeleton]; unfold k0_part263_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part264 : ∀ x0 x1 x2 x3 x4, Kept d B (a.at (k0_part264 (F := F)) x0 x1 x2 x3 x4) := by
  intros; rw [k0_part264_eq_skeleton]; unfold k0_part264_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part265 : ∀ x0 x1 x2 x3 x4, Kept d B (a.at (k0_part265 (F := F)) x0 x1 x2 x3 x4) := by
  intros; rw [k0_part265_eq_skeleton]; unfold k0_part265_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part266 : ∀ x0 x1 x2 x3, Kept d B (a.at (k0_part266 (F := F)) x0 x1 x2 x3) := by
  intros; rw [k0_part266_eq_skeleton]; unfold k0_part266_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part267 : ∀ x0 x1 x2 x3 x4 x5 x6 x7 x8 x9, Kept d B (a.at (k0_part267 (F := F)) x0 x1 x2 x3 x4 x5 x6 x7 x8 x9) := by
  intros; rw [k0_part267_eq_skeleton]; unfold k0_part267_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part268 : ∀ x0 x1 x2 x3 x4 x5 x6 x7 x8 x9, Kept d B (a.at (k0_part268 (F := F)) x0 x1 x2 x3 x4 x5 x6 x7 x8 x9) := by
  intros; rw [k0_part268_eq_skeleton]; unfold k0_part268_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part269 : ∀ x0 x1 x2 x3 x4 x5 x6 x7 x8 x9 x10, Kept d B (a.at (k0_part269 (F := F)) x0 x1 x2 x3 x4 x5 x6 x7 x8 x9 x10) := by
  intros; rw [k0_part269_eq_skeleton]; unfold k0_part269_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part270 : ∀ x0 x1 x2 x3 x4 x5 x6 x7 x8 x9 x10, Kept d B (a.at (k0_part270 (F := F)) x0 x1 x2 x3 x4 x5 x6 x7 x8 x9 x10) := by
  intros; rw [k0_part270_eq_skeleton]; unfold k0_part270_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part271 : ∀ x0 x1 x2 x3, Kept d B (a.at (k0_part271 (F := F)) x0 x1 x2 x3) := by
  intros; rw [k0_part271_eq_skeleton]; unfold k0_part271_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part272 : ∀ x0 x1 x2 x3 x4, Kept d B (a.at (k0_part272 (F := F)) x0 x1 x2 x3 x4) := by
  intros; rw [k0_part272_eq_skeleton]; unfold k0_part272_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part273 : ∀ x0 x1 x2 x3, Kept d B (a.at (k0_part273 (F := F)) x0 x1 x2 x3) := by
  intros; rw [k0_part273_eq_skeleton]; unfold k0_part273_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part275 : ∀ x0 x1 x2 x3 x4 x5 x6 x7 x8, Kept d B (a.at (k0_part275 (F := F)) x0 x1 x2 x3 x4 x5 x6 x7 x8) := by
  intros; rw [k0_part275_eq_skeleton]; unfold k0_part275_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part276 : ∀ x0 x1 x2 x3 x4 x5 x6 x7 x8 x9 x10, Kept d B (a.at (k0_part276 (F := F)) x0 x1 x2 x3 x4 x5 x6 x7 x8 x9 x10) := by
  intros; rw [k0_part276_eq_skeleton]; unfold k0_part276_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part277 : ∀ x0 x1 x2 x3 x4 x5 x6 x7 x8, Kept d B (a.at (k0_part277 (F := F)) x0 x1 x2 x3 x4 x5 x6 x7 x8) := by
  intros; rw [k0_part277_eq_skeleton]; unfold k0_part277_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part278 : ∀ x0 x1 x2 x3 x4 x5 x6 x7 x8 x9 x10 x11 x12, Kept d B (a.at (k0_part278 (F := F)) x0 x1 x2 x3 x4 x5 x6 x7 x8 x9 x10 x11 x12) := by
  intros; rw [k0_part278_eq_skeleton]; unfold k0_part278_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part279 : ∀ x0 x1 x2 x3, Kept d B (a.at (k0_part279 (F := F)) x0 x1 x2 x3) := by
  intros; rw [k0_part279_eq_skeleton]; unfold k0_part279_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part280 : ∀ x0 x1 x2 x3 x4, Kept d B (a.at (k0_part280 (F := F)) x0 x1 x2 x3 x4) := by
  intros; rw [k0_part280_eq_skeleton]; unfold k0_part280_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part281 : ∀ x0 x1 x2 x3 x4, Kept d B (a.at (k0_part281 (F := F)) x0 x1 x2 x3 x4) := by
  intros; rw [k0_part281_eq_skeleton]; unfold k0_part281_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part282 : ∀ x0 x1 x2 x3, Kept d B (a.at (k0_part282 (F := F)) x0 x1 x2 x3) := by
  intros; rw [k0_part282_eq_skeleton]; unfold k0_part282_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part283 : ∀ x0 x1 x2 x3 x4 x5 x6 x7 x8 x9, Kept d B (a.at (k0_part283 (F := F)) x0 x1 x2 x3 x4 x5 x6 x7 x8 x9) := by
  intros; rw [k0_part283_eq_skeleton]; unfold k0_part283_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part284 : ∀ x0 x1 x2 x3 x4 x5 x6 x7 x8 x9, Kept d B (a.at (k0_part284 (F := F)) x0 x1 x2 x3 x4 x5 x6 x7 x8 x9) := by
  intros; rw [k0_part284_eq_skeleton]; unfold k0_part284_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part285 : ∀ x0 x1 x2 x3 x4 x5 x6 x7 x8 x9 x10, Kept d B (a.at (k0_part285 (F := F)) x0 x1 x2 x3 x4 x5 x6 x7 x8 x9 x10) := by
  intros; rw [k0_part285_eq_skeleton]; unfold k0_part285_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part286 : ∀ x0 x1 x2 x3 x4 x5 x6 x7 x8 x9 x10, Kept d B (a.at (k0_part286 (F := F)) x0 x1 x2 x3 x4 x5 x6 x7 x8 x9 x10) := by
  intros; rw [k0_part286_eq_skeleton]; unfold k0_part286_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part287 : ∀ x0 x1 x2 x3, Kept d B (a.at (k0_part287 (F := F)) x0 x1 x2 x3) := by
  intros; rw [k0_part287_eq_skeleton]; unfold k0_part287_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part288 : ∀ x0 x1 x2 x3 x4, Kept d B (a.at (k0_part288 (F := F)) x0 x1 x2 x3 x4) := by
  intros; rw [k0_part288_eq_skeleton]; unfold k0_part288_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part289 : ∀ x0 x1 x2 x3, Kept d B (a.at (k0_part289 (F := F)) x0 x1 x2 x3) := by
  intros; rw [k0_part289_eq_skeleton]; unfold k0_part289_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part291 : ∀ x0 x1 x2 x3 x4 x5 x6 x7 x8 x9, Kept d B (a.at (k0_part291 (F := F)) x0 x1 x2 x3 x4 x5 x6 x7 x8 x9) := by
  intros; rw [k0_part291_eq_skeleton]; unfold k0_part291_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part292 : ∀ x0 x1 x2 x3 x4 x5 x6 x7 x8, Kept d B (a.at (k0_part292 (F := F)) x0 x1 x2 x3 x4 x5 x6 x7 x8) := by
  intros; rw [k0_part292_eq_skeleton]; unfold k0_part292_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part293 : ∀ x0 x1 x2 x3 x4 x5 x6 x7 x8 x9, Kept d B (a.at (k0_part293 (F := F)) x0 x1 x2 x3 x4 x5 x6 x7 x8 x9) := by
  intros; rw [k0_part293_eq_skeleton]; unfold k0_part293_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part294 : ∀ x0 x1 x2 x3 x4 x5 x6 x7 x8 x9, Kept d B (a.at (k0_part294 (F := F)) x0 x1 x2 x3 x4 x5 x6 x7 x8 x9) := by
  intros; rw [k0_part294_eq_skeleton]; unfold k0_part294_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part295 : ∀ x0 x1 x2, Kept d B (a.at (k0_part295 (F := F)) x0 x1 x2) := by
  intros; rw [k0_part295_eq_skeleton]; unfold k0_part295_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part296 : ∀ x0 x1 x2 x3, Kept d B (a.at (k0_part296 (F := F)) x0 x1 x2 x3) := by
  intros; rw [k0_part296_eq_skeleton]; unfold k0_part296_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part297 : ∀ x0 x1 x2, Kept d B (a.at (k0_part297 (F := F)) x0 x1 x2) := by
  intros; rw [k0_part297_eq_skeleton]; unfold k0_part297_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part299 : ∀ x0 x1 x2 x3 x4 x5 x6 x7 x8 x9, Kept d B (a.at (k0_part299 (F := F)) x0 x1 x2 x3 x4 x5 x6 x7 x8 x9) := by
  intros; rw [k0_part299_eq_skeleton]; unfold k0_part299_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part300 : ∀ x0 x1 x2 x3 x4 x5 x6 x7 x8, Kept d B (a.at (k0_part300 (F := F)) x0 x1 x2 x3 x4 x5 x6 x7 x8) := by
  intros; rw [k0_part300_eq_skeleton]; unfold k0_part300_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part301 : ∀ x0 x1 x2 x3 x4 x5 x6 x7 x8 x9, Kept d B (a.at (k0_part301 (F := F)) x0 x1 x2 x3 x4 x5 x6 x7 x8 x9) := by
  intros; rw [k0_part301_eq_skeleton]; unfold k0_part301_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

end Cert.Proof.Kernel

end
-- ==== Proof.FramePieces5.lean ====
/- The pieces of the attention call each keep the staged blocks and the scratch buffers they work on (part 5). -/
module

public import proofs.«01_k».proof.Proof.FrameBase

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_part302 : ∀ x0 x1 x2 x3 x4 x5 x6 x7 x8 x9, Kept d B (a.at (k0_part302 (F := F)) x0 x1 x2 x3 x4 x5 x6 x7 x8 x9) := by
  intros; rw [k0_part302_eq_skeleton]; unfold k0_part302_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part303 : ∀ x0 x1 x2, Kept d B (a.at (k0_part303 (F := F)) x0 x1 x2) := by
  intros; rw [k0_part303_eq_skeleton]; unfold k0_part303_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part304 : ∀ x0 x1 x2 x3, Kept d B (a.at (k0_part304 (F := F)) x0 x1 x2 x3) := by
  intros; rw [k0_part304_eq_skeleton]; unfold k0_part304_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part305 : ∀ x0 x1 x2, Kept d B (a.at (k0_part305 (F := F)) x0 x1 x2) := by
  intros; rw [k0_part305_eq_skeleton]; unfold k0_part305_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part504 : ∀ x0 x1 x2 x3 x4 x5 x6 x7 x8 x9 x10 x11, Kept d B (a.at (k0_part504 (F := F)) x0 x1 x2 x3 x4 x5 x6 x7 x8 x9 x10 x11) := by
  intros; rw [k0_part504_eq_skeleton]; unfold k0_part504_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part505 : ∀ x0 x1 x2, Kept d B (a.at (k0_part505 (F := F)) x0 x1 x2) := by
  intros; rw [k0_part505_eq_skeleton]; unfold k0_part505_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part506 : ∀ x0 x1 x2, Kept d B (a.at (k0_part506 (F := F)) x0 x1 x2) := by
  intros; rw [k0_part506_eq_skeleton]; unfold k0_part506_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part507 : ∀ x0 x1 x2, Kept d B (a.at (k0_part507 (F := F)) x0 x1 x2) := by
  intros; rw [k0_part507_eq_skeleton]; unfold k0_part507_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part508 : ∀ x0 x1 x2, Kept d B (a.at (k0_part508 (F := F)) x0 x1 x2) := by
  intros; rw [k0_part508_eq_skeleton]; unfold k0_part508_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part509 : ∀ x0, Kept d B (a.at (k0_part509 (F := F)) x0) := by
  intros; rw [k0_part509_eq_skeleton]; unfold k0_part509_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part307 : ∀ x0 x1 x2, Kept d B (a.at (k0_part307 (F := F)) x0 x1 x2) := by
  intros; rw [k0_part307_eq_skeleton]; unfold k0_part307_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part308 : ∀ x0 x1 x2, Kept d B (a.at (k0_part308 (F := F)) x0 x1 x2) := by
  intros; rw [k0_part308_eq_skeleton]; unfold k0_part308_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part309 : ∀ x0 x1, Kept d B (a.at (k0_part309 (F := F)) x0 x1) := by
  intros; rw [k0_part309_eq_skeleton]; unfold k0_part309_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part310 : ∀ x0 x1 x2, Kept d B (a.at (k0_part310 (F := F)) x0 x1 x2) := by
  intros; rw [k0_part310_eq_skeleton]; unfold k0_part310_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part311 : ∀ x0 x1, Kept d B (a.at (k0_part311 (F := F)) x0 x1) := by
  intros; rw [k0_part311_eq_skeleton]; unfold k0_part311_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part312 : ∀ x0 x1 x2, Kept d B (a.at (k0_part312 (F := F)) x0 x1 x2) := by
  intros; rw [k0_part312_eq_skeleton]; unfold k0_part312_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part313 : ∀ x0 x1 x2 x3 x4 x5, Kept d B (a.at (k0_part313 (F := F)) x0 x1 x2 x3 x4 x5) := by
  intros; rw [k0_part313_eq_skeleton]; unfold k0_part313_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part314 : ∀ x0 x1 x2 x3 x4 x5 x6 x7 x8, Kept d B (a.at (k0_part314 (F := F)) x0 x1 x2 x3 x4 x5 x6 x7 x8) := by
  intros; rw [k0_part314_eq_skeleton]; unfold k0_part314_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part315 : ∀ x0 x1, Kept d B (a.at (k0_part315 (F := F)) x0 x1) := by
  intros; rw [k0_part315_eq_skeleton]; unfold k0_part315_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part316 : ∀ x0 x1 x2 x3 x4 x5, Kept d B (a.at (k0_part316 (F := F)) x0 x1 x2 x3 x4 x5) := by
  intros; rw [k0_part316_eq_skeleton]; unfold k0_part316_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part317 : ∀ x0 x1 x2 x3 x4, Kept d B (a.at (k0_part317 (F := F)) x0 x1 x2 x3 x4) := by
  intros; rw [k0_part317_eq_skeleton]; unfold k0_part317_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part318 : ∀ x0 x1 x2 x3 x4 x5 x6, Kept d B (a.at (k0_part318 (F := F)) x0 x1 x2 x3 x4 x5 x6) := by
  intros; rw [k0_part318_eq_skeleton]; unfold k0_part318_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part319 : ∀ x0 x1 x2 x3 x4, Kept d B (a.at (k0_part319 (F := F)) x0 x1 x2 x3 x4) := by
  intros; rw [k0_part319_eq_skeleton]; unfold k0_part319_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part320 : ∀ x0 x1 x2 x3 x4 x5, Kept d B (a.at (k0_part320 (F := F)) x0 x1 x2 x3 x4 x5) := by
  intros; rw [k0_part320_eq_skeleton]; unfold k0_part320_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part321 : ∀ x0 x1, Kept d B (a.at (k0_part321 (F := F)) x0 x1) := by
  intros; rw [k0_part321_eq_skeleton]; unfold k0_part321_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part322 : ∀ x0 x1 x2, Kept d B (a.at (k0_part322 (F := F)) x0 x1 x2) := by
  intros; rw [k0_part322_eq_skeleton]; unfold k0_part322_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part323 : ∀ x0 x1 x2, Kept d B (a.at (k0_part323 (F := F)) x0 x1 x2) := by
  intros; rw [k0_part323_eq_skeleton]; unfold k0_part323_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part324 : ∀ x0 x1, Kept d B (a.at (k0_part324 (F := F)) x0 x1) := by
  intros; rw [k0_part324_eq_skeleton]; unfold k0_part324_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part325 : ∀ x0 x1 x2, Kept d B (a.at (k0_part325 (F := F)) x0 x1 x2) := by
  intros; rw [k0_part325_eq_skeleton]; unfold k0_part325_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part326 : ∀ x0 x1, Kept d B (a.at (k0_part326 (F := F)) x0 x1) := by
  intros; rw [k0_part326_eq_skeleton]; unfold k0_part326_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part327 : ∀ x0 x1 x2, Kept d B (a.at (k0_part327 (F := F)) x0 x1 x2) := by
  intros; rw [k0_part327_eq_skeleton]; unfold k0_part327_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part328 : ∀ x0 x1 x2 x3 x4 x5, Kept d B (a.at (k0_part328 (F := F)) x0 x1 x2 x3 x4 x5) := by
  intros; rw [k0_part328_eq_skeleton]; unfold k0_part328_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part329 : ∀ x0 x1 x2 x3 x4 x5 x6 x7 x8, Kept d B (a.at (k0_part329 (F := F)) x0 x1 x2 x3 x4 x5 x6 x7 x8) := by
  intros; rw [k0_part329_eq_skeleton]; unfold k0_part329_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part330 : ∀ x0 x1, Kept d B (a.at (k0_part330 (F := F)) x0 x1) := by
  intros; rw [k0_part330_eq_skeleton]; unfold k0_part330_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part331 : ∀ x0 x1 x2 x3 x4 x5, Kept d B (a.at (k0_part331 (F := F)) x0 x1 x2 x3 x4 x5) := by
  intros; rw [k0_part331_eq_skeleton]; unfold k0_part331_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part332 : ∀ x0 x1 x2 x3 x4, Kept d B (a.at (k0_part332 (F := F)) x0 x1 x2 x3 x4) := by
  intros; rw [k0_part332_eq_skeleton]; unfold k0_part332_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part333 : ∀ x0 x1 x2 x3 x4 x5 x6, Kept d B (a.at (k0_part333 (F := F)) x0 x1 x2 x3 x4 x5 x6) := by
  intros; rw [k0_part333_eq_skeleton]; unfold k0_part333_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part334 : ∀ x0 x1 x2 x3 x4, Kept d B (a.at (k0_part334 (F := F)) x0 x1 x2 x3 x4) := by
  intros; rw [k0_part334_eq_skeleton]; unfold k0_part334_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part335 : ∀ x0 x1 x2 x3 x4 x5, Kept d B (a.at (k0_part335 (F := F)) x0 x1 x2 x3 x4 x5) := by
  intros; rw [k0_part335_eq_skeleton]; unfold k0_part335_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part336 : ∀ x0 x1, Kept d B (a.at (k0_part336 (F := F)) x0 x1) := by
  intros; rw [k0_part336_eq_skeleton]; unfold k0_part336_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part337 : ∀ x0 x1 x2 x3, Kept d B (a.at (k0_part337 (F := F)) x0 x1 x2 x3) := by
  intros; rw [k0_part337_eq_skeleton]; unfold k0_part337_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part338 : ∀ x0 x1, Kept d B (a.at (k0_part338 (F := F)) x0 x1) := by
  intros; rw [k0_part338_eq_skeleton]; unfold k0_part338_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part339 : ∀ x0, Kept d B (a.at (k0_part339 (F := F)) x0) := by
  intros; rw [k0_part339_eq_skeleton]; unfold k0_part339_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part340 : ∀ x0 x1 x2, Kept d B (a.at (k0_part340 (F := F)) x0 x1 x2) := by
  intros; rw [k0_part340_eq_skeleton]; unfold k0_part340_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part341 : ∀ x0, Kept d B (a.at (k0_part341 (F := F)) x0) := by
  intros; rw [k0_part341_eq_skeleton]; unfold k0_part341_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part342 : ∀ x0 x1, Kept d B (a.at (k0_part342 (F := F)) x0 x1) := by
  intros; rw [k0_part342_eq_skeleton]; unfold k0_part342_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part343 : ∀ x0 x1 x2 x3 x4, Kept d B (a.at (k0_part343 (F := F)) x0 x1 x2 x3 x4) := by
  intros; rw [k0_part343_eq_skeleton]; unfold k0_part343_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part344 : ∀ x0 x1 x2 x3, Kept d B (a.at (k0_part344 (F := F)) x0 x1 x2 x3) := by
  intros; rw [k0_part344_eq_skeleton]; unfold k0_part344_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part345 : ∀ x0 x1, Kept d B (a.at (k0_part345 (F := F)) x0 x1) := by
  intros; rw [k0_part345_eq_skeleton]; unfold k0_part345_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part346 : ∀ x0, Kept d B (a.at (k0_part346 (F := F)) x0) := by
  intros; rw [k0_part346_eq_skeleton]; unfold k0_part346_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part347 : ∀ x0 x1 x2, Kept d B (a.at (k0_part347 (F := F)) x0 x1 x2) := by
  intros; rw [k0_part347_eq_skeleton]; unfold k0_part347_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part348 : ∀ x0, Kept d B (a.at (k0_part348 (F := F)) x0) := by
  intros; rw [k0_part348_eq_skeleton]; unfold k0_part348_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part349 : ∀ x0 x1, Kept d B (a.at (k0_part349 (F := F)) x0 x1) := by
  intros; rw [k0_part349_eq_skeleton]; unfold k0_part349_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part350 : ∀ x0 x1 x2 x3 x4, Kept d B (a.at (k0_part350 (F := F)) x0 x1 x2 x3 x4) := by
  intros; rw [k0_part350_eq_skeleton]; unfold k0_part350_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part512 : Kept d B (a.at (k0_part512 (F := F))) := by
  rw [k0_part512_eq_skeleton]; unfold k0_part512_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part513 : ∀ x0 x1 x2, Kept d B (a.at (k0_part513 (F := F)) x0 x1 x2) := by
  intros; rw [k0_part513_eq_skeleton]; unfold k0_part513_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part514 : ∀ x0 x1 x2 x3, Kept d B (a.at (k0_part514 (F := F)) x0 x1 x2 x3) := by
  intros; rw [k0_part514_eq_skeleton]; unfold k0_part514_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part515 : ∀ x0 x1 x2, Kept d B (a.at (k0_part515 (F := F)) x0 x1 x2) := by
  intros; rw [k0_part515_eq_skeleton]; unfold k0_part515_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part516 : ∀ x0 x1 x2, Kept d B (a.at (k0_part516 (F := F)) x0 x1 x2) := by
  intros; rw [k0_part516_eq_skeleton]; unfold k0_part516_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part517 : Kept d B (a.at (k0_part517 (F := F))) := by
  rw [k0_part517_eq_skeleton]; unfold k0_part517_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part518 : ∀ x0 x1 x2 x3 x4 x5, Kept d B (a.at (k0_part518 (F := F)) x0 x1 x2 x3 x4 x5) := by
  intros; rw [k0_part518_eq_skeleton]; unfold k0_part518_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part519 : Kept d B (a.at (k0_part519 (F := F))) := by
  rw [k0_part519_eq_skeleton]; unfold k0_part519_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part520 : ∀ x0 x1 x2 x3 x4 x5, Kept d B (a.at (k0_part520 (F := F)) x0 x1 x2 x3 x4 x5) := by
  intros; rw [k0_part520_eq_skeleton]; unfold k0_part520_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part521 : ∀ x0 x1 x2 x3, Kept d B (a.at (k0_part521 (F := F)) x0 x1 x2 x3) := by
  intros; rw [k0_part521_eq_skeleton]; unfold k0_part521_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part522 : ∀ x0 x1 x2, Kept d B (a.at (k0_part522 (F := F)) x0 x1 x2) := by
  intros; rw [k0_part522_eq_skeleton]; unfold k0_part522_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part351 : ∀ x0 x1 x2 x3 x4 x5 x6 x7 x8, Kept d B (a.at (k0_part351 (F := F)) x0 x1 x2 x3 x4 x5 x6 x7 x8) := by
  intros; rw [k0_part351_eq_skeleton]; unfold k0_part351_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part352 : ∀ x0 x1 x2 x3 x4 x5 x6 x7 x8 x9 x10, Kept d B (a.at (k0_part352 (F := F)) x0 x1 x2 x3 x4 x5 x6 x7 x8 x9 x10) := by
  intros; rw [k0_part352_eq_skeleton]; unfold k0_part352_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part353 : ∀ x0 x1 x2 x3 x4 x5 x6 x7 x8, Kept d B (a.at (k0_part353 (F := F)) x0 x1 x2 x3 x4 x5 x6 x7 x8) := by
  intros; rw [k0_part353_eq_skeleton]; unfold k0_part353_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part354 : ∀ x0 x1 x2 x3 x4 x5 x6 x7 x8 x9 x10 x11 x12, Kept d B (a.at (k0_part354 (F := F)) x0 x1 x2 x3 x4 x5 x6 x7 x8 x9 x10 x11 x12) := by
  intros; rw [k0_part354_eq_skeleton]; unfold k0_part354_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part355 : ∀ x0 x1 x2 x3, Kept d B (a.at (k0_part355 (F := F)) x0 x1 x2 x3) := by
  intros; rw [k0_part355_eq_skeleton]; unfold k0_part355_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part356 : ∀ x0 x1 x2 x3 x4, Kept d B (a.at (k0_part356 (F := F)) x0 x1 x2 x3 x4) := by
  intros; rw [k0_part356_eq_skeleton]; unfold k0_part356_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part357 : ∀ x0 x1 x2 x3 x4, Kept d B (a.at (k0_part357 (F := F)) x0 x1 x2 x3 x4) := by
  intros; rw [k0_part357_eq_skeleton]; unfold k0_part357_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part358 : ∀ x0 x1 x2 x3, Kept d B (a.at (k0_part358 (F := F)) x0 x1 x2 x3) := by
  intros; rw [k0_part358_eq_skeleton]; unfold k0_part358_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part359 : ∀ x0 x1 x2 x3 x4 x5 x6 x7 x8 x9, Kept d B (a.at (k0_part359 (F := F)) x0 x1 x2 x3 x4 x5 x6 x7 x8 x9) := by
  intros; rw [k0_part359_eq_skeleton]; unfold k0_part359_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part360 : ∀ x0 x1 x2 x3 x4 x5 x6 x7 x8 x9, Kept d B (a.at (k0_part360 (F := F)) x0 x1 x2 x3 x4 x5 x6 x7 x8 x9) := by
  intros; rw [k0_part360_eq_skeleton]; unfold k0_part360_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part361 : ∀ x0 x1 x2 x3 x4 x5 x6 x7 x8 x9 x10, Kept d B (a.at (k0_part361 (F := F)) x0 x1 x2 x3 x4 x5 x6 x7 x8 x9 x10) := by
  intros; rw [k0_part361_eq_skeleton]; unfold k0_part361_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part362 : ∀ x0 x1 x2 x3 x4 x5 x6 x7 x8 x9 x10, Kept d B (a.at (k0_part362 (F := F)) x0 x1 x2 x3 x4 x5 x6 x7 x8 x9 x10) := by
  intros; rw [k0_part362_eq_skeleton]; unfold k0_part362_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part363 : ∀ x0 x1 x2 x3, Kept d B (a.at (k0_part363 (F := F)) x0 x1 x2 x3) := by
  intros; rw [k0_part363_eq_skeleton]; unfold k0_part363_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part364 : ∀ x0 x1 x2 x3 x4, Kept d B (a.at (k0_part364 (F := F)) x0 x1 x2 x3 x4) := by
  intros; rw [k0_part364_eq_skeleton]; unfold k0_part364_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part365 : ∀ x0 x1 x2 x3, Kept d B (a.at (k0_part365 (F := F)) x0 x1 x2 x3) := by
  intros; rw [k0_part365_eq_skeleton]; unfold k0_part365_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part367 : ∀ x0 x1 x2 x3 x4 x5 x6 x7 x8, Kept d B (a.at (k0_part367 (F := F)) x0 x1 x2 x3 x4 x5 x6 x7 x8) := by
  intros; rw [k0_part367_eq_skeleton]; unfold k0_part367_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part368 : ∀ x0 x1 x2 x3 x4 x5 x6 x7 x8 x9 x10, Kept d B (a.at (k0_part368 (F := F)) x0 x1 x2 x3 x4 x5 x6 x7 x8 x9 x10) := by
  intros; rw [k0_part368_eq_skeleton]; unfold k0_part368_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part369 : ∀ x0 x1 x2 x3 x4 x5 x6 x7 x8, Kept d B (a.at (k0_part369 (F := F)) x0 x1 x2 x3 x4 x5 x6 x7 x8) := by
  intros; rw [k0_part369_eq_skeleton]; unfold k0_part369_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part370 : ∀ x0 x1 x2 x3 x4 x5 x6 x7 x8 x9 x10 x11 x12, Kept d B (a.at (k0_part370 (F := F)) x0 x1 x2 x3 x4 x5 x6 x7 x8 x9 x10 x11 x12) := by
  intros; rw [k0_part370_eq_skeleton]; unfold k0_part370_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

end Cert.Proof.Kernel

end
-- ==== Proof.FramePieces6.lean ====
/- The pieces of the attention call each keep the staged blocks and the scratch buffers they work on (part 6). -/
module

public import proofs.«01_k».proof.Proof.FrameBase

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_part371 : ∀ x0 x1 x2 x3, Kept d B (a.at (k0_part371 (F := F)) x0 x1 x2 x3) := by
  intros; rw [k0_part371_eq_skeleton]; unfold k0_part371_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part372 : ∀ x0 x1 x2 x3 x4, Kept d B (a.at (k0_part372 (F := F)) x0 x1 x2 x3 x4) := by
  intros; rw [k0_part372_eq_skeleton]; unfold k0_part372_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part373 : ∀ x0 x1 x2 x3 x4, Kept d B (a.at (k0_part373 (F := F)) x0 x1 x2 x3 x4) := by
  intros; rw [k0_part373_eq_skeleton]; unfold k0_part373_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part374 : ∀ x0 x1 x2 x3, Kept d B (a.at (k0_part374 (F := F)) x0 x1 x2 x3) := by
  intros; rw [k0_part374_eq_skeleton]; unfold k0_part374_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part375 : ∀ x0 x1 x2 x3 x4 x5 x6 x7 x8 x9, Kept d B (a.at (k0_part375 (F := F)) x0 x1 x2 x3 x4 x5 x6 x7 x8 x9) := by
  intros; rw [k0_part375_eq_skeleton]; unfold k0_part375_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part376 : ∀ x0 x1 x2 x3 x4 x5 x6 x7 x8 x9, Kept d B (a.at (k0_part376 (F := F)) x0 x1 x2 x3 x4 x5 x6 x7 x8 x9) := by
  intros; rw [k0_part376_eq_skeleton]; unfold k0_part376_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part377 : ∀ x0 x1 x2 x3 x4 x5 x6 x7 x8 x9 x10, Kept d B (a.at (k0_part377 (F := F)) x0 x1 x2 x3 x4 x5 x6 x7 x8 x9 x10) := by
  intros; rw [k0_part377_eq_skeleton]; unfold k0_part377_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part378 : ∀ x0 x1 x2 x3 x4 x5 x6 x7 x8 x9 x10, Kept d B (a.at (k0_part378 (F := F)) x0 x1 x2 x3 x4 x5 x6 x7 x8 x9 x10) := by
  intros; rw [k0_part378_eq_skeleton]; unfold k0_part378_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part379 : ∀ x0 x1 x2 x3, Kept d B (a.at (k0_part379 (F := F)) x0 x1 x2 x3) := by
  intros; rw [k0_part379_eq_skeleton]; unfold k0_part379_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part380 : ∀ x0 x1 x2 x3 x4, Kept d B (a.at (k0_part380 (F := F)) x0 x1 x2 x3 x4) := by
  intros; rw [k0_part380_eq_skeleton]; unfold k0_part380_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part381 : ∀ x0 x1 x2 x3, Kept d B (a.at (k0_part381 (F := F)) x0 x1 x2 x3) := by
  intros; rw [k0_part381_eq_skeleton]; unfold k0_part381_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part383 : ∀ x0 x1 x2 x3 x4 x5 x6 x7 x8 x9, Kept d B (a.at (k0_part383 (F := F)) x0 x1 x2 x3 x4 x5 x6 x7 x8 x9) := by
  intros; rw [k0_part383_eq_skeleton]; unfold k0_part383_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part384 : ∀ x0 x1 x2 x3 x4 x5 x6 x7 x8, Kept d B (a.at (k0_part384 (F := F)) x0 x1 x2 x3 x4 x5 x6 x7 x8) := by
  intros; rw [k0_part384_eq_skeleton]; unfold k0_part384_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part385 : ∀ x0 x1 x2 x3 x4 x5 x6 x7 x8 x9, Kept d B (a.at (k0_part385 (F := F)) x0 x1 x2 x3 x4 x5 x6 x7 x8 x9) := by
  intros; rw [k0_part385_eq_skeleton]; unfold k0_part385_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part386 : ∀ x0 x1 x2 x3 x4 x5 x6 x7 x8 x9, Kept d B (a.at (k0_part386 (F := F)) x0 x1 x2 x3 x4 x5 x6 x7 x8 x9) := by
  intros; rw [k0_part386_eq_skeleton]; unfold k0_part386_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part387 : ∀ x0 x1 x2, Kept d B (a.at (k0_part387 (F := F)) x0 x1 x2) := by
  intros; rw [k0_part387_eq_skeleton]; unfold k0_part387_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part388 : ∀ x0 x1 x2 x3, Kept d B (a.at (k0_part388 (F := F)) x0 x1 x2 x3) := by
  intros; rw [k0_part388_eq_skeleton]; unfold k0_part388_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part389 : ∀ x0 x1 x2, Kept d B (a.at (k0_part389 (F := F)) x0 x1 x2) := by
  intros; rw [k0_part389_eq_skeleton]; unfold k0_part389_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part391 : ∀ x0 x1 x2 x3 x4 x5 x6 x7 x8 x9, Kept d B (a.at (k0_part391 (F := F)) x0 x1 x2 x3 x4 x5 x6 x7 x8 x9) := by
  intros; rw [k0_part391_eq_skeleton]; unfold k0_part391_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part392 : ∀ x0 x1 x2 x3 x4 x5 x6 x7 x8, Kept d B (a.at (k0_part392 (F := F)) x0 x1 x2 x3 x4 x5 x6 x7 x8) := by
  intros; rw [k0_part392_eq_skeleton]; unfold k0_part392_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part393 : ∀ x0 x1 x2 x3 x4 x5 x6 x7 x8 x9, Kept d B (a.at (k0_part393 (F := F)) x0 x1 x2 x3 x4 x5 x6 x7 x8 x9) := by
  intros; rw [k0_part393_eq_skeleton]; unfold k0_part393_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part394 : ∀ x0 x1 x2 x3 x4 x5 x6 x7 x8 x9, Kept d B (a.at (k0_part394 (F := F)) x0 x1 x2 x3 x4 x5 x6 x7 x8 x9) := by
  intros; rw [k0_part394_eq_skeleton]; unfold k0_part394_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part395 : ∀ x0 x1 x2, Kept d B (a.at (k0_part395 (F := F)) x0 x1 x2) := by
  intros; rw [k0_part395_eq_skeleton]; unfold k0_part395_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part396 : ∀ x0 x1 x2 x3, Kept d B (a.at (k0_part396 (F := F)) x0 x1 x2 x3) := by
  intros; rw [k0_part396_eq_skeleton]; unfold k0_part396_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part397 : ∀ x0 x1 x2, Kept d B (a.at (k0_part397 (F := F)) x0 x1 x2) := by
  intros; rw [k0_part397_eq_skeleton]; unfold k0_part397_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part524 : ∀ x0 x1 x2 x3 x4 x5 x6 x7 x8 x9 x10, Kept d B (a.at (k0_part524 (F := F)) x0 x1 x2 x3 x4 x5 x6 x7 x8 x9 x10) := by
  intros; rw [k0_part524_eq_skeleton]; unfold k0_part524_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part525 : ∀ x0 x1 x2 x3 x4, Kept d B (a.at (k0_part525 (F := F)) x0 x1 x2 x3 x4) := by
  intros; rw [k0_part525_eq_skeleton]; unfold k0_part525_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part526 : ∀ x0 x1, Kept d B (a.at (k0_part526 (F := F)) x0 x1) := by
  intros; rw [k0_part526_eq_skeleton]; unfold k0_part526_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part527 : ∀ x0 x1 x2 x3, Kept d B (a.at (k0_part527 (F := F)) x0 x1 x2 x3) := by
  intros; rw [k0_part527_eq_skeleton]; unfold k0_part527_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part528 : ∀ x0 x1 x2 x3, Kept d B (a.at (k0_part528 (F := F)) x0 x1 x2 x3) := by
  intros; rw [k0_part528_eq_skeleton]; unfold k0_part528_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part529 : ∀ x0 x1 x2, Kept d B (a.at (k0_part529 (F := F)) x0 x1 x2) := by
  intros; rw [k0_part529_eq_skeleton]; unfold k0_part529_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part399 : ∀ x0 x1 x2, Kept d B (a.at (k0_part399 (F := F)) x0 x1 x2) := by
  intros; rw [k0_part399_eq_skeleton]; unfold k0_part399_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part400 : ∀ x0 x1 x2, Kept d B (a.at (k0_part400 (F := F)) x0 x1 x2) := by
  intros; rw [k0_part400_eq_skeleton]; unfold k0_part400_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part401 : ∀ x0 x1, Kept d B (a.at (k0_part401 (F := F)) x0 x1) := by
  intros; rw [k0_part401_eq_skeleton]; unfold k0_part401_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part402 : ∀ x0 x1 x2, Kept d B (a.at (k0_part402 (F := F)) x0 x1 x2) := by
  intros; rw [k0_part402_eq_skeleton]; unfold k0_part402_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part403 : ∀ x0 x1, Kept d B (a.at (k0_part403 (F := F)) x0 x1) := by
  intros; rw [k0_part403_eq_skeleton]; unfold k0_part403_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part404 : ∀ x0 x1 x2, Kept d B (a.at (k0_part404 (F := F)) x0 x1 x2) := by
  intros; rw [k0_part404_eq_skeleton]; unfold k0_part404_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part405 : ∀ x0 x1 x2 x3 x4 x5, Kept d B (a.at (k0_part405 (F := F)) x0 x1 x2 x3 x4 x5) := by
  intros; rw [k0_part405_eq_skeleton]; unfold k0_part405_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part406 : ∀ x0 x1 x2 x3 x4 x5 x6 x7 x8, Kept d B (a.at (k0_part406 (F := F)) x0 x1 x2 x3 x4 x5 x6 x7 x8) := by
  intros; rw [k0_part406_eq_skeleton]; unfold k0_part406_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part407 : ∀ x0 x1, Kept d B (a.at (k0_part407 (F := F)) x0 x1) := by
  intros; rw [k0_part407_eq_skeleton]; unfold k0_part407_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part408 : ∀ x0 x1 x2 x3 x4 x5, Kept d B (a.at (k0_part408 (F := F)) x0 x1 x2 x3 x4 x5) := by
  intros; rw [k0_part408_eq_skeleton]; unfold k0_part408_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part409 : ∀ x0 x1 x2 x3 x4, Kept d B (a.at (k0_part409 (F := F)) x0 x1 x2 x3 x4) := by
  intros; rw [k0_part409_eq_skeleton]; unfold k0_part409_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part410 : ∀ x0 x1 x2 x3 x4 x5 x6, Kept d B (a.at (k0_part410 (F := F)) x0 x1 x2 x3 x4 x5 x6) := by
  intros; rw [k0_part410_eq_skeleton]; unfold k0_part410_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part411 : ∀ x0 x1 x2 x3 x4, Kept d B (a.at (k0_part411 (F := F)) x0 x1 x2 x3 x4) := by
  intros; rw [k0_part411_eq_skeleton]; unfold k0_part411_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part412 : ∀ x0 x1 x2 x3 x4 x5, Kept d B (a.at (k0_part412 (F := F)) x0 x1 x2 x3 x4 x5) := by
  intros; rw [k0_part412_eq_skeleton]; unfold k0_part412_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part413 : ∀ x0 x1, Kept d B (a.at (k0_part413 (F := F)) x0 x1) := by
  intros; rw [k0_part413_eq_skeleton]; unfold k0_part413_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part414 : ∀ x0 x1 x2, Kept d B (a.at (k0_part414 (F := F)) x0 x1 x2) := by
  intros; rw [k0_part414_eq_skeleton]; unfold k0_part414_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part415 : ∀ x0 x1 x2, Kept d B (a.at (k0_part415 (F := F)) x0 x1 x2) := by
  intros; rw [k0_part415_eq_skeleton]; unfold k0_part415_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part416 : ∀ x0 x1, Kept d B (a.at (k0_part416 (F := F)) x0 x1) := by
  intros; rw [k0_part416_eq_skeleton]; unfold k0_part416_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part417 : ∀ x0 x1 x2, Kept d B (a.at (k0_part417 (F := F)) x0 x1 x2) := by
  intros; rw [k0_part417_eq_skeleton]; unfold k0_part417_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part418 : ∀ x0 x1, Kept d B (a.at (k0_part418 (F := F)) x0 x1) := by
  intros; rw [k0_part418_eq_skeleton]; unfold k0_part418_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part419 : ∀ x0 x1 x2, Kept d B (a.at (k0_part419 (F := F)) x0 x1 x2) := by
  intros; rw [k0_part419_eq_skeleton]; unfold k0_part419_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part420 : ∀ x0 x1 x2 x3 x4 x5, Kept d B (a.at (k0_part420 (F := F)) x0 x1 x2 x3 x4 x5) := by
  intros; rw [k0_part420_eq_skeleton]; unfold k0_part420_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part421 : ∀ x0 x1 x2 x3 x4 x5 x6 x7 x8, Kept d B (a.at (k0_part421 (F := F)) x0 x1 x2 x3 x4 x5 x6 x7 x8) := by
  intros; rw [k0_part421_eq_skeleton]; unfold k0_part421_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part422 : ∀ x0 x1, Kept d B (a.at (k0_part422 (F := F)) x0 x1) := by
  intros; rw [k0_part422_eq_skeleton]; unfold k0_part422_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part423 : ∀ x0 x1 x2 x3 x4 x5, Kept d B (a.at (k0_part423 (F := F)) x0 x1 x2 x3 x4 x5) := by
  intros; rw [k0_part423_eq_skeleton]; unfold k0_part423_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part424 : ∀ x0 x1 x2 x3 x4, Kept d B (a.at (k0_part424 (F := F)) x0 x1 x2 x3 x4) := by
  intros; rw [k0_part424_eq_skeleton]; unfold k0_part424_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part425 : ∀ x0 x1 x2 x3 x4 x5 x6, Kept d B (a.at (k0_part425 (F := F)) x0 x1 x2 x3 x4 x5 x6) := by
  intros; rw [k0_part425_eq_skeleton]; unfold k0_part425_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part426 : ∀ x0 x1 x2 x3 x4, Kept d B (a.at (k0_part426 (F := F)) x0 x1 x2 x3 x4) := by
  intros; rw [k0_part426_eq_skeleton]; unfold k0_part426_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part427 : ∀ x0 x1 x2 x3 x4 x5, Kept d B (a.at (k0_part427 (F := F)) x0 x1 x2 x3 x4 x5) := by
  intros; rw [k0_part427_eq_skeleton]; unfold k0_part427_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part428 : ∀ x0 x1, Kept d B (a.at (k0_part428 (F := F)) x0 x1) := by
  intros; rw [k0_part428_eq_skeleton]; unfold k0_part428_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part429 : ∀ x0 x1 x2 x3, Kept d B (a.at (k0_part429 (F := F)) x0 x1 x2 x3) := by
  intros; rw [k0_part429_eq_skeleton]; unfold k0_part429_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part430 : ∀ x0 x1, Kept d B (a.at (k0_part430 (F := F)) x0 x1) := by
  intros; rw [k0_part430_eq_skeleton]; unfold k0_part430_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part431 : ∀ x0, Kept d B (a.at (k0_part431 (F := F)) x0) := by
  intros; rw [k0_part431_eq_skeleton]; unfold k0_part431_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part432 : ∀ x0 x1 x2, Kept d B (a.at (k0_part432 (F := F)) x0 x1 x2) := by
  intros; rw [k0_part432_eq_skeleton]; unfold k0_part432_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part433 : ∀ x0, Kept d B (a.at (k0_part433 (F := F)) x0) := by
  intros; rw [k0_part433_eq_skeleton]; unfold k0_part433_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part434 : ∀ x0 x1, Kept d B (a.at (k0_part434 (F := F)) x0 x1) := by
  intros; rw [k0_part434_eq_skeleton]; unfold k0_part434_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part435 : ∀ x0 x1 x2 x3 x4, Kept d B (a.at (k0_part435 (F := F)) x0 x1 x2 x3 x4) := by
  intros; rw [k0_part435_eq_skeleton]; unfold k0_part435_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part436 : ∀ x0 x1 x2 x3, Kept d B (a.at (k0_part436 (F := F)) x0 x1 x2 x3) := by
  intros; rw [k0_part436_eq_skeleton]; unfold k0_part436_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part437 : ∀ x0 x1, Kept d B (a.at (k0_part437 (F := F)) x0 x1) := by
  intros; rw [k0_part437_eq_skeleton]; unfold k0_part437_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part438 : ∀ x0, Kept d B (a.at (k0_part438 (F := F)) x0) := by
  intros; rw [k0_part438_eq_skeleton]; unfold k0_part438_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part439 : ∀ x0 x1 x2, Kept d B (a.at (k0_part439 (F := F)) x0 x1 x2) := by
  intros; rw [k0_part439_eq_skeleton]; unfold k0_part439_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part440 : ∀ x0, Kept d B (a.at (k0_part440 (F := F)) x0) := by
  intros; rw [k0_part440_eq_skeleton]; unfold k0_part440_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part441 : ∀ x0 x1, Kept d B (a.at (k0_part441 (F := F)) x0 x1) := by
  intros; rw [k0_part441_eq_skeleton]; unfold k0_part441_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part442 : ∀ x0 x1 x2 x3 x4, Kept d B (a.at (k0_part442 (F := F)) x0 x1 x2 x3 x4) := by
  intros; rw [k0_part442_eq_skeleton]; unfold k0_part442_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part532 : ∀ x0 x1 x2, Kept d B (a.at (k0_part532 (F := F)) x0 x1 x2) := by
  intros; rw [k0_part532_eq_skeleton]; unfold k0_part532_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part533 : ∀ x0 x1, Kept d B (a.at (k0_part533 (F := F)) x0 x1) := by
  intros; rw [k0_part533_eq_skeleton]; unfold k0_part533_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part534 : ∀ x0 x1, Kept d B (a.at (k0_part534 (F := F)) x0 x1) := by
  intros; rw [k0_part534_eq_skeleton]; unfold k0_part534_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part535 : ∀ x0, Kept d B (a.at (k0_part535 (F := F)) x0) := by
  intros; rw [k0_part535_eq_skeleton]; unfold k0_part535_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part536 : ∀ x0 x1 x2, Kept d B (a.at (k0_part536 (F := F)) x0 x1 x2) := by
  intros; rw [k0_part536_eq_skeleton]; unfold k0_part536_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

instance keeps_part537 : ∀ x0 x1, Kept d B (a.at (k0_part537 (F := F)) x0 x1) := by
  intros; rw [k0_part537_eq_skeleton]; unfold k0_part537_skel
  repeat' first
    | exact keeps_pure _
    | refine keeps_bind ?_ ?_
    | exact keeps_load ..
    | exact keeps_load_sub ..
    | exact keeps_store ..
    | exact keeps_store_sub ..
    | infer_instance
    | exact keeps_for _ _ _ _ inferInstance
    | exact keeps_assume (chk1_all ..)
    | refine forall_psigma ?_
    | refine forall_prod ?_
    | intro _

end Cert.Proof.Kernel

end
-- ==== Proof.FrameLoops.lean ====
/- The pieces of the attention call each keep the staged blocks and the scratch buffers they work on (part 7). -/
module

public import proofs.«01_k».proof.Proof.FramePieces1
public import proofs.«01_k».proof.Proof.FramePieces2
public import proofs.«01_k».proof.Proof.FramePieces3
public import proofs.«01_k».proof.Proof.FramePieces4
public import proofs.«01_k».proof.Proof.FramePieces5
public import proofs.«01_k».proof.Proof.FramePieces6

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

instance keeps_t1_body : ∀ x0 x1 x2 x3 x4 x5 x6 x7 x8 x9 x10 x11 x12 x13 x14, Kept d B (a.at (k0_t1_body (F := F)) x0 x1 x2 x3 x4 x5 x6 x7 x8 x9 x10 x11 x12 x13 x14) := by
  intros; unfold k0_t1_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t2_body : ∀ x0 x1 x2 x3 x4 x5 x6 x7 x8 x9 x10 x11 x12 x13 x14 x15, Kept d B (a.at (k0_t2_body (F := F)) x0 x1 x2 x3 x4 x5 x6 x7 x8 x9 x10 x11 x12 x13 x14 x15) := by
  intros; unfold k0_t2_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t3_body : ∀ x0 x1 x2 x3 x4 x5 x6 x7 x8 x9 x10 x11 x12 x13 x14, Kept d B (a.at (k0_t3_body (F := F)) x0 x1 x2 x3 x4 x5 x6 x7 x8 x9 x10 x11 x12 x13 x14) := by
  intros; unfold k0_t3_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t4_body : ∀ x0 x1 x2 x3 x4 x5 x6 x7 x8 x9 x10 x11 x12 x13 x14 x15, Kept d B (a.at (k0_t4_body (F := F)) x0 x1 x2 x3 x4 x5 x6 x7 x8 x9 x10 x11 x12 x13 x14 x15) := by
  intros; unfold k0_t4_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part445 : ∀ x0 x1 x2 x3 x4 x5 x6 x7 x8 x9 x10 x11 x12, Kept d B (a.at (k0_part445 (F := F)) x0 x1 x2 x3 x4 x5 x6 x7 x8 x9 x10 x11 x12) := by
  intros; rw [k0_part445_eq_skeleton]; unfold k0_part445_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t5_body : ∀ x0 x1 x2 x3 x4 x5 x6 x7 x8 x9 x10 x11 x12 x13 x14, Kept d B (a.at (k0_t5_body (F := F)) x0 x1 x2 x3 x4 x5 x6 x7 x8 x9 x10 x11 x12 x13 x14) := by
  intros; unfold k0_t5_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t6_body : ∀ x0 x1 x2 x3 x4 x5 x6 x7 x8 x9 x10 x11 x12 x13 x14 x15, Kept d B (a.at (k0_t6_body (F := F)) x0 x1 x2 x3 x4 x5 x6 x7 x8 x9 x10 x11 x12 x13 x14 x15) := by
  intros; unfold k0_t6_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t7_body : ∀ x0 x1 x2 x3 x4 x5 x6 x7 x8 x9 x10 x11 x12 x13 x14, Kept d B (a.at (k0_t7_body (F := F)) x0 x1 x2 x3 x4 x5 x6 x7 x8 x9 x10 x11 x12 x13 x14) := by
  intros; unfold k0_t7_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t8_body : ∀ x0 x1 x2 x3 x4 x5 x6 x7 x8 x9 x10 x11 x12 x13 x14 x15, Kept d B (a.at (k0_t8_body (F := F)) x0 x1 x2 x3 x4 x5 x6 x7 x8 x9 x10 x11 x12 x13 x14 x15) := by
  intros; unfold k0_t8_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part448 : ∀ x0 x1 x2 x3 x4 x5 x6 x7 x8 x9 x10 x11 x12, Kept d B (a.at (k0_part448 (F := F)) x0 x1 x2 x3 x4 x5 x6 x7 x8 x9 x10 x11 x12) := by
  intros; rw [k0_part448_eq_skeleton]; unfold k0_part448_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t9_body : ∀ x0 x1 x2 x3 x4 x5 x6 x7 x8 x9 x10 x11 x12 x13 x14, Kept d B (a.at (k0_t9_body (F := F)) x0 x1 x2 x3 x4 x5 x6 x7 x8 x9 x10 x11 x12 x13 x14) := by
  intros; unfold k0_t9_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t10_body : ∀ x0 x1 x2 x3 x4 x5 x6 x7 x8 x9 x10 x11 x12 x13 x14 x15, Kept d B (a.at (k0_t10_body (F := F)) x0 x1 x2 x3 x4 x5 x6 x7 x8 x9 x10 x11 x12 x13 x14 x15) := by
  intros; unfold k0_t10_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t11_body : ∀ x0 x1 x2 x3 x4 x5 x6 x7 x8 x9 x10 x11 x12 x13 x14, Kept d B (a.at (k0_t11_body (F := F)) x0 x1 x2 x3 x4 x5 x6 x7 x8 x9 x10 x11 x12 x13 x14) := by
  intros; unfold k0_t11_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t12_body : ∀ x0 x1 x2 x3 x4 x5 x6 x7 x8 x9 x10 x11 x12 x13 x14 x15, Kept d B (a.at (k0_t12_body (F := F)) x0 x1 x2 x3 x4 x5 x6 x7 x8 x9 x10 x11 x12 x13 x14 x15) := by
  intros; unfold k0_t12_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part451 : ∀ x0 x1 x2 x3 x4 x5 x6 x7 x8 x9 x10 x11 x12, Kept d B (a.at (k0_part451 (F := F)) x0 x1 x2 x3 x4 x5 x6 x7 x8 x9 x10 x11 x12) := by
  intros; rw [k0_part451_eq_skeleton]; unfold k0_part451_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t13_body : ∀ x0 x1 x2 x3 x4 x5 x6 x7 x8 x9 x10 x11 x12 x13, Kept d B (a.at (k0_t13_body (F := F)) x0 x1 x2 x3 x4 x5 x6 x7 x8 x9 x10 x11 x12 x13) := by
  intros; unfold k0_t13_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t14_body : ∀ x0 x1 x2 x3 x4 x5 x6 x7 x8 x9 x10 x11 x12 x13 x14, Kept d B (a.at (k0_t14_body (F := F)) x0 x1 x2 x3 x4 x5 x6 x7 x8 x9 x10 x11 x12 x13 x14) := by
  intros; unfold k0_t14_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t15_body : ∀ x0 x1 x2 x3 x4 x5 x6 x7 x8 x9 x10 x11 x12 x13, Kept d B (a.at (k0_t15_body (F := F)) x0 x1 x2 x3 x4 x5 x6 x7 x8 x9 x10 x11 x12 x13) := by
  intros; unfold k0_t15_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t16_body : ∀ x0 x1 x2 x3 x4 x5 x6 x7 x8 x9 x10 x11 x12 x13 x14, Kept d B (a.at (k0_t16_body (F := F)) x0 x1 x2 x3 x4 x5 x6 x7 x8 x9 x10 x11 x12 x13 x14) := by
  intros; unfold k0_t16_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part454 : ∀ x0 x1 x2 x3 x4 x5 x6 x7 x8 x9 x10 x11, Kept d B (a.at (k0_part454 (F := F)) x0 x1 x2 x3 x4 x5 x6 x7 x8 x9 x10 x11) := by
  intros; rw [k0_part454_eq_skeleton]; unfold k0_part454_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t18_body : ∀ x0 x1 x2 x3 x4 x5 x6 x7 x8 x9 x10 x11 x12 x13, Kept d B (a.at (k0_t18_body (F := F)) x0 x1 x2 x3 x4 x5 x6 x7 x8 x9 x10 x11 x12 x13) := by
  intros; unfold k0_t18_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t19_body : ∀ x0 x1 x2 x3 x4 x5 x6 x7 x8 x9 x10 x11 x12 x13 x14, Kept d B (a.at (k0_t19_body (F := F)) x0 x1 x2 x3 x4 x5 x6 x7 x8 x9 x10 x11 x12 x13 x14) := by
  intros; unfold k0_t19_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t20_body : ∀ x0 x1 x2 x3 x4 x5 x6 x7 x8 x9 x10 x11 x12 x13, Kept d B (a.at (k0_t20_body (F := F)) x0 x1 x2 x3 x4 x5 x6 x7 x8 x9 x10 x11 x12 x13) := by
  intros; unfold k0_t20_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t21_body : ∀ x0 x1 x2 x3 x4 x5 x6 x7 x8 x9 x10 x11 x12 x13 x14, Kept d B (a.at (k0_t21_body (F := F)) x0 x1 x2 x3 x4 x5 x6 x7 x8 x9 x10 x11 x12 x13 x14) := by
  intros; unfold k0_t21_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part57 : ∀ x0 x1 x2 x3 x4 x5 x6 x7 x8 x9 x10 x11, Kept d B (a.at (k0_part57 (F := F)) x0 x1 x2 x3 x4 x5 x6 x7 x8 x9 x10 x11) := by
  intros; rw [k0_part57_eq_skeleton]; unfold k0_part57_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t22_body : ∀ x0 x1 x2 x3 x4 x5 x6 x7 x8 x9 x10 x11 x12 x13 x14 x15 x16, Kept d B (a.at (k0_t22_body (F := F)) x0 x1 x2 x3 x4 x5 x6 x7 x8 x9 x10 x11 x12 x13 x14 x15 x16) := by
  intros; unfold k0_t22_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t23_body : ∀ x0 x1 x2 x3 x4 x5 x6 x7 x8 x9 x10 x11 x12 x13 x14 x15 x16, Kept d B (a.at (k0_t23_body (F := F)) x0 x1 x2 x3 x4 x5 x6 x7 x8 x9 x10 x11 x12 x13 x14 x15 x16) := by
  intros; unfold k0_t23_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t24_body : ∀ x0 x1 x2 x3 x4 x5 x6 x7 x8 x9 x10 x11 x12 x13 x14 x15, Kept d B (a.at (k0_t24_body (F := F)) x0 x1 x2 x3 x4 x5 x6 x7 x8 x9 x10 x11 x12 x13 x14 x15) := by
  intros; unfold k0_t24_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t25_body : ∀ x0 x1 x2 x3 x4 x5 x6 x7 x8 x9 x10 x11 x12 x13 x14 x15 x16, Kept d B (a.at (k0_t25_body (F := F)) x0 x1 x2 x3 x4 x5 x6 x7 x8 x9 x10 x11 x12 x13 x14 x15 x16) := by
  intros; unfold k0_t25_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t17_body : ∀ x0 x1 x2 x3 x4 x5 x6 x7 x8 x9 x10 x11 x12 x13 x14, Kept d B (a.at (k0_t17_body (F := F)) x0 x1 x2 x3 x4 x5 x6 x7 x8 x9 x10 x11 x12 x13 x14) := by
  intros; unfold k0_t17_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t27_body : ∀ x0 x1 x2 x3 x4 x5 x6 x7 x8 x9 x10 x11 x12 x13, Kept d B (a.at (k0_t27_body (F := F)) x0 x1 x2 x3 x4 x5 x6 x7 x8 x9 x10 x11 x12 x13) := by
  intros; unfold k0_t27_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t28_body : ∀ x0 x1 x2 x3 x4 x5 x6 x7 x8 x9 x10 x11 x12 x13 x14, Kept d B (a.at (k0_t28_body (F := F)) x0 x1 x2 x3 x4 x5 x6 x7 x8 x9 x10 x11 x12 x13 x14) := by
  intros; unfold k0_t28_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t29_body : ∀ x0 x1 x2 x3 x4 x5 x6 x7 x8 x9 x10 x11 x12 x13, Kept d B (a.at (k0_t29_body (F := F)) x0 x1 x2 x3 x4 x5 x6 x7 x8 x9 x10 x11 x12 x13) := by
  intros; unfold k0_t29_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t30_body : ∀ x0 x1 x2 x3 x4 x5 x6 x7 x8 x9 x10 x11 x12 x13 x14, Kept d B (a.at (k0_t30_body (F := F)) x0 x1 x2 x3 x4 x5 x6 x7 x8 x9 x10 x11 x12 x13 x14) := by
  intros; unfold k0_t30_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part66 : ∀ x0 x1 x2 x3 x4 x5 x6 x7 x8 x9 x10 x11, Kept d B (a.at (k0_part66 (F := F)) x0 x1 x2 x3 x4 x5 x6 x7 x8 x9 x10 x11) := by
  intros; rw [k0_part66_eq_skeleton]; unfold k0_part66_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t31_body : ∀ x0 x1 x2 x3 x4 x5 x6 x7 x8 x9 x10 x11 x12 x13 x14 x15 x16, Kept d B (a.at (k0_t31_body (F := F)) x0 x1 x2 x3 x4 x5 x6 x7 x8 x9 x10 x11 x12 x13 x14 x15 x16) := by
  intros; unfold k0_t31_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t32_body : ∀ x0 x1 x2 x3 x4 x5 x6 x7 x8 x9 x10 x11 x12 x13 x14 x15 x16, Kept d B (a.at (k0_t32_body (F := F)) x0 x1 x2 x3 x4 x5 x6 x7 x8 x9 x10 x11 x12 x13 x14 x15 x16) := by
  intros; unfold k0_t32_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t33_body : ∀ x0 x1 x2 x3 x4 x5 x6 x7 x8 x9 x10 x11 x12 x13 x14 x15, Kept d B (a.at (k0_t33_body (F := F)) x0 x1 x2 x3 x4 x5 x6 x7 x8 x9 x10 x11 x12 x13 x14 x15) := by
  intros; unfold k0_t33_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t34_body : ∀ x0 x1 x2 x3 x4 x5 x6 x7 x8 x9 x10 x11 x12 x13 x14 x15 x16, Kept d B (a.at (k0_t34_body (F := F)) x0 x1 x2 x3 x4 x5 x6 x7 x8 x9 x10 x11 x12 x13 x14 x15 x16) := by
  intros; unfold k0_t34_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t26_body : ∀ x0 x1 x2 x3 x4 x5 x6 x7 x8 x9 x10 x11 x12 x13 x14 x15, Kept d B (a.at (k0_t26_body (F := F)) x0 x1 x2 x3 x4 x5 x6 x7 x8 x9 x10 x11 x12 x13 x14 x15) := by
  intros; unfold k0_t26_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t35_body : ∀ x0 x1 x2 x3 x4 x5 x6 x7 x8 x9 x10 x11 x12 x13 x14 x15, Kept d B (a.at (k0_t35_body (F := F)) x0 x1 x2 x3 x4 x5 x6 x7 x8 x9 x10 x11 x12 x13 x14 x15) := by
  intros; unfold k0_t35_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t36_body : ∀ x0 x1 x2 x3 x4 x5 x6 x7 x8 x9 x10 x11 x12 x13 x14 x15 x16, Kept d B (a.at (k0_t36_body (F := F)) x0 x1 x2 x3 x4 x5 x6 x7 x8 x9 x10 x11 x12 x13 x14 x15 x16) := by
  intros; unfold k0_t36_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part456 : ∀ x0 x1 x2 x3 x4 x5 x6 x7 x8 x9 x10 x11 x12, Kept d B (a.at (k0_part456 (F := F)) x0 x1 x2 x3 x4 x5 x6 x7 x8 x9 x10 x11 x12) := by
  intros; rw [k0_part456_eq_skeleton]; unfold k0_part456_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t37_body : ∀ x0 x1 x2 x3 x4 x5 x6 x7 x8 x9 x10 x11, Kept d B (a.at (k0_t37_body (F := F)) x0 x1 x2 x3 x4 x5 x6 x7 x8 x9 x10 x11) := by
  intros; unfold k0_t37_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t38_body : ∀ x0 x1 x2 x3 x4 x5 x6 x7 x8 x9 x10 x11 x12, Kept d B (a.at (k0_t38_body (F := F)) x0 x1 x2 x3 x4 x5 x6 x7 x8 x9 x10 x11 x12) := by
  intros; unfold k0_t38_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t39_body : ∀ x0 x1 x2 x3 x4 x5 x6 x7 x8 x9 x10 x11, Kept d B (a.at (k0_t39_body (F := F)) x0 x1 x2 x3 x4 x5 x6 x7 x8 x9 x10 x11) := by
  intros; unfold k0_t39_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t40_body : ∀ x0 x1 x2 x3 x4 x5 x6 x7 x8 x9 x10 x11 x12, Kept d B (a.at (k0_t40_body (F := F)) x0 x1 x2 x3 x4 x5 x6 x7 x8 x9 x10 x11 x12) := by
  intros; unfold k0_t40_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t41_body : ∀ x0 x1 x2 x3 x4 x5 x6 x7 x8 x9 x10 x11, Kept d B (a.at (k0_t41_body (F := F)) x0 x1 x2 x3 x4 x5 x6 x7 x8 x9 x10 x11) := by
  intros; unfold k0_t41_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t42_body : ∀ x0 x1 x2 x3 x4 x5 x6 x7 x8 x9 x10 x11 x12, Kept d B (a.at (k0_t42_body (F := F)) x0 x1 x2 x3 x4 x5 x6 x7 x8 x9 x10 x11 x12) := by
  intros; unfold k0_t42_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part457 : ∀ x0 x1 x2 x3 x4 x5 x6 x7 x8 x9, Kept d B (a.at (k0_part457 (F := F)) x0 x1 x2 x3 x4 x5 x6 x7 x8 x9) := by
  intros; rw [k0_part457_eq_skeleton]; unfold k0_part457_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part90 : ∀ x0 x1 x2 x3 x4 x5 x6 x7 x8, Kept d B (a.at (k0_part90 (F := F)) x0 x1 x2 x3 x4 x5 x6 x7 x8) := by
  intros; rw [k0_part90_eq_skeleton]; unfold k0_part90_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t43_body : ∀ x0 x1 x2 x3 x4 x5 x6 x7 x8 x9 x10 x11, Kept d B (a.at (k0_t43_body (F := F)) x0 x1 x2 x3 x4 x5 x6 x7 x8 x9 x10 x11) := by
  intros; unfold k0_t43_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part106 : ∀ x0 x1 x2 x3 x4 x5 x6 x7 x8, Kept d B (a.at (k0_part106 (F := F)) x0 x1 x2 x3 x4 x5 x6 x7 x8) := by
  intros; rw [k0_part106_eq_skeleton]; unfold k0_part106_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t44_body : ∀ x0 x1 x2 x3 x4 x5 x6 x7 x8 x9 x10 x11 x12, Kept d B (a.at (k0_t44_body (F := F)) x0 x1 x2 x3 x4 x5 x6 x7 x8 x9 x10 x11 x12) := by
  intros; unfold k0_t44_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part114 : ∀ x0 x1 x2 x3 x4 x5 x6 x7 x8 x9, Kept d B (a.at (k0_part114 (F := F)) x0 x1 x2 x3 x4 x5 x6 x7 x8 x9) := by
  intros; rw [k0_part114_eq_skeleton]; unfold k0_part114_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t45_body : ∀ x0 x1 x2 x3 x4 x5 x6 x7 x8 x9 x10 x11, Kept d B (a.at (k0_t45_body (F := F)) x0 x1 x2 x3 x4 x5 x6 x7 x8 x9 x10 x11) := by
  intros; unfold k0_t45_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part122 : ∀ x0 x1 x2 x3 x4 x5 x6 x7 x8 x9, Kept d B (a.at (k0_part122 (F := F)) x0 x1 x2 x3 x4 x5 x6 x7 x8 x9) := by
  intros; rw [k0_part122_eq_skeleton]; unfold k0_part122_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t46_body : ∀ x0 x1 x2 x3 x4 x5 x6 x7 x8 x9 x10 x11 x12, Kept d B (a.at (k0_t46_body (F := F)) x0 x1 x2 x3 x4 x5 x6 x7 x8 x9 x10 x11 x12) := by
  intros; unfold k0_t46_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part462 : ∀ x0 x1 x2 x3 x4 x5 x6 x7 x8 x9, Kept d B (a.at (k0_part462 (F := F)) x0 x1 x2 x3 x4 x5 x6 x7 x8 x9) := by
  intros; rw [k0_part462_eq_skeleton]; unfold k0_part462_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t47_body : ∀ x0 x1 x2 x3 x4 x5 x6, Kept d B (a.at (k0_t47_body (F := F)) x0 x1 x2 x3 x4 x5 x6) := by
  intros; unfold k0_t47_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t48_body : ∀ x0 x1 x2 x3 x4 x5 x6 x7, Kept d B (a.at (k0_t48_body (F := F)) x0 x1 x2 x3 x4 x5 x6 x7) := by
  intros; unfold k0_t48_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t49_body : ∀ x0 x1 x2 x3 x4 x5 x6, Kept d B (a.at (k0_t49_body (F := F)) x0 x1 x2 x3 x4 x5 x6) := by
  intros; unfold k0_t49_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t50_body : ∀ x0 x1 x2 x3 x4 x5 x6 x7, Kept d B (a.at (k0_t50_body (F := F)) x0 x1 x2 x3 x4 x5 x6 x7) := by
  intros; unfold k0_t50_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part470 : ∀ x0 x1 x2 x3 x4, Kept d B (a.at (k0_part470 (F := F)) x0 x1 x2 x3 x4) := by
  intros; rw [k0_part470_eq_skeleton]; unfold k0_part470_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part182 : ∀ x0 x1 x2 x3 x4 x5 x6 x7 x8, Kept d B (a.at (k0_part182 (F := F)) x0 x1 x2 x3 x4 x5 x6 x7 x8) := by
  intros; rw [k0_part182_eq_skeleton]; unfold k0_part182_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t51_body : ∀ x0 x1 x2 x3 x4 x5 x6 x7 x8, Kept d B (a.at (k0_t51_body (F := F)) x0 x1 x2 x3 x4 x5 x6 x7 x8) := by
  intros; unfold k0_t51_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part198 : ∀ x0 x1 x2 x3 x4 x5 x6 x7 x8, Kept d B (a.at (k0_part198 (F := F)) x0 x1 x2 x3 x4 x5 x6 x7 x8) := by
  intros; rw [k0_part198_eq_skeleton]; unfold k0_part198_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t52_body : ∀ x0 x1 x2 x3 x4 x5 x6 x7 x8 x9, Kept d B (a.at (k0_t52_body (F := F)) x0 x1 x2 x3 x4 x5 x6 x7 x8 x9) := by
  intros; unfold k0_t52_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part482 : ∀ x0 x1 x2 x3 x4 x5 x6, Kept d B (a.at (k0_part482 (F := F)) x0 x1 x2 x3 x4 x5 x6) := by
  intros; rw [k0_part482_eq_skeleton]; unfold k0_part482_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part206 : ∀ x0 x1 x2 x3 x4 x5 x6 x7 x8 x9, Kept d B (a.at (k0_part206 (F := F)) x0 x1 x2 x3 x4 x5 x6 x7 x8 x9) := by
  intros; rw [k0_part206_eq_skeleton]; unfold k0_part206_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t53_body : ∀ x0 x1 x2 x3 x4 x5 x6 x7 x8 x9 x10, Kept d B (a.at (k0_t53_body (F := F)) x0 x1 x2 x3 x4 x5 x6 x7 x8 x9 x10) := by
  intros; unfold k0_t53_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part214 : ∀ x0 x1 x2 x3 x4 x5 x6 x7 x8 x9, Kept d B (a.at (k0_part214 (F := F)) x0 x1 x2 x3 x4 x5 x6 x7 x8 x9) := by
  intros; rw [k0_part214_eq_skeleton]; unfold k0_part214_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t54_body : ∀ x0 x1 x2 x3 x4 x5 x6 x7 x8 x9 x10 x11, Kept d B (a.at (k0_t54_body (F := F)) x0 x1 x2 x3 x4 x5 x6 x7 x8 x9 x10 x11) := by
  intros; unfold k0_t54_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part483 : ∀ x0 x1 x2 x3 x4 x5 x6 x7 x8, Kept d B (a.at (k0_part483 (F := F)) x0 x1 x2 x3 x4 x5 x6 x7 x8) := by
  intros; rw [k0_part483_eq_skeleton]; unfold k0_part483_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t55_body : ∀ x0 x1 x2 x3 x4 x5 x6 x7 x8, Kept d B (a.at (k0_t55_body (F := F)) x0 x1 x2 x3 x4 x5 x6 x7 x8) := by
  intros; unfold k0_t55_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t56_body : ∀ x0 x1 x2 x3 x4 x5 x6 x7 x8 x9, Kept d B (a.at (k0_t56_body (F := F)) x0 x1 x2 x3 x4 x5 x6 x7 x8 x9) := by
  intros; unfold k0_t56_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t57_body : ∀ x0 x1 x2 x3 x4 x5 x6 x7 x8, Kept d B (a.at (k0_t57_body (F := F)) x0 x1 x2 x3 x4 x5 x6 x7 x8) := by
  intros; unfold k0_t57_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t58_body : ∀ x0 x1 x2 x3 x4 x5 x6 x7 x8 x9, Kept d B (a.at (k0_t58_body (F := F)) x0 x1 x2 x3 x4 x5 x6 x7 x8 x9) := by
  intros; unfold k0_t58_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part490 : ∀ x0 x1 x2 x3 x4 x5 x6, Kept d B (a.at (k0_part490 (F := F)) x0 x1 x2 x3 x4 x5 x6) := by
  intros; rw [k0_part490_eq_skeleton]; unfold k0_part490_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part274 : ∀ x0 x1 x2 x3 x4 x5 x6 x7 x8, Kept d B (a.at (k0_part274 (F := F)) x0 x1 x2 x3 x4 x5 x6 x7 x8) := by
  intros; rw [k0_part274_eq_skeleton]; unfold k0_part274_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t59_body : ∀ x0 x1 x2 x3 x4 x5 x6 x7 x8 x9 x10 x11, Kept d B (a.at (k0_t59_body (F := F)) x0 x1 x2 x3 x4 x5 x6 x7 x8 x9 x10 x11) := by
  intros; unfold k0_t59_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part290 : ∀ x0 x1 x2 x3 x4 x5 x6 x7 x8, Kept d B (a.at (k0_part290 (F := F)) x0 x1 x2 x3 x4 x5 x6 x7 x8) := by
  intros; rw [k0_part290_eq_skeleton]; unfold k0_part290_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t60_body : ∀ x0 x1 x2 x3 x4 x5 x6 x7 x8 x9 x10 x11 x12, Kept d B (a.at (k0_t60_body (F := F)) x0 x1 x2 x3 x4 x5 x6 x7 x8 x9 x10 x11 x12) := by
  intros; unfold k0_t60_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part502 : ∀ x0 x1 x2 x3 x4 x5 x6 x7 x8 x9, Kept d B (a.at (k0_part502 (F := F)) x0 x1 x2 x3 x4 x5 x6 x7 x8 x9) := by
  intros; rw [k0_part502_eq_skeleton]; unfold k0_part502_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part538 : Kept d B (a.at (k0_part538 (F := F))) := by
  rw [k0_part538_eq_skeleton]; unfold k0_part538_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part298 : ∀ x0 x1 x2 x3 x4 x5 x6 x7 x8 x9, Kept d B (a.at (k0_part298 (F := F)) x0 x1 x2 x3 x4 x5 x6 x7 x8 x9) := by
  intros; rw [k0_part298_eq_skeleton]; unfold k0_part298_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t61_body : ∀ x0 x1 x2 x3 x4 x5 x6 x7 x8 x9 x10 x11, Kept d B (a.at (k0_t61_body (F := F)) x0 x1 x2 x3 x4 x5 x6 x7 x8 x9 x10 x11) := by
  intros; unfold k0_t61_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part306 : ∀ x0 x1 x2 x3 x4 x5 x6 x7 x8 x9, Kept d B (a.at (k0_part306 (F := F)) x0 x1 x2 x3 x4 x5 x6 x7 x8 x9) := by
  intros; rw [k0_part306_eq_skeleton]; unfold k0_part306_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t62_body : ∀ x0 x1 x2 x3 x4 x5 x6 x7 x8 x9 x10 x11 x12, Kept d B (a.at (k0_t62_body (F := F)) x0 x1 x2 x3 x4 x5 x6 x7 x8 x9 x10 x11 x12) := by
  intros; unfold k0_t62_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part503 : ∀ x0 x1 x2 x3 x4 x5 x6 x7 x8 x9, Kept d B (a.at (k0_part503 (F := F)) x0 x1 x2 x3 x4 x5 x6 x7 x8 x9) := by
  intros; rw [k0_part503_eq_skeleton]; unfold k0_part503_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t63_body : ∀ x0 x1 x2 x3 x4, Kept d B (a.at (k0_t63_body (F := F)) x0 x1 x2 x3 x4) := by
  intros; unfold k0_t63_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t64_body : ∀ x0 x1 x2 x3 x4 x5, Kept d B (a.at (k0_t64_body (F := F)) x0 x1 x2 x3 x4 x5) := by
  intros; unfold k0_t64_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part510 : ∀ x0 x1 x2, Kept d B (a.at (k0_part510 (F := F)) x0 x1 x2) := by
  intros; rw [k0_part510_eq_skeleton]; unfold k0_part510_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t65_body : ∀ x0 x1 x2 x3 x4 x5 x6 x7, Kept d B (a.at (k0_t65_body (F := F)) x0 x1 x2 x3 x4 x5 x6 x7) := by
  intros; unfold k0_t65_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t66_body : ∀ x0 x1 x2 x3 x4 x5 x6 x7 x8, Kept d B (a.at (k0_t66_body (F := F)) x0 x1 x2 x3 x4 x5 x6 x7 x8) := by
  intros; unfold k0_t66_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part511 : ∀ x0 x1 x2 x3 x4 x5, Kept d B (a.at (k0_part511 (F := F)) x0 x1 x2 x3 x4 x5) := by
  intros; rw [k0_part511_eq_skeleton]; unfold k0_part511_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part366 : ∀ x0 x1 x2 x3 x4 x5 x6 x7 x8, Kept d B (a.at (k0_part366 (F := F)) x0 x1 x2 x3 x4 x5 x6 x7 x8) := by
  intros; rw [k0_part366_eq_skeleton]; unfold k0_part366_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t67_body : ∀ x0 x1 x2 x3 x4 x5 x6 x7 x8 x9 x10 x11, Kept d B (a.at (k0_t67_body (F := F)) x0 x1 x2 x3 x4 x5 x6 x7 x8 x9 x10 x11) := by
  intros; unfold k0_t67_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part382 : ∀ x0 x1 x2 x3 x4 x5 x6 x7 x8, Kept d B (a.at (k0_part382 (F := F)) x0 x1 x2 x3 x4 x5 x6 x7 x8) := by
  intros; rw [k0_part382_eq_skeleton]; unfold k0_part382_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t68_body : ∀ x0 x1 x2 x3 x4 x5 x6 x7 x8 x9 x10 x11 x12, Kept d B (a.at (k0_t68_body (F := F)) x0 x1 x2 x3 x4 x5 x6 x7 x8 x9 x10 x11 x12) := by
  intros; unfold k0_t68_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part390 : ∀ x0 x1 x2 x3 x4 x5 x6 x7 x8 x9, Kept d B (a.at (k0_part390 (F := F)) x0 x1 x2 x3 x4 x5 x6 x7 x8 x9) := by
  intros; rw [k0_part390_eq_skeleton]; unfold k0_part390_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t69_body : ∀ x0 x1 x2 x3 x4 x5 x6 x7 x8 x9 x10 x11, Kept d B (a.at (k0_t69_body (F := F)) x0 x1 x2 x3 x4 x5 x6 x7 x8 x9 x10 x11) := by
  intros; unfold k0_t69_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part398 : ∀ x0 x1 x2 x3 x4 x5 x6 x7 x8 x9, Kept d B (a.at (k0_part398 (F := F)) x0 x1 x2 x3 x4 x5 x6 x7 x8 x9) := by
  intros; rw [k0_part398_eq_skeleton]; unfold k0_part398_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t70_body : ∀ x0 x1 x2 x3 x4 x5 x6 x7 x8 x9 x10 x11 x12, Kept d B (a.at (k0_t70_body (F := F)) x0 x1 x2 x3 x4 x5 x6 x7 x8 x9 x10 x11 x12) := by
  intros; unfold k0_t70_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part523 : ∀ x0 x1 x2 x3 x4 x5 x6 x7 x8 x9, Kept d B (a.at (k0_part523 (F := F)) x0 x1 x2 x3 x4 x5 x6 x7 x8 x9) := by
  intros; rw [k0_part523_eq_skeleton]; unfold k0_part523_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t71_body : ∀ x0 x1 x2 x3, Kept d B (a.at (k0_t71_body (F := F)) x0 x1 x2 x3) := by
  intros; unfold k0_t71_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t72_body : ∀ x0 x1 x2 x3 x4, Kept d B (a.at (k0_t72_body (F := F)) x0 x1 x2 x3 x4) := by
  intros; unfold k0_t72_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part530 : ∀ x0 x1, Kept d B (a.at (k0_part530 (F := F)) x0 x1) := by
  intros; rw [k0_part530_eq_skeleton]; unfold k0_part530_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t73_body : ∀ x0 x1 x2 x3 x4 x5 x6, Kept d B (a.at (k0_t73_body (F := F)) x0 x1 x2 x3 x4 x5 x6) := by
  intros; unfold k0_t73_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_t74_body : ∀ x0 x1 x2 x3 x4 x5 x6 x7, Kept d B (a.at (k0_t74_body (F := F)) x0 x1 x2 x3 x4 x5 x6 x7) := by
  intros; unfold k0_t74_body
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part531 : ∀ x0 x1 x2 x3 x4, Kept d B (a.at (k0_part531 (F := F)) x0 x1 x2 x3 x4) := by
  intros; rw [k0_part531_eq_skeleton]; unfold k0_part531_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

instance keeps_part539 : ∀ x0 x1 x2 x3 x4 x5 x6 x7 x8 x9 x10 x11 x12 x13, Kept d B (a.at (k0_part539 (F := F)) x0 x1 x2 x3 x4 x5 x6 x7 x8 x9 x10 x11 x12 x13) := by
  intros; rw [k0_part539_eq_skeleton]; unfold k0_part539_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

end Cert.Proof.Kernel

end
-- ==== Proof.FrameMain.lean ====
/- The pieces of the attention call each keep the staged blocks and the scratch buffers they work on (part 8). -/
module

public import proofs.«01_k».proof.Proof.FrameLoops

@[expose] public section

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] (d : Dev nD) (B : sProp (MT nD τ sig Unit (Elt F) ℕ (UR sig nD τ) ℕ))
variable (a : Args) [Has (d : Thread nD τ) B a.arg2] [Has (d : Thread nD τ) B a.arg3] [Has (d : Thread nD τ) B a.arg4] [Has (d : Thread nD τ) B a.arg5] [Has (d : Thread nD τ) B a.arg6] [Has (d : Thread nD τ) B a.arg7] [Has (d : Thread nD τ) B a.arg8] [Has (d : Thread nD τ) B a.arg9] [Has (d : Thread nD τ) B a.arg10] [Has (d : Thread nD τ) B a.arg11] [Has (d : Thread nD τ) B a.arg12] [Has (d : Thread nD τ) B a.arg13] [Has (d : Thread nD τ) B a.arg14] [Has (d : Thread nD τ) B a.arg15] [Has (d : Thread nD τ) B a.arg16] [Has (d : Thread nD τ) B a.arg17] [Has (d : Thread nD τ) B a.arg18]

/-- The body of the call keeps the ownership it is given. -/
instance keeps_dsa_prompt : Kept d B (a.at (cc0_dsa_prompt (F := F))) := by
  rw [cc0_dsa_prompt_eq_skeleton]; unfold cc0_dsa_prompt_skel
  repeat' first
    | refine forall_psigma ?_
    | refine forall_prod ?_
    | intro _
    | with_reducible refine keeps_bind ?_ ?_
    | infer_instance
    | exact keeps_load ..
    | exact keeps_load_sub ..
    | exact keeps_store ..
    | exact keeps_store_sub ..
    | exact keeps_for _ _ _ _ inferInstance
    | exact keeps_assume (chk1_all ..)
    | exact keeps_pure _

end Cert.Proof.Kernel

end
-- ==== Proof.FrameKernel.lean ====
/- The attention call runs to its end, faults nowhere, leaves its arguments as they were and every counter at zero: the
   launch of its pipeline with nothing said of the blocks its body leaves. -/
module

public import proofs.«01_k».proof.Proof.FrameMain
public import proofs.«01_k».proof.Proof.Gen.Kernel.Frame

@[expose] public section

set_option maxRecDepth 16384

noncomputable section

namespace Cert.Proof.Kernel

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

/-- What stands left of a separating conjunction grants what it granted alone. -/
theorem has_left {d : Dev nD} {P Q : sProp 𝕄} {cs : CoreSpace} {s : Shape} {e : EltTy} {m : Memref sig .tc cs s e}
    (h : Has (d : Thread nD τ) P m) : Has (d : Thread nD τ) iprop(P ∗ Q) m :=
  ⟨by
    obtain ⟨S, hS, hB⟩ := h.out
    refine ⟨S, hS, ?_⟩
    iintro ⟨HP, HQ⟩
    ihave H := hB $$ HP
    icases H with ⟨%f, Hf, Hb⟩
    iexists f
    isplitl [Hf]; · iexact Hf
    iintro Hf
    isplitl [Hf Hb]
    · iapply Hb; iexact Hf
    · iexact HQ⟩

/-- And what stands right of it. -/
theorem has_right {d : Dev nD} {P Q : sProp 𝕄} {cs : CoreSpace} {s : Shape} {e : EltTy} {m : Memref sig .tc cs s e}
    (h : Has (d : Thread nD τ) Q m) : Has (d : Thread nD τ) iprop(P ∗ Q) m :=
  ⟨by
    obtain ⟨S, hS, hB⟩ := h.out
    refine ⟨S, hS, ?_⟩
    iintro ⟨HP, HQ⟩
    ihave H := hB $$ HQ
    icases H with ⟨%f, Hf, Hb⟩
    iexists f
    isplitl [Hf]; · iexact Hf
    iintro Hf
    isplitl [HP]; · iexact HP
    iapply Hb; iexact Hf⟩

/-- Ownership of a memref's elements at some contents grants the memref. -/
theorem has_owns {d : Dev nD} {cs : CoreSpace} {s : Shape} {e : EltTy} (m : Memref sig .tc cs s e) :
    Has (d : Thread nD τ) (iprop(∃ X, owns (d : Thread nD τ) m fullShare X) : sProp 𝕄) m :=
  ⟨by
    refine ⟨m.view.set, subset_rfl, ?_⟩
    unfold owns
    iintro ⟨%X, %f, -, Hf⟩
    iexists f
    isplitl [Hf]; · iexact Hf
    iintro ⟨%g, Hg⟩
    iexists m.view.read (Elt F) g
    iexists g
    isplitr; · ipureintro; rfl
    iexact Hg⟩

/-- The ownership of the scratch buffers includes number 0. -/
theorem has_scratch0 (d : Dev nD) : Has (d : Thread nD τ) (iprop(∃ f : Buf (Elt F) ((d : Thread nD τ).loc cc0_scratch0), ((d : Thread nD τ).loc cc0_scratch0) ↦{fullShare} f) : sProp 𝕄) (Memref.whole cc0_scratch0) :=
  ⟨⟨Finset.univ, Finset.subset_univ _, by
    iintro ⟨%f, Hf⟩
    iexists f
    isplitl [Hf]; · iexact Hf
    iintro H; iexact H⟩⟩

/-- The ownership of the scratch buffers includes number 1. -/
theorem has_scratch1 (d : Dev nD) : Has (d : Thread nD τ) (iprop(∃ f : Buf (Elt F) ((d : Thread nD τ).loc cc0_scratch1), ((d : Thread nD τ).loc cc0_scratch1) ↦{fullShare} f) : sProp 𝕄) (Memref.whole cc0_scratch1) :=
  ⟨⟨Finset.univ, Finset.subset_univ _, by
    iintro ⟨%f, Hf⟩
    iexists f
    isplitl [Hf]; · iexact Hf
    iintro H; iexact H⟩⟩

/-- The ownership of the scratch buffers includes number 2. -/
theorem has_scratch2 (d : Dev nD) : Has (d : Thread nD τ) (iprop(∃ f : Buf (Elt F) ((d : Thread nD τ).loc cc0_scratch2), ((d : Thread nD τ).loc cc0_scratch2) ↦{fullShare} f) : sProp 𝕄) (Memref.whole cc0_scratch2) :=
  ⟨⟨Finset.univ, Finset.subset_univ _, by
    iintro ⟨%f, Hf⟩
    iexists f
    isplitl [Hf]; · iexact Hf
    iintro H; iexact H⟩⟩

/-- The ownership of the scratch buffers includes number 3. -/
theorem has_scratch3 (d : Dev nD) : Has (d : Thread nD τ) (iprop(∃ f : Buf (Elt F) ((d : Thread nD τ).loc cc0_scratch3), ((d : Thread nD τ).loc cc0_scratch3) ↦{fullShare} f) : sProp 𝕄) (Memref.whole cc0_scratch3) :=
  ⟨⟨Finset.univ, Finset.subset_univ _, by
    iintro ⟨%f, Hf⟩
    iexists f
    isplitl [Hf]; · iexact Hf
    iintro H; iexact H⟩⟩

/-- The ownership of the scratch buffers includes number 4. -/
theorem has_scratch4 (d : Dev nD) : Has (d : Thread nD τ) (iprop(∃ f : Buf (Elt F) ((d : Thread nD τ).loc cc0_scratch4), ((d : Thread nD τ).loc cc0_scratch4) ↦{fullShare} f) : sProp 𝕄) (Memref.whole cc0_scratch4) :=
  ⟨⟨Finset.univ, Finset.subset_univ _, by
    iintro ⟨%f, Hf⟩
    iexists f
    isplitl [Hf]; · iexact Hf
    iintro H; iexact H⟩⟩

/-- The ownership of the scratch buffers includes number 5. -/
theorem has_scratch5 (d : Dev nD) : Has (d : Thread nD τ) (iprop(∃ f : Buf (Elt F) ((d : Thread nD τ).loc cc0_scratch5), ((d : Thread nD τ).loc cc0_scratch5) ↦{fullShare} f) : sProp 𝕄) (Memref.whole cc0_scratch5) :=
  ⟨⟨Finset.univ, Finset.subset_univ _, by
    iintro ⟨%f, Hf⟩
    iexists f
    isplitl [Hf]; · iexact Hf
    iintro H; iexact H⟩⟩

/-- The ownership of the scratch buffers includes number 6. -/
theorem has_scratch6 (d : Dev nD) : Has (d : Thread nD τ) (iprop(∃ f : Buf (Elt F) ((d : Thread nD τ).loc cc0_scratch6), ((d : Thread nD τ).loc cc0_scratch6) ↦{fullShare} f) : sProp 𝕄) (Memref.whole cc0_scratch6) :=
  ⟨⟨Finset.univ, Finset.subset_univ _, by
    iintro ⟨%f, Hf⟩
    iexists f
    isplitl [Hf]; · iexact Hf
    iintro H; iexact H⟩⟩

/-- The ownership of the scratch buffers includes number 7. -/
theorem has_scratch7 (d : Dev nD) : Has (d : Thread nD τ) (iprop(∃ f : Buf (Elt F) ((d : Thread nD τ).loc cc0_scratch7), ((d : Thread nD τ).loc cc0_scratch7) ↦{fullShare} f) : sProp 𝕄) (Memref.whole cc0_scratch7) :=
  ⟨⟨Finset.univ, Finset.subset_univ _, by
    iintro ⟨%f, Hf⟩
    iexists f
    isplitl [Hf]; · iexact Hf
    iintro H; iexact H⟩⟩

/-- The ownership of the scratch buffers includes number 8. -/
theorem has_scratch8 (d : Dev nD) : Has (d : Thread nD τ) (iprop(∃ f : Buf (Elt F) ((d : Thread nD τ).loc cc0_scratch8), ((d : Thread nD τ).loc cc0_scratch8) ↦{fullShare} f) : sProp 𝕄) (Memref.whole cc0_scratch8) :=
  ⟨⟨Finset.univ, Finset.subset_univ _, by
    iintro ⟨%f, Hf⟩
    iexists f
    isplitl [Hf]; · iexact Hf
    iintro H; iexact H⟩⟩

/-- What the body works on at a grid point: the staged blocks and the scratch buffers, at some contents each, and the rest `R`. -/
def held (d : Dev nD) (t : Fin cfg0.N) (R : sProp 𝕄) : sProp 𝕄 :=
  iprop((∃ X, owns (d : Thread nD τ) (win0_0.stage (cfg0.slots t 0)) fullShare X) ∗ (∃ X, owns (d : Thread nD τ) (win0_1.stage (cfg0.slots t 1)) fullShare X) ∗ (∃ X, owns (d : Thread nD τ) (win0_2.stage (cfg0.slots t 2)) fullShare X) ∗ (∃ X, owns (d : Thread nD τ) (win0_3.stage (cfg0.slots t 3)) fullShare X) ∗ (∃ X, owns (d : Thread nD τ) (win0_4.stage (cfg0.slots t 4)) fullShare X) ∗ (∃ X, owns (d : Thread nD τ) (win0_5.stage (cfg0.slots t 5)) fullShare X) ∗ (∃ X, owns (d : Thread nD τ) (win0_6.stage (cfg0.slots t 6)) fullShare X) ∗ (∃ X, owns (d : Thread nD τ) (win0_7.stage (cfg0.slots t 7)) fullShare X) ∗ (∃ f : Buf (Elt F) ((d : Thread nD τ).loc cc0_scratch0), ((d : Thread nD τ).loc cc0_scratch0) ↦{fullShare} f) ∗ (∃ f : Buf (Elt F) ((d : Thread nD τ).loc cc0_scratch1), ((d : Thread nD τ).loc cc0_scratch1) ↦{fullShare} f) ∗ (∃ f : Buf (Elt F) ((d : Thread nD τ).loc cc0_scratch2), ((d : Thread nD τ).loc cc0_scratch2) ↦{fullShare} f) ∗ (∃ f : Buf (Elt F) ((d : Thread nD τ).loc cc0_scratch3), ((d : Thread nD τ).loc cc0_scratch3) ↦{fullShare} f) ∗ (∃ f : Buf (Elt F) ((d : Thread nD τ).loc cc0_scratch4), ((d : Thread nD τ).loc cc0_scratch4) ↦{fullShare} f) ∗ (∃ f : Buf (Elt F) ((d : Thread nD τ).loc cc0_scratch5), ((d : Thread nD τ).loc cc0_scratch5) ↦{fullShare} f) ∗ (∃ f : Buf (Elt F) ((d : Thread nD τ).loc cc0_scratch6), ((d : Thread nD τ).loc cc0_scratch6) ↦{fullShare} f) ∗ (∃ f : Buf (Elt F) ((d : Thread nD τ).loc cc0_scratch7), ((d : Thread nD τ).loc cc0_scratch7) ↦{fullShare} f) ∗ (∃ f : Buf (Elt F) ((d : Thread nD τ).loc cc0_scratch8), ((d : Thread nD τ).loc cc0_scratch8) ↦{fullShare} f) ∗ R)

/-- The body keeps it. -/
theorem body_keeps (d : Dev nD) (t : Fin cfg0.N) (R : sProp 𝕄) :
    Keeps (defs₀ (F := F)) Variants.none (d : Thread nD τ) (held d t R) (defs₀ (F := F) .tc cfg0.body (cfg0.bodyArgs t (cfg0.slots t))) := by
  haveI : Has (d : Thread nD τ) (held d t R) (win0_0.stage (cfg0.slots t 0)) := has_left (has_owns _)
  haveI : Has (d : Thread nD τ) (held d t R) (win0_1.stage (cfg0.slots t 1)) := has_right (has_left (has_owns _))
  haveI : Has (d : Thread nD τ) (held d t R) (win0_2.stage (cfg0.slots t 2)) := has_right (has_right (has_left (has_owns _)))
  haveI : Has (d : Thread nD τ) (held d t R) (win0_3.stage (cfg0.slots t 3)) := has_right (has_right (has_right (has_left (has_owns _))))
  haveI : Has (d : Thread nD τ) (held d t R) (win0_4.stage (cfg0.slots t 4)) := has_right (has_right (has_right (has_right (has_left (has_owns _)))))
  haveI : Has (d : Thread nD τ) (held d t R) (win0_5.stage (cfg0.slots t 5)) := has_right (has_right (has_right (has_right (has_right (has_left (has_owns _))))))
  haveI : Has (d : Thread nD τ) (held d t R) (win0_6.stage (cfg0.slots t 6)) := has_right (has_right (has_right (has_right (has_right (has_right (has_left (has_owns _)))))))
  haveI : Has (d : Thread nD τ) (held d t R) (win0_7.stage (cfg0.slots t 7)) := has_right (has_right (has_right (has_right (has_right (has_right (has_right (has_left (has_owns _))))))))
  haveI : Has (d : Thread nD τ) (held d t R) (Memref.whole cc0_scratch0) := has_right (has_right (has_right (has_right (has_right (has_right (has_right (has_right (has_left (has_scratch0 d)))))))))
  haveI : Has (d : Thread nD τ) (held d t R) (Memref.whole cc0_scratch1) := has_right (has_right (has_right (has_right (has_right (has_right (has_right (has_right (has_right (has_left (has_scratch1 d))))))))))
  haveI : Has (d : Thread nD τ) (held d t R) (Memref.whole cc0_scratch2) := has_right (has_right (has_right (has_right (has_right (has_right (has_right (has_right (has_right (has_right (has_left (has_scratch2 d)))))))))))
  haveI : Has (d : Thread nD τ) (held d t R) (Memref.whole cc0_scratch3) := has_right (has_right (has_right (has_right (has_right (has_right (has_right (has_right (has_right (has_right (has_right (has_left (has_scratch3 d))))))))))))
  haveI : Has (d : Thread nD τ) (held d t R) (Memref.whole cc0_scratch4) := has_right (has_right (has_right (has_right (has_right (has_right (has_right (has_right (has_right (has_right (has_right (has_right (has_left (has_scratch4 d)))))))))))))
  haveI : Has (d : Thread nD τ) (held d t R) (Memref.whole cc0_scratch5) := has_right (has_right (has_right (has_right (has_right (has_right (has_right (has_right (has_right (has_right (has_right (has_right (has_right (has_left (has_scratch5 d))))))))))))))
  haveI : Has (d : Thread nD τ) (held d t R) (Memref.whole cc0_scratch6) := has_right (has_right (has_right (has_right (has_right (has_right (has_right (has_right (has_right (has_right (has_right (has_right (has_right (has_right (has_left (has_scratch6 d)))))))))))))))
  haveI : Has (d : Thread nD τ) (held d t R) (Memref.whole cc0_scratch7) := has_right (has_right (has_right (has_right (has_right (has_right (has_right (has_right (has_right (has_right (has_right (has_right (has_right (has_right (has_right (has_left (has_scratch7 d))))))))))))))))
  haveI : Has (d : Thread nD τ) (held d t R) (Memref.whole cc0_scratch8) := has_right (has_right (has_right (has_right (has_right (has_right (has_right (has_right (has_right (has_right (has_right (has_right (has_right (has_right (has_right (has_right (has_left (has_scratch8 d)))))))))))))))))
  exact keeps_dsa_prompt d (held d t R) ⟨grid0.coords t, (win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (win0_4.stage (cfg0.slots t 4)), (hstage0_4 ((cfg0.slots t 4).cast nbuf0_4)), (win0_5.stage (cfg0.slots t 5)), (hstage0_5 ((cfg0.slots t 5).cast nbuf0_5)), (win0_6.stage (cfg0.slots t 6)), (hstage0_6 ((cfg0.slots t 6).cast nbuf0_6)), (win0_7.stage (cfg0.slots t 7)), (hstage0_7 ((cfg0.slots t 7).cast nbuf0_7)), (Memref.whole cc0_scratch0), (Memref.isWhole_whole _), (Memref.whole cc0_scratch1), (Memref.isWhole_whole _), (Memref.whole cc0_scratch2), (Memref.isWhole_whole _), (Memref.whole cc0_scratch3), (Memref.isWhole_whole _), (Memref.whole cc0_scratch4), (Memref.isWhole_whole _), (Memref.whole cc0_scratch5), (Memref.isWhole_whole _), (Memref.whole cc0_scratch6), (Memref.isWhole_whole _), (Memref.whole cc0_scratch7), (Memref.isWhole_whole _), (Memref.whole cc0_scratch8), (Memref.isWhole_whole _)⟩

/-- The proof data: nothing is said of what the body leaves in a staging buffer. -/
def rdat (m : (ℓ : Loc nD τ sig) → Buf (Elt F) ℓ) (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the pipeline hands the body is what the body keeps. -/
theorem held_of (m : (ℓ : Loc nD τ sig) → Buf (Elt F) ℓ) (c : Dev nD) (t : Fin cfg0.N)
    (Y : (w : Fin cfg0.W) → (cfg0.win w).block.Idx → Elt F (cfg0.win w).elt) :
    iprop((rdat m c).Φ t.castSucc ∗ (rdat m c).owesAt () t.castSucc
        ∗ bigSep Finset.univ fun w : Fin cfg0.W => owns (c : Thread nD τ) ((cfg0.win w).stage (cfg0.slots t w)) fullShare (Y w))
      ⊢ held c t iprop((∃ r, prngReg c r) ∗ (rdat m c).owesAt () t.castSucc) := by
  unfold held
  rw [show (rdat m c).Φ t.castSucc = Pipeline.ΦA spec0 c from rfl]
  unfold Pipeline.ΦA
  rw [scopedRest0_eq, bigSep_W0]
  iintro ⟨⟨⟨HS0, HS1, HS2, HS3, HS4, HS5, HS6, HS7, HS8⟩, Hp⟩, Ho, HX0, HX1, HX2, HX3, HX4, HX5, HX6, HX7⟩
  isplitl [HX0]; · iexists Y 0; iexact HX0
  isplitl [HX1]; · iexists Y 1; iexact HX1
  isplitl [HX2]; · iexists Y 2; iexact HX2
  isplitl [HX3]; · iexists Y 3; iexact HX3
  isplitl [HX4]; · iexists Y 4; iexact HX4
  isplitl [HX5]; · iexists Y 5; iexact HX5
  isplitl [HX6]; · iexists Y 6; iexact HX6
  isplitl [HX7]; · iexists Y 7; iexact HX7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hp]; · iexact Hp
  iexact Ho

/-- And gives the pipeline what it takes back. -/
theorem of_held (m : (ℓ : Loc nD τ sig) → Buf (Elt F) ℓ) (c : Dev nD) (t : Fin cfg0.N)
    (Y : (w : Fin cfg0.W) → (cfg0.win w).block.Idx → Elt F (cfg0.win w).elt) :
    held c t iprop((∃ r, prngReg c r) ∗ (rdat m c).owesAt () t.castSucc)
      ⊢ iprop((rdat m c).Φ t.succ ∗ (rdat m c).owesAt () t.succ
        ∗ bigSep Finset.univ fun w : Fin cfg0.W => iprop(∃ X, ⌜(rdat m c).after w t (Y w) X⌝ ∗ owns (c : Thread nD τ) ((cfg0.win w).stage (cfg0.slots t w)) fullShare X)) := by
  unfold held
  rw [show (rdat m c).Φ t.succ = Pipeline.ΦA spec0 c from rfl, show (rdat m c).owesAt () t.succ = (rdat m c).owesAt () t.castSucc from rfl]
  unfold Pipeline.ΦA
  rw [scopedRest0_eq, bigSep_W0]
  iintro ⟨⟨%X0, HX0⟩, ⟨%X1, HX1⟩, ⟨%X2, HX2⟩, ⟨%X3, HX3⟩, ⟨%X4, HX4⟩, ⟨%X5, HX5⟩, ⟨%X6, HX6⟩, ⟨%X7, HX7⟩, HS0, HS1, HS2, HS3, HS4, HS5, HS6, HS7, HS8, Hp, Ho⟩
  isplitl [HS0 HS1 HS2 HS3 HS4 HS5 HS6 HS7 HS8 Hp]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    · iexact Hp
  isplitl [Ho]; · iexact Ho
  isplitl [HX0]
  · iexists X0
    isplitr; · ipureintro; trivial
    iexact HX0
  isplitl [HX1]
  · iexists X1
    isplitr; · ipureintro; trivial
    iexact HX1
  isplitl [HX2]
  · iexists X2
    isplitr; · ipureintro; trivial
    iexact HX2
  isplitl [HX3]
  · iexists X3
    isplitr; · ipureintro; trivial
    iexact HX3
  isplitl [HX4]
  · iexists X4
    isplitr; · ipureintro; trivial
    iexact HX4
  isplitl [HX5]
  · iexists X5
    isplitr; · ipureintro; trivial
    iexact HX5
  isplitl [HX6]
  · iexists X6
    isplitr; · ipureintro; trivial
    iexact HX6
  iexists X7; isplitr; · ipureintro; trivial
  iexact HX7

/-- At every grid point the body meets what the launch asks of it. -/
theorem body_obligation (m : (ℓ : Loc nD τ sig) → Buf (Elt F) ℓ) (c : Dev nD) :
    (rdat m c).BodyObligation (defs₀ (F := F)) Variants.none () Set.univ := fun t Y _ => by
  refine (held_of m c t Y).trans ((body_keeps c t _).out.trans ?_)
  iintro H
  iapply (wp_wand_r (M := 𝕄) frame (wpE (defs₀ (F := F)) Variants.none (c : Thread nD τ) none) Set.univ)
  isplitl [H]; · iexact H
  iintro %v H
  iapply (of_held m c t Y); iexact H

/-- The run: it ends, the arguments as they were, every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.RDat.θ_run_frame_track_shared cfgs 0 launch₀0 (defs₀ (F := F)) Variants.none (rdat m) m ρ main
    (body_obligation m) (fun _ _ _ => rfl) (fun _ _ => rfl) (V m) (hmain m Variants.none) (fun _ _ => rfl)
    (fun _ => BIBase.Entails.rfl) (fun _ => BIBase.Entails.rfl) _
    (fun r h => ⟨fun c => ⟨(h.1.arr_in c (5 : Fin cfg0.W) rfl).trans (V_main_arg0 m c), (h.1.arr_in c (6 : Fin cfg0.W) rfl).trans (V_main_arg1 m c)⟩, h.2⟩)

end Cert.Proof.Kernel

end
-- ==== Proof.InProjColumns.lean ====
/- The columns of the input projection in the order in which the layer lays them out: of the weights, of the bias and of the
   product, each read at one column. -/
module

public import proofs.«01_k».proof.Proof.Gen.InProjIdeal.Value
public import proofs.«01_k».proof.Proof.Gen.InProjRefIdeal.Run
public import Idealize.ShloMosaic.Lib.Pipeline.ValueKit

@[expose] public section

set_option maxRecDepth 16384

noncomputable section

namespace Cert.Proof.InProj

open Cert.InProjIdeal Cert.InProjIdeal.Gen
open Idealize.ShloMosaic Idealize.ShloMosaic.TcCoe Idealize.SL.Sem

/-- Column `j` of the new order, `f` of its place in the old one; the padding columns are zero. -/
def pick (f : Fin 6212 → EReal) (j : ℕ) : EReal :=
  if h : j < 1024 then f ⟨j, by omega⟩ else
  if h : j - 1024 < 1024 then f ⟨2116 + (j - 1024), by omega⟩ else
  if h : j - 1024 - 1024 < 3072 then f ⟨3140 + (j - 1024 - 1024), by omega⟩ else
  if h : j - 1024 - 1024 - 3072 < 512 then f ⟨1024 + (j - 1024 - 1024 - 3072), by omega⟩ else
  if h : j - 1024 - 1024 - 3072 - 512 < 256 then f ⟨1792 + (j - 1024 - 1024 - 3072 - 512), by omega⟩ else
  if h : j - 1024 - 1024 - 3072 - 512 - 256 < 128 then f ⟨1536 + (j - 1024 - 1024 - 3072 - 512 - 256), by omega⟩ else
  if h : j - 1024 - 1024 - 3072 - 512 - 256 - 128 < 128 then f ⟨1664 + (j - 1024 - 1024 - 3072 - 512 - 256 - 128), by omega⟩ else
  if h : j - 1024 - 1024 - 3072 - 512 - 256 - 128 - 128 < 64 then f ⟨2048 + (j - 1024 - 1024 - 3072 - 512 - 256 - 128 - 128), by omega⟩ else
  if h : j - 1024 - 1024 - 3072 - 512 - 256 - 128 - 128 - 64 < 64 then f ⟨2048 + (j - 1024 - 1024 - 3072 - 512 - 256 - 128 - 128 - 64), by omega⟩ else
  if h : j - 1024 - 1024 - 3072 - 512 - 256 - 128 - 128 - 64 - 64 < 64 then f ⟨2048 + (j - 1024 - 1024 - 3072 - 512 - 256 - 128 - 128 - 64 - 64), by omega⟩ else
  if h : j - 1024 - 1024 - 3072 - 512 - 256 - 128 - 128 - 64 - 64 - 64 < 64 then f ⟨2048 + (j - 1024 - 1024 - 3072 - 512 - 256 - 128 - 128 - 64 - 64 - 64), by omega⟩ else
  if h : j - 1024 - 1024 - 3072 - 512 - 256 - 128 - 128 - 64 - 64 - 64 - 64 < 4 then f ⟨2112 + (j - 1024 - 1024 - 3072 - 512 - 256 - 128 - 128 - 64 - 64 - 64 - 64), by omega⟩ else
  0

/-- Where column `j` of the new order stands in the old one; the padding columns stand nowhere. -/
def col (j : ℕ) : Option (Fin 6212) :=
  if h : j < 1024 then some ⟨j, by omega⟩ else
  if h : j - 1024 < 1024 then some ⟨2116 + (j - 1024), by omega⟩ else
  if h : j - 1024 - 1024 < 3072 then some ⟨3140 + (j - 1024 - 1024), by omega⟩ else
  if h : j - 1024 - 1024 - 3072 < 512 then some ⟨1024 + (j - 1024 - 1024 - 3072), by omega⟩ else
  if h : j - 1024 - 1024 - 3072 - 512 < 256 then some ⟨1792 + (j - 1024 - 1024 - 3072 - 512), by omega⟩ else
  if h : j - 1024 - 1024 - 3072 - 512 - 256 < 128 then some ⟨1536 + (j - 1024 - 1024 - 3072 - 512 - 256), by omega⟩ else
  if h : j - 1024 - 1024 - 3072 - 512 - 256 - 128 < 128 then some ⟨1664 + (j - 1024 - 1024 - 3072 - 512 - 256 - 128), by omega⟩ else
  if h : j - 1024 - 1024 - 3072 - 512 - 256 - 128 - 128 < 64 then some ⟨2048 + (j - 1024 - 1024 - 3072 - 512 - 256 - 128 - 128), by omega⟩ else
  if h : j - 1024 - 1024 - 3072 - 512 - 256 - 128 - 128 - 64 < 64 then some ⟨2048 + (j - 1024 - 1024 - 3072 - 512 - 256 - 128 - 128 - 64), by omega⟩ else
  if h : j - 1024 - 1024 - 3072 - 512 - 256 - 128 - 128 - 64 - 64 < 64 then some ⟨2048 + (j - 1024 - 1024 - 3072 - 512 - 256 - 128 - 128 - 64 - 64), by omega⟩ else
  if h : j - 1024 - 1024 - 3072 - 512 - 256 - 128 - 128 - 64 - 64 - 64 < 64 then some ⟨2048 + (j - 1024 - 1024 - 3072 - 512 - 256 - 128 - 128 - 64 - 64 - 64), by omega⟩ else
  if h : j - 1024 - 1024 - 3072 - 512 - 256 - 128 - 128 - 64 - 64 - 64 - 64 < 4 then some ⟨2112 + (j - 1024 - 1024 - 3072 - 512 - 256 - 128 - 128 - 64 - 64 - 64 - 64), by omega⟩ else
  none

/-- A value picked through a two-way choice is the choice of the values picked. -/
theorem elim_dite {p : Prop} [Decidable p] (a : p → Fin 6212) (r : Option (Fin 6212)) (f : Fin 6212 → EReal) :
    (if h : p then some (a h) else r).elim 0 f = if h : p then f (a h) else r.elim 0 f := by
  by_cases h : p
  · rw [dif_pos h, dif_pos h]; rfl
  · rw [dif_neg h, dif_neg h]

/-- The column that a place of the layout picks, or zero. -/
theorem pick_eq (f : Fin 6212 → EReal) (j : ℕ) : pick f j = (col j).elim 0 f := by
  unfold pick col
  rw [elim_dite, elim_dite, elim_dite, elim_dite, elim_dite, elim_dite, elim_dite, elim_dite, elim_dite, elim_dite, elim_dite, elim_dite]
  rfl

/-- The weights with their columns in the new order. -/
def wcat (w : FVec Ideal S1024x6212 .f32) : FVec Ideal S1024x6656 .f32 :=
  concatenate S1024x6656 1 [⟨S1024x1024, extractStridedSlice S1024x1024 ![0, 0] w slices_S1024x6212_S1024x1024_0_0⟩, ⟨S1024x1024, extractStridedSlice S1024x1024 ![0, 2116] w slices_S1024x6212_S1024x1024_0_2116⟩, ⟨S1024x3072, extractStridedSlice S1024x3072 ![0, 3140] w slices_S1024x6212_S1024x3072_0_3140⟩, ⟨S1024x512, extractStridedSlice S1024x512 ![0, 1024] w slices_S1024x6212_S1024x512_0_1024⟩, ⟨S1024x256, extractStridedSlice S1024x256 ![0, 1792] w slices_S1024x6212_S1024x256_0_1792⟩, ⟨S1024x128, extractStridedSlice S1024x128 ![0, 1536] w slices_S1024x6212_S1024x128_0_1536⟩, ⟨S1024x128, extractStridedSlice S1024x128 ![0, 1664] w slices_S1024x6212_S1024x128_0_1664⟩, ⟨S1024x64, extractStridedSlice S1024x64 ![0, 2048] w slices_S1024x6212_S1024x64_0_2048⟩, ⟨S1024x64, extractStridedSlice S1024x64 ![0, 2048] w slices_S1024x6212_S1024x64_0_2048⟩, ⟨S1024x64, extractStridedSlice S1024x64 ![0, 2048] w slices_S1024x6212_S1024x64_0_2048⟩, ⟨S1024x64, extractStridedSlice S1024x64 ![0, 2048] w slices_S1024x6212_S1024x64_0_2048⟩, ⟨S1024x4, extractStridedSlice S1024x4 ![0, 2112] w slices_S1024x6212_S1024x4_0_2112⟩, ⟨S1024x252, broadcastInDim S1024x252 ![] bcast_S_S1024x252 (constant S_ .f32 0x00000000#32)⟩] concatenates_S1024x1024_S1024x1024_S1024x3072_S1024x512_S1024x256_S1024x128_S1024x128_S1024x64_S1024x64_S1024x64_S1024x64_S1024x4_S1024x252_S1024x6656_d1

/-- The bias with its entries in the new order. -/
def bcat (b : FVec Ideal S6212 .f32) : FVec Ideal S6656 .f32 :=
  concatenate S6656 0 [⟨S1024, extractStridedSlice S1024 ![0] b slices_S6212_S1024_0⟩, ⟨S1024, extractStridedSlice S1024 ![2116] b slices_S6212_S1024_2116⟩, ⟨S3072, extractStridedSlice S3072 ![3140] b slices_S6212_S3072_3140⟩, ⟨S512, extractStridedSlice S512 ![1024] b slices_S6212_S512_1024⟩, ⟨S256, extractStridedSlice S256 ![1792] b slices_S6212_S256_1792⟩, ⟨S128, extractStridedSlice S128 ![1536] b slices_S6212_S128_1536⟩, ⟨S128, extractStridedSlice S128 ![1664] b slices_S6212_S128_1664⟩, ⟨S64, extractStridedSlice S64 ![2048] b slices_S6212_S64_2048⟩, ⟨S64, extractStridedSlice S64 ![2048] b slices_S6212_S64_2048⟩, ⟨S64, extractStridedSlice S64 ![2048] b slices_S6212_S64_2048⟩, ⟨S64, extractStridedSlice S64 ![2048] b slices_S6212_S64_2048⟩, ⟨S4, extractStridedSlice S4 ![2112] b slices_S6212_S4_2112⟩, ⟨S252, broadcastInDim S252 ![] bcast_S_S252 (constant S_ .f32 0x00000000#32)⟩] concatenates_S1024_S1024_S3072_S512_S256_S128_S128_S64_S64_S64_S64_S4_S252_S6656_d0

/-- The product with its columns in the new order. -/
def zcat (z : FVec Ideal Cert.InProjRefIdeal.S4x4096x6212 .f32) : FVec Ideal Cert.InProjRefIdeal.S4x4096x6656 .f32 :=
  concatenate Cert.InProjRefIdeal.S4x4096x6656 2 [⟨Cert.InProjRefIdeal.S4x4096x1024, extractStridedSlice Cert.InProjRefIdeal.S4x4096x1024 ![0, 0, 0] z Cert.InProjRefIdeal.Gen.slices_S4x4096x6212_S4x4096x1024_0_0_0⟩, ⟨Cert.InProjRefIdeal.S4x4096x1024, extractStridedSlice Cert.InProjRefIdeal.S4x4096x1024 ![0, 0, 2116] z Cert.InProjRefIdeal.Gen.slices_S4x4096x6212_S4x4096x1024_0_0_2116⟩, ⟨Cert.InProjRefIdeal.S4x4096x3072, extractStridedSlice Cert.InProjRefIdeal.S4x4096x3072 ![0, 0, 3140] z Cert.InProjRefIdeal.Gen.slices_S4x4096x6212_S4x4096x3072_0_0_3140⟩, ⟨Cert.InProjRefIdeal.S4x4096x512, extractStridedSlice Cert.InProjRefIdeal.S4x4096x512 ![0, 0, 1024] z Cert.InProjRefIdeal.Gen.slices_S4x4096x6212_S4x4096x512_0_0_1024⟩, ⟨Cert.InProjRefIdeal.S4x4096x256, extractStridedSlice Cert.InProjRefIdeal.S4x4096x256 ![0, 0, 1792] z Cert.InProjRefIdeal.Gen.slices_S4x4096x6212_S4x4096x256_0_0_1792⟩, ⟨Cert.InProjRefIdeal.S4x4096x128, extractStridedSlice Cert.InProjRefIdeal.S4x4096x128 ![0, 0, 1536] z Cert.InProjRefIdeal.Gen.slices_S4x4096x6212_S4x4096x128_0_0_1536⟩, ⟨Cert.InProjRefIdeal.S4x4096x128, extractStridedSlice Cert.InProjRefIdeal.S4x4096x128 ![0, 0, 1664] z Cert.InProjRefIdeal.Gen.slices_S4x4096x6212_S4x4096x128_0_0_1664⟩, ⟨Cert.InProjRefIdeal.S4x4096x64, extractStridedSlice Cert.InProjRefIdeal.S4x4096x64 ![0, 0, 2048] z Cert.InProjRefIdeal.Gen.slices_S4x4096x6212_S4x4096x64_0_0_2048⟩, ⟨Cert.InProjRefIdeal.S4x4096x64, extractStridedSlice Cert.InProjRefIdeal.S4x4096x64 ![0, 0, 2048] z Cert.InProjRefIdeal.Gen.slices_S4x4096x6212_S4x4096x64_0_0_2048⟩, ⟨Cert.InProjRefIdeal.S4x4096x64, extractStridedSlice Cert.InProjRefIdeal.S4x4096x64 ![0, 0, 2048] z Cert.InProjRefIdeal.Gen.slices_S4x4096x6212_S4x4096x64_0_0_2048⟩, ⟨Cert.InProjRefIdeal.S4x4096x64, extractStridedSlice Cert.InProjRefIdeal.S4x4096x64 ![0, 0, 2048] z Cert.InProjRefIdeal.Gen.slices_S4x4096x6212_S4x4096x64_0_0_2048⟩, ⟨Cert.InProjRefIdeal.S4x4096x4, extractStridedSlice Cert.InProjRefIdeal.S4x4096x4 ![0, 0, 2112] z Cert.InProjRefIdeal.Gen.slices_S4x4096x6212_S4x4096x4_0_0_2112⟩, ⟨Cert.InProjRefIdeal.S4x4096x252, broadcastInDim Cert.InProjRefIdeal.S4x4096x252 ![] Cert.InProjRefIdeal.Gen.bcast_S_S4x4096x252 (constant Cert.InProjRefIdeal.S_ .f32 0x00000000#32)⟩] Cert.InProjRefIdeal.Gen.concatenates_S4x4096x1024_S4x4096x1024_S4x4096x3072_S4x4096x512_S4x4096x256_S4x4096x128_S4x4096x128_S4x4096x64_S4x4096x64_S4x4096x64_S4x4096x64_S4x4096x4_S4x4096x252_S4x4096x6656_d2

/-- One entry of the laid-out weights. -/
theorem wcat_apply (w : FVec Ideal S1024x6212 .f32) (k : Fin 1024) (j : Fin 6656) :
    wcat w (ix2 k j) = pick (fun c => w (ix2 k c)) j := by
  pointwise [wcat, pick]

/-- One entry of the laid-out bias. -/
theorem bcat_apply (b : FVec Ideal S6212 .f32) (j : Fin 6656) : bcat b (ix1 j) = pick (fun c => b (ix1 c)) j := by
  pointwise [bcat, pick]

/-- One entry of the laid-out projection. -/
theorem zcat_apply (z : FVec Ideal Cert.InProjRefIdeal.S4x4096x6212 .f32) (b : Fin 4) (t : Fin 4096) (j : Fin 6656) :
    zcat z (ix3 b t j) = pick (fun c => z (ix3 b t c)) j := by
  pointwise [zcat, pick]

end Cert.Proof.InProj

end
-- ==== Proof.InProjEntry.lean ====
/- What the input projection's call finds in the buffers that the host prepares. -/
module

public import proofs.«01_k».proof.Proof.InProjColumns
public import Idealize.ShloMosaic.Lib.Pipeline.ValueKit
public import Idealize.ShloMosaic.Lib.Claim

@[expose] public section

set_option maxRecDepth 16384

noncomputable section

namespace Cert.Proof.InProj

open Cert.InProjIdeal Cert.InProjIdeal.Gen
open Idealize.ShloMosaic Idealize.ShloMosaic.TcCoe Idealize.SL.Sem

variable (m : (ℓ : Loc nD τ sig) → Buf (Elt Ideal) ℓ)

set_option maxHeartbeats 2000000 in
/-- The weights as the call finds them. -/
theorem entry_w (c : Dev nD) : V m c main_v11 = wcat (m ((c : Thread nD τ).loc main_arg2)) := by
  rfl

set_option maxHeartbeats 2000000 in
/-- The bias as the call finds it. -/
theorem entry_b (c : Dev nD) : V m c main_v23 = shapeCast S1x6656 (bcat (m ((c : Thread nD τ).loc main_arg3))) shapeCasts_S6656_S1x6656 := by
  unfold V
  after_results_simp <;> (try dsimp only [Matrix.cons_val]) <;> (try after_results_simp) <;> rfl

/-- The modulation as the call finds it. -/
theorem entry_m (c : Dev nD) : V m c main_v24 = shapeCast S4x1x6144 (m ((c : Thread nD τ).loc main_arg1)) shapeCasts_S4x6144_S4x1x6144 := by
  entry_read
  rfl

end Cert.Proof.InProj

end
-- ==== Proof.InProjValue.lean ====
/- What the input projection's blocks hold, and its array after the run: the reference's product, its columns in the new order. -/
module

public import proofs.«01_k».proof.Proof.InProjEntry

@[expose] public section

set_option maxRecDepth 16384

noncomputable section

namespace Cert.Proof.InProj

open Cert.InProjIdeal Cert.InProjIdeal.Gen
open Idealize.ShloMosaic Idealize.ShloMosaic.TcCoe Idealize.SL.Sem
open Idealize.ShloMosaic.Pipeline (Dat)

/-- The reference's product, its columns in the old order. -/
def zref (x : FVec Ideal Cert.InProjRefIdeal.S4x4096x1024 .f32) (u : FVec Ideal Cert.InProjRefIdeal.S4x6144 .f32) (w : FVec Ideal Cert.InProjRefIdeal.S1024x6212 .f32)
    (b : FVec Ideal Cert.InProjRefIdeal.S6212 .f32) : FVec Ideal Cert.InProjRefIdeal.S4x4096x6212 .f32 :=
  addf (Host.dotGeneral Cert.InProjRefIdeal.dot_S4x4096x1024_S1024x6212_S4x4096x6212_2_0_01_1_n_n none (addf (mulf x (broadcastInDim Cert.InProjRefIdeal.S4x4096x1024 ![0, 1, 2] Cert.InProjRefIdeal.Gen.bcast_S4x1x1024_S4x4096x1024_0_1_2 (addf (broadcastInDim Cert.InProjRefIdeal.S4x1x1024 ![] Cert.InProjRefIdeal.Gen.bcast_S_S4x1x1024 (constant Cert.InProjRefIdeal.S_ .f32 0x3F800000#32)) (broadcastInDim Cert.InProjRefIdeal.S4x1x1024 ![0, 2] Cert.InProjRefIdeal.Gen.bcast_S4x1024_S4x1x1024_0_2 (extractStridedSlice Cert.InProjRefIdeal.S4x1024 ![0, 1024] u Cert.InProjRefIdeal.Gen.slices_S4x6144_S4x1024_0_1024))))) (broadcastInDim Cert.InProjRefIdeal.S4x4096x1024 ![0, 1, 2] Cert.InProjRefIdeal.Gen.bcast_S4x1x1024_S4x4096x1024_0_1_2 (broadcastInDim Cert.InProjRefIdeal.S4x1x1024 ![0, 2] Cert.InProjRefIdeal.Gen.bcast_S4x1024_S4x1x1024_0_2 (extractStridedSlice Cert.InProjRefIdeal.S4x1024 ![0, 0] u Cert.InProjRefIdeal.Gen.slices_S4x6144_S4x1024_0_0)))) w) (broadcastInDim Cert.InProjRefIdeal.S4x4096x6212 ![0, 1, 2] Cert.InProjRefIdeal.Gen.bcast_S1x1x6212_S4x4096x6212_0_1_2 (broadcastInDim Cert.InProjRefIdeal.S1x1x6212 ![2] Cert.InProjRefIdeal.Gen.bcast_S6212_S1x1x6212_2 b))

/-- One entry of the reference's projection, of the arguments. -/
theorem zref_apply (x : FVec Ideal Cert.InProjRefIdeal.S4x4096x1024 .f32) (u : FVec Ideal Cert.InProjRefIdeal.S4x6144 .f32) (w : FVec Ideal Cert.InProjRefIdeal.S1024x6212 .f32)
    (b : FVec Ideal Cert.InProjRefIdeal.S6212 .f32) (g : Fin 4) (t : Fin 4096) (j : Fin 6212) :
    zref x u w b (ix3 g t j) =
      ∑ k : Fin 1024, (x (ix3 g t k) * (1 + u (ix2 g ⟨1024 + k, by omega⟩)) + u (ix2 g ⟨k, by omega⟩)) *
        w (ix2 k j) + b (ix1 j) := by
  pointwise [zref]

/-- What the body computes at one entry, of its blocks. -/
theorem pay_apply (x : Vec Ideal S1x512x1024 .f32) (s h : Vec Ideal S1x1x1024 .f32)
    (w : Vec Ideal S1024x3328 .bf16) (b : Vec Ideal S1x3328 .f32)
    (g : Fin 1) (t : Fin 512) (j : Fin 3328) :
    k0_pay1 x s h w b (ix3 g t j) = ∑ k : Fin 1024, (x (ix3 0 t k) * (1 + s (ix3 0 0 k)) + h (ix3 0 0 k)) *
        w (ix2 k j) + b (ix2 0 j) := by
  pointwise [k0_pay1]

variable (m : (ℓ : Loc nD τ sig) → Buf (Elt Ideal) ℓ)

/-- The windows' block indices at a point. -/
theorem idx : ∀ t : Fin cfg0.N, win0_0.index t = ![t.val / 8 % 4, t.val % 8, 0] ∧ win0_1.index t = ![t.val / 8 % 4, 0, 0]
    ∧ win0_2.index t = ![t.val / 8 % 4, 0, 1] ∧ win0_3.index t = ![0, t.val / 32] ∧ win0_4.index t = ![0, t.val / 32]
    ∧ win0_5.index t = ![t.val / 8 % 4, t.val % 8, t.val / 32] :=
  (by decide +kernel : ∀ t : Fin grid0.N, _)

/-- The column of the merged product that an element of a block belongs to. -/
def column (t : Fin cfg0.N) (j : Fin 3328) : Fin 6656 :=
  ⟨t.val / 32 * 3328 + j.val, by have : t.val < 64 := t.isLt; omega⟩

/-- The token that an element of a block belongs to. -/
def token (t : Fin cfg0.N) (i : Fin 512) : Fin 4096 :=
  ⟨t.val % 8 * 512 + i.val, by omega⟩

/-- The request that a block belongs to. -/
def request (t : Fin cfg0.N) : Fin 4 :=
  ⟨t.val / 8 % 4, by omega⟩

/-- A point's block of the inputs holds its tokens. -/
theorem emb0 (t : Fin cfg0.N) (i : Fin 512) (k : Fin 1024) :
    (win0_0.blk t).view.emb (ix3 0 i k) = ix3 (request t) (token t i) k := by
  blk_ext [idx t, request, token]

/-- A point's block of the shift is the modulation's first part. -/
theorem emb1 (t : Fin cfg0.N) (k : Fin 1024) :
    (win0_1.blk t).view.emb (ix3 0 0 k) = ix3 (request t) 0 ⟨k.val, by omega⟩ := by
  blk_ext [idx t, request]

/-- A point's block of the scale is the modulation's second part. -/
theorem emb2 (t : Fin cfg0.N) (k : Fin 1024) :
    (win0_2.blk t).view.emb (ix3 0 0 k) = ix3 (request t) 0 ⟨1024 + k.val, by omega⟩ := by
  blk_ext [idx t, request]

/-- A point's block of the weights holds its columns. -/
theorem emb3 (t : Fin cfg0.N) (k : Fin 1024) (j : Fin 3328) :
    (win0_3.blk t).view.emb (ix2 k j) = ix2 k (column t j) := by
  blk_ext [idx t, column]

/-- A point's block of the bias holds its columns. -/
theorem emb4 (t : Fin cfg0.N) (j : Fin 3328) :
    (win0_4.blk t).view.emb (ix2 0 j) = ix2 0 (column t j) := by
  blk_ext [idx t, column]

/-- A point's block of the result holds its tokens and columns. -/
theorem emb5 (t : Fin cfg0.N) (z : Fin 1) (i : Fin 512) (j : Fin 3328) :
    (win0_5.blk t).view.emb (ix3 z i j) = ix3 (request t) (token t i) (column t j) := by
  blk_ext [idx t, request, token, column]

/-- Picking columns commutes with the product, also where a column is a filler. -/
theorem pick_dot (h : Fin 1024 → EReal) (w : Fin 1024 → Fin 6212 → EReal) (b : Fin 6212 → EReal) (j : ℕ) :
    ∑ k, h k * pick (w k) j + pick b j = pick (fun c => ∑ k, h k * w k c + b c) j := by
  simp only [pick_eq]
  cases col j <;> simp

/-- The bias as a row, at one entry. -/
theorem bias_apply (b : FVec Ideal S6656 .f32) (j : Fin 6656) :
    shapeCast S1x6656 b shapeCasts_S6656_S1x6656 (ix2 0 j) = b (ix1 j) := by
  pointwise

/-- The modulation with a unit axis, at one entry. -/
theorem mod_apply (u : FVec Ideal S4x6144 .f32) (g : Fin 4) (j : Fin 6144) :
    shapeCast S4x1x6144 u shapeCasts_S4x6144_S4x1x6144 (ix3 g 0 j) = u (ix2 g j) := by
  pointwise

/-- An input, as the body reads it. -/
theorem read0 (c : Dev nD) (t : Fin cfg0.N) (i : Fin 512) (k : Fin 1024) :
    (iblk m c 0 t : Vec Ideal S1x512x1024 .f32) (ix3 0 i k)
    = ((m ((c : Thread nD τ).loc main_arg0)) : Vec Ideal S4x4096x1024 .f32) (ix3 (request t) (token t i) k) :=
  congrArg ((m ((c : Thread nD τ).loc main_arg0)) : Vec Ideal S4x4096x1024 .f32) (emb0 t i k)

/-- A shift, as the body reads it. -/
theorem read1 (c : Dev nD) (t : Fin cfg0.N) (k : Fin 1024) :
    (iblk m c 1 t : Vec Ideal S1x1x1024 .f32) (ix3 0 0 k)
    = ((m ((c : Thread nD τ).loc main_arg1)) : Vec Ideal S4x6144 .f32) (ix2 (request t) ⟨k.val, by omega⟩) :=
  (congrArg (V m c main_v24 : Vec Ideal S4x1x6144 .f32) (emb1 t k)).trans (by rw [entry_m]; exact mod_apply _ _ _)

/-- A scale, as the body reads it. -/
theorem read2 (c : Dev nD) (t : Fin cfg0.N) (k : Fin 1024) :
    (iblk m c 2 t : Vec Ideal S1x1x1024 .f32) (ix3 0 0 k)
    = ((m ((c : Thread nD τ).loc main_arg1)) : Vec Ideal S4x6144 .f32) (ix2 (request t) ⟨1024 + k.val, by omega⟩) :=
  (congrArg (V m c main_v24 : Vec Ideal S4x1x6144 .f32) (emb2 t k)).trans (by rw [entry_m]; exact mod_apply _ _ _)

/-- A weight, as the body reads it. -/
theorem read3 (c : Dev nD) (t : Fin cfg0.N) (k : Fin 1024) (j : Fin 3328) :
    (iblk m c 3 t : Vec Ideal S1024x3328 .bf16) (ix2 k j)
    = pick (fun n => ((m ((c : Thread nD τ).loc main_arg2)) : Vec Ideal S1024x6212 .f32) (ix2 k n)) (column t j).val :=
  (congrArg (V m c main_v11 : Vec Ideal S1024x6656 .bf16) (emb3 t k j)).trans (by rw [entry_w]; exact wcat_apply _ _ _)

/-- A bias, as the body reads it. -/
theorem read4 (c : Dev nD) (t : Fin cfg0.N) (j : Fin 3328) :
    (iblk m c 4 t : Vec Ideal S1x3328 .f32) (ix2 0 j)
    = pick (fun n => ((m ((c : Thread nD τ).loc main_arg3)) : Vec Ideal S6212 .f32) (ix1 n)) (column t j).val :=
  (congrArg (V m c main_v23 : Vec Ideal S1x6656 .f32) (emb4 t j)).trans
    (by rw [entry_b]; exact (bias_apply _ _).trans (bcat_apply _ _))

/-- One element of the kernel's product, from blocks that hold the merged columns. -/
theorem element (X : Vec Ideal S1x512x1024 .f32) (S H : Vec Ideal S1x1x1024 .f32) (W : Vec Ideal S1024x3328 .bf16)
    (B : Vec Ideal S1x3328 .f32) (x : FVec Ideal Cert.InProjRefIdeal.S4x4096x1024 .f32) (u : FVec Ideal Cert.InProjRefIdeal.S4x6144 .f32)
    (w : FVec Ideal Cert.InProjRefIdeal.S1024x6212 .f32) (b : FVec Ideal Cert.InProjRefIdeal.S6212 .f32)
    (z : Fin 1) (i : Fin 512) (j : Fin 3328) (g : Fin 4) (r : Fin 4096) (n : Fin 6656)
    (hX : ∀ k, X (ix3 0 i k) = x (ix3 g r k)) (hH : ∀ k, H (ix3 0 0 k) = u (ix2 g ⟨k.val, by omega⟩))
    (hS : ∀ k, S (ix3 0 0 k) = u (ix2 g ⟨1024 + k.val, by omega⟩))
    (hW : ∀ k, W (ix2 k j) = pick (fun c => w (ix2 k c)) n.val) (hB : B (ix2 0 j) = pick (fun c => b (ix1 c)) n.val) :
    k0_pay1 X S H W B (ix3 z i j) = zcat (zref x u w b) (ix3 g r n) := by
  rw [pay_apply, zcat_apply, hB]
  simp only [hX, hH, hS, hW, zref_apply]
  exact pick_dot _ _ _ _

/-- The block that a point writes is the reference's. -/
theorem point (c : Dev nD) (t : Fin cfg0.N) (y : S1x512x3328.Idx) :
    k0_pay1 (iblk m c 0 t) (iblk m c 2 t) (iblk m c 1 t) (iblk m c 3 t) (iblk m c 4 t) y
    = zcat (zref (m ((c : Thread nD τ).loc main_arg0)) (m ((c : Thread nD τ).loc main_arg1)) (m ((c : Thread nD τ).loc main_arg2)) (m ((c : Thread nD τ).loc main_arg3))) ((win0_5.blk t).view.emb y) := by
  idx_vars y
  exact (element _ _ _ _ _ _ _ _ _ _ _ _ _ _ _ (read0 m c t y1) (read1 m c t) (read2 m c t) (fun k => read3 m c t k y2)
    (read4 m c t y2)).trans (congrArg (zcat _) (emb5 t y0 y1 y2)).symm

/-- The array after the run: the reference's product, its columns in the new order. -/
theorem final (c : Dev nD) :
    (dats m 0 c).arrAt 5 cfg0.N
    = zcat (zref (m ((c : Thread nD τ).loc main_arg0)) (m ((c : Thread nD τ).loc main_arg1)) (m ((c : Thread nD τ).loc main_arg2)) (m ((c : Thread nD τ).loc main_arg3))) :=
  (dats m 0 c).arrAt_eq_of_covers 5 _ (by decide +kernel) fun t _ y => by
    blk_simp
    rw [after0_5]
    frame_out
    exact point m c t y

end Cert.Proof.InProj

end
-- ==== Proof.MoePay.lean ====
/- The experts' call: what its payloads compute at one element. -/
module

public import proofs.«01_k».proof.Proof.Gen.MoeIdeal.Skeleton
public import Idealize.ShloMosaic.Lib.Pipeline.ValueKit
public import Idealize.ShloMosaic.Lib.Claim

@[expose] public section

set_option maxRecDepth 16384

noncomputable section

namespace Cert.Proof.Moe

open Cert.MoeIdeal Cert.MoeIdeal.Gen
open Idealize.ShloMosaic Idealize.ShloMosaic.TcCoe Idealize.SL.Sem

/-- One hidden unit of one expert at one token. -/
def hidden (x wg wu : Fin 1024 → EReal) : EReal :=
  (∑ k, x k * wg k) * Ideal.logistic (∑ k, x k * wg k) * ∑ k, x k * wu k

/-- One entry of the normalised row. -/
def norm (v : Fin 1024 → EReal) (lg lb : EReal) (d : Fin 1024) : EReal :=
  (v d - Ideal.div (∑ k, v k) (Ideal.ofBits FTy.f32 1149239296#32)) *
      Ideal.rsqrt (Ideal.div (∑ n, (v n - Ideal.div (∑ k, v k) (Ideal.ofBits FTy.f32 1149239296#32)) *
          (v n - Ideal.div (∑ k, v k) (Ideal.ofBits FTy.f32 1149239296#32))) (Ideal.ofBits FTy.f32 1149239296#32) +
        Ideal.ofBits FTy.f32 925353388#32) * lg + lb

/-- The weight that the token gives the expert numbered by a word. -/
def masked (g : Fin 16 → EReal) (e : BitVec 32) : EReal :=
  ∑ l : Fin 16, Scalar.select (IntOp.cmpi CmpIPredicate.eq (BitVec.ofNat 32 ↑l) e) (g l) 0

/-- A column's word is that of a point's expert exactly when the numbers are the same. -/
theorem word_eq : ∀ (i : Fin 8) (c : Fin 2) (l : Fin 16),
    IntOp.cmpi CmpIPredicate.eq (BitVec.ofNat 32 l.val) (Scalar.addi (Scalar.muli (BitVec.ofNat 32 i.val) 2#32) (BitVec.ofNat 32 c.val))
      = if l.val = 2 * i.val + c.val then 1#1 else 0#1 := by
  decide +kernel

/-- The masked sum over the experts is the weight of the expert meant. -/
theorem masked_eq (g : Fin 16 → EReal) (i : Fin 8) (c : Fin 2) :
    masked g (Scalar.addi (Scalar.muli (BitVec.ofNat 32 i.val) 2#32) (BitVec.ofNat 32 c.val))
      = g ⟨2 * i.val + c.val, by omega⟩ := by
  unfold masked
  rw [Finset.sum_eq_single ⟨2 * i.val + c.val, by omega⟩]
  · rw [word_eq, if_pos rfl]; rfl
  · intro l _ hl
    rw [word_eq, if_neg (fun h => hl (Fin.ext h))]; rfl
  · intro h; exact absurd (Finset.mem_univ _) h

/-- One entry of a product with an up weight. -/
theorem up_apply (x : Vec Ideal S1x1024x1024 .bf16) (w : Vec Ideal S1x1x1024x512 .bf16) (r : Fin 1024) (f : Fin 512) :
    k0_pay6 x w (ix2 r f) = ∑ k : Fin 1024, x (ix3 0 r k) * w (ix4 0 0 k f) := by
  pointwise [k0_pay6, k0_pay4]

/-- The accumulator's first contents are zero. -/
theorem zero_apply (r f : Fin 1024) : k0_pay3 (F := Ideal) (ix2 r f) = 0 := by
  pointwise [k0_pay3]

/-- The first expert's hidden units, each times the token's weight for the expert. -/
theorem hidden_apply (i : grid0.Coords) (x : Vec Ideal S1x1024x1024 .bf16) (g : Vec Ideal S1024x16 .f32)
    (wg wu : Vec Ideal S1x1x1024x512 .bf16) (r : Fin 1024) (f : Fin 512) :
    k0_pay5 i x g wg wu (ix2 r f) = hidden (fun k => x (ix3 0 r k)) (fun k => wg (ix4 0 0 k f)) (fun k => wu (ix4 0 0 k f)) *
      masked (fun l => g (ix2 r l)) (Scalar.addi (Scalar.muli (BitVec.ofNat 32 (i 2).val) 2#32) 0#32) := by
  pointwise [k0_pay5, k0_pay4]
  rfl

/-- The expert number of a column. -/
theorem iota_at (r : Fin 1024) (l : Fin 16) :
    iota .tc S1024x16 32 [1] iota_S1024x16_d1_w32 (ix2 r l) = BitVec.ofNat 32 l.val := by
  pointwise

/-- One entry of the accumulator after a point: what it held and the two experts' parts. -/
theorem step_apply (e : BitVec 32) (x : Vec Ideal S1x1024x1024 .bf16) (g : Vec Ideal S1024x16 .f32)
    (h : FVec Ideal S1024x512 .bf16) (wg wu : Vec Ideal S1x1x1024x512 .bf16)
    (wd : Vec Ideal S1x2x512x1024 .bf16) (acc : Vec Ideal S1024x1024 .f32) (r d : Fin 1024) :
    k0_pay1 e (k0_pay4 x) g (iota .tc S1024x16 32 [1] iota_S1024x16_d1_w32) h (k0_pay6 x wg) wu wd acc (ix2 r d) =
      acc (ix2 r d) + (∑ f : Fin 512, h (ix2 r f) * wd (ix4 0 0 f d) +
        ∑ f : Fin 512, hidden (fun k => x (ix3 0 r k)) (fun k => wg (ix4 0 0 k f)) (fun k => wu (ix4 0 0 k f)) *
          masked (fun l => g (ix2 r l)) (Scalar.addi (Scalar.muli e 2#32) 1#32) * wd (ix4 0 1 f d)) := by
  have h0 : ∀ f : Fin 512, (⟨f.val / 512, by omega⟩ : Fin 2) = 0 := fun f => Fin.ext (by simp)
  have h1 : ∀ f : Fin 512, (⟨f.val % 512, by omega⟩ : Fin 512) = f := fun f => Fin.ext (by simp)
  have h2 : ∀ f : Fin 512, (⟨(512 + f.val) / 512, by omega⟩ : Fin 2) = 1 := fun f => Fin.ext (by simp)
  have h3 : ∀ f : Fin 512, (⟨(512 + f.val) % 512, by omega⟩ : Fin 512) = f := fun f => Fin.ext (by simp)
  pointwise [k0_pay1, k0_pay6, k0_pay4]
  simp only [h0, h1, h2, h3]
  rfl

/-- One entry of the normalised rows, of the accumulator and the residual. -/
theorem norm_apply (acc : Vec Ideal S1024x1024 .f32) (x : Vec Ideal S1x1024x1024 .f32) (s : Vec Ideal S1x1x1024 .f32)
    (lg lb : Vec Ideal S1x1024 .f32) (z : Fin 1) (r d : Fin 1024) :
    k0_pay2 acc x s lg lb (ix3 z r d) =
      norm (fun n => Ideal.ofBits FTy.f32 1071072509#32 * x (ix3 0 r n) + (1 + s (ix3 0 0 n)) * acc (ix2 r n))
        (lg (ix2 0 d)) (lb (ix2 0 d)) d := by
  obtain rfl : z = 0 := Subsingleton.elim _ _
  pointwise [k0_pay2]
  rfl

end Cert.Proof.Moe

end
-- ==== Proof.MoeSum.lean ====
/- The experts' call: weights of the experts move in and out of their sums. -/
module

public import proofs.«01_k».proof.Proof.MoePay
public import proofs.«01_k».proof.Defs

@[expose] public section

noncomputable section

namespace Cert.Proof.Moe

open Idealize.ShloMosaic Idealize.ShloMosaic.TcCoe Idealize.SL.Sem

/-- A weight that is nonnegative and finite may be applied to a sum or to each of its terms. -/
theorem weigh_sum {n : ℕ} (a : EReal) (h0 : 0 ≤ a) (h1 : a ≠ ⊤) (f : Fin n → EReal) : a * ∑ k, f k = ∑ k, a * f k := by
  induction n with
  | zero => simp
  | succ n ih => rw [Fin.sum_univ_succ, Fin.sum_univ_succ, EReal.left_distrib_of_nonneg_of_ne_top h0 h1, ih]

/-- The experts taken pair by pair. -/
theorem sum_pairs (f : Fin 16 → EReal) :
    ∑ s : Fin 8, (f ⟨2 * s.val, by omega⟩ + f ⟨2 * s.val + 1, by omega⟩) = ∑ e, f e := by
  simp only [Fin.sum_univ_succ, Fin.sum_univ_zero]
  simp only [add_assoc, add_zero]
  rfl

/-- A weight on every hidden unit is the weight on the expert's output. -/
theorem weigh_units (g : EReal) (h0 : 0 ≤ g) (h1 : g ≠ ⊤) (u w : Fin 512 → EReal) :
    ∑ f, u f * g * w f = g * ∑ f, w f * u f := by
  rw [weigh_sum g h0 h1]
  exact Finset.sum_congr rfl fun f _ => by rw [mul_comm (u f) g, mul_assoc, mul_comm (u f)]

/-- What the precondition says of one weight. -/
theorem gate_of_pre [Cert.Pre_gates_finite.Facts] (x0 x1 x2 x3 x4 x5 x6 x7 x8)
    (h : Cert.Pre_gates_finite.fn (F := Ideal) x0 x1 x2 x3 x4 x5 x6 x7 x8 = fun _ => 1#1) (r : Fin 16384) (e : Fin 16) :
    0 ≤ (x1 (ix2 r e) : EReal) ∧ (x1 (ix2 r e) : EReal) ≠ ⊤ := by
  have := congrFun h (ix2 r e)
  revert this
  pointwise [Cert.Pre_gates_finite.fn]
  have h1 : Ideal.ofBits FTy.f32 2139095040#32 = ⊤ := by
    simp [Ideal.ofBits, Ideal.ieee]
  rw [h1]
  intro h2
  by_cases ha : (0 : EReal) ≤ x1 (ix2 r e)
  · by_cases hb : (x1 (ix2 r e) : EReal) < ⊤
    · exact ⟨ha, hb.ne⟩
    · simp [hb, IntOp.andi] at h2
  · simp [ha, IntOp.andi] at h2

end Cert.Proof.Moe

end
-- ==== Proof.MoeRead.lean ====
/- The experts' call: what its blocks hold, in terms of the arguments. -/
module

public import proofs.«01_k».proof.Proof.Gen.MoeIdeal.Frame.Runs
public import proofs.«01_k».proof.Proof.MoePay

@[expose] public section

set_option maxRecDepth 16384

noncomputable section

namespace Cert.Proof.Moe

open Cert.MoeIdeal Cert.MoeIdeal.Gen
open Idealize.ShloMosaic Idealize.ShloMosaic.TcCoe Idealize.SL.Sem

variable (m : (ℓ : Loc nD τ sig) → Buf (Elt Ideal) ℓ)

/-- The modulation as the call finds it. -/
theorem entry_s (c : Dev nD) : V m c main_v0 = shapeCast S4x1x6144 (m ((c : Thread nD τ).loc main_arg3)) shapeCasts_S4x6144_S4x1x6144 := by
  entry_read <;> rfl

/-- The first weights as the call finds them. -/
theorem entry_g (c : Dev nD) : (V m c main_v1 : Vec Ideal S4x16x1024x512 .bf16) = (m ((c : Thread nD τ).loc main_arg4) : Vec Ideal S4x16x1024x512 .f32) := by
  entry_read <;> rfl

/-- The second weights as the call finds them. -/
theorem entry_u (c : Dev nD) : (V m c main_v2 : Vec Ideal S4x16x1024x512 .bf16) = (m ((c : Thread nD τ).loc main_arg5) : Vec Ideal S4x16x1024x512 .f32) := by
  entry_read <;> rfl

/-- The third weights as the call finds them. -/
theorem entry_d (c : Dev nD) : (V m c main_v3 : Vec Ideal S4x16x512x1024 .bf16) = (m ((c : Thread nD τ).loc main_arg6) : Vec Ideal S4x16x512x1024 .f32) := by
  entry_read <;> rfl

/-- The normalisation's scale as the call finds it. -/
theorem entry_lg (c : Dev nD) : V m c main_v4 = shapeCast S1x1024 (m ((c : Thread nD τ).loc main_arg7)) shapeCasts_S1024_S1x1024 := by
  entry_read <;> rfl

/-- The normalisation's offset as the call finds it. -/
theorem entry_lb (c : Dev nD) : V m c main_v5 = shapeCast S1x1024 (m ((c : Thread nD τ).loc main_arg8)) shapeCasts_S1024_S1x1024 := by
  entry_read <;> rfl

/-- The windows' block indices at a point. -/
theorem idx : ∀ t : Fin cfg0.N, win0_0.index t = ![t.val / 32, t.val / 8 % 4, 0] ∧ win0_1.index t = ![t.val / 8, 0]
    ∧ win0_2.index t = ![t.val / 32, t.val / 8 % 4, 0] ∧ win0_3.index t = ![t.val / 32, 0, 5]
    ∧ win0_4.index t = ![3, t.val % 8, 0, 0] ∧ win0_5.index t = ![3, t.val % 8, 0, 0] ∧ win0_6.index t = ![3, t.val % 8, 0, 0]
    ∧ win0_7.index t = ![0, 0] ∧ win0_8.index t = ![0, 0] ∧ win0_9.index t = ![t.val / 32, t.val / 8 % 4, 0] :=
  (by decide +kernel : ∀ t : Fin grid0.N, _)

/-- The request that a point works on. -/
def request (t : Fin cfg0.N) : Fin 4 :=
  ⟨t.val / 32, by have : t.val < 128 := t.isLt; omega⟩

/-- The token of the request that a row of a block belongs to. -/
def token (t : Fin cfg0.N) (r : Fin 1024) : Fin 4096 :=
  ⟨t.val / 8 % 4 * 1024 + r.val, by omega⟩

/-- The same token, numbered through all requests. -/
def flat (t : Fin cfg0.N) (r : Fin 1024) : Fin 16384 :=
  ⟨t.val / 8 * 1024 + r.val, by have : t.val < 128 := t.isLt; omega⟩

/-- The expert that a point takes at a place of its pair. -/
def expert (t : Fin cfg0.N) (e : Fin 2) : Fin 16 :=
  ⟨t.val % 8 * 2 + e.val, by omega⟩

/-- A point's block of the inputs holds its tokens. -/
theorem emb0 (t : Fin cfg0.N) (r k : Fin 1024) :
    (win0_0.blk t).view.emb (ix3 0 r k) = ix3 (request t) (token t r) k := by
  blk_ext [idx t, request, token]

/-- A point's block of the routing weights holds its tokens. -/
theorem emb1 (t : Fin cfg0.N) (r : Fin 1024) (l : Fin 16) :
    (win0_1.blk t).view.emb (ix2 r l) = ix2 (flat t r) l := by
  blk_ext [idx t, flat]

/-- A point's block of the residual holds its tokens. -/
theorem emb2 (t : Fin cfg0.N) (r k : Fin 1024) :
    (win0_2.blk t).view.emb (ix3 0 r k) = ix3 (request t) (token t r) k := by
  blk_ext [idx t, request, token]

/-- A point's block of the modulation is the last part. -/
theorem emb3 (t : Fin cfg0.N) (k : Fin 1024) :
    (win0_3.blk t).view.emb (ix3 0 0 k) = ix3 (request t) 0 ⟨5120 + k.val, by omega⟩ := by
  blk_ext [idx t, request]

/-- A point's block of the first weights holds its two experts. -/
theorem emb4 (t : Fin cfg0.N) (e : Fin 2) (k : Fin 1024) (f : Fin 512) :
    (win0_4.blk t).view.emb (ix4 0 e k f) = ix4 3 (expert t e) k f := by
  blk_ext [idx t, expert]

/-- A point's block of the second weights holds its two experts. -/
theorem emb5 (t : Fin cfg0.N) (e : Fin 2) (k : Fin 1024) (f : Fin 512) :
    (win0_5.blk t).view.emb (ix4 0 e k f) = ix4 3 (expert t e) k f := by
  blk_ext [idx t, expert]

/-- A point's block of the third weights holds its two experts. -/
theorem emb6 (t : Fin cfg0.N) (e : Fin 2) (f : Fin 512) (d : Fin 1024) :
    (win0_6.blk t).view.emb (ix4 0 e f d) = ix4 3 (expert t e) f d := by
  blk_ext [idx t, expert]

/-- The block of the scale is all of it. -/
theorem emb7 (t : Fin cfg0.N) (d : Fin 1024) : (win0_7.blk t).view.emb (ix2 0 d) = ix2 0 d := by
  blk_ext [idx t]

/-- The block of the offset is all of it. -/
theorem emb8 (t : Fin cfg0.N) (d : Fin 1024) : (win0_8.blk t).view.emb (ix2 0 d) = ix2 0 d := by
  blk_ext [idx t]

/-- A point's block of the result holds its tokens. -/
theorem emb9 (t : Fin cfg0.N) (z : Fin 1) (r d : Fin 1024) :
    (win0_9.blk t).view.emb (ix3 z r d) = ix3 (request t) (token t r) d := by
  blk_ext [idx t, request, token]

/-- A vector as a row, at one entry. -/
theorem row_apply (u : FVec Ideal S1024 .f32) (j : Fin 1024) :
    shapeCast S1x1024 u shapeCasts_S1024_S1x1024 (ix2 0 j) = u (ix1 j) := by
  pointwise

/-- The modulation with a unit axis, at one entry. -/
theorem mod_apply (u : FVec Ideal S4x6144 .f32) (g : Fin 4) (j : Fin 6144) :
    shapeCast S4x1x6144 u shapeCasts_S4x6144_S4x1x6144 (ix3 g 0 j) = u (ix2 g j) := by
  pointwise

/-- An input, as the body reads it. -/
theorem read0 (c : Dev nD) (t : Fin cfg0.N) (r k : Fin 1024) :
    (iblk m c 0 t : Vec Ideal S1x1024x1024 .bf16) (ix3 0 r k)
    = (m ((c : Thread nD τ).loc main_arg0) : Vec Ideal S4x4096x1024 .bf16) (ix3 (request t) (token t r) k) :=
  congrArg (m ((c : Thread nD τ).loc main_arg0) : Vec Ideal S4x4096x1024 .bf16) (emb0 t r k)

/-- A routing weight, as the body reads it. -/
theorem read1 (c : Dev nD) (t : Fin cfg0.N) (r : Fin 1024) (l : Fin 16) :
    (iblk m c 1 t : Vec Ideal S1024x16 .f32) (ix2 r l)
    = (m ((c : Thread nD τ).loc main_arg1) : Vec Ideal S16384x16 .f32) (ix2 (flat t r) l) :=
  congrArg (m ((c : Thread nD τ).loc main_arg1) : Vec Ideal S16384x16 .f32) (emb1 t r l)

/-- An entry of the residual, as the body reads it. -/
theorem read2 (c : Dev nD) (t : Fin cfg0.N) (r k : Fin 1024) :
    (iblk m c 2 t : Vec Ideal S1x1024x1024 .f32) (ix3 0 r k)
    = (m ((c : Thread nD τ).loc main_arg2) : Vec Ideal S4x4096x1024 .f32) (ix3 (request t) (token t r) k) :=
  congrArg (m ((c : Thread nD τ).loc main_arg2) : Vec Ideal S4x4096x1024 .f32) (emb2 t r k)

/-- A modulation, as the body reads it. -/
theorem read3 (c : Dev nD) (t : Fin cfg0.N) (k : Fin 1024) :
    (iblk m c 3 t : Vec Ideal S1x1x1024 .f32) (ix3 0 0 k)
    = (m ((c : Thread nD τ).loc main_arg3) : Vec Ideal S4x6144 .f32) (ix2 (request t) ⟨5120 + k.val, by omega⟩) :=
  (congrArg (V m c main_v0 : Vec Ideal S4x1x6144 .f32) (emb3 t k)).trans (by rw [entry_s]; exact mod_apply _ _ _)

/-- A first weight, as the body reads it. -/
theorem read4 (c : Dev nD) (t : Fin cfg0.N) (e : Fin 2) (k : Fin 1024) (f : Fin 512) :
    (iblk m c 4 t : Vec Ideal S1x2x1024x512 .bf16) (ix4 0 e k f)
    = (m ((c : Thread nD τ).loc main_arg4) : Vec Ideal S4x16x1024x512 .f32) (ix4 3 (expert t e) k f) :=
  (congrArg (V m c main_v1 : Vec Ideal S4x16x1024x512 .bf16) (emb4 t e k f)).trans (congrFun (entry_g m c) _)

/-- A second weight, as the body reads it. -/
theorem read5 (c : Dev nD) (t : Fin cfg0.N) (e : Fin 2) (k : Fin 1024) (f : Fin 512) :
    (iblk m c 5 t : Vec Ideal S1x2x1024x512 .bf16) (ix4 0 e k f)
    = (m ((c : Thread nD τ).loc main_arg5) : Vec Ideal S4x16x1024x512 .f32) (ix4 3 (expert t e) k f) :=
  (congrArg (V m c main_v2 : Vec Ideal S4x16x1024x512 .bf16) (emb5 t e k f)).trans (congrFun (entry_u m c) _)

/-- A third weight, as the body reads it. -/
theorem read6 (c : Dev nD) (t : Fin cfg0.N) (e : Fin 2) (f : Fin 512) (d : Fin 1024) :
    (iblk m c 6 t : Vec Ideal S1x2x512x1024 .bf16) (ix4 0 e f d)
    = (m ((c : Thread nD τ).loc main_arg6) : Vec Ideal S4x16x512x1024 .f32) (ix4 3 (expert t e) f d) :=
  (congrArg (V m c main_v3 : Vec Ideal S4x16x512x1024 .bf16) (emb6 t e f d)).trans (congrFun (entry_d m c) _)

/-- A scale, as the body reads it. -/
theorem read7 (c : Dev nD) (t : Fin cfg0.N) (d : Fin 1024) :
    (iblk m c 7 t : Vec Ideal S1x1024 .f32) (ix2 0 d) = (m ((c : Thread nD τ).loc main_arg7) : Vec Ideal S1024 .f32) (ix1 d) :=
  (congrArg (V m c main_v4 : Vec Ideal S1x1024 .f32) (emb7 t d)).trans (by rw [entry_lg]; exact row_apply _ _)

/-- An offset, as the body reads it. -/
theorem read8 (c : Dev nD) (t : Fin cfg0.N) (d : Fin 1024) :
    (iblk m c 8 t : Vec Ideal S1x1024 .f32) (ix2 0 d) = (m ((c : Thread nD τ).loc main_arg8) : Vec Ideal S1024 .f32) (ix1 d) :=
  (congrArg (V m c main_v5 : Vec Ideal S1x1024 .f32) (emb8 t d)).trans (by rw [entry_lb]; exact row_apply _ _)

end Cert.Proof.Moe

end
-- ==== Proof.MoeRefAt.lean ====
/- The experts' call: the reference's result at one element. -/
module

public import proofs.«01_k».proof.Proof.Gen.MoeRefIdeal.Run
public import proofs.«01_k».proof.Proof.MoePay

@[expose] public section

set_option maxRecDepth 16384

noncomputable section

namespace Cert.Proof.MoeRef

open Cert.MoeRefIdeal Cert.MoeRefIdeal.Gen
open Idealize.ShloMosaic Idealize.ShloMosaic.TcCoe Idealize.SL.Sem

/-- A layer's input projection of every expert at every token. -/
def up (x : FVec Ideal S4x4096x1024 .bf16) (w : FVec Ideal S4x16x1024x512 .f32) : FVec Ideal S4x4096x16x512 .f32 :=
  Host.dotGeneral dot_S4x4096x1024_S16x1024x512_S4x4096x16x512_2_1_01_02_n_n none (extf .f32 x bitsLt_bf16_f32) (shapeCast _ (extractStridedSlice S1x16x1024x512 ![3, 0, 0, 0] w slices_S4x16x1024x512_S1x16x1024x512_3_0_0_0) shapeCasts_S1x16x1024x512_S16x1024x512)

/-- The hidden units of every expert at every token. -/
def units (a b : FVec Ideal S4x4096x16x512 .f32) : FVec Ideal S4x4096x16x512 .f32 :=
  mulf (mulf a (Host.divf (broadcastInDim S4x4096x16x512 ![] bcast_S_S4x4096x16x512 (constant S_ .f32 0x3F800000#32)) (addf (broadcastInDim S4x4096x16x512 ![] bcast_S_S4x4096x16x512 (constant S_ .f32 0x3F800000#32)) (Host.exp (Host.negf a))))) b

/-- The experts' outputs, weighted and added up. -/
def mix (g : FVec Ideal S16384x16 .f32) (w : FVec Ideal S4x16x512x1024 .f32) (u : FVec Ideal S4x4096x16x512 .f32) : FVec Ideal S4x4096x1024 .f32 :=
  Host.reduceAdd (mulf (broadcastInDim S4x4096x16x1024 ![0, 1, 2, 3] bcast_S4x4096x16x1_S4x4096x16x1024_0_1_2_3 (broadcastInDim S4x4096x16x1 ![0, 1, 2] bcast_S4x4096x16_S4x4096x16x1_0_1_2 (shapeCast _ g shapeCasts_S16384x16_S4x4096x16))) (transpose S4x4096x16x1024 [2, 3, 0, 1] (Host.dotGeneral dot_S16x512x1024_S4x4096x16x512_S16x1024x4x4096_1_3_2_01_0_2 none (shapeCast _ (extractStridedSlice S1x16x512x1024 ![3, 0, 0, 0] w slices_S4x16x512x1024_S1x16x512x1024_3_0_0_0) shapeCasts_S1x16x512x1024_S16x512x1024) u) transposes_S16x1024x4x4096_S4x4096x16x1024_2_3_0_1)) (constant S_ .f32 0x00000000#32) reducesTo_S4x4096x16x1024_S4x4096x1024_d2 h_S_

/-- The scaled residual and the modulated mixture together. -/
def resid (x : FVec Ideal S4x4096x1024 .f32) (s : FVec Ideal S4x6144 .f32) (y : FVec Ideal S4x4096x1024 .f32) : FVec Ideal S4x4096x1024 .f32 :=
  addf (mulf (broadcastInDim S4x4096x1024 ![] bcast_S_S4x4096x1024 (constant S_ .f32 0x3FD744FD#32)) x) (mulf (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 5120] s slices_S4x6144_S4x1024_0_5120)))) y)

/-- The mean of every token's row. -/
def mean (v : FVec Ideal S4x4096x1024 .f32) : FVec Ideal S4x4096x1 .f32 :=
  Host.divf (broadcastInDim S4x4096x1 ![0, 1] bcast_S4x4096_S4x4096x1_0_1 (Host.reduceAdd v (constant S_ .f32 0x00000000#32) reducesTo_S4x4096x1024_S4x4096_d2 h_S_)) (broadcastInDim S4x4096x1 ![] bcast_S_S4x4096x1 (constant S_ .f32 0x44800000#32))

/-- Every row less its mean. -/
def centred (v : FVec Ideal S4x4096x1024 .f32) : FVec Ideal S4x4096x1024 .f32 :=
  subf v (broadcastInDim S4x4096x1024 ![0, 1, 2] bcast_S4x4096x1_S4x4096x1024_0_1_2 (mean v))

/-- Every row normalised, scaled and shifted. -/
def rows (v : FVec Ideal S4x4096x1024 .f32) (lg lb : FVec Ideal S1024 .f32) : FVec Ideal S4x4096x1024 .f32 :=
  addf (mulf (mulf (centred v) (broadcastInDim S4x4096x1024 ![0, 1, 2] bcast_S4x4096x1_S4x4096x1024_0_1_2 (Host.rsqrt (addf (mean (mulf (centred v) (centred v))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 lg))) (broadcastInDim S4x4096x1024 ![0, 1, 2] bcast_S1x1x1024_S4x4096x1024_0_1_2 (broadcastInDim S1x1x1024 ![2] bcast_S1024_S1x1x1024_2 lb))

/-- The reference's result, of the arguments. -/
def result (x0 : FVec Ideal S4x4096x1024 .bf16) (x1 : FVec Ideal S16384x16 .f32) (x2 : FVec Ideal S4x4096x1024 .f32) (x3 : FVec Ideal S4x6144 .f32)
    (x4 x5 : FVec Ideal S4x16x1024x512 .f32) (x6 : FVec Ideal S4x16x512x1024 .f32) (x7 x8 : FVec Ideal S1024 .f32) : FVec Ideal S4x4096x1024 .f32 :=
  rows (resid x2 x3 (mix x1 x6 (units (up x0 x4) (up x0 x5)))) x7 x8

/-- The projection at one hidden unit. -/
theorem up_apply (x : FVec Ideal S4x4096x1024 .bf16) (w : FVec Ideal S4x16x1024x512 .f32) (b : Fin 4) (t : Fin 4096) (e : Fin 16) (f : Fin 512) :
    up x w (ix4 b t e f) = ∑ k : Fin 1024, x (ix3 b t k) * w (ix4 3 e k f) := by
  pointwise [up]

/-- One hidden unit of one expert at one token, of its two projections. -/
theorem units_apply (u v : FVec Ideal S4x4096x16x512 .f32) (b : Fin 4) (t : Fin 4096) (e : Fin 16) (f : Fin 512) :
    units u v (ix4 b t e f) = u (ix4 b t e f) * Ideal.logistic (u (ix4 b t e f)) * v (ix4 b t e f) := by
  pointwise [units]
  rfl

/-- One entry of the weighted mixture. -/
theorem mix_apply (g : FVec Ideal S16384x16 .f32) (w : FVec Ideal S4x16x512x1024 .f32) (u : FVec Ideal S4x4096x16x512 .f32) (b : Fin 4) (t : Fin 4096) (d : Fin 1024) :
    mix g w u (ix3 b t d) = ∑ e : Fin 16, g (ix2 ⟨b.val * 4096 + t.val, by omega⟩ e) * ∑ f : Fin 512, w (ix4 3 e f d) * u (ix4 b t e f) := by
  pointwise [mix]

/-- One entry of the row before its normalisation. -/
theorem resid_apply (x : FVec Ideal S4x4096x1024 .f32) (s : FVec Ideal S4x6144 .f32) (y : FVec Ideal S4x4096x1024 .f32) (b : Fin 4) (t : Fin 4096) (d : Fin 1024) :
    resid x s y (ix3 b t d) = Ideal.ofBits FTy.f32 1071072509#32 * x (ix3 b t d) + (1 + s (ix2 b ⟨5120 + d.val, by omega⟩)) * y (ix3 b t d) := by
  pointwise [resid]

/-- The mean of one token's row. -/
theorem mean_apply (v : FVec Ideal S4x4096x1024 .f32) (b : Fin 4) (t : Fin 4096) (z : Fin 1) :
    mean v (ix3 b t z) = Ideal.div (∑ k, v (ix3 b t k)) (Ideal.ofBits FTy.f32 1149239296#32) := by
  pointwise [mean]

/-- One entry of a row less its mean. -/
theorem centred_apply (v : FVec Ideal S4x4096x1024 .f32) (b : Fin 4) (t : Fin 4096) (d : Fin 1024) :
    centred v (ix3 b t d) = v (ix3 b t d) - mean v (ix3 b t 0) := by
  pointwise [centred]

/-- One entry of a normalised row. -/
theorem rows_apply (v : FVec Ideal S4x4096x1024 .f32) (lg lb : FVec Ideal S1024 .f32) (b : Fin 4) (t : Fin 4096) (d : Fin 1024) :
    rows v lg lb (ix3 b t d) = Moe.norm (fun n => v (ix3 b t n)) (lg (ix1 d)) (lb (ix1 d)) d := by
  pointwise [rows]
  simp only [centred_apply, mean_apply]
  have h : ∀ k, (mulf (centred v) (centred v)) (ix3 b t k) = (v (ix3 b t k) - Ideal.div (∑ k, v (ix3 b t k)) (Ideal.ofBits FTy.f32 1149239296#32)) *
      (v (ix3 b t k) - Ideal.div (∑ k, v (ix3 b t k)) (Ideal.ofBits FTy.f32 1149239296#32)) := fun k => by
    pointwise
    simp only [centred_apply, mean_apply]
  simp only [h]
  rfl

/-- One entry of the reference's result, of the arguments. -/
theorem result_apply (x0 : FVec Ideal S4x4096x1024 .bf16) (x1 : FVec Ideal S16384x16 .f32) (x2 : FVec Ideal S4x4096x1024 .f32) (x3 : FVec Ideal S4x6144 .f32)
    (x4 x5 : FVec Ideal S4x16x1024x512 .f32) (x6 : FVec Ideal S4x16x512x1024 .f32) (x7 x8 : FVec Ideal S1024 .f32)
    (b : Fin 4) (t : Fin 4096) (d : Fin 1024) :
    result x0 x1 x2 x3 x4 x5 x6 x7 x8 (ix3 b t d) =
      Moe.norm (fun n => Ideal.ofBits FTy.f32 1071072509#32 * x2 (ix3 b t n) + (1 + x3 (ix2 b ⟨5120 + n.val, by omega⟩)) *
        ∑ e : Fin 16, x1 (ix2 ⟨b.val * 4096 + t.val, by omega⟩ e) * ∑ f : Fin 512, x6 (ix4 3 e f n) *
          Moe.hidden (fun k => x0 (ix3 b t k)) (fun k => x4 (ix4 3 e k f)) (fun k => x5 (ix4 3 e k f)))
        (x7 (ix1 d)) (x8 (ix1 d)) d := by
  unfold result
  rw [rows_apply]
  simp only [resid_apply, mix_apply, units_apply, up_apply]
  rfl

variable (m : (ℓ : Loc nD τ sig) → Buf (Elt Ideal) ℓ)

/-- The reference run's result is the one stated of the arguments. -/
theorem res_eq (c : Dev nD) : Value.res_main_v55 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := rfl

end Cert.Proof.MoeRef

end
-- ==== Proof.MoeFold.lean ====
/- The experts' call: what the scratch accumulator holds, what the last point of a run leaves, and the array after the run. -/
module

public import proofs.«01_k».proof.Proof.MoeSum
public import proofs.«01_k».proof.Proof.MoeRead
public import proofs.«01_k».proof.Proof.MoeRefAt
public import proofs.«01_k».proof.Proof.Gen.MoeIdeal.Value

@[expose] public section

set_option maxRecDepth 16384

noncomputable section

namespace Cert.Proof.Moe

open Cert.MoeIdeal Cert.MoeIdeal.Gen
open Idealize.ShloMosaic Idealize.ShloMosaic.TcCoe Idealize.SL.Sem

/-- One expert of the first place of a point's pair: the load of its weights. -/
theorem ld0 (w : Vec Ideal S1x2x1024x512 .bf16) (k : Fin 1024) (f : Fin 512) :
    View.ld w (Rect.unit ![0, 0, 0, 0] ![1, 1, 1024, 512] inb_S1x2x1024x512_S1x1x1024x512_0_0_0_0) (ix4 0 0 k f) = w (ix4 0 0 k f) := by
  pointwise

/-- One expert of the second place of a point's pair: the load of its weights. -/
theorem ld1 (w : Vec Ideal S1x2x1024x512 .bf16) (k : Fin 1024) (f : Fin 512) :
    View.ld w (Rect.unit ![0, 1, 0, 0] ![1, 1, 1024, 512] inb_S1x2x1024x512_S1x1x1024x512_0_1_0_0) (ix4 0 0 k f) = w (ix4 0 1 k f) := by
  pointwise

/-- What a point leaves in the accumulator, of its blocks and of what the accumulator held. -/
def stepv (i : grid0.Coords) (x : Vec Ideal S1x1024x1024 .bf16) (g : Vec Ideal S1024x16 .f32) (wg wu : Vec Ideal S1x2x1024x512 .bf16)
    (wd : Vec Ideal S1x2x512x1024 .bf16) (acc : Vec Ideal S1024x1024 .f32) : Vec Ideal S1024x1024 .f32 :=
  k0_pay1 (BitVec.ofNat 32 (i 2).val) (k0_pay4 x) g (iota Kind.tc S1024x16 32 [1] iota_S1024x16_d1_w32)
    (k0_pay5 i x g (View.ld wg (Rect.unit ![0, 0, 0, 0] ![1, 1, 1024, 512] inb_S1x2x1024x512_S1x1x1024x512_0_0_0_0))
      (View.ld wu (Rect.unit ![0, 0, 0, 0] ![1, 1, 1024, 512] inb_S1x2x1024x512_S1x1x1024x512_0_0_0_0)))
    (k0_pay6 x (View.ld wg (Rect.unit ![0, 1, 0, 0] ![1, 1, 1024, 512] inb_S1x2x1024x512_S1x1x1024x512_0_1_0_0)))
    (View.ld wu (Rect.unit ![0, 1, 0, 0] ![1, 1, 1024, 512] inb_S1x2x1024x512_S1x1x1024x512_0_1_0_0)) wd acc

/-- What one expert gives one entry of a token's row: its weight times its output. -/
def share (g : EReal) (x : Fin 1024 → EReal) (wg wu : Fin 1024 → Fin 512 → EReal) (wd : Fin 512 → EReal) : EReal :=
  g * ∑ f : Fin 512, wd f * hidden x (fun k => wg k f) (fun k => wu k f)

/-- The accumulator's entry after a point, of the weights that the point loads. -/
theorem step_core (i : grid0.Coords) (x : Vec Ideal S1x1024x1024 .bf16) (g : Vec Ideal S1024x16 .f32) (a0 b0 a1 b1 : Vec Ideal S1x1x1024x512 .bf16)
    (wd : Vec Ideal S1x2x512x1024 .bf16) (acc : Vec Ideal S1024x1024 .f32) (r d : Fin 1024) (e0 e1 : Fin 16)
    (wg0 wu0 wg1 wu1 : Fin 1024 → Fin 512 → EReal)
    (ha0 : ∀ k f, a0 (ix4 0 0 k f) = wg0 k f) (hb0 : ∀ k f, b0 (ix4 0 0 k f) = wu0 k f)
    (ha1 : ∀ k f, a1 (ix4 0 0 k f) = wg1 k f) (hb1 : ∀ k f, b1 (ix4 0 0 k f) = wu1 k f)
    (h0 : e0.val = 2 * (i 2).val) (h1 : e1.val = 2 * (i 2).val + 1)
    (hg : ∀ e, 0 ≤ (g (ix2 r e) : EReal) ∧ (g (ix2 r e) : EReal) ≠ ⊤) :
    k0_pay1 (BitVec.ofNat 32 (i 2).val) (k0_pay4 x) g (iota Kind.tc S1024x16 32 [1] iota_S1024x16_d1_w32)
      (k0_pay5 i x g a0 b0) (k0_pay6 x a1) b1 wd acc (ix2 r d) = acc (ix2 r d) +
      (share (g (ix2 r e0)) (fun k => x (ix3 0 r k)) wg0 wu0 (fun f => wd (ix4 0 0 f d)) +
       share (g (ix2 r e1)) (fun k => x (ix3 0 r k)) wg1 wu1 (fun f => wd (ix4 0 1 f d))) := by
  have m0 : masked (fun l => g (ix2 r l)) (Scalar.addi (Scalar.muli (BitVec.ofNat 32 (i 2).val) 2#32) 0#32) = g (ix2 r e0) :=
    (masked_eq (fun l => g (ix2 r l)) (i 2) 0).trans (congrArg (fun l => g (ix2 r l)) (Fin.ext h0.symm))
  have m1 : masked (fun l => g (ix2 r l)) (Scalar.addi (Scalar.muli (BitVec.ofNat 32 (i 2).val) 2#32) 1#32) = g (ix2 r e1) :=
    (masked_eq (fun l => g (ix2 r l)) (i 2) 1).trans (congrArg (fun l => g (ix2 r l)) (Fin.ext h1.symm))
  rw [step_apply]
  simp only [hidden_apply, ha0, hb0, ha1, hb1, m0, m1]
  rw [weigh_units _ (hg e0).1 (hg e0).2, weigh_units _ (hg e1).1 (hg e1).2]
  rfl

/-- A point adds the shares of its two experts. -/
theorem stepv_apply (i : grid0.Coords) (x : Vec Ideal S1x1024x1024 .bf16) (g : Vec Ideal S1024x16 .f32) (wg wu : Vec Ideal S1x2x1024x512 .bf16)
    (wd : Vec Ideal S1x2x512x1024 .bf16) (acc : Vec Ideal S1024x1024 .f32) (r d : Fin 1024) (e0 e1 : Fin 16)
    (h0 : e0.val = 2 * (i 2).val) (h1 : e1.val = 2 * (i 2).val + 1)
    (hg : ∀ e, 0 ≤ (g (ix2 r e) : EReal) ∧ (g (ix2 r e) : EReal) ≠ ⊤) :
    stepv i x g wg wu wd acc (ix2 r d) = acc (ix2 r d) +
      (share (g (ix2 r e0)) (fun k => x (ix3 0 r k)) (fun k f => wg (ix4 0 0 k f)) (fun k f => wu (ix4 0 0 k f)) (fun f => wd (ix4 0 0 f d)) +
       share (g (ix2 r e1)) (fun k => x (ix3 0 r k)) (fun k f => wg (ix4 0 1 k f)) (fun k f => wu (ix4 0 1 k f)) (fun f => wd (ix4 0 1 f d))) :=
  step_core i x g _ _ _ _ wd acc r d e0 e1 _ _ _ _ (ld0 wg) (ld0 wu) (ld1 wg) (ld1 wu) h0 h1 hg

variable (m : (ℓ : Loc nD τ sig) → Buf (Elt Ideal) ℓ)

/-- The first point of a run starts the accumulator at zero. -/
theorem scratch_A (c : Dev nD) (t : Fin cfg0.N) (h0 : t.val % 8 = 0) (h1 : ¬ t.val % 8 = 7) :
    (outsAt0 m c t.val t.isLt).2 = stepv (grid0.coords t) (iblk m c 0 t) (iblk m c 1 t) (iblk m c 4 t) (iblk m c 5 t) (iblk m c 6 t) (k0_pay3 (F := Ideal)) := by
  rw [outsAt0_A m c t h0 h1]
  frame_out
  rfl

/-- A later point adds to what the point before left. -/
theorem scratch_B (c : Dev nD) (t : Fin cfg0.N) (h0 : ¬ t.val % 8 = 0) (h1 : ¬ t.val % 8 = 7) :
    (outsAt0 m c t.val t.isLt).2 = stepv (grid0.coords t) (iblk m c 0 t) (iblk m c 1 t) (iblk m c 4 t) (iblk m c 5 t) (iblk m c 6 t)
      (outsAt0 m c (t.val - 1) (Nat.lt_of_le_of_lt (Nat.sub_le _ _) t.isLt)).2 := by
  rw [outsAt0_B m c t h0 h1]
  frame_out
  exact congrArg (stepv (grid0.coords t) (iblk m c 0 t) (iblk m c 1 t) (iblk m c 4 t) (iblk m c 5 t) (iblk m c 6 t)) (Memref.IsWhole.read_unread _ _)

/-- So does the last point of a run. -/
theorem scratch_C (c : Dev nD) (t : Fin cfg0.N) (h0 : ¬ t.val % 8 = 0) (h1 : t.val % 8 = 7) :
    (outsAt0 m c t.val t.isLt).2 = stepv (grid0.coords t) (iblk m c 0 t) (iblk m c 1 t) (iblk m c 4 t) (iblk m c 5 t) (iblk m c 6 t)
      (outsAt0 m c (t.val - 1) (Nat.lt_of_le_of_lt (Nat.sub_le _ _) t.isLt)).2 := by
  rw [outsAt0_C m c t h0 h1]
  frame_out
  exact congrArg (stepv (grid0.coords t) (iblk m c 0 t) (iblk m c 1 t) (iblk m c 4 t) (iblk m c 5 t) (iblk m c 6 t)) (Memref.IsWhole.read_unread _ _)

/-- The last point of a run writes the normalised rows of what it leaves in the accumulator. -/
theorem out_C (c : Dev nD) (t : Fin cfg0.N) (h0 : ¬ t.val % 8 = 0) (h1 : t.val % 8 = 7) :
    (outsAt0 m c t.val t.isLt).1 = k0_pay2 (outsAt0 m c t.val t.isLt).2 (iblk m c 2 t) (iblk m c 3 t) (iblk m c 7 t) (iblk m c 8 t) := by
  rw [scratch_C m c t h0 h1, outsAt0_C m c t h0 h1]
  frame_out
  exact congrArg (fun a => k0_pay2 (stepv (grid0.coords t) (iblk m c 0 t) (iblk m c 1 t) (iblk m c 4 t) (iblk m c 5 t) (iblk m c 6 t) a) (iblk m c 2 t) (iblk m c 3 t) (iblk m c 7 t) (iblk m c 8 t)) (Memref.IsWhole.read_unread _ _)

end Cert.Proof.Moe

end
-- ==== Proof.MoeValue.lean ====
/- The experts' call: the array after the run is the reference's result. -/
module

public import proofs.«01_k».proof.Proof.MoeFold

@[expose] public section

set_option maxRecDepth 16384

noncomputable section

namespace Cert.Proof.Moe

open Cert.MoeIdeal Cert.MoeIdeal.Gen
open Idealize.ShloMosaic Idealize.ShloMosaic.TcCoe Idealize.SL.Sem

variable (m : (ℓ : Loc nD τ sig) → Buf (Elt Ideal) ℓ)

/-- The weights of the experts. -/
def gate (c : Dev nD) : Vec Ideal S16384x16 .f32 := m ((c : Thread nD τ).loc main_arg1)

/-- What one expert gives one entry of a token's row, of the arguments. -/
def part (c : Dev nD) (b : Fin 4) (q : Fin 4096) (d : Fin 1024) (e : Fin 16) : EReal :=
  share (gate m c (ix2 ⟨b.val * 4096 + q.val, by omega⟩ e))
    (fun k => (m ((c : Thread nD τ).loc main_arg0) : Vec Ideal S4x4096x1024 .bf16) (ix3 b q k))
    (fun k f => (m ((c : Thread nD τ).loc main_arg4) : Vec Ideal S4x16x1024x512 .f32) (ix4 3 e k f))
    (fun k f => (m ((c : Thread nD τ).loc main_arg5) : Vec Ideal S4x16x1024x512 .f32) (ix4 3 e k f))
    (fun f => (m ((c : Thread nD τ).loc main_arg6) : Vec Ideal S4x16x512x1024 .f32) (ix4 3 e f d))

/-- A token's number through all requests. -/
theorem flat_eq (t : Fin cfg0.N) (r : Fin 1024) :
    flat t r = ⟨(request t).val * 4096 + (token t r).val, by omega⟩ := by
  apply Fin.ext
  simp only [flat, request, token]
  omega

/-- What a point adds at one entry of the accumulator. -/
def term (c : Dev nD) (t : Fin cfg0.N) (j : S1024x1024.Idx) : EReal :=
  part m c (request t) (token t (j 0)) (j 1) (expert t 0) + part m c (request t) (token t (j 0)) (j 1) (expert t 1)

/-- A point's place in its run. -/
theorem coord : ∀ t : Fin cfg0.N, (grid0.coords t 2).val = t.val % 8 :=
  (by decide +kernel : ∀ t : Fin grid0.N, _)

/-- A point adds its term. -/
theorem step_at (c : Dev nD) (hg : ∀ r e, 0 ≤ (gate m c (ix2 r e) : EReal) ∧ (gate m c (ix2 r e) : EReal) ≠ ⊤)
    (t : Fin cfg0.N) (acc : Vec Ideal S1024x1024 .f32) (j : S1024x1024.Idx) :
    stepv (grid0.coords t) (iblk m c 0 t) (iblk m c 1 t) (iblk m c 4 t) (iblk m c 5 t) (iblk m c 6 t) acc j
      = acc j + term m c t j := by
  idx_vars j
  have hr : ∀ l, (iblk m c 1 t : Vec Ideal S1024x16 .f32) (ix2 j0 l) = gate m c (ix2 ⟨(request t).val * 4096 + (token t j0).val, by omega⟩ l) :=
    fun l => (read1 m c t j0 l).trans (congrArg (fun i => gate m c (ix2 i l)) (flat_eq t j0))
  refine (stepv_apply (grid0.coords t) (iblk m c 0 t) (iblk m c 1 t) (iblk m c 4 t) (iblk m c 5 t) (iblk m c 6 t) acc j0 j1 (expert t 0) (expert t 1)
    (by rw [coord t]; simp only [expert]; omega) (by rw [coord t]; simp only [expert]; omega) (fun l => by rw [hr l]; exact hg _ _)).trans ?_
  simp only [hr, read0, read4, read5, read6]
  rfl

/-- The accumulator after the last point of a run. -/
theorem scratch_last (c : Dev nD) (hg : ∀ r e, 0 ≤ (gate m c (ix2 r e) : EReal) ∧ (gate m c (ix2 r e) : EReal) ≠ ⊤)
    (t : Fin cfg0.N) (ht : t.val % 8 = 7) (j : S1024x1024.Idx) :
    ((outsAt0 m c t.val t.isLt).2 j : EReal) = ∑ e, part m c (request t) (token t (j 0)) (j 1) e := by
  have h := Pipeline.eq_sum_fin_of_reset_step_apply_of_flush (M := EReal) (fun n h => (outsAt0 m c n h).2) 8 (fun _ => 0) (term m c)
    (fun t h0 j => by
      rw [scratch_A m c t h0 (by omega), step_at m c hg t]
      idx_vars j
      rw [zero_apply])
    (fun t h0 j => by
      by_cases h1 : t.val % 8 = 7
      · rw [scratch_C m c t h0 h1, step_at m c hg t]
      · rw [scratch_B m c t h0 h1, step_at m c hg t])
    t ht j
  refine h.trans ?_
  rw [zero_add, ← sum_pairs]
  refine Finset.sum_congr rfl fun s _ => ?_
  have hN : t.val < 128 := t.isLt
  have hq : request ⟨8 * (t.val / 8) + s.val, Pipeline.run_point_lt_of_flush t ht s⟩ = request t := Fin.ext (by simp only [request]; omega)
  have hk : token ⟨8 * (t.val / 8) + s.val, Pipeline.run_point_lt_of_flush t ht s⟩ (j 0) = token t (j 0) := Fin.ext (by simp only [token]; omega)
  have he : ∀ a : Fin 2, (expert ⟨8 * (t.val / 8) + s.val, Pipeline.run_point_lt_of_flush t ht s⟩ a).val = 2 * s.val + a.val := fun a => by
    simp only [expert]; omega
  unfold term
  rw [hq, hk]
  congr 2
  · exact Fin.ext (he 0)
  · exact Fin.ext (he 1)

/-- The reference's result, of the arguments. -/
def ref (c : Dev nD) : FVec Ideal Cert.MoeRefIdeal.S4x4096x1024 .f32 :=
  MoeRef.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The block that the last point of a run writes is the reference's. -/
theorem point (c : Dev nD) (hg : ∀ r e, 0 ≤ (gate m c (ix2 r e) : EReal) ∧ (gate m c (ix2 r e) : EReal) ≠ ⊤)
    (t : Fin cfg0.N) (ht : t.val % 8 = 7) (y : S1x1024x1024.Idx) :
    (outsAt0 m c t.val t.isLt).1 y = ref m c ((win0_9.blk t).view.emb y) := by
  rw [out_C m c t (by omega) ht]
  idx_vars y
  refine Eq.trans ?_ (congrArg (ref m c) (emb9 t y0 y1 y2)).symm
  unfold ref
  rw [MoeRef.result_apply, norm_apply, read7, read8]
  simp only [scratch_last m c hg t ht, read2, read3]
  rfl

/-- The array after the run: the reference's result. -/
theorem final (c : Dev nD) (hg : ∀ r e, 0 ≤ (gate m c (ix2 r e) : EReal) ∧ (gate m c (ix2 r e) : EReal) ≠ ⊤) :
    (dats m 0 c).arrAt 9 cfg0.N = ref m c :=
  (dats m 0 c).arrAt_eq_of_covers 9 _ (by decide +kernel) fun t hf y => by
    blk_simp
    rw [after0_9]
    exact point m c hg t ((flush0_9 t).mp hf) y

end Cert.Proof.Moe

end
-- ==== Proof.GatingPay.lean ====
/- The sample group's gating call: what its payloads compute at one element. -/
module

public import proofs.«01_k».proof.Proof.Gen.GatingIdeal.Skeleton
public import Idealize.ShloMosaic.Lib.Pipeline.ValueKit
public import Idealize.ShloMosaic.Lib.Claim

@[expose] public section

set_option maxRecDepth 16384

noncomputable section

namespace Cert.Proof.Gating

open Cert.GatingIdeal Cert.GatingIdeal.Gen
open Idealize.ShloMosaic Idealize.ShloMosaic.TcCoe Idealize.SL.Sem

/-- One entry of the normalised row. -/
def norm (v : Fin 512 → EReal) (lg lb : EReal) (d : Fin 512) : EReal :=
  (v d - Ideal.div (∑ k, v k) (Ideal.ofBits FTy.f32 1140850688#32)) *
      Ideal.rsqrt (Ideal.div (∑ n, (v n - Ideal.div (∑ k, v k) (Ideal.ofBits FTy.f32 1140850688#32)) *
          (v n - Ideal.div (∑ k, v k) (Ideal.ofBits FTy.f32 1140850688#32))) (Ideal.ofBits FTy.f32 1140850688#32) +
        Ideal.ofBits FTy.f32 925353388#32) * lg + lb

/-- A weight of the step of number `s` at the step of number `t`: none where `s` is the later one. -/
def causal (t s : Fin 8) (w : EReal) : EReal := if s.val ≤ t.val then w else 0

/-- A comparison of two step numbers, as words, selects the weight or zero. -/
theorem select_causal (t s : Fin 8) (w : EReal) :
    Scalar.select (IntOp.cmpi CmpIPredicate.sge (BitVec.ofNat 32 t.val) (BitVec.ofNat 32 s.val)) w 0 = causal t s w := by
  have h : ∀ t s : Fin 8, IntOp.cmpi CmpIPredicate.sge (BitVec.ofNat 32 t.val) (BitVec.ofNat 32 s.val)
      = if s.val ≤ t.val then 1#1 else 0#1 := by decide +kernel
  rw [h]
  unfold causal
  split <;> rfl

/-- The normalised rows at one entry. -/
theorem norm_apply (v : Vec Ideal S128x8x512 .f32) (lg lb : Vec Ideal S1x512 .f32) (b : Fin 128) (t : Fin 8) (d : Fin 512) :
    k0_pay2 v lg lb (ix3 b t d) = norm (fun n => v (ix3 b t n)) (lg (ix2 0 d)) (lb (ix2 0 d)) d := by
  pointwise [k0_pay2]
  rfl

/-- The step numbers, as the body compares them. -/
abbrev steps : IVec S8x512 32 := iota .tc S8x512 32 [0] iota_S8x512_d0_w32

/-- The gated rows at one entry, of the normalised rows `v`, the eight weight planes, the bias and the rows that are gated. -/
theorem gate_apply (v : FVec Ideal S128x8x512 .f32) (bs : Vec Ideal S8x512 .f32) (u : Vec Ideal S128x8x512 .f32)
    (w0 w1 w2 w3 w4 w5 w6 w7 : Vec Ideal S1x8x512 .f32) (b : Fin 128) (t : Fin 8) (d : Fin 512) :
    k0_pay1 v (k0_pay8 v steps (k0_pay5 v steps (k0_pay3 bs) k0_pay4 w0 w1 w2) (k0_pay6 v) (k0_pay7 steps w3) w4 w5 w6)
      (k0_pay9 steps) w7 u (ix3 b t d) =
    u (ix3 b t d) * (bs (ix2 t d) + causal t 0 (w0 (ix3 0 t d)) * v (ix3 b 0 d) + causal t 1 (w1 (ix3 0 t d)) * v (ix3 b 1 d)
      + causal t 2 (w2 (ix3 0 t d)) * v (ix3 b 2 d) + causal t 3 (w3 (ix3 0 t d)) * v (ix3 b 3 d)
      + causal t 4 (w4 (ix3 0 t d)) * v (ix3 b 4 d) + causal t 5 (w5 (ix3 0 t d)) * v (ix3 b 5 d)
      + causal t 6 (w6 (ix3 0 t d)) * v (ix3 b 6 d) + causal t 7 (w7 (ix3 0 t d)) * v (ix3 b 7 d)) := by
  simp only [← select_causal]
  pointwise [k0_pay1, k0_pay8, k0_pay5, k0_pay3, k0_pay4, k0_pay6, k0_pay7, k0_pay9, steps]

end Cert.Proof.Gating

end
-- ==== Proof.GatingEntry.lean ====
/- What the sample group's gating call finds in the buffers that the host prepares. -/
module

public import proofs.«01_k».proof.Proof.GatingPay
public import proofs.«01_k».proof.Proof.Gen.GatingIdeal.Value

@[expose] public section

set_option maxRecDepth 16384

noncomputable section

namespace Cert.Proof.Gating

open Cert.GatingIdeal Cert.GatingIdeal.Gen
open Idealize.ShloMosaic Idealize.ShloMosaic.TcCoe Idealize.SL.Sem

/-- The weights as the host lays them out: earlier step first, every group's weight at each of its columns. -/
def planes (w : FVec Ideal S8x128x128 .f32) : FVec Ideal S8x8x512 .f32 :=
  shapeCast S8x8x512 (broadcastInDim S8x8x8x64 ![0, 1, 2] bcast_S8x8x8_S8x8x8x64_0_1_2 (transpose S8x8x8 [2, 1, 0]
    (extractStridedSlice S8x8x8 ![0, 0, 0] w slices_S8x128x128_S8x8x8_0_0_0) transposes_S8x8x8_S8x8x8_2_1_0)) shapeCasts_S8x8x8x64_S8x8x512

/-- The bias as the host lays it out: every group's at each of its columns. -/
def biases (b : FVec Ideal S8x128 .f32) : FVec Ideal S8x512 .f32 :=
  extractStridedSlice S8x512 ![0, 0] (shapeCast S128x512 (broadcastInDim S128x8x64 ![0, 1] bcast_S128x8_S128x8x64_0_1
    (transpose S128x8 [1, 0] b transposes_S8x128_S128x8_1_0)) shapeCasts_S128x8x64_S128x512) slices_S128x512_S8x512_0_0

/-- One weight of the layout. -/
theorem planes_apply (w : FVec Ideal S8x128x128 .f32) (s t : Fin 8) (d : Fin 512) :
    planes w (ix3 s t d) = w (ix3 ⟨d.val / 64, by omega⟩ ⟨t.val, by omega⟩ ⟨s.val, by omega⟩) := by
  pointwise [planes]

/-- One bias of the layout. -/
theorem biases_apply (b : FVec Ideal S8x128 .f32) (t : Fin 8) (d : Fin 512) :
    biases b (ix2 t d) = b (ix2 ⟨d.val / 64, by omega⟩ ⟨t.val, by omega⟩) := by
  pointwise [biases]

/-- A row as the host hands it over. -/
theorem row_apply (v : FVec Ideal S512 .f32) (d : Fin 512) : shapeCast S1x512 v shapeCasts_S512_S1x512 (ix2 0 d) = v (ix1 d) := by
  pointwise

variable (m : (ℓ : Loc nD τ sig) → Buf (Elt Ideal) ℓ)

/-- The weights as the call finds them. -/
theorem entry_w (c : Dev nD) : V m c main_v7 = planes (m ((c : Thread nD τ).loc main_arg3)) := by
  entry_read
  rfl

/-- The bias as the call finds it. -/
theorem entry_b (c : Dev nD) : V m c main_v3 = biases (m ((c : Thread nD τ).loc main_arg4)) := by
  entry_read
  rfl

/-- The scale as the call finds it. -/
theorem entry_g (c : Dev nD) : V m c main_v8 = shapeCast S1x512 (m ((c : Thread nD τ).loc main_arg1)) shapeCasts_S512_S1x512 := by
  entry_read
  rfl

/-- The shift as the call finds it. -/
theorem entry_s (c : Dev nD) : V m c main_v9 = shapeCast S1x512 (m ((c : Thread nD τ).loc main_arg2)) shapeCasts_S512_S1x512 := by
  entry_read
  rfl

end Cert.Proof.Gating

end
-- ==== Proof.GatingRefAt.lean ====
/- The sample group's gating call: the reference's results at one element. -/
module

public import proofs.«01_k».proof.Proof.Gen.GatingRefIdeal.Run
public import proofs.«01_k».proof.Proof.GatingPay

@[expose] public section

set_option maxRecDepth 16384

noncomputable section

namespace Cert.Proof.GatingRef

open Cert.GatingRefIdeal Cert.GatingRefIdeal.Gen
open Idealize.ShloMosaic Idealize.ShloMosaic.TcCoe Idealize.SL.Sem

/-- The columns that are gated. -/
def gated (z : FVec Ideal S128x8x6656 .f32) : FVec Ideal S128x8x512 .f32 :=
  extractStridedSlice S128x8x512 ![0, 0, 0] (extractStridedSlice S128x8x1024 ![0, 0, 1024] z slices_S128x8x6656_S128x8x1024_0_0_1024) slices_S128x8x1024_S128x8x512_0_0_0

/-- The columns that are normalised and mixed. -/
def mixed (z : FVec Ideal S128x8x6656 .f32) : FVec Ideal S128x8x512 .f32 :=
  extractStridedSlice S128x8x512 ![0, 0, 512] (extractStridedSlice S128x8x1024 ![0, 0, 1024] z slices_S128x8x6656_S128x8x1024_0_0_1024) slices_S128x8x1024_S128x8x512_0_0_512

/-- The mean of every row. -/
def mean (v : FVec Ideal S128x8x512 .f32) : FVec Ideal S128x8x1 .f32 :=
  Host.divf (broadcastInDim S128x8x1 ![0, 1] bcast_S128x8_S128x8x1_0_1 (Host.reduceAdd v (constant S_ .f32 0x00000000#32) reducesTo_S128x8x512_S128x8_d2 h_S_)) (broadcastInDim S128x8x1 ![] bcast_S_S128x8x1 (constant S_ .f32 0x44000000#32))

/-- Every row less its mean. -/
def centred (v : FVec Ideal S128x8x512 .f32) : FVec Ideal S128x8x512 .f32 :=
  subf v (broadcastInDim S128x8x512 ![0, 1, 2] bcast_S128x8x1_S128x8x512_0_1_2 (mean v))

/-- Every row normalised, scaled and shifted. -/
def rows (v : FVec Ideal S128x8x512 .f32) (lg lb : FVec Ideal S512 .f32) : FVec Ideal S128x8x512 .f32 :=
  addf (mulf (mulf (centred v) (broadcastInDim S128x8x512 ![0, 1, 2] bcast_S128x8x1_S128x8x512_0_1_2 (Host.rsqrt (addf (mean (mulf (centred v) (centred v))) (broadcastInDim S128x8x1 ![] bcast_S_S128x8x1 (constant S_ .f32 0x3727C5AC#32)))))) (broadcastInDim S128x8x512 ![0, 1, 2] bcast_S1x1x512_S128x8x512_0_1_2 (broadcastInDim S1x1x512 ![2] bcast_S512_S1x1x512_2 lg))) (broadcastInDim S128x8x512 ![0, 1, 2] bcast_S1x1x512_S128x8x512_0_1_2 (broadcastInDim S1x1x512 ![2] bcast_S512_S1x1x512_2 lb))

/-- Which pairs of steps are in order: the second one not after the first one. -/
def order : IVec S8x8 1 :=
  select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))

/-- Every group's weights, with none from a later step. -/
def lower (w : FVec Ideal S8x128x128 .f32) : FVec Ideal S8x8x8 .f32 :=
  select (broadcastInDim S8x8x8 ![1, 2] bcast_S8x8_S8x8x8_1_2 order) (extractStridedSlice S8x8x8 ![0, 0, 0] w slices_S8x128x128_S8x8x8_0_0_0) (broadcastInDim S8x8x8 ![] bcast_S_S8x8x8 (sitofp .f32 (constantI S_ 32 0#32)))

/-- The weighted sums over the steps, group by group. -/
def sums (w : FVec Ideal S8x8x8 .f32) (v : FVec Ideal S128x8x512 .f32) : FVec Ideal S128x1x8x8x64 .f32 :=
  transpose S128x1x8x8x64 [1, 2, 4, 0, 3] (Host.dotGeneral dot_S128x1x8x8x64_S8x8x8_S8x128x1x64x8_2_2_014_1_3_0 none (shapeCast _ v shapeCasts_S128x8x512_S128x1x8x8x64) w) transposes_S8x128x1x64x8_S128x1x8x8x64_1_2_4_0_3

/-- The bias of every step and group. -/
def bias (b : FVec Ideal S8x128 .f32) : FVec Ideal S128x1x8x8x64 .f32 :=
  broadcastInDim S128x1x8x8x64 ![0, 1, 2, 3, 4] bcast_S1x1x8x8x1_S128x1x8x8x64_0_1_2_3_4 (broadcastInDim S1x1x8x8x1 ![2, 3] bcast_S8x8_S1x1x8x8x1_2_3 (transpose S8x8 [1, 0] (extractStridedSlice S8x8 ![0, 0] b slices_S8x128_S8x8_0_0) transposes_S8x8_S8x8_1_0))

/-- The gated rows, of the weighted sums and the bias. -/
def gate (u : FVec Ideal S128x8x512 .f32) (y b : FVec Ideal S128x1x8x8x64 .f32) : FVec Ideal S128x8x512 .f32 :=
  mulf u (shapeCast _ (addf y b) shapeCasts_S128x1x8x8x64_S128x8x512)

/-- The normalised rows, of the arguments: the second result. -/
def vchunk (x0 : FVec Ideal S128x8x6656 .f32) (x1 x2 : FVec Ideal S512 .f32) : FVec Ideal S128x8x512 .f32 := rows (mixed x0) x1 x2

/-- The gated rows, of the arguments: the first result. -/
def result (x0 : FVec Ideal S128x8x6656 .f32) (x1 x2 : FVec Ideal S512 .f32) (x3 : FVec Ideal S8x128x128 .f32) (x4 : FVec Ideal S8x128 .f32) :
    FVec Ideal S128x8x512 .f32 := gate (gated x0) (sums (lower x3) (vchunk x0 x1 x2)) (bias x4)

/-- One gated column. -/
theorem gated_apply (z : FVec Ideal S128x8x6656 .f32) (b : Fin 128) (t : Fin 8) (d : Fin 512) :
    gated z (ix3 b t d) = z (ix3 b t ⟨1024 + d.val, by omega⟩) := by
  pointwise [gated]

/-- One column before its normalisation. -/
theorem mixed_apply (z : FVec Ideal S128x8x6656 .f32) (b : Fin 128) (t : Fin 8) (d : Fin 512) :
    mixed z (ix3 b t d) = z (ix3 b t ⟨1536 + d.val, by omega⟩) := by
  pointwise [mixed]
  exact congrArg z (congrArg (ix3 b t) (Fin.ext (by simp only; omega)))

/-- The mean of one row. -/
theorem mean_apply (v : FVec Ideal S128x8x512 .f32) (b : Fin 128) (t : Fin 8) (z : Fin 1) :
    mean v (ix3 b t z) = Ideal.div (∑ k, v (ix3 b t k)) (Ideal.ofBits FTy.f32 1140850688#32) := by
  pointwise [mean]

/-- One entry of a row less its mean. -/
theorem centred_apply (v : FVec Ideal S128x8x512 .f32) (b : Fin 128) (t : Fin 8) (d : Fin 512) :
    centred v (ix3 b t d) = v (ix3 b t d) - mean v (ix3 b t 0) := by
  pointwise [centred]

/-- One entry of a normalised row. -/
theorem rows_apply (v : FVec Ideal S128x8x512 .f32) (lg lb : FVec Ideal S512 .f32) (b : Fin 128) (t : Fin 8) (d : Fin 512) :
    rows v lg lb (ix3 b t d) = Gating.norm (fun n => v (ix3 b t n)) (lg (ix1 d)) (lb (ix1 d)) d := by
  pointwise [rows]
  simp only [centred_apply, mean_apply]
  have h : ∀ k, (mulf (centred v) (centred v)) (ix3 b t k) = (v (ix3 b t k) - Ideal.div (∑ k, v (ix3 b t k)) (Ideal.ofBits FTy.f32 1140850688#32)) *
      (v (ix3 b t k) - Ideal.div (∑ k, v (ix3 b t k)) (Ideal.ofBits FTy.f32 1140850688#32)) := fun k => by
    pointwise
    simp only [centred_apply, mean_apply]
  simp only [h]
  rfl

/-- One pair of steps is in order, as a bit. -/
theorem order_apply (t s : Fin 8) : order (ix2 t s) = if s.val ≤ t.val then 1#1 else 0#1 := by
  revert t s
  decide +kernel

/-- One weight of the lower triangle. -/
theorem lower_apply (w : FVec Ideal S8x128x128 .f32) (g t s : Fin 8) :
    lower w (ix3 g t s) = Gating.causal t s (w (ix3 ⟨g.val, by omega⟩ ⟨t.val, by omega⟩ ⟨s.val, by omega⟩)) := by
  pointwise [lower]
  rw [order_apply]
  unfold Gating.causal
  split
  · rfl
  · exact (show ((((0#32 : BitVec 32).toInt : ℝ)) : EReal) = 0 by simp)

/-- One weighted sum. -/
theorem sums_apply (w : FVec Ideal S8x8x8 .f32) (v : FVec Ideal S128x8x512 .f32) (b : Fin 128) (z : Fin 1) (t g : Fin 8) (d : Fin 64) :
    sums w v (ix5 b z t g d) = ∑ s : Fin 8, v (ix3 b s ⟨g.val * 64 + d.val, by omega⟩) * w (ix3 g t s) := by
  pointwise [sums]

/-- One bias. -/
theorem bias_apply (w : FVec Ideal S8x128 .f32) (b : Fin 128) (z : Fin 1) (t g : Fin 8) (d : Fin 64) :
    bias w (ix5 b z t g d) = w (ix2 ⟨g.val, by omega⟩ ⟨t.val, by omega⟩) := by
  pointwise [bias]

/-- One entry of the gated rows, of the weighted sums and the bias. -/
theorem gate_apply (u : FVec Ideal S128x8x512 .f32) (y w : FVec Ideal S128x1x8x8x64 .f32) (b : Fin 128) (t : Fin 8) (d : Fin 512) :
    gate u y w (ix3 b t d) = u (ix3 b t d) *
      (y (ix5 b 0 t ⟨d.val / 64, by omega⟩ ⟨d.val % 64, by omega⟩) + w (ix5 b 0 t ⟨d.val / 64, by omega⟩ ⟨d.val % 64, by omega⟩)) := by
  pointwise [gate]

/-- One entry of the second result, of the arguments. -/
theorem vchunk_apply (x0 : FVec Ideal S128x8x6656 .f32) (x1 x2 : FVec Ideal S512 .f32) (b : Fin 128) (t : Fin 8) (d : Fin 512) :
    vchunk x0 x1 x2 (ix3 b t d) = Gating.norm (fun n => x0 (ix3 b t ⟨1536 + n.val, by omega⟩)) (x1 (ix1 d)) (x2 (ix1 d)) d := by
  unfold vchunk
  rw [rows_apply]
  simp only [mixed_apply]

/-- One entry of the first result, of the arguments. -/
theorem result_apply (x0 : FVec Ideal S128x8x6656 .f32) (x1 x2 : FVec Ideal S512 .f32) (x3 : FVec Ideal S8x128x128 .f32) (x4 : FVec Ideal S8x128 .f32)
    (b : Fin 128) (t : Fin 8) (d : Fin 512) :
    result x0 x1 x2 x3 x4 (ix3 b t d) = x0 (ix3 b t ⟨1024 + d.val, by omega⟩) *
      (∑ s : Fin 8, vchunk x0 x1 x2 (ix3 b s d) *
          Gating.causal t s (x3 (ix3 ⟨d.val / 64, by omega⟩ ⟨t.val, by omega⟩ ⟨s.val, by omega⟩)) +
        x4 (ix2 ⟨d.val / 64, by omega⟩ ⟨t.val, by omega⟩)) := by
  have h : (⟨d.val / 64 * 64 + d.val % 64, by omega⟩ : Fin 512) = d := Fin.ext (by simp only; omega)
  unfold result
  rw [gate_apply, gated_apply, sums_apply, bias_apply]
  simp only [lower_apply, h]

variable (m : (ℓ : Loc nD τ sig) → Buf (Elt Ideal) ℓ)

/-- The reference run's first result is the one stated of the arguments. -/
theorem res_eq (c : Dev nD) : Value.res_main_v40 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Cert.Proof.GatingRef

end
-- ==== Proof.GatingValue.lean ====
/- What the sample group's gating call leaves in its two arrays: the reference's results. -/
module

public import proofs.«01_k».proof.Proof.GatingEntry
public import proofs.«01_k».proof.Proof.GatingRefAt

@[expose] public section

set_option maxRecDepth 16384

noncomputable section

namespace Cert.Proof.Gating

open Cert.GatingIdeal Cert.GatingIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices at the one point. -/
theorem idx : ∀ t : Fin cfg0.N, win0_0.index t = ![0, 0, 2] ∧ win0_1.index t = ![0, 0, 3] ∧ win0_2.index t = ![0, 0]
    ∧ win0_3.index t = ![0, 0] ∧ win0_4.index t = ![0, 0, 0] ∧ win0_5.index t = ![0, 0] ∧ win0_6.index t = ![0, 0, 0] ∧ win0_7.index t = ![0, 0, 0] :=
  (by decide +kernel : ∀ t : Fin grid0.N, _)

/-- The first block holds the gated columns. -/
theorem emb0 (t : Fin cfg0.N) (b : Fin 128) (i : Fin 8) (d : Fin 512) :
    (win0_0.blk t).view.emb (ix3 b i d) = ix3 b i ⟨1024 + d.val, by omega⟩ := by
  blk_ext [idx t]

/-- The second block holds the columns to be normalised. -/
theorem emb1 (t : Fin cfg0.N) (b : Fin 128) (i : Fin 8) (d : Fin 512) :
    (win0_1.blk t).view.emb (ix3 b i d) = ix3 b i ⟨1536 + d.val, by omega⟩ := by
  blk_ext [idx t]

/-- The scale's block is all of it. -/
theorem emb2 (t : Fin cfg0.N) (d : Fin 512) : (win0_2.blk t).view.emb (ix2 0 d) = ix2 0 d := by
  blk_ext [idx t]

/-- The shift's block is all of it. -/
theorem emb3 (t : Fin cfg0.N) (d : Fin 512) : (win0_3.blk t).view.emb (ix2 0 d) = ix2 0 d := by
  blk_ext [idx t]

/-- The weights' block is all of them. -/
theorem emb4 (t : Fin cfg0.N) (s i : Fin 8) (d : Fin 512) : (win0_4.blk t).view.emb (ix3 s i d) = ix3 s i d := by
  blk_ext [idx t]

/-- The bias's block is all of it. -/
theorem emb5 (t : Fin cfg0.N) (i : Fin 8) (d : Fin 512) : (win0_5.blk t).view.emb (ix2 i d) = ix2 i d := by
  blk_ext [idx t]

/-- The first result's block is all of it. -/
theorem emb6 (t : Fin cfg0.N) (b : Fin 128) (i : Fin 8) (d : Fin 512) : (win0_6.blk t).view.emb (ix3 b i d) = ix3 b i d := by
  blk_ext [idx t]

/-- The second result's block is all of it. -/
theorem emb7 (t : Fin cfg0.N) (b : Fin 128) (i : Fin 8) (d : Fin 512) : (win0_7.blk t).view.emb (ix3 b i d) = ix3 b i d := by
  blk_ext [idx t]

/-- A gated column, as the body reads it. -/
theorem read0 (c : Dev nD) (t : Fin cfg0.N) (b : Fin 128) (i : Fin 8) (d : Fin 512) :
    (iblk m c 0 t : Vec Ideal S128x8x512 .f32) (ix3 b i d)
    = ((m ((c : Thread nD τ).loc main_arg0)) : Vec Ideal S128x8x6656 .f32) (ix3 b i ⟨1024 + d.val, by omega⟩) :=
  congrArg ((m ((c : Thread nD τ).loc main_arg0)) : Vec Ideal S128x8x6656 .f32) (emb0 t b i d)

/-- A column to be normalised, as the body reads it. -/
theorem read1 (c : Dev nD) (t : Fin cfg0.N) (b : Fin 128) (i : Fin 8) (d : Fin 512) :
    (iblk m c 1 t : Vec Ideal S128x8x512 .f32) (ix3 b i d)
    = ((m ((c : Thread nD τ).loc main_arg0)) : Vec Ideal S128x8x6656 .f32) (ix3 b i ⟨1536 + d.val, by omega⟩) :=
  congrArg ((m ((c : Thread nD τ).loc main_arg0)) : Vec Ideal S128x8x6656 .f32) (emb1 t b i d)

/-- A scale, as the body reads it. -/
theorem read2 (c : Dev nD) (t : Fin cfg0.N) (d : Fin 512) :
    (iblk m c 2 t : Vec Ideal S1x512 .f32) (ix2 0 d) = ((m ((c : Thread nD τ).loc main_arg1)) : Vec Ideal S512 .f32) (ix1 d) :=
  (congrArg (V m c main_v8 : Vec Ideal S1x512 .f32) (emb2 t d)).trans (by rw [entry_g]; exact row_apply _ _)

/-- A shift, as the body reads it. -/
theorem read3 (c : Dev nD) (t : Fin cfg0.N) (d : Fin 512) :
    (iblk m c 3 t : Vec Ideal S1x512 .f32) (ix2 0 d) = ((m ((c : Thread nD τ).loc main_arg2)) : Vec Ideal S512 .f32) (ix1 d) :=
  (congrArg (V m c main_v9 : Vec Ideal S1x512 .f32) (emb3 t d)).trans (by rw [entry_s]; exact row_apply _ _)

/-- A weight, as the body reads it. -/
theorem read4 (c : Dev nD) (t : Fin cfg0.N) (s i : Fin 8) (d : Fin 512) :
    (iblk m c 4 t : Vec Ideal S8x8x512 .f32) (ix3 s i d)
    = ((m ((c : Thread nD τ).loc main_arg3)) : Vec Ideal S8x128x128 .f32) (ix3 ⟨d.val / 64, by omega⟩ ⟨i.val, by omega⟩ ⟨s.val, by omega⟩) :=
  (congrArg (V m c main_v7 : Vec Ideal S8x8x512 .f32) (emb4 t s i d)).trans (by rw [entry_w]; exact planes_apply _ _ _ _)

/-- A bias, as the body reads it. -/
theorem read5 (c : Dev nD) (t : Fin cfg0.N) (i : Fin 8) (d : Fin 512) :
    (iblk m c 5 t : Vec Ideal S8x512 .f32) (ix2 i d)
    = ((m ((c : Thread nD τ).loc main_arg4)) : Vec Ideal S8x128 .f32) (ix2 ⟨d.val / 64, by omega⟩ ⟨i.val, by omega⟩) :=
  (congrArg (V m c main_v3 : Vec Ideal S8x512 .f32) (emb5 t i d)).trans (by rw [entry_b]; exact biases_apply _ _ _)

/-- The reference's second result, of the arguments. -/
def vref (c : Dev nD) : FVec Ideal Cert.GatingRefIdeal.S128x8x512 .f32 :=
  GatingRef.vchunk (m ((c : Thread nD τ).loc main_arg0)) (m ((c : Thread nD τ).loc main_arg1)) (m ((c : Thread nD τ).loc main_arg2))

/-- The reference's first result, of the arguments. -/
def yref (c : Dev nD) : FVec Ideal Cert.GatingRefIdeal.S128x8x512 .f32 :=
  GatingRef.result (m ((c : Thread nD τ).loc main_arg0)) (m ((c : Thread nD τ).loc main_arg1)) (m ((c : Thread nD τ).loc main_arg2))
    (m ((c : Thread nD τ).loc main_arg3)) (m ((c : Thread nD τ).loc main_arg4))

/-- The normalised rows are the reference's. -/
theorem rows_eq (c : Dev nD) (t : Fin cfg0.N) (b : Fin 128) (i : Fin 8) (d : Fin 512) :
    k0_pay2 (F := Ideal) (iblk m c 1 t) (iblk m c 2 t) (iblk m c 3 t) (ix3 b i d) = vref m c (ix3 b i d) := by
  refine (norm_apply _ _ _ b i d).trans ?_
  unfold vref
  rw [GatingRef.vchunk_apply, read2, read3]
  simp only [read1]

/-- The block that the point writes to the second array is the reference's. -/
theorem point7 (c : Dev nD) (t : Fin cfg0.N) (y : S128x8x512.Idx) :
    k0_pay2 (F := Ideal) (iblk m c 1 t) (iblk m c 2 t) (iblk m c 3 t) y = vref m c ((win0_7.blk t).view.emb y) := by
  idx_vars y
  exact (rows_eq m c t y0 y1 y2).trans (congrArg (vref m c) (emb7 t y0 y1 y2)).symm

/-- The second array after the run: the reference's second result. -/
theorem final7 (c : Dev nD) : (dats m 0 c).arrAt 7 cfg0.N = vref m c :=
  (dats m 0 c).arrAt_eq_of_covers 7 _ (by decide +kernel) fun t _ y => by
    blk_simp
    rw [after0_7]
    frame_out
    exact point7 m c t y

/-- The plane of one earlier step, as the body loads it. -/
theorem plane_apply (x : Vec Ideal S8x8x512 .f32) (i : Fin 8) (d : Fin 512) :
    (View.ld x r0_3 : Vec Ideal S1x8x512 .f32) (ix3 0 i d) = x (ix3 0 i d)
    ∧ (View.ld x r0_4 : Vec Ideal S1x8x512 .f32) (ix3 0 i d) = x (ix3 1 i d)
    ∧ (View.ld x r0_5 : Vec Ideal S1x8x512 .f32) (ix3 0 i d) = x (ix3 2 i d)
    ∧ (View.ld x r0_6 : Vec Ideal S1x8x512 .f32) (ix3 0 i d) = x (ix3 3 i d)
    ∧ (View.ld x r0_7 : Vec Ideal S1x8x512 .f32) (ix3 0 i d) = x (ix3 4 i d)
    ∧ (View.ld x r0_8 : Vec Ideal S1x8x512 .f32) (ix3 0 i d) = x (ix3 5 i d)
    ∧ (View.ld x r0_9 : Vec Ideal S1x8x512 .f32) (ix3 0 i d) = x (ix3 6 i d)
    ∧ (View.ld x r0_10 : Vec Ideal S1x8x512 .f32) (ix3 0 i d) = x (ix3 7 i d) := by
  refine ⟨?_, ?_, ?_, ?_, ?_, ?_, ?_, ?_⟩ <;>
    exact congrArg x (funext fun a => by fin_cases a <;> apply Fin.ext <;> simp [Rect.unit])

/-- One entry of the gated rows, from planes and rows that hold what the reference reads. -/
theorem element (v : FVec Ideal S128x8x512 .f32) (B : Vec Ideal S8x512 .f32) (U : Vec Ideal S128x8x512 .f32) (W : Vec Ideal S8x8x512 .f32)
    (x0 : FVec Ideal Cert.GatingRefIdeal.S128x8x6656 .f32) (x1 x2 : FVec Ideal Cert.GatingRefIdeal.S512 .f32)
    (x3 : FVec Ideal Cert.GatingRefIdeal.S8x128x128 .f32) (x4 : FVec Ideal Cert.GatingRefIdeal.S8x128 .f32)
    (b : Fin 128) (i : Fin 8) (d : Fin 512)
    (hv : ∀ s, v (ix3 b s d) = GatingRef.vchunk x0 x1 x2 (ix3 b s d)) (hB : B (ix2 i d) = x4 (ix2 ⟨d.val / 64, by omega⟩ ⟨i.val, by omega⟩))
    (hU : U (ix3 b i d) = x0 (ix3 b i ⟨1024 + d.val, by omega⟩))
    (hW : ∀ s : Fin 8, W (ix3 s i d) = x3 (ix3 ⟨d.val / 64, by omega⟩ ⟨i.val, by omega⟩ ⟨s.val, by omega⟩)) :
    k0_pay1 v (k0_pay8 v steps (k0_pay5 v steps (k0_pay3 B) k0_pay4 (View.ld W r0_3) (View.ld W r0_4) (View.ld W r0_5)) (k0_pay6 v)
      (k0_pay7 steps (View.ld W r0_6)) (View.ld W r0_7) (View.ld W r0_8) (View.ld W r0_9)) (k0_pay9 steps) (View.ld W r0_10) U (ix3 b i d)
      = GatingRef.result x0 x1 x2 x3 x4 (ix3 b i d) := by
  obtain ⟨h0, h1, h2, h3, h4, h5, h6, h7⟩ := plane_apply W i d
  refine (gate_apply _ _ _ _ _ _ _ _ _ _ _ b i d).trans ?_
  rw [GatingRef.result_apply, h0, h1, h2, h3, h4, h5, h6, h7, hU, hB]
  simp only [hv, hW, Fin.sum_univ_eight]
  congr 1
  generalize GatingRef.vchunk x0 x1 x2 = V
  rw [add_comm (_ + _) (x4 _)]
  simp only [add_assoc, mul_comm (V _)]

/-- The block that the point writes to the first array is the reference's. -/
theorem point6 (c : Dev nD) (t : Fin cfg0.N) (y : S128x8x512.Idx) :
    out0_6 (F := Ideal) (iblk m c 0 t) (iblk m c 1 t) (iblk m c 2 t) (iblk m c 3 t) (iblk m c 4 t) (iblk m c 5 t) y
    = yref m c ((win0_6.blk t).view.emb y) := by
  idx_vars y
  refine Eq.trans ?_ (congrArg (yref m c) (emb6 t y0 y1 y2)).symm
  unfold_out out0_6
  frame_out
  exact element _ _ _ _ _ _ _ _ _ _ _ _ (fun s => rows_eq m c t y0 s y2) (read5 m c t y1 y2) (read0 m c t y0 y1 y2) (fun s => read4 m c t s y1 y2)

/-- The first array after the run: the reference's first result. -/
theorem final6 (c : Dev nD) : (dats m 0 c).arrAt 6 cfg0.N = yref m c :=
  (dats m 0 c).arrAt_eq_of_covers 6 _ (by decide +kernel) fun t _ y => by
    blk_simp
    rw [after0_6]
    exact point6 m c t y

end Cert.Proof.Gating

end
-- ==== Proof.InProjSampleEntry.lean ====
/- The sample group's input projection: the reference's result, and what the call finds in the buffers that the host prepares. -/
module

public import proofs.«01_k».proof.Proof.InProjColumns
public import proofs.«01_k».proof.Proof.Gen.InProjSampleIdeal.Value
public import proofs.«01_k».proof.Proof.Gen.InProjSampleRefIdeal.Run
public import Idealize.ShloMosaic.Lib.Claim

@[expose] public section

set_option maxRecDepth 16384

noncomputable section

namespace Cert.Proof.InProjSample

open Cert.InProjSampleIdeal Cert.InProjSampleIdeal.Gen
open Cert.Proof.InProj (pick)
open Idealize.ShloMosaic Idealize.ShloMosaic.TcCoe Idealize.SL.Sem

/-- The product with its columns in the new order. -/
def zcat (z : FVec Ideal Cert.InProjSampleRefIdeal.S128x8x6212 .f32) : FVec Ideal Cert.InProjSampleRefIdeal.S128x8x6656 .f32 :=
  concatenate Cert.InProjSampleRefIdeal.S128x8x6656 2 [⟨Cert.InProjSampleRefIdeal.S128x8x1024, extractStridedSlice Cert.InProjSampleRefIdeal.S128x8x1024 ![0, 0, 0] z Cert.InProjSampleRefIdeal.Gen.slices_S128x8x6212_S128x8x1024_0_0_0⟩, ⟨Cert.InProjSampleRefIdeal.S128x8x1024, extractStridedSlice Cert.InProjSampleRefIdeal.S128x8x1024 ![0, 0, 2116] z Cert.InProjSampleRefIdeal.Gen.slices_S128x8x6212_S128x8x1024_0_0_2116⟩, ⟨Cert.InProjSampleRefIdeal.S128x8x3072, extractStridedSlice Cert.InProjSampleRefIdeal.S128x8x3072 ![0, 0, 3140] z Cert.InProjSampleRefIdeal.Gen.slices_S128x8x6212_S128x8x3072_0_0_3140⟩, ⟨Cert.InProjSampleRefIdeal.S128x8x512, extractStridedSlice Cert.InProjSampleRefIdeal.S128x8x512 ![0, 0, 1024] z Cert.InProjSampleRefIdeal.Gen.slices_S128x8x6212_S128x8x512_0_0_1024⟩, ⟨Cert.InProjSampleRefIdeal.S128x8x256, extractStridedSlice Cert.InProjSampleRefIdeal.S128x8x256 ![0, 0, 1792] z Cert.InProjSampleRefIdeal.Gen.slices_S128x8x6212_S128x8x256_0_0_1792⟩, ⟨Cert.InProjSampleRefIdeal.S128x8x128, extractStridedSlice Cert.InProjSampleRefIdeal.S128x8x128 ![0, 0, 1536] z Cert.InProjSampleRefIdeal.Gen.slices_S128x8x6212_S128x8x128_0_0_1536⟩, ⟨Cert.InProjSampleRefIdeal.S128x8x128, extractStridedSlice Cert.InProjSampleRefIdeal.S128x8x128 ![0, 0, 1664] z Cert.InProjSampleRefIdeal.Gen.slices_S128x8x6212_S128x8x128_0_0_1664⟩, ⟨Cert.InProjSampleRefIdeal.S128x8x64, extractStridedSlice Cert.InProjSampleRefIdeal.S128x8x64 ![0, 0, 2048] z Cert.InProjSampleRefIdeal.Gen.slices_S128x8x6212_S128x8x64_0_0_2048⟩, ⟨Cert.InProjSampleRefIdeal.S128x8x64, extractStridedSlice Cert.InProjSampleRefIdeal.S128x8x64 ![0, 0, 2048] z Cert.InProjSampleRefIdeal.Gen.slices_S128x8x6212_S128x8x64_0_0_2048⟩, ⟨Cert.InProjSampleRefIdeal.S128x8x64, extractStridedSlice Cert.InProjSampleRefIdeal.S128x8x64 ![0, 0, 2048] z Cert.InProjSampleRefIdeal.Gen.slices_S128x8x6212_S128x8x64_0_0_2048⟩, ⟨Cert.InProjSampleRefIdeal.S128x8x64, extractStridedSlice Cert.InProjSampleRefIdeal.S128x8x64 ![0, 0, 2048] z Cert.InProjSampleRefIdeal.Gen.slices_S128x8x6212_S128x8x64_0_0_2048⟩, ⟨Cert.InProjSampleRefIdeal.S128x8x4, extractStridedSlice Cert.InProjSampleRefIdeal.S128x8x4 ![0, 0, 2112] z Cert.InProjSampleRefIdeal.Gen.slices_S128x8x6212_S128x8x4_0_0_2112⟩, ⟨Cert.InProjSampleRefIdeal.S128x8x252, broadcastInDim Cert.InProjSampleRefIdeal.S128x8x252 ![] Cert.InProjSampleRefIdeal.Gen.bcast_S_S128x8x252 (constant Cert.InProjSampleRefIdeal.S_ .f32 0x00000000#32)⟩] Cert.InProjSampleRefIdeal.Gen.concatenates_S128x8x1024_S128x8x1024_S128x8x3072_S128x8x512_S128x8x256_S128x8x128_S128x8x128_S128x8x64_S128x8x64_S128x8x64_S128x8x64_S128x8x4_S128x8x252_S128x8x6656_d2

/-- One entry of the product in the new order. -/
theorem zcat_apply (z : FVec Ideal Cert.InProjSampleRefIdeal.S128x8x6212 .f32) (b : Fin 128) (t : Fin 8) (j : Fin 6656) :
    zcat z (ix3 b t j) = pick (fun c => z (ix3 b t c)) j := by
  pointwise [zcat, InProj.pick]

/-- The reference's product, its columns in the old order. -/
def zref (x : FVec Ideal Cert.InProjSampleRefIdeal.S128x8x1024 .f32) (u : FVec Ideal Cert.InProjSampleRefIdeal.S128x6144 .f32) (w : FVec Ideal Cert.InProjSampleRefIdeal.S1024x6212 .f32)
    (b : FVec Ideal Cert.InProjSampleRefIdeal.S6212 .f32) : FVec Ideal Cert.InProjSampleRefIdeal.S128x8x6212 .f32 :=
  addf (Host.dotGeneral Cert.InProjSampleRefIdeal.dot_S128x8x1024_S1024x6212_S128x8x6212_2_0_01_1_n_n none (addf (mulf x (broadcastInDim Cert.InProjSampleRefIdeal.S128x8x1024 ![0, 1, 2] Cert.InProjSampleRefIdeal.Gen.bcast_S128x1x1024_S128x8x1024_0_1_2 (addf (broadcastInDim Cert.InProjSampleRefIdeal.S128x1x1024 ![] Cert.InProjSampleRefIdeal.Gen.bcast_S_S128x1x1024 (constant Cert.InProjSampleRefIdeal.S_ .f32 0x3F800000#32)) (broadcastInDim Cert.InProjSampleRefIdeal.S128x1x1024 ![0, 2] Cert.InProjSampleRefIdeal.Gen.bcast_S128x1024_S128x1x1024_0_2 (extractStridedSlice Cert.InProjSampleRefIdeal.S128x1024 ![0, 1024] u Cert.InProjSampleRefIdeal.Gen.slices_S128x6144_S128x1024_0_1024))))) (broadcastInDim Cert.InProjSampleRefIdeal.S128x8x1024 ![0, 1, 2] Cert.InProjSampleRefIdeal.Gen.bcast_S128x1x1024_S128x8x1024_0_1_2 (broadcastInDim Cert.InProjSampleRefIdeal.S128x1x1024 ![0, 2] Cert.InProjSampleRefIdeal.Gen.bcast_S128x1024_S128x1x1024_0_2 (extractStridedSlice Cert.InProjSampleRefIdeal.S128x1024 ![0, 0] u Cert.InProjSampleRefIdeal.Gen.slices_S128x6144_S128x1024_0_0)))) w) (broadcastInDim Cert.InProjSampleRefIdeal.S128x8x6212 ![0, 1, 2] Cert.InProjSampleRefIdeal.Gen.bcast_S1x1x6212_S128x8x6212_0_1_2 (broadcastInDim Cert.InProjSampleRefIdeal.S1x1x6212 ![2] Cert.InProjSampleRefIdeal.Gen.bcast_S6212_S1x1x6212_2 b))

/-- One entry of the reference's product. -/
theorem zref_apply (x : FVec Ideal Cert.InProjSampleRefIdeal.S128x8x1024 .f32) (u : FVec Ideal Cert.InProjSampleRefIdeal.S128x6144 .f32) (w : FVec Ideal Cert.InProjSampleRefIdeal.S1024x6212 .f32)
    (b : FVec Ideal Cert.InProjSampleRefIdeal.S6212 .f32) (g : Fin 128) (t : Fin 8) (j : Fin 6212) :
    zref x u w b (ix3 g t j) =
      ∑ k : Fin 1024, (x (ix3 g t k) * (1 + u (ix2 g ⟨1024 + k, by omega⟩)) + u (ix2 g ⟨k, by omega⟩)) *
        w (ix2 k j) + b (ix1 j) := by
  pointwise [zref]

variable (m : (ℓ : Loc nD τ sig) → Buf (Elt Ideal) ℓ)

set_option maxHeartbeats 2000000 in
/-- The weights as the call finds them. -/
theorem entry_w (c : Dev nD) : V m c main_v11 = InProj.wcat (m ((c : Thread nD τ).loc main_arg2)) := by
  rfl

set_option maxHeartbeats 2000000 in
/-- The bias as the call finds it. -/
theorem entry_b (c : Dev nD) : V m c main_v23 = shapeCast S1x6656 (InProj.bcat (m ((c : Thread nD τ).loc main_arg3))) shapeCasts_S6656_S1x6656 := by
  unfold V
  after_results_simp <;> (try dsimp only [Matrix.cons_val]) <;> (try after_results_simp) <;> rfl

/-- The modulation as the call finds it. -/
theorem entry_m (c : Dev nD) : V m c main_v24 = shapeCast S128x1x6144 (m ((c : Thread nD τ).loc main_arg1)) shapeCasts_S128x6144_S128x1x6144 := by
  entry_read
  rfl

end Cert.Proof.InProjSample

end
-- ==== Proof.InProjSampleValue.lean ====
/- The sample group's input projection: what its blocks hold, and its array after the run. -/
module

public import proofs.«01_k».proof.Proof.InProjSampleEntry
public import proofs.«01_k».proof.Proof.InProjValue

@[expose] public section

set_option maxRecDepth 16384

noncomputable section

namespace Cert.Proof.InProjSample

open Cert.InProjSampleIdeal Cert.InProjSampleIdeal.Gen
open Cert.Proof.InProj (pick wcat bcat wcat_apply bcat_apply pick_dot)
open Idealize.ShloMosaic Idealize.ShloMosaic.TcCoe Idealize.SL.Sem
open Idealize.ShloMosaic.Pipeline (Dat)

/-- One entry of the block that a point computes, of the blocks that it reads. -/
theorem pay_apply (x : Vec Ideal S128x8x1024 .f32) (s h : Vec Ideal S128x1x1024 .f32)
    (w : Vec Ideal S1024x1664 .bf16) (b : Vec Ideal S1x1664 .f32)
    (g : Fin 128) (t : Fin 8) (j : Fin 1664) :
    k0_pay1 x s h w b (ix3 g t j) = ∑ k : Fin 1024, (x (ix3 g t k) * (1 + s (ix3 g 0 k)) + h (ix3 g 0 k)) *
        w (ix2 k j) + b (ix2 0 j) := by
  pointwise [k0_pay1]

variable (m : (ℓ : Loc nD τ sig) → Buf (Elt Ideal) ℓ)

/-- The windows' block indices at a point. -/
theorem idx : ∀ t : Fin cfg0.N, win0_0.index t = ![0, 0, 0] ∧ win0_1.index t = ![0, 0, 0]
    ∧ win0_2.index t = ![0, 0, 1] ∧ win0_3.index t = ![0, t.val] ∧ win0_4.index t = ![0, t.val] ∧ win0_5.index t = ![0, 0, t.val] :=
  (by decide +kernel : ∀ t : Fin grid0.N, _)

/-- The column of the merged product that an element of a block belongs to. -/
def column (t : Fin cfg0.N) (j : Fin 1664) : Fin 6656 :=
  ⟨t.val * 1664 + j.val, by have : t.val < 4 := t.isLt; omega⟩

/-- The inputs' block is all of them. -/
theorem emb0 (t : Fin cfg0.N) (g : Fin 128) (i : Fin 8) (k : Fin 1024) : (win0_0.blk t).view.emb (ix3 g i k) = ix3 g i k := by
  blk_ext [idx t]

/-- The shift's block is the first part of the modulation. -/
theorem emb1 (t : Fin cfg0.N) (g : Fin 128) (k : Fin 1024) : (win0_1.blk t).view.emb (ix3 g 0 k) = ix3 g 0 ⟨k.val, by omega⟩ := by
  blk_ext [idx t]

/-- The scale's block is the second part of the modulation. -/
theorem emb2 (t : Fin cfg0.N) (g : Fin 128) (k : Fin 1024) : (win0_2.blk t).view.emb (ix3 g 0 k) = ix3 g 0 ⟨1024 + k.val, by omega⟩ := by
  blk_ext [idx t]

/-- The weights' block holds a point's columns. -/
theorem emb3 (t : Fin cfg0.N) (k : Fin 1024) (j : Fin 1664) : (win0_3.blk t).view.emb (ix2 k j) = ix2 k (column t j) := by
  blk_ext [idx t, column]

/-- The bias's block holds a point's columns. -/
theorem emb4 (t : Fin cfg0.N) (j : Fin 1664) : (win0_4.blk t).view.emb (ix2 0 j) = ix2 0 (column t j) := by
  blk_ext [idx t, column]

/-- The result's block holds a point's columns. -/
theorem emb5 (t : Fin cfg0.N) (g : Fin 128) (i : Fin 8) (j : Fin 1664) : (win0_5.blk t).view.emb (ix3 g i j) = ix3 g i (column t j) := by
  blk_ext [idx t, column]

/-- The bias as a row, at one column. -/
theorem bias_apply (b : FVec Ideal S6656 .f32) (j : Fin 6656) :
    shapeCast S1x6656 b shapeCasts_S6656_S1x6656 (ix2 0 j) = b (ix1 j) := by
  pointwise

/-- The modulation with a unit axis, at one entry. -/
theorem mod_apply (u : FVec Ideal S128x6144 .f32) (g : Fin 128) (j : Fin 6144) :
    shapeCast S128x1x6144 u shapeCasts_S128x6144_S128x1x6144 (ix3 g 0 j) = u (ix2 g j) := by
  pointwise

/-- An input, as the body reads it. -/
theorem read0 (c : Dev nD) (t : Fin cfg0.N) (g : Fin 128) (i : Fin 8) (k : Fin 1024) :
    (iblk m c 0 t : Vec Ideal S128x8x1024 .f32) (ix3 g i k)
    = ((m ((c : Thread nD τ).loc main_arg0)) : Vec Ideal S128x8x1024 .f32) (ix3 g i k) :=
  congrArg ((m ((c : Thread nD τ).loc main_arg0)) : Vec Ideal S128x8x1024 .f32) (emb0 t g i k)

/-- A shift, as the body reads it. -/
theorem read1 (c : Dev nD) (t : Fin cfg0.N) (g : Fin 128) (k : Fin 1024) :
    (iblk m c 1 t : Vec Ideal S128x1x1024 .f32) (ix3 g 0 k)
    = ((m ((c : Thread nD τ).loc main_arg1)) : Vec Ideal S128x6144 .f32) (ix2 g ⟨k.val, by omega⟩) :=
  (congrArg (V m c main_v24 : Vec Ideal S128x1x6144 .f32) (emb1 t g k)).trans (by rw [entry_m]; exact mod_apply _ _ _)

/-- A scale, as the body reads it. -/
theorem read2 (c : Dev nD) (t : Fin cfg0.N) (g : Fin 128) (k : Fin 1024) :
    (iblk m c 2 t : Vec Ideal S128x1x1024 .f32) (ix3 g 0 k)
    = ((m ((c : Thread nD τ).loc main_arg1)) : Vec Ideal S128x6144 .f32) (ix2 g ⟨1024 + k.val, by omega⟩) :=
  (congrArg (V m c main_v24 : Vec Ideal S128x1x6144 .f32) (emb2 t g k)).trans (by rw [entry_m]; exact mod_apply _ _ _)

/-- A weight, as the body reads it. -/
theorem read3 (c : Dev nD) (t : Fin cfg0.N) (k : Fin 1024) (j : Fin 1664) :
    (iblk m c 3 t : Vec Ideal S1024x1664 .bf16) (ix2 k j)
    = pick (fun n => ((m ((c : Thread nD τ).loc main_arg2)) : Vec Ideal S1024x6212 .f32) (ix2 k n)) (column t j).val :=
  (congrArg (V m c main_v11 : Vec Ideal S1024x6656 .bf16) (emb3 t k j)).trans (by rw [entry_w]; exact wcat_apply _ _ _)

/-- A bias, as the body reads it. -/
theorem read4 (c : Dev nD) (t : Fin cfg0.N) (j : Fin 1664) :
    (iblk m c 4 t : Vec Ideal S1x1664 .f32) (ix2 0 j)
    = pick (fun n => ((m ((c : Thread nD τ).loc main_arg3)) : Vec Ideal S6212 .f32) (ix1 n)) (column t j).val :=
  (congrArg (V m c main_v23 : Vec Ideal S1x6656 .f32) (emb4 t j)).trans
    (by rw [entry_b]; exact (bias_apply _ _).trans (bcat_apply _ _))

/-- One element of the kernel's product, from blocks that hold the merged columns. -/
theorem element (X : Vec Ideal S128x8x1024 .f32) (S H : Vec Ideal S128x1x1024 .f32) (W : Vec Ideal S1024x1664 .bf16)
    (B : Vec Ideal S1x1664 .f32) (x : FVec Ideal Cert.InProjSampleRefIdeal.S128x8x1024 .f32) (u : FVec Ideal Cert.InProjSampleRefIdeal.S128x6144 .f32)
    (w : FVec Ideal Cert.InProjSampleRefIdeal.S1024x6212 .f32) (b : FVec Ideal Cert.InProjSampleRefIdeal.S6212 .f32)
    (g : Fin 128) (i : Fin 8) (j : Fin 1664) (n : Fin 6656)
    (hX : ∀ k, X (ix3 g i k) = x (ix3 g i k)) (hH : ∀ k, H (ix3 g 0 k) = u (ix2 g ⟨k.val, by omega⟩))
    (hS : ∀ k, S (ix3 g 0 k) = u (ix2 g ⟨1024 + k.val, by omega⟩))
    (hW : ∀ k, W (ix2 k j) = pick (fun c => w (ix2 k c)) n.val) (hB : B (ix2 0 j) = pick (fun c => b (ix1 c)) n.val) :
    k0_pay1 X S H W B (ix3 g i j) = zcat (zref x u w b) (ix3 g i n) := by
  rw [pay_apply, zcat_apply, hB]
  simp only [hX, hH, hS, hW, zref_apply]
  exact pick_dot _ _ _ _

/-- The block that a point computes is the reference's. -/
theorem point (c : Dev nD) (t : Fin cfg0.N) (y : S128x8x1664.Idx) :
    k0_pay1 (iblk m c 0 t) (iblk m c 2 t) (iblk m c 1 t) (iblk m c 3 t) (iblk m c 4 t) y
    = zcat (zref (m ((c : Thread nD τ).loc main_arg0)) (m ((c : Thread nD τ).loc main_arg1)) (m ((c : Thread nD τ).loc main_arg2)) (m ((c : Thread nD τ).loc main_arg3))) ((win0_5.blk t).view.emb y) := by
  idx_vars y
  exact (element _ _ _ _ _ _ _ _ _ _ _ _ _ (read0 m c t y0 y1) (read1 m c t y0) (read2 m c t y0) (fun k => read3 m c t k y2)
    (read4 m c t y2)).trans (congrArg (zcat _) (emb5 t y0 y1 y2)).symm

/-- The array after the run: the reference's product, its columns in the new order. -/
theorem final (c : Dev nD) :
    (dats m 0 c).arrAt 5 cfg0.N
    = zcat (zref (m ((c : Thread nD τ).loc main_arg0)) (m ((c : Thread nD τ).loc main_arg1)) (m ((c : Thread nD τ).loc main_arg2)) (m ((c : Thread nD τ).loc main_arg3))) :=
  (dats m 0 c).arrAt_eq_of_covers 5 _ (by decide +kernel) fun t _ y => by
    blk_simp
    rw [after0_5]
    frame_out
    exact point m c t y

end Cert.Proof.InProjSample

end
-- ==== Proof.MoeSamplePay.lean ====
/- The sample group's experts' call: what its payloads compute at one element. -/
module

public import proofs.«01_k».proof.Proof.Gen.MoeSampleIdeal.Skeleton
public import proofs.«01_k».proof.Proof.MoePay

@[expose] public section

set_option maxRecDepth 16384

noncomputable section

namespace Cert.Proof.MoeSample

open Cert.MoeSampleIdeal Cert.MoeSampleIdeal.Gen
open Cert.Proof.Moe (hidden norm masked masked_eq)
open Idealize.ShloMosaic Idealize.ShloMosaic.TcCoe Idealize.SL.Sem

/-- The request of a row. -/
def request (r : Fin 1024) : Fin 128 := ⟨r.val / 8, by omega⟩

/-- The step of a row. -/
def step (r : Fin 1024) : Fin 8 := ⟨r.val % 8, by omega⟩

/-- The row of a request's step. -/
def row (b : Fin 128) (q : Fin 8) : Fin 1024 := ⟨b.val * 8 + q.val, by omega⟩

/-- The request of a request's row. -/
theorem request_row (b : Fin 128) (q : Fin 8) : request (row b q) = b := Fin.ext (by simp only [request, row]; omega)

/-- The step of a step's row. -/
theorem step_row (b : Fin 128) (q : Fin 8) : step (row b q) = q := Fin.ext (by simp only [step, row]; omega)

/-- The row of a row's request and step. -/
theorem row_eq (r : Fin 1024) : row (request r) (step r) = r := Fin.ext (by simp only [request, step, row]; omega)

/-- The accumulator's first contents are zero. -/
theorem zero_apply (r f : Fin 1024) : k0_pay3 (F := Ideal) (ix2 r f) = 0 := by
  pointwise [k0_pay3]

/-- The first expert's hidden units, each times the row's weight for the expert. -/
theorem hidden_apply (i : grid0.Coords) (x : Vec Ideal S128x8x1024 .f32) (g : Vec Ideal S1024x16 .f32)
    (wg wu : Vec Ideal S1x1x1024x512 .bf16) (r : Fin 1024) (f : Fin 512) :
    k0_pay5 i x g wg wu (ix2 r f) = hidden (fun k => x (ix3 (request r) (step r) k)) (fun k => wg (ix4 0 0 k f)) (fun k => wu (ix4 0 0 k f)) *
      masked (fun l => g (ix2 r l)) (Scalar.addi (Scalar.muli (BitVec.ofNat 32 (i 2).val) 2#32) 0#32) := by
  pointwise [k0_pay5, k0_pay4]
  rfl

/-- One entry of the accumulator after a point: what it held and the two experts' parts. -/
theorem step_apply (e : BitVec 32) (x : Vec Ideal S128x8x1024 .f32) (g : Vec Ideal S1024x16 .f32)
    (h : FVec Ideal S1024x512 .bf16) (wg wu : Vec Ideal S1x1x1024x512 .bf16)
    (wd : Vec Ideal S1x2x512x1024 .bf16) (acc : Vec Ideal S1024x1024 .f32) (r d : Fin 1024) :
    k0_pay1 e (k0_pay4 x) g (iota .tc S1024x16 32 [1] iota_S1024x16_d1_w32) h (k0_pay6 wg) (constant S1024x512 .f32 0x00000000#32) wu wd acc (ix2 r d) =
      acc (ix2 r d) + (∑ f : Fin 512, h (ix2 r f) * wd (ix4 0 0 f d) +
        ∑ f : Fin 512, hidden (fun k => x (ix3 (request r) (step r) k)) (fun k => wg (ix4 0 0 k f)) (fun k => wu (ix4 0 0 k f)) *
          masked (fun l => g (ix2 r l)) (Scalar.addi (Scalar.muli e 2#32) 1#32) * wd (ix4 0 1 f d)) := by
  have h0 : ∀ f : Fin 512, (⟨f.val / 512, by omega⟩ : Fin 2) = 0 := fun f => Fin.ext (by simp)
  have h1 : ∀ f : Fin 512, (⟨f.val % 512, by omega⟩ : Fin 512) = f := fun f => Fin.ext (by simp)
  have h2 : ∀ f : Fin 512, (⟨(512 + f.val) / 512, by omega⟩ : Fin 2) = 1 := fun f => Fin.ext (by simp)
  have h3 : ∀ f : Fin 512, (⟨(512 + f.val) % 512, by omega⟩ : Fin 512) = f := fun f => Fin.ext (by simp)
  pointwise [k0_pay1, k0_pay6, k0_pay4]
  simp only [h0, h1, h2, h3]
  rfl

/-- One entry of the normalised rows, of the accumulator and the residual. -/
theorem norm_apply (acc : Vec Ideal S1024x1024 .f32) (x : Vec Ideal S128x8x1024 .f32) (s : Vec Ideal S128x1x1024 .f32)
    (lg lb : Vec Ideal S1x1024 .f32) (b : Fin 128) (q : Fin 8) (d : Fin 1024) :
    k0_pay2 acc x s lg lb (ix3 b q d) =
      norm (fun n => Ideal.ofBits FTy.f32 1071072509#32 * x (ix3 b q n) + (1 + s (ix3 b 0 n)) * acc (ix2 (row b q) n))
        (lg (ix2 0 d)) (lb (ix2 0 d)) d := by
  pointwise [k0_pay2]
  rfl

end Cert.Proof.MoeSample

end
-- ==== Proof.MoeSampleRead.lean ====
/- The sample group's experts' call: what its blocks hold, in terms of the arguments. -/
module

public import proofs.«01_k».proof.Proof.Gen.MoeSampleIdeal.Frame.Runs
public import proofs.«01_k».proof.Proof.MoeSamplePay

@[expose] public section

set_option maxRecDepth 16384

noncomputable section

namespace Cert.Proof.MoeSample

open Cert.MoeSampleIdeal Cert.MoeSampleIdeal.Gen
open Idealize.ShloMosaic Idealize.ShloMosaic.TcCoe Idealize.SL.Sem

variable (m : (ℓ : Loc nD τ sig) → Buf (Elt Ideal) ℓ)

/-- The modulation as the call finds it. -/
theorem entry_s (c : Dev nD) : V m c main_v0 = shapeCast S128x1x6144 (m ((c : Thread nD τ).loc main_arg3)) shapeCasts_S128x6144_S128x1x6144 := by
  entry_read <;> rfl

/-- The first weights as the call finds them. -/
theorem entry_g (c : Dev nD) : (V m c main_v1 : Vec Ideal S4x16x1024x512 .bf16) = (m ((c : Thread nD τ).loc main_arg4) : Vec Ideal S4x16x1024x512 .f32) := by
  entry_read <;> rfl

/-- The second weights as the call finds them. -/
theorem entry_u (c : Dev nD) : (V m c main_v2 : Vec Ideal S4x16x1024x512 .bf16) = (m ((c : Thread nD τ).loc main_arg5) : Vec Ideal S4x16x1024x512 .f32) := by
  entry_read <;> rfl

/-- The third weights as the call finds them. -/
theorem entry_d (c : Dev nD) : (V m c main_v3 : Vec Ideal S4x16x512x1024 .bf16) = (m ((c : Thread nD τ).loc main_arg6) : Vec Ideal S4x16x512x1024 .f32) := by
  entry_read <;> rfl

/-- The normalisation's scale as the call finds it. -/
theorem entry_lg (c : Dev nD) : V m c main_v4 = shapeCast S1x1024 (m ((c : Thread nD τ).loc main_arg7)) shapeCasts_S1024_S1x1024 := by
  entry_read <;> rfl

/-- The normalisation's offset as the call finds it. -/
theorem entry_lb (c : Dev nD) : V m c main_v5 = shapeCast S1x1024 (m ((c : Thread nD τ).loc main_arg8)) shapeCasts_S1024_S1x1024 := by
  entry_read <;> rfl

/-- The windows' block indices at a point. -/
theorem idx : ∀ t : Fin cfg0.N, win0_0.index t = ![0, 0, 0] ∧ win0_1.index t = ![0, 0]
    ∧ win0_2.index t = ![0, 0, 0] ∧ win0_3.index t = ![0, 0, 5]
    ∧ win0_4.index t = ![3, t.val, 0, 0] ∧ win0_5.index t = ![3, t.val, 0, 0] ∧ win0_6.index t = ![3, t.val, 0, 0]
    ∧ win0_7.index t = ![0, 0] ∧ win0_8.index t = ![0, 0] ∧ win0_9.index t = ![0, 0, 0] :=
  (by decide +kernel : ∀ t : Fin grid0.N, _)

/-- The expert that a point takes at a place of its pair. -/
def expert (t : Fin cfg0.N) (e : Fin 2) : Fin 16 :=
  ⟨t.val * 2 + e.val, by have : t.val < 8 := t.isLt; omega⟩

/-- The block of the inputs is all of them. -/
theorem emb0 (t : Fin cfg0.N) (b : Fin 128) (q : Fin 8) (k : Fin 1024) :
    (win0_0.blk t).view.emb (ix3 b q k) = ix3 b q k := by
  blk_ext [idx t]

/-- The block of the routing weights is all of them. -/
theorem emb1 (t : Fin cfg0.N) (r : Fin 1024) (l : Fin 16) :
    (win0_1.blk t).view.emb (ix2 r l) = ix2 r l := by
  blk_ext [idx t]

/-- The block of the residual is all of it. -/
theorem emb2 (t : Fin cfg0.N) (b : Fin 128) (q : Fin 8) (k : Fin 1024) :
    (win0_2.blk t).view.emb (ix3 b q k) = ix3 b q k := by
  blk_ext [idx t]

/-- The block of the modulation is its last part. -/
theorem emb3 (t : Fin cfg0.N) (b : Fin 128) (k : Fin 1024) :
    (win0_3.blk t).view.emb (ix3 b 0 k) = ix3 b 0 ⟨5120 + k.val, by omega⟩ := by
  blk_ext [idx t]

/-- The block of the first weights holds a point's two experts. -/
theorem emb4 (t : Fin cfg0.N) (e : Fin 2) (k : Fin 1024) (f : Fin 512) :
    (win0_4.blk t).view.emb (ix4 0 e k f) = ix4 3 (expert t e) k f := by
  blk_ext [idx t, expert]

/-- The block of the second weights holds a point's two experts. -/
theorem emb5 (t : Fin cfg0.N) (e : Fin 2) (k : Fin 1024) (f : Fin 512) :
    (win0_5.blk t).view.emb (ix4 0 e k f) = ix4 3 (expert t e) k f := by
  blk_ext [idx t, expert]

/-- The block of the third weights holds a point's two experts. -/
theorem emb6 (t : Fin cfg0.N) (e : Fin 2) (f : Fin 512) (d : Fin 1024) :
    (win0_6.blk t).view.emb (ix4 0 e f d) = ix4 3 (expert t e) f d := by
  blk_ext [idx t, expert]

/-- The block of the scale is all of it. -/
theorem emb7 (t : Fin cfg0.N) (d : Fin 1024) : (win0_7.blk t).view.emb (ix2 0 d) = ix2 0 d := by
  blk_ext [idx t]

/-- The block of the offset is all of it. -/
theorem emb8 (t : Fin cfg0.N) (d : Fin 1024) : (win0_8.blk t).view.emb (ix2 0 d) = ix2 0 d := by
  blk_ext [idx t]

/-- The block of the result is all of it. -/
theorem emb9 (t : Fin cfg0.N) (b : Fin 128) (q : Fin 8) (d : Fin 1024) :
    (win0_9.blk t).view.emb (ix3 b q d) = ix3 b q d := by
  blk_ext [idx t]

/-- A vector as a row, at one entry. -/
theorem row_apply (u : FVec Ideal S1024 .f32) (j : Fin 1024) :
    shapeCast S1x1024 u shapeCasts_S1024_S1x1024 (ix2 0 j) = u (ix1 j) := by
  pointwise

/-- The modulation with a unit axis, at one entry. -/
theorem mod_apply (u : FVec Ideal S128x6144 .f32) (g : Fin 128) (j : Fin 6144) :
    shapeCast S128x1x6144 u shapeCasts_S128x6144_S128x1x6144 (ix3 g 0 j) = u (ix2 g j) := by
  pointwise

/-- An input, as the body reads it. -/
theorem read0 (c : Dev nD) (t : Fin cfg0.N) (b : Fin 128) (q : Fin 8) (k : Fin 1024) :
    (iblk m c 0 t : Vec Ideal S128x8x1024 .f32) (ix3 b q k)
    = (m ((c : Thread nD τ).loc main_arg0) : Vec Ideal S128x8x1024 .f32) (ix3 b q k) :=
  congrArg (m ((c : Thread nD τ).loc main_arg0) : Vec Ideal S128x8x1024 .f32) (emb0 t b q k)

/-- A routing weight, as the body reads it. -/
theorem read1 (c : Dev nD) (t : Fin cfg0.N) (r : Fin 1024) (l : Fin 16) :
    (iblk m c 1 t : Vec Ideal S1024x16 .f32) (ix2 r l)
    = (m ((c : Thread nD τ).loc main_arg1) : Vec Ideal S1024x16 .f32) (ix2 r l) :=
  congrArg (m ((c : Thread nD τ).loc main_arg1) : Vec Ideal S1024x16 .f32) (emb1 t r l)

/-- An entry of the residual, as the body reads it. -/
theorem read2 (c : Dev nD) (t : Fin cfg0.N) (b : Fin 128) (q : Fin 8) (k : Fin 1024) :
    (iblk m c 2 t : Vec Ideal S128x8x1024 .f32) (ix3 b q k)
    = (m ((c : Thread nD τ).loc main_arg2) : Vec Ideal S128x8x1024 .f32) (ix3 b q k) :=
  congrArg (m ((c : Thread nD τ).loc main_arg2) : Vec Ideal S128x8x1024 .f32) (emb2 t b q k)

/-- A modulation, as the body reads it. -/
theorem read3 (c : Dev nD) (t : Fin cfg0.N) (b : Fin 128) (k : Fin 1024) :
    (iblk m c 3 t : Vec Ideal S128x1x1024 .f32) (ix3 b 0 k)
    = (m ((c : Thread nD τ).loc main_arg3) : Vec Ideal S128x6144 .f32) (ix2 b ⟨5120 + k.val, by omega⟩) :=
  (congrArg (V m c main_v0 : Vec Ideal S128x1x6144 .f32) (emb3 t b k)).trans (by rw [entry_s]; exact mod_apply _ _ _)

/-- A first weight, as the body reads it. -/
theorem read4 (c : Dev nD) (t : Fin cfg0.N) (e : Fin 2) (k : Fin 1024) (f : Fin 512) :
    (iblk m c 4 t : Vec Ideal S1x2x1024x512 .bf16) (ix4 0 e k f)
    = (m ((c : Thread nD τ).loc main_arg4) : Vec Ideal S4x16x1024x512 .f32) (ix4 3 (expert t e) k f) :=
  (congrArg (V m c main_v1 : Vec Ideal S4x16x1024x512 .bf16) (emb4 t e k f)).trans (congrFun (entry_g m c) _)

/-- A second weight, as the body reads it. -/
theorem read5 (c : Dev nD) (t : Fin cfg0.N) (e : Fin 2) (k : Fin 1024) (f : Fin 512) :
    (iblk m c 5 t : Vec Ideal S1x2x1024x512 .bf16) (ix4 0 e k f)
    = (m ((c : Thread nD τ).loc main_arg5) : Vec Ideal S4x16x1024x512 .f32) (ix4 3 (expert t e) k f) :=
  (congrArg (V m c main_v2 : Vec Ideal S4x16x1024x512 .bf16) (emb5 t e k f)).trans (congrFun (entry_u m c) _)

/-- A third weight, as the body reads it. -/
theorem read6 (c : Dev nD) (t : Fin cfg0.N) (e : Fin 2) (f : Fin 512) (d : Fin 1024) :
    (iblk m c 6 t : Vec Ideal S1x2x512x1024 .bf16) (ix4 0 e f d)
    = (m ((c : Thread nD τ).loc main_arg6) : Vec Ideal S4x16x512x1024 .f32) (ix4 3 (expert t e) f d) :=
  (congrArg (V m c main_v3 : Vec Ideal S4x16x512x1024 .bf16) (emb6 t e f d)).trans (congrFun (entry_d m c) _)

/-- A scale, as the body reads it. -/
theorem read7 (c : Dev nD) (t : Fin cfg0.N) (d : Fin 1024) :
    (iblk m c 7 t : Vec Ideal S1x1024 .f32) (ix2 0 d) = (m ((c : Thread nD τ).loc main_arg7) : Vec Ideal S1024 .f32) (ix1 d) :=
  (congrArg (V m c main_v4 : Vec Ideal S1x1024 .f32) (emb7 t d)).trans (by rw [entry_lg]; exact row_apply _ _)

/-- An offset, as the body reads it. -/
theorem read8 (c : Dev nD) (t : Fin cfg0.N) (d : Fin 1024) :
    (iblk m c 8 t : Vec Ideal S1x1024 .f32) (ix2 0 d) = (m ((c : Thread nD τ).loc main_arg8) : Vec Ideal S1024 .f32) (ix1 d) :=
  (congrArg (V m c main_v5 : Vec Ideal S1x1024 .f32) (emb8 t d)).trans (by rw [entry_lb]; exact row_apply _ _)

end Cert.Proof.MoeSample

end
-- ==== Proof.MoeSampleRefAt.lean ====
/- The sample group's experts' call: the reference's result at one element. -/
module

public import proofs.«01_k».proof.Proof.Gen.MoeSampleRefIdeal.Run
public import proofs.«01_k».proof.Proof.MoePay

@[expose] public section

set_option maxRecDepth 16384

noncomputable section

namespace Cert.Proof.MoeSampleRef

open Cert.MoeSampleRefIdeal Cert.MoeSampleRefIdeal.Gen
open Idealize.ShloMosaic Idealize.ShloMosaic.TcCoe Idealize.SL.Sem

/-- A layer's input projection of every expert at every token. -/
def up (x : FVec Ideal S128x8x1024 .f32) (w : FVec Ideal S4x16x1024x512 .f32) : FVec Ideal S128x8x16x512 .f32 :=
  Host.dotGeneral dot_S128x8x1024_S16x1024x512_S128x8x16x512_2_1_01_02_n_n none x (shapeCast _ (extractStridedSlice S1x16x1024x512 ![3, 0, 0, 0] w slices_S4x16x1024x512_S1x16x1024x512_3_0_0_0) shapeCasts_S1x16x1024x512_S16x1024x512)

/-- The hidden units of every expert at every token. -/
def units (a b : FVec Ideal S128x8x16x512 .f32) : FVec Ideal S128x8x16x512 .f32 :=
  mulf (mulf a (Host.divf (broadcastInDim S128x8x16x512 ![] bcast_S_S128x8x16x512 (constant S_ .f32 0x3F800000#32)) (addf (broadcastInDim S128x8x16x512 ![] bcast_S_S128x8x16x512 (constant S_ .f32 0x3F800000#32)) (Host.exp (Host.negf a))))) b

/-- The experts' outputs, weighted and added up. -/
def mix (g : FVec Ideal S1024x16 .f32) (w : FVec Ideal S4x16x512x1024 .f32) (u : FVec Ideal S128x8x16x512 .f32) : FVec Ideal S128x8x1024 .f32 :=
  Host.reduceAdd (mulf (broadcastInDim S128x8x16x1024 ![0, 1, 2, 3] bcast_S128x8x16x1_S128x8x16x1024_0_1_2_3 (broadcastInDim S128x8x16x1 ![0, 1, 2] bcast_S128x8x16_S128x8x16x1_0_1_2 (shapeCast _ g shapeCasts_S1024x16_S128x8x16))) (transpose S128x8x16x1024 [2, 3, 0, 1] (Host.dotGeneral dot_S16x512x1024_S128x8x16x512_S16x1024x128x8_1_3_2_01_0_2 none (shapeCast _ (extractStridedSlice S1x16x512x1024 ![3, 0, 0, 0] w slices_S4x16x512x1024_S1x16x512x1024_3_0_0_0) shapeCasts_S1x16x512x1024_S16x512x1024) u) transposes_S16x1024x128x8_S128x8x16x1024_2_3_0_1)) (constant S_ .f32 0x00000000#32) reducesTo_S128x8x16x1024_S128x8x1024_d2 h_S_

/-- The scaled residual and the modulated mixture together. -/
def resid (x : FVec Ideal S128x8x1024 .f32) (s : FVec Ideal S128x6144 .f32) (y : FVec Ideal S128x8x1024 .f32) : FVec Ideal S128x8x1024 .f32 :=
  addf (mulf (broadcastInDim S128x8x1024 ![] bcast_S_S128x8x1024 (constant S_ .f32 0x3FD744FD#32)) x) (mulf (broadcastInDim S128x8x1024 ![0, 1, 2] bcast_S128x1x1024_S128x8x1024_0_1_2 (addf (broadcastInDim S128x1x1024 ![] bcast_S_S128x1x1024 (constant S_ .f32 0x3F800000#32)) (broadcastInDim S128x1x1024 ![0, 2] bcast_S128x1024_S128x1x1024_0_2 (extractStridedSlice S128x1024 ![0, 5120] s slices_S128x6144_S128x1024_0_5120)))) y)

/-- The mean of every token's row. -/
def mean (v : FVec Ideal S128x8x1024 .f32) : FVec Ideal S128x8x1 .f32 :=
  Host.divf (broadcastInDim S128x8x1 ![0, 1] bcast_S128x8_S128x8x1_0_1 (Host.reduceAdd v (constant S_ .f32 0x00000000#32) reducesTo_S128x8x1024_S128x8_d2 h_S_)) (broadcastInDim S128x8x1 ![] bcast_S_S128x8x1 (constant S_ .f32 0x44800000#32))

/-- Every row less its mean. -/
def centred (v : FVec Ideal S128x8x1024 .f32) : FVec Ideal S128x8x1024 .f32 :=
  subf v (broadcastInDim S128x8x1024 ![0, 1, 2] bcast_S128x8x1_S128x8x1024_0_1_2 (mean v))

/-- Every row normalised, scaled and shifted. -/
def rows (v : FVec Ideal S128x8x1024 .f32) (lg lb : FVec Ideal S1024 .f32) : FVec Ideal S128x8x1024 .f32 :=
  addf (mulf (mulf (centred v) (broadcastInDim S128x8x1024 ![0, 1, 2] bcast_S128x8x1_S128x8x1024_0_1_2 (Host.rsqrt (addf (mean (mulf (centred v) (centred v))) (broadcastInDim S128x8x1 ![] bcast_S_S128x8x1 (constant S_ .f32 0x3727C5AC#32)))))) (broadcastInDim S128x8x1024 ![0, 1, 2] bcast_S1x1x1024_S128x8x1024_0_1_2 (broadcastInDim S1x1x1024 ![2] bcast_S1024_S1x1x1024_2 lg))) (broadcastInDim S128x8x1024 ![0, 1, 2] bcast_S1x1x1024_S128x8x1024_0_1_2 (broadcastInDim S1x1x1024 ![2] bcast_S1024_S1x1x1024_2 lb))

/-- The reference's result, of the arguments. -/
def result (x0 : FVec Ideal S128x8x1024 .f32) (x1 : FVec Ideal S1024x16 .f32) (x2 : FVec Ideal S128x8x1024 .f32) (x3 : FVec Ideal S128x6144 .f32)
    (x4 x5 : FVec Ideal S4x16x1024x512 .f32) (x6 : FVec Ideal S4x16x512x1024 .f32) (x7 x8 : FVec Ideal S1024 .f32) : FVec Ideal S128x8x1024 .f32 :=
  rows (resid x2 x3 (mix x1 x6 (units (up x0 x4) (up x0 x5)))) x7 x8

/-- The projection at one hidden unit. -/
theorem up_apply (x : FVec Ideal S128x8x1024 .f32) (w : FVec Ideal S4x16x1024x512 .f32) (b : Fin 128) (t : Fin 8) (e : Fin 16) (f : Fin 512) :
    up x w (ix4 b t e f) = ∑ k : Fin 1024, x (ix3 b t k) * w (ix4 3 e k f) := by
  pointwise [up]

/-- One hidden unit of one expert at one token, of its two projections. -/
theorem units_apply (u v : FVec Ideal S128x8x16x512 .f32) (b : Fin 128) (t : Fin 8) (e : Fin 16) (f : Fin 512) :
    units u v (ix4 b t e f) = u (ix4 b t e f) * Ideal.logistic (u (ix4 b t e f)) * v (ix4 b t e f) := by
  pointwise [units]
  rfl

/-- One entry of the weighted mixture. -/
theorem mix_apply (g : FVec Ideal S1024x16 .f32) (w : FVec Ideal S4x16x512x1024 .f32) (u : FVec Ideal S128x8x16x512 .f32) (b : Fin 128) (t : Fin 8) (d : Fin 1024) :
    mix g w u (ix3 b t d) = ∑ e : Fin 16, g (ix2 ⟨b.val * 8 + t.val, by omega⟩ e) * ∑ f : Fin 512, w (ix4 3 e f d) * u (ix4 b t e f) := by
  pointwise [mix]

/-- One entry of the row before its normalisation. -/
theorem resid_apply (x : FVec Ideal S128x8x1024 .f32) (s : FVec Ideal S128x6144 .f32) (y : FVec Ideal S128x8x1024 .f32) (b : Fin 128) (t : Fin 8) (d : Fin 1024) :
    resid x s y (ix3 b t d) = Ideal.ofBits FTy.f32 1071072509#32 * x (ix3 b t d) + (1 + s (ix2 b ⟨5120 + d.val, by omega⟩)) * y (ix3 b t d) := by
  pointwise [resid]

/-- The mean of one token's row. -/
theorem mean_apply (v : FVec Ideal S128x8x1024 .f32) (b : Fin 128) (t : Fin 8) (z : Fin 1) :
    mean v (ix3 b t z) = Ideal.div (∑ k, v (ix3 b t k)) (Ideal.ofBits FTy.f32 1149239296#32) := by
  pointwise [mean]

/-- One entry of a row less its mean. -/
theorem centred_apply (v : FVec Ideal S128x8x1024 .f32) (b : Fin 128) (t : Fin 8) (d : Fin 1024) :
    centred v (ix3 b t d) = v (ix3 b t d) - mean v (ix3 b t 0) := by
  pointwise [centred]

/-- One entry of a normalised row. -/
theorem rows_apply (v : FVec Ideal S128x8x1024 .f32) (lg lb : FVec Ideal S1024 .f32) (b : Fin 128) (t : Fin 8) (d : Fin 1024) :
    rows v lg lb (ix3 b t d) = Moe.norm (fun n => v (ix3 b t n)) (lg (ix1 d)) (lb (ix1 d)) d := by
  pointwise [rows]
  simp only [centred_apply, mean_apply]
  have h : ∀ k, (mulf (centred v) (centred v)) (ix3 b t k) = (v (ix3 b t k) - Ideal.div (∑ k, v (ix3 b t k)) (Ideal.ofBits FTy.f32 1149239296#32)) *
      (v (ix3 b t k) - Ideal.div (∑ k, v (ix3 b t k)) (Ideal.ofBits FTy.f32 1149239296#32)) := fun k => by
    pointwise
    simp only [centred_apply, mean_apply]
  simp only [h]
  rfl

/-- One entry of the reference's result, of the arguments. -/
theorem result_apply (x0 : FVec Ideal S128x8x1024 .f32) (x1 : FVec Ideal S1024x16 .f32) (x2 : FVec Ideal S128x8x1024 .f32) (x3 : FVec Ideal S128x6144 .f32)
    (x4 x5 : FVec Ideal S4x16x1024x512 .f32) (x6 : FVec Ideal S4x16x512x1024 .f32) (x7 x8 : FVec Ideal S1024 .f32)
    (b : Fin 128) (t : Fin 8) (d : Fin 1024) :
    result x0 x1 x2 x3 x4 x5 x6 x7 x8 (ix3 b t d) =
      Moe.norm (fun n => Ideal.ofBits FTy.f32 1071072509#32 * x2 (ix3 b t n) + (1 + x3 (ix2 b ⟨5120 + n.val, by omega⟩)) *
        ∑ e : Fin 16, x1 (ix2 ⟨b.val * 8 + t.val, by omega⟩ e) * ∑ f : Fin 512, x6 (ix4 3 e f n) *
          Moe.hidden (fun k => x0 (ix3 b t k)) (fun k => x4 (ix4 3 e k f)) (fun k => x5 (ix4 3 e k f)))
        (x7 (ix1 d)) (x8 (ix1 d)) d := by
  unfold result
  rw [rows_apply]
  simp only [resid_apply, mix_apply, units_apply, up_apply]
  rfl

variable (m : (ℓ : Loc nD τ sig) → Buf (Elt Ideal) ℓ)

/-- The reference run's result is the one stated of the arguments. -/
theorem res_eq (c : Dev nD) : Value.res_main_v54 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := rfl

end Cert.Proof.MoeSampleRef

end
-- ==== Proof.MoeSampleFold.lean ====
/- The sample group's experts' call: what the scratch accumulator holds, what the last point of a run leaves, and the array after the run. -/
module

public import proofs.«01_k».proof.Proof.MoeFold
public import proofs.«01_k».proof.Proof.MoeSampleRead
public import proofs.«01_k».proof.Proof.MoeSampleRefAt
public import proofs.«01_k».proof.Proof.Gen.MoeSampleIdeal.Value

@[expose] public section

set_option maxRecDepth 16384

noncomputable section

namespace Cert.Proof.MoeSample

open Cert.MoeSampleIdeal Cert.MoeSampleIdeal.Gen
open Cert.Proof.Moe (hidden norm masked masked_eq share weigh_units)
open Idealize.ShloMosaic Idealize.ShloMosaic.TcCoe Idealize.SL.Sem

/-- One expert of the first place of a point's pair: the load of its weights. -/
theorem ld0 (w : Vec Ideal S1x2x1024x512 .bf16) (k : Fin 1024) (f : Fin 512) :
    View.ld w (Rect.unit ![0, 0, 0, 0] ![1, 1, 1024, 512] inb_S1x2x1024x512_S1x1x1024x512_0_0_0_0) (ix4 0 0 k f) = w (ix4 0 0 k f) := by
  pointwise

/-- One expert of the second place of a point's pair: the load of its weights. -/
theorem ld1 (w : Vec Ideal S1x2x1024x512 .bf16) (k : Fin 1024) (f : Fin 512) :
    View.ld w (Rect.unit ![0, 1, 0, 0] ![1, 1, 1024, 512] inb_S1x2x1024x512_S1x1x1024x512_0_1_0_0) (ix4 0 0 k f) = w (ix4 0 1 k f) := by
  pointwise

/-- What a point leaves in the accumulator, of its blocks and of what the accumulator held. -/
def stepv (i : grid0.Coords) (x : Vec Ideal S128x8x1024 .f32) (g : Vec Ideal S1024x16 .f32) (wg wu : Vec Ideal S1x2x1024x512 .bf16)
    (wd : Vec Ideal S1x2x512x1024 .bf16) (acc : Vec Ideal S1024x1024 .f32) : Vec Ideal S1024x1024 .f32 :=
  k0_pay1 (BitVec.ofNat 32 (i 2).val) (k0_pay4 x) g (iota Kind.tc S1024x16 32 [1] iota_S1024x16_d1_w32)
    (k0_pay5 i x g (View.ld wg (Rect.unit ![0, 0, 0, 0] ![1, 1, 1024, 512] inb_S1x2x1024x512_S1x1x1024x512_0_0_0_0))
      (View.ld wu (Rect.unit ![0, 0, 0, 0] ![1, 1, 1024, 512] inb_S1x2x1024x512_S1x1x1024x512_0_0_0_0)))
    (k0_pay6 (View.ld wg (Rect.unit ![0, 1, 0, 0] ![1, 1, 1024, 512] inb_S1x2x1024x512_S1x1x1024x512_0_1_0_0))) (constant S1024x512 .f32 0x00000000#32)
    (View.ld wu (Rect.unit ![0, 1, 0, 0] ![1, 1, 1024, 512] inb_S1x2x1024x512_S1x1x1024x512_0_1_0_0)) wd acc

/-- The accumulator's entry after a point, of the weights that the point loads. -/
theorem step_core (i : grid0.Coords) (x : Vec Ideal S128x8x1024 .f32) (g : Vec Ideal S1024x16 .f32) (a0 b0 a1 b1 : Vec Ideal S1x1x1024x512 .bf16)
    (wd : Vec Ideal S1x2x512x1024 .bf16) (acc : Vec Ideal S1024x1024 .f32) (r d : Fin 1024) (e0 e1 : Fin 16)
    (wg0 wu0 wg1 wu1 : Fin 1024 → Fin 512 → EReal)
    (ha0 : ∀ k f, a0 (ix4 0 0 k f) = wg0 k f) (hb0 : ∀ k f, b0 (ix4 0 0 k f) = wu0 k f)
    (ha1 : ∀ k f, a1 (ix4 0 0 k f) = wg1 k f) (hb1 : ∀ k f, b1 (ix4 0 0 k f) = wu1 k f)
    (h0 : e0.val = 2 * (i 2).val) (h1 : e1.val = 2 * (i 2).val + 1)
    (hg : ∀ e, 0 ≤ (g (ix2 r e) : EReal) ∧ (g (ix2 r e) : EReal) ≠ ⊤) :
    k0_pay1 (BitVec.ofNat 32 (i 2).val) (k0_pay4 x) g (iota Kind.tc S1024x16 32 [1] iota_S1024x16_d1_w32)
      (k0_pay5 i x g a0 b0) (k0_pay6 a1) (constant S1024x512 .f32 0x00000000#32) b1 wd acc (ix2 r d) = acc (ix2 r d) +
      (share (g (ix2 r e0)) (fun k => x (ix3 (request r) (step r) k)) wg0 wu0 (fun f => wd (ix4 0 0 f d)) +
       share (g (ix2 r e1)) (fun k => x (ix3 (request r) (step r) k)) wg1 wu1 (fun f => wd (ix4 0 1 f d))) := by
  have m0 : masked (fun l => g (ix2 r l)) (Scalar.addi (Scalar.muli (BitVec.ofNat 32 (i 2).val) 2#32) 0#32) = g (ix2 r e0) :=
    (masked_eq (fun l => g (ix2 r l)) (i 2) 0).trans (congrArg (fun l => g (ix2 r l)) (Fin.ext h0.symm))
  have m1 : masked (fun l => g (ix2 r l)) (Scalar.addi (Scalar.muli (BitVec.ofNat 32 (i 2).val) 2#32) 1#32) = g (ix2 r e1) :=
    (masked_eq (fun l => g (ix2 r l)) (i 2) 1).trans (congrArg (fun l => g (ix2 r l)) (Fin.ext h1.symm))
  rw [step_apply]
  simp only [hidden_apply, ha0, hb0, ha1, hb1, m0, m1]
  rw [weigh_units _ (hg e0).1 (hg e0).2, weigh_units _ (hg e1).1 (hg e1).2]
  rfl

/-- A point adds the shares of its two experts. -/
theorem stepv_apply (i : grid0.Coords) (x : Vec Ideal S128x8x1024 .f32) (g : Vec Ideal S1024x16 .f32) (wg wu : Vec Ideal S1x2x1024x512 .bf16)
    (wd : Vec Ideal S1x2x512x1024 .bf16) (acc : Vec Ideal S1024x1024 .f32) (r d : Fin 1024) (e0 e1 : Fin 16)
    (h0 : e0.val = 2 * (i 2).val) (h1 : e1.val = 2 * (i 2).val + 1)
    (hg : ∀ e, 0 ≤ (g (ix2 r e) : EReal) ∧ (g (ix2 r e) : EReal) ≠ ⊤) :
    stepv i x g wg wu wd acc (ix2 r d) = acc (ix2 r d) +
      (share (g (ix2 r e0)) (fun k => x (ix3 (request r) (step r) k)) (fun k f => wg (ix4 0 0 k f)) (fun k f => wu (ix4 0 0 k f)) (fun f => wd (ix4 0 0 f d)) +
       share (g (ix2 r e1)) (fun k => x (ix3 (request r) (step r) k)) (fun k f => wg (ix4 0 1 k f)) (fun k f => wu (ix4 0 1 k f)) (fun f => wd (ix4 0 1 f d))) :=
  step_core i x g _ _ _ _ wd acc r d e0 e1 _ _ _ _ (ld0 wg) (ld0 wu) (ld1 wg) (ld1 wu) h0 h1 hg

variable (m : (ℓ : Loc nD τ sig) → Buf (Elt Ideal) ℓ)

/-- The first point of a run starts the accumulator at zero. -/
theorem scratch_A (c : Dev nD) (t : Fin cfg0.N) (h0 : t.val % 8 = 0) (h1 : ¬ t.val % 8 = 7) :
    (outsAt0 m c t.val t.isLt).2 = stepv (grid0.coords t) (iblk m c 0 t) (iblk m c 1 t) (iblk m c 4 t) (iblk m c 5 t) (iblk m c 6 t) (k0_pay3 (F := Ideal)) := by
  rw [outsAt0_A m c t h0 h1]
  frame_out
  rfl

/-- A later point adds to what the point before left. -/
theorem scratch_B (c : Dev nD) (t : Fin cfg0.N) (h0 : ¬ t.val % 8 = 0) (h1 : ¬ t.val % 8 = 7) :
    (outsAt0 m c t.val t.isLt).2 = stepv (grid0.coords t) (iblk m c 0 t) (iblk m c 1 t) (iblk m c 4 t) (iblk m c 5 t) (iblk m c 6 t)
      (outsAt0 m c (t.val - 1) (Nat.lt_of_le_of_lt (Nat.sub_le _ _) t.isLt)).2 := by
  rw [outsAt0_B m c t h0 h1]
  frame_out
  exact congrArg (stepv (grid0.coords t) (iblk m c 0 t) (iblk m c 1 t) (iblk m c 4 t) (iblk m c 5 t) (iblk m c 6 t)) (Memref.IsWhole.read_unread _ _)

/-- So does the last point of a run. -/
theorem scratch_C (c : Dev nD) (t : Fin cfg0.N) (h0 : ¬ t.val % 8 = 0) (h1 : t.val % 8 = 7) :
    (outsAt0 m c t.val t.isLt).2 = stepv (grid0.coords t) (iblk m c 0 t) (iblk m c 1 t) (iblk m c 4 t) (iblk m c 5 t) (iblk m c 6 t)
      (outsAt0 m c (t.val - 1) (Nat.lt_of_le_of_lt (Nat.sub_le _ _) t.isLt)).2 := by
  rw [outsAt0_C m c t h0 h1]
  frame_out
  exact congrArg (stepv (grid0.coords t) (iblk m c 0 t) (iblk m c 1 t) (iblk m c 4 t) (iblk m c 5 t) (iblk m c 6 t)) (Memref.IsWhole.read_unread _ _)

/-- The last point of a run writes the normalised rows of what it leaves in the accumulator. -/
theorem out_C (c : Dev nD) (t : Fin cfg0.N) (h0 : ¬ t.val % 8 = 0) (h1 : t.val % 8 = 7) :
    (outsAt0 m c t.val t.isLt).1 = k0_pay2 (outsAt0 m c t.val t.isLt).2 (iblk m c 2 t) (iblk m c 3 t) (iblk m c 7 t) (iblk m c 8 t) := by
  rw [scratch_C m c t h0 h1, outsAt0_C m c t h0 h1]
  frame_out
  exact congrArg (fun a => k0_pay2 (stepv (grid0.coords t) (iblk m c 0 t) (iblk m c 1 t) (iblk m c 4 t) (iblk m c 5 t) (iblk m c 6 t) a) (iblk m c 2 t) (iblk m c 3 t) (iblk m c 7 t) (iblk m c 8 t)) (Memref.IsWhole.read_unread _ _)

end Cert.Proof.MoeSample

end
-- ==== Proof.MoeSampleValue.lean ====
/- The sample group's experts' call: the array after the run is the reference's result. -/
module

public import proofs.«01_k».proof.Proof.MoeSampleFold

@[expose] public section

set_option maxRecDepth 16384

noncomputable section

namespace Cert.Proof.MoeSample

open Cert.MoeSampleIdeal Cert.MoeSampleIdeal.Gen
open Cert.Proof.Moe (share sum_pairs)
open Idealize.ShloMosaic Idealize.ShloMosaic.TcCoe Idealize.SL.Sem

/-- What the precondition says of one weight. -/
theorem gate_of_pre [Cert.Pre_sample_gates_finite.Facts] (x0 x1 x2 x3 x4 x5 x6 x7 x8)
    (h : Cert.Pre_sample_gates_finite.fn (F := Ideal) x0 x1 x2 x3 x4 x5 x6 x7 x8 = fun _ => 1#1) (r : Fin 1024) (e : Fin 16) :
    0 ≤ (x1 (ix2 r e) : EReal) ∧ (x1 (ix2 r e) : EReal) ≠ ⊤ := by
  have := congrFun h (ix2 r e)
  revert this
  pointwise [Cert.Pre_sample_gates_finite.fn]
  have h1 : Ideal.ofBits FTy.f32 2139095040#32 = ⊤ := by
    simp [Ideal.ofBits, Ideal.ieee]
  rw [h1]
  intro h2
  by_cases ha : (0 : EReal) ≤ x1 (ix2 r e)
  · by_cases hb : (x1 (ix2 r e) : EReal) < ⊤
    · exact ⟨ha, hb.ne⟩
    · simp [hb, IntOp.andi] at h2
  · simp [ha, IntOp.andi] at h2

variable (m : (ℓ : Loc nD τ sig) → Buf (Elt Ideal) ℓ)

/-- The weights of the experts. -/
def gate (c : Dev nD) : Vec Ideal S1024x16 .f32 := m ((c : Thread nD τ).loc main_arg1)

/-- What one expert gives one entry of a token's row, of the arguments. -/
def part (c : Dev nD) (b : Fin 128) (q : Fin 8) (d : Fin 1024) (e : Fin 16) : EReal :=
  share (gate m c (ix2 (row b q) e))
    (fun k => (m ((c : Thread nD τ).loc main_arg0) : Vec Ideal S128x8x1024 .f32) (ix3 b q k))
    (fun k f => (m ((c : Thread nD τ).loc main_arg4) : Vec Ideal S4x16x1024x512 .f32) (ix4 3 e k f))
    (fun k f => (m ((c : Thread nD τ).loc main_arg5) : Vec Ideal S4x16x1024x512 .f32) (ix4 3 e k f))
    (fun f => (m ((c : Thread nD τ).loc main_arg6) : Vec Ideal S4x16x512x1024 .f32) (ix4 3 e f d))

/-- What a point adds at one entry of the accumulator. -/
def term (c : Dev nD) (t : Fin cfg0.N) (j : S1024x1024.Idx) : EReal :=
  part m c (request (j 0)) (step (j 0)) (j 1) (expert t 0) + part m c (request (j 0)) (step (j 0)) (j 1) (expert t 1)

/-- A point's place in its run. -/
theorem coord : ∀ t : Fin cfg0.N, (grid0.coords t 2).val = t.val :=
  (by decide +kernel : ∀ t : Fin grid0.N, _)

/-- A point adds its term. -/
theorem step_at (c : Dev nD) (hg : ∀ r e, 0 ≤ (gate m c (ix2 r e) : EReal) ∧ (gate m c (ix2 r e) : EReal) ≠ ⊤)
    (t : Fin cfg0.N) (acc : Vec Ideal S1024x1024 .f32) (j : S1024x1024.Idx) :
    stepv (grid0.coords t) (iblk m c 0 t) (iblk m c 1 t) (iblk m c 4 t) (iblk m c 5 t) (iblk m c 6 t) acc j
      = acc j + term m c t j := by
  idx_vars j
  have hr : ∀ l, (iblk m c 1 t : Vec Ideal S1024x16 .f32) (ix2 j0 l) = gate m c (ix2 (row (request j0) (step j0)) l) :=
    fun l => (read1 m c t j0 l).trans (congrArg (fun i => gate m c (ix2 i l)) (row_eq j0).symm)
  refine (stepv_apply (grid0.coords t) (iblk m c 0 t) (iblk m c 1 t) (iblk m c 4 t) (iblk m c 5 t) (iblk m c 6 t) acc j0 j1 (expert t 0) (expert t 1)
    (by rw [coord t]; simp only [expert]; omega) (by rw [coord t]; simp only [expert]; omega) (fun l => by rw [hr l]; exact hg _ _)).trans ?_
  simp only [hr, read0, read4, read5, read6]
  rfl

/-- The accumulator after the last point of a run. -/
theorem scratch_last (c : Dev nD) (hg : ∀ r e, 0 ≤ (gate m c (ix2 r e) : EReal) ∧ (gate m c (ix2 r e) : EReal) ≠ ⊤)
    (t : Fin cfg0.N) (ht : t.val % 8 = 7) (j : S1024x1024.Idx) :
    ((outsAt0 m c t.val t.isLt).2 j : EReal) = ∑ e, part m c (request (j 0)) (step (j 0)) (j 1) e := by
  have h := Pipeline.eq_sum_fin_of_reset_step_apply_of_flush (M := EReal) (fun n h => (outsAt0 m c n h).2) 8 (fun _ => 0) (term m c)
    (fun t h0 j => by
      rw [scratch_A m c t h0 (by omega), step_at m c hg t]
      idx_vars j
      rw [zero_apply])
    (fun t h0 j => by
      by_cases h1 : t.val % 8 = 7
      · rw [scratch_C m c t h0 h1, step_at m c hg t]
      · rw [scratch_B m c t h0 h1, step_at m c hg t])
    t ht j
  refine h.trans ?_
  rw [zero_add, ← sum_pairs]
  refine Finset.sum_congr rfl fun s _ => ?_
  have hN : t.val < 8 := t.isLt
  have he : ∀ a : Fin 2, (expert ⟨8 * (t.val / 8) + s.val, Pipeline.run_point_lt_of_flush t ht s⟩ a).val = 2 * s.val + a.val := fun a => by
    simp only [expert]; omega
  unfold term
  congr 2
  · exact Fin.ext (he 0)
  · exact Fin.ext (he 1)

/-- The accumulator after the last point of a run, at a request's step. -/
theorem scratch_row (c : Dev nD) (hg : ∀ r e, 0 ≤ (gate m c (ix2 r e) : EReal) ∧ (gate m c (ix2 r e) : EReal) ≠ ⊤)
    (t : Fin cfg0.N) (ht : t.val % 8 = 7) (b : Fin 128) (q : Fin 8) (d : Fin 1024) :
    ((outsAt0 m c t.val t.isLt).2 (ix2 (row b q) d) : EReal) = ∑ e, part m c b q d e := by
  refine (scratch_last m c hg t ht _).trans ?_
  show ∑ e, part m c (request (row b q)) (step (row b q)) d e = _
  rw [request_row, step_row]

/-- The reference's result, of the arguments. -/
def ref (c : Dev nD) : FVec Ideal Cert.MoeSampleRefIdeal.S128x8x1024 .f32 :=
  MoeSampleRef.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The block that the last point of a run writes is the reference's. -/
theorem point (c : Dev nD) (hg : ∀ r e, 0 ≤ (gate m c (ix2 r e) : EReal) ∧ (gate m c (ix2 r e) : EReal) ≠ ⊤)
    (t : Fin cfg0.N) (ht : t.val % 8 = 7) (y : S128x8x1024.Idx) :
    (outsAt0 m c t.val t.isLt).1 y = ref m c ((win0_9.blk t).view.emb y) := by
  rw [out_C m c t (by omega) ht]
  idx_vars y
  refine Eq.trans ?_ (congrArg (ref m c) (emb9 t y0 y1 y2)).symm
  unfold ref
  rw [MoeSampleRef.result_apply, norm_apply, read7, read8]
  simp only [scratch_row m c hg t ht, read2, read3]
  rfl

/-- The array after the run: the reference's result. -/
theorem final (c : Dev nD) (hg : ∀ r e, 0 ≤ (gate m c (ix2 r e) : EReal) ∧ (gate m c (ix2 r e) : EReal) ≠ ⊤) :
    (dats m 0 c).arrAt 9 cfg0.N = ref m c :=
  (dats m 0 c).arrAt_eq_of_covers 9 _ (by decide +kernel) fun t hf y => by
    blk_simp
    rw [after0_9]
    exact point m c hg t ((flush0_9 t).mp hf) y

end Cert.Proof.MoeSample

end
-- ==== Proof.GatingPromptPay.lean ====
/- The prompt's gating call: what its payloads compute at one element. -/
module

public import proofs.«01_k».proof.Proof.Gen.GatingPromptIdeal.Skeleton
public import proofs.«01_k».proof.Proof.GatingPay

@[expose] public section

set_option maxRecDepth 16384

noncomputable section

namespace Cert.Proof.GatingPrompt

open Cert.GatingPromptIdeal Cert.GatingPromptIdeal.Gen
open Idealize.ShloMosaic Idealize.ShloMosaic.TcCoe Idealize.SL.Sem

/-- A weight of the row of number `s` at the row of number `t` of a chunk: none where `s` is the later one. -/
def causal (t s : Fin 128) (w : EReal) : EReal := if s.val ≤ t.val then w else 0

/-- A comparison of two row numbers, as words, selects the weight or zero. -/
theorem select_causal (t s : Fin 128) (w : EReal) :
    Scalar.select (IntOp.cmpi CmpIPredicate.sle (BitVec.ofNat 32 s.val) (BitVec.ofNat 32 t.val)) w 0 = causal t s w := by
  have h : ∀ t s : Fin 128, IntOp.cmpi CmpIPredicate.sle (BitVec.ofNat 32 s.val) (BitVec.ofNat 32 t.val)
      = if s.val ≤ t.val then 1#1 else 0#1 := by decide +kernel
  rw [h]
  unfold causal
  split <;> rfl

/-- The row numbers, as the body compares them. -/
abbrev rowNo : IVec S128x128 32 := iota .tc S128x128 32 [0] iota_S128x128_d0_w32

/-- The column numbers, as the body compares them. -/
abbrev colNo : IVec S128x128 32 := iota .tc S128x128 32 [1] iota_S128x128_d1_w32

/-- The group of every column, as the body computes it. -/
abbrev groups : IVec S128x512 32 :=
  k0_pay5 (iota .tc S128x512 32 [1] iota_S128x512_d1_w32) 64#32 k0_pay3 k0_pay4 (Scalar.extui (Scalar.cmpi .sgt 64#32 0#32)) (Scalar.cmpi .slt 64#32 0#32)

/-- One column's group. -/
theorem groups_apply (s : Fin 128) (d : Fin 512) : groups (ix2 s d) = BitVec.ofNat 32 (d.val / 64) := by
  pointwise [groups, k0_pay5, k0_pay3, k0_pay4]
  revert d
  decide +kernel

/-- The normalised rows at one entry. -/
theorem norm_apply (v : Vec Ideal S1x512x512 .f32) (lg lb : Vec Ideal S1x512 .f32) (r d : Fin 512) :
    k0_pay2 v lg lb (ix2 r d) = Gating.norm (fun n => v (ix3 0 r n)) (lg (ix2 0 d)) (lb (ix2 0 d)) d := by
  pointwise [k0_pay2]
  rfl

/-- A group's weights with none from a later row, as the body keeps them. -/
def lower (w : Vec Ideal S1x128x128 .f32) : FVec Ideal S128x128 .bf16 := k0_pay6 rowNo colNo w

/-- One weight of the lower triangle. -/
theorem lower_apply (w : Vec Ideal S1x128x128 .f32) (t s : Fin 128) : lower w (ix2 t s) = causal t s (w (ix3 0 t s)) := by
  rw [← select_causal]
  unfold lower
  pointwise [k0_pay6]

/-- One group's weighted sums over the rows of a chunk, with zeros in the columns of the other groups. -/
def part (k : BitVec 32) (w : FVec Ideal S128x128 .bf16) (v : FVec Ideal S128x512 .bf16) : FVec Ideal S128x512 .f32 :=
  matmul dot_S128x128_S128x512_S128x512_1_0_0_1_n_n none w
    (select (cmpi .eq groups (broadcast S128x512 k)) v (broadcast S128x512 (Scalar.ofBits .bf16 0x0000#16))) (constant S128x512 .f32 0x00000000#32)

/-- One entry of one group's weighted sums. -/
theorem part_apply (k : BitVec 32) (w : FVec Ideal S128x128 .bf16) (v : FVec Ideal S128x512 .bf16) (t : Fin 128) (d : Fin 512) :
    part k w v (ix2 t d) = if BitVec.ofNat 32 (d.val / 64) = k then ∑ s : Fin 128, w (ix2 t s) * v (ix2 s d) else 0 := by
  unfold part
  pointwise
  simp only [groups_apply]
  by_cases h : BitVec.ofNat 32 (d.val / 64) = k
  · rw [if_pos h, h]
    simp [IntOp.cmpi, Scalar.select]
  · rw [if_neg h]
    simp [IntOp.cmpi, Scalar.select, beq_eq_false_iff_ne.mpr h]

/-- The mixed rows of a chunk: the bias and every group's weighted sums. -/
def mix (b : FVec Ideal S128x512 .f32) (w0 w1 w2 w3 w4 w5 w6 w7 : FVec Ideal S128x128 .bf16) (v : FVec Ideal S128x512 .bf16) : FVec Ideal S128x512 .f32 :=
  addf (addf (addf (addf (addf (addf (addf (addf b (part 0#32 w0 v)) (part 1#32 w1 v)) (part 2#32 w2 v)) (part 3#32 w3 v)) (part 4#32 w4 v))
    (part 5#32 w5 v)) (part 6#32 w6 v)) (part 7#32 w7 v)

/-- The gated rows of a chunk. -/
def gate (u : Vec Ideal S1x128x512 .f32) (y : FVec Ideal S128x512 .f32) : FVec Ideal S1x128x512 .bf16 :=
  shapeCast S1x128x512 (truncf .bf16 (mulf (shapeCast S128x512 u shapeCasts_S1x128x512_S128x512) y) bitsLt_bf16_f32) shapeCasts_S128x512_S1x128x512

/-- One entry of the mixed rows: the bias and the sum of the group that the column belongs to. -/
theorem mix_apply (b : FVec Ideal S128x512 .f32) (w : Fin 8 → FVec Ideal S128x128 .bf16) (v : FVec Ideal S128x512 .bf16) (t : Fin 128) (d : Fin 512) :
    mix b (w 0) (w 1) (w 2) (w 3) (w 4) (w 5) (w 6) (w 7) v (ix2 t d) =
      b (ix2 t d) + ∑ s : Fin 128, w ⟨d.val / 64, by omega⟩ (ix2 t s) * v (ix2 s d) := by
  unfold mix
  pointwise
  simp only [part_apply]
  obtain ⟨g, hg⟩ : ∃ g : Fin 8, g = ⟨d.val / 64, by omega⟩ := ⟨_, rfl⟩
  have hd : d.val / 64 = g.val := by rw [hg]
  rw [← hg]
  simp only [hd]
  clear hd hg
  fin_cases g <;> simp

/-- One entry of the gated rows. -/
theorem gate_apply (u : Vec Ideal S1x128x512 .f32) (y : FVec Ideal S128x512 .f32) (t : Fin 128) (d : Fin 512) :
    gate u y (ix3 0 t d) = u (ix3 0 t d) * y (ix2 t d) := by
  pointwise [gate]

/-- The rows of the four chunks of a block, one after the other. -/
theorem chunks_apply (v : FVec Ideal S512x512 .f32) (t : Fin 128) (d : Fin 512) :
    k0_pay16 v (ix2 t d) = v (ix2 ⟨t.val, by omega⟩ d) ∧ k0_pay21 v (ix2 t d) = v (ix2 ⟨128 + t.val, by omega⟩ d)
    ∧ k0_pay25 v (ix2 t d) = v (ix2 ⟨256 + t.val, by omega⟩ d) ∧ k0_pay30 v (ix2 t d) = v (ix2 ⟨384 + t.val, by omega⟩ d) := by
  refine ⟨?_, ?_, ?_, ?_⟩
  · pointwise [k0_pay16]
  · pointwise [k0_pay21]
  · pointwise [k0_pay25]
  · pointwise [k0_pay30]

variable (v : FVec Ideal S512x512 .f32) (w0 w1 w2 w3 w4 w5 w6 w7 : FVec Ideal S128x128 .bf16) (b : Vec Ideal S128x512 .f32) (u : Vec Ideal S1x128x512 .f32)

/-- What the body stores for the first chunk. -/
theorem chunk0 : k0_pay20 (k0_pay19 groups w2 w3 w4 w5 w6 w7 (k0_pay16 v) (k0_pay17 v groups w0 w1 b) k0_pay18 u)
    = gate u (mix (shapeCast S128x512 b shapeCasts_S128x512_S128x512) w0 w1 w2 w3 w4 w5 w6 w7 (k0_pay16 v)) := rfl

/-- What the body stores for the second chunk. -/
theorem chunk1 : k0_pay24 groups w5 w6 w7 (k0_pay21 v) (k0_pay22 v groups w0 w1 w2 w3 w4 b) (k0_pay23 groups) u
    = gate u (mix (shapeCast S128x512 b shapeCasts_S128x512_S128x512) w0 w1 w2 w3 w4 w5 w6 w7 (k0_pay21 v)) := rfl

/-- What the body stores for the third chunk. -/
theorem chunk2 : k0_pay29 (k0_pay28 groups w1 w2 w3 w4 w5 w6 w7 (k0_pay25 v) (k0_pay26 v groups w0 b) (k0_pay27 v groups) (constant S128x512 .f32 0x00000000#32)) u
    = gate u (mix (shapeCast S128x512 b shapeCasts_S128x512_S128x512) w0 w1 w2 w3 w4 w5 w6 w7 (k0_pay25 v)) := rfl

/-- What the body stores for the fourth chunk. -/
theorem chunk3 : k0_pay1 groups w5 w6 w7 (k0_pay30 v) (k0_pay31 v groups w0 w1 w2 w3 b) (k0_pay32 v groups w4) u
    = gate u (mix (shapeCast S128x512 b shapeCasts_S128x512_S128x512) w0 w1 w2 w3 w4 w5 w6 w7 (k0_pay30 v)) := rfl

end Cert.Proof.GatingPrompt

end
-- ==== Proof.GatingPromptEntry.lean ====
/- What the prompt's gating call finds in the buffers that the host prepares. -/
module

public import proofs.«01_k».proof.Proof.GatingPromptPay
public import proofs.«01_k».proof.Proof.Gen.GatingPromptIdeal.Value

@[expose] public section

set_option maxRecDepth 16384

noncomputable section

namespace Cert.Proof.GatingPrompt

open Cert.GatingPromptIdeal Cert.GatingPromptIdeal.Gen
open Idealize.ShloMosaic Idealize.ShloMosaic.TcCoe Idealize.SL.Sem

/-- The bias as the host lays it out: every group's at each of its columns. -/
def biases (b : FVec Ideal S8x128 .f32) : FVec Ideal S128x512 .f32 :=
  shapeCast S128x512 (broadcastInDim S128x8x64 ![0, 1] bcast_S128x8_S128x8x64_0_1 (transpose S128x8 [1, 0] b transposes_S8x128_S128x8_1_0))
    shapeCasts_S128x8x64_S128x512

/-- One bias of the layout. -/
theorem biases_apply (b : FVec Ideal S8x128 .f32) (t : Fin 128) (d : Fin 512) :
    biases b (ix2 t d) = b (ix2 ⟨d.val / 64, by omega⟩ t) := by
  pointwise [biases]

/-- A row as the host hands it over. -/
theorem row_apply (v : FVec Ideal S512 .f32) (d : Fin 512) : shapeCast S1x512 v shapeCasts_S512_S1x512 (ix2 0 d) = v (ix1 d) := by
  pointwise

variable (m : (ℓ : Loc nD τ sig) → Buf (Elt Ideal) ℓ)

/-- The bias as the call finds it. -/
theorem entry_b (c : Dev nD) : V m c main_v2 = biases (m ((c : Thread nD τ).loc main_arg4)) := by
  entry_read
  rfl

/-- The scale as the call finds it. -/
theorem entry_g (c : Dev nD) : V m c main_v3 = shapeCast S1x512 (m ((c : Thread nD τ).loc main_arg1)) shapeCasts_S512_S1x512 := by
  entry_read
  rfl

/-- The shift as the call finds it. -/
theorem entry_s (c : Dev nD) : V m c main_v4 = shapeCast S1x512 (m ((c : Thread nD τ).loc main_arg2)) shapeCasts_S512_S1x512 := by
  entry_read
  rfl

end Cert.Proof.GatingPrompt

end
-- ==== Proof.GatingPromptRefAt.lean ====
/- The prompt's gating call: the reference's result at one element. -/
module

public import proofs.«01_k».proof.Proof.Gen.GatingPromptRefIdeal.Run
public import proofs.«01_k».proof.Proof.GatingPromptPay

@[expose] public section

set_option maxRecDepth 16384

noncomputable section

namespace Cert.Proof.GatingPromptRef

open Cert.GatingPromptRefIdeal Cert.GatingPromptRefIdeal.Gen
open Idealize.ShloMosaic Idealize.ShloMosaic.TcCoe Idealize.SL.Sem

/-- The columns that are gated. -/
def gated (z : FVec Ideal S4x4096x6656 .f32) : FVec Ideal S4x4096x512 .f32 :=
  extractStridedSlice S4x4096x512 ![0, 0, 0] (extractStridedSlice S4x4096x1024 ![0, 0, 1024] z slices_S4x4096x6656_S4x4096x1024_0_0_1024) slices_S4x4096x1024_S4x4096x512_0_0_0

/-- The columns that are normalised and mixed. -/
def mixed (z : FVec Ideal S4x4096x6656 .f32) : FVec Ideal S4x4096x512 .f32 :=
  extractStridedSlice S4x4096x512 ![0, 0, 512] (extractStridedSlice S4x4096x1024 ![0, 0, 1024] z slices_S4x4096x6656_S4x4096x1024_0_0_1024) slices_S4x4096x1024_S4x4096x512_0_0_512

/-- The mean of every row. -/
def mean (v : FVec Ideal S4x4096x512 .f32) : FVec Ideal S4x4096x1 .f32 :=
  Host.divf (broadcastInDim S4x4096x1 ![0, 1] bcast_S4x4096_S4x4096x1_0_1 (Host.reduceAdd v (constant S_ .f32 0x00000000#32) reducesTo_S4x4096x512_S4x4096_d2 h_S_)) (broadcastInDim S4x4096x1 ![] bcast_S_S4x4096x1 (constant S_ .f32 0x44000000#32))

/-- Every row less its mean. -/
def centred (v : FVec Ideal S4x4096x512 .f32) : FVec Ideal S4x4096x512 .f32 :=
  subf v (broadcastInDim S4x4096x512 ![0, 1, 2] bcast_S4x4096x1_S4x4096x512_0_1_2 (mean v))

/-- Every row normalised, scaled and shifted. -/
def rows (v : FVec Ideal S4x4096x512 .f32) (lg lb : FVec Ideal S512 .f32) : FVec Ideal S4x4096x512 .f32 :=
  addf (mulf (mulf (centred v) (broadcastInDim S4x4096x512 ![0, 1, 2] bcast_S4x4096x1_S4x4096x512_0_1_2 (Host.rsqrt (addf (mean (mulf (centred v) (centred v))) (broadcastInDim S4x4096x1 ![] bcast_S_S4x4096x1 (constant S_ .f32 0x3727C5AC#32)))))) (broadcastInDim S4x4096x512 ![0, 1, 2] bcast_S1x1x512_S4x4096x512_0_1_2 (broadcastInDim S1x1x512 ![2] bcast_S512_S1x1x512_2 lg))) (broadcastInDim S4x4096x512 ![0, 1, 2] bcast_S1x1x512_S4x4096x512_0_1_2 (broadcastInDim S1x1x512 ![2] bcast_S512_S1x1x512_2 lb))

/-- Which pairs of rows are in order: the second one not after the first one. -/
def order : IVec S128x128 1 :=
  select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))

/-- Every group's weights, with none from a later row. -/
def lower (w : FVec Ideal S8x128x128 .f32) : FVec Ideal S8x128x128 .f32 :=
  select (broadcastInDim S8x128x128 ![1, 2] bcast_S128x128_S8x128x128_1_2 order) w (broadcastInDim S8x128x128 ![] bcast_S_S8x128x128 (sitofp .f32 (constantI S_ 32 0#32)))

/-- The weighted sums over the rows of a chunk, group by group. -/
def sums (w : FVec Ideal S8x128x128 .f32) (v : FVec Ideal S4x4096x512 .f32) : FVec Ideal S4x32x128x8x64 .f32 :=
  transpose S4x32x128x8x64 [1, 2, 4, 0, 3] (Host.dotGeneral dot_S4x32x128x8x64_S8x128x128_S8x4x32x64x128_2_2_014_1_3_0 none (shapeCast _ v shapeCasts_S4x4096x512_S4x32x128x8x64) w) transposes_S8x4x32x64x128_S4x32x128x8x64_1_2_4_0_3

/-- The bias of every row and group. -/
def bias (b : FVec Ideal S8x128 .f32) : FVec Ideal S4x32x128x8x64 .f32 :=
  broadcastInDim S4x32x128x8x64 ![0, 1, 2, 3, 4] bcast_S1x1x128x8x1_S4x32x128x8x64_0_1_2_3_4 (broadcastInDim S1x1x128x8x1 ![2, 3] bcast_S128x8_S1x1x128x8x1_2_3 (transpose S128x8 [1, 0] b transposes_S8x128_S128x8_1_0))

/-- The gated rows, of the weighted sums and the bias. -/
def gate (u : FVec Ideal S4x4096x512 .f32) (y b : FVec Ideal S4x32x128x8x64 .f32) : FVec Ideal S4x4096x512 .bf16 :=
  truncf .bf16 (mulf u (shapeCast _ (addf y b) shapeCasts_S4x32x128x8x64_S4x4096x512)) bitsLt_bf16_f32

/-- The normalised rows, of the arguments. -/
def vchunk (x0 : FVec Ideal S4x4096x6656 .f32) (x1 x2 : FVec Ideal S512 .f32) : FVec Ideal S4x4096x512 .f32 := rows (mixed x0) x1 x2

/-- The gated rows, of the arguments: the result. -/
def result (x0 : FVec Ideal S4x4096x6656 .f32) (x1 x2 : FVec Ideal S512 .f32) (x3 : FVec Ideal S8x128x128 .f32) (x4 : FVec Ideal S8x128 .f32) :
    FVec Ideal S4x4096x512 .bf16 := gate (gated x0) (sums (lower x3) (vchunk x0 x1 x2)) (bias x4)

/-- One gated column. -/
theorem gated_apply (z : FVec Ideal S4x4096x6656 .f32) (b : Fin 4) (t : Fin 4096) (d : Fin 512) :
    gated z (ix3 b t d) = z (ix3 b t ⟨1024 + d.val, by omega⟩) := by
  pointwise [gated]

/-- One column before its normalisation. -/
theorem mixed_apply (z : FVec Ideal S4x4096x6656 .f32) (b : Fin 4) (t : Fin 4096) (d : Fin 512) :
    mixed z (ix3 b t d) = z (ix3 b t ⟨1536 + d.val, by omega⟩) := by
  pointwise [mixed]
  exact congrArg z (congrArg (ix3 b t) (Fin.ext (by simp only; omega)))

/-- The mean of one row. -/
theorem mean_apply (v : FVec Ideal S4x4096x512 .f32) (b : Fin 4) (t : Fin 4096) (z : Fin 1) :
    mean v (ix3 b t z) = Ideal.div (∑ k, v (ix3 b t k)) (Ideal.ofBits FTy.f32 1140850688#32) := by
  pointwise [mean]

/-- One entry of a row less its mean. -/
theorem centred_apply (v : FVec Ideal S4x4096x512 .f32) (b : Fin 4) (t : Fin 4096) (d : Fin 512) :
    centred v (ix3 b t d) = v (ix3 b t d) - mean v (ix3 b t 0) := by
  pointwise [centred]

/-- One entry of a normalised row. -/
theorem rows_apply (v : FVec Ideal S4x4096x512 .f32) (lg lb : FVec Ideal S512 .f32) (b : Fin 4) (t : Fin 4096) (d : Fin 512) :
    rows v lg lb (ix3 b t d) = Gating.norm (fun n => v (ix3 b t n)) (lg (ix1 d)) (lb (ix1 d)) d := by
  pointwise [rows]
  simp only [centred_apply, mean_apply]
  have h : ∀ k, (mulf (centred v) (centred v)) (ix3 b t k) = (v (ix3 b t k) - Ideal.div (∑ k, v (ix3 b t k)) (Ideal.ofBits FTy.f32 1140850688#32)) *
      (v (ix3 b t k) - Ideal.div (∑ k, v (ix3 b t k)) (Ideal.ofBits FTy.f32 1140850688#32)) := fun k => by
    pointwise
    simp only [centred_apply, mean_apply]
  simp only [h]
  rfl

/-- One pair of rows is in order, as a bit. -/
theorem order_apply (t s : Fin 128) : order (ix2 t s) = if s.val ≤ t.val then 1#1 else 0#1 := by
  revert t s
  decide +kernel

/-- One weight of the lower triangle. -/
theorem lower_apply (w : FVec Ideal S8x128x128 .f32) (g : Fin 8) (t s : Fin 128) :
    lower w (ix3 g t s) = GatingPrompt.causal t s (w (ix3 g t s)) := by
  pointwise [lower]
  rw [order_apply]
  unfold GatingPrompt.causal
  split
  · rfl
  · exact (show ((((0#32 : BitVec 32).toInt : ℝ)) : EReal) = 0 by simp)

/-- One weighted sum. -/
theorem sums_apply (w : FVec Ideal S8x128x128 .f32) (v : FVec Ideal S4x4096x512 .f32) (b : Fin 4) (c : Fin 32) (t : Fin 128) (g : Fin 8) (d : Fin 64) :
    sums w v (ix5 b c t g d) = ∑ s : Fin 128, v (ix3 b ⟨c.val * 128 + s.val, by omega⟩ ⟨g.val * 64 + d.val, by omega⟩) * w (ix3 g t s) := by
  pointwise [sums]

/-- One bias. -/
theorem bias_apply (w : FVec Ideal S8x128 .f32) (b : Fin 4) (c : Fin 32) (t : Fin 128) (g : Fin 8) (d : Fin 64) :
    bias w (ix5 b c t g d) = w (ix2 g t) := by
  pointwise [bias]

/-- One entry of the gated rows, of the weighted sums and the bias. -/
theorem gate_apply (u : FVec Ideal S4x4096x512 .f32) (y w : FVec Ideal S4x32x128x8x64 .f32) (b : Fin 4) (t : Fin 4096) (d : Fin 512) :
    gate u y w (ix3 b t d) = u (ix3 b t d) *
      (y (ix5 b ⟨t.val / 128, by omega⟩ ⟨t.val % 128, by omega⟩ ⟨d.val / 64, by omega⟩ ⟨d.val % 64, by omega⟩) + w (ix5 b ⟨t.val / 128, by omega⟩ ⟨t.val % 128, by omega⟩ ⟨d.val / 64, by omega⟩ ⟨d.val % 64, by omega⟩)) := by
  pointwise [gate]

/-- One entry of the normalised rows, of the arguments. -/
theorem vchunk_apply (x0 : FVec Ideal S4x4096x6656 .f32) (x1 x2 : FVec Ideal S512 .f32) (b : Fin 4) (t : Fin 4096) (d : Fin 512) :
    vchunk x0 x1 x2 (ix3 b t d) = Gating.norm (fun n => x0 (ix3 b t ⟨1536 + n.val, by omega⟩)) (x1 (ix1 d)) (x2 (ix1 d)) d := by
  unfold vchunk
  rw [rows_apply]
  simp only [mixed_apply]

/-- One entry of the result, of the arguments. -/
theorem result_apply (x0 : FVec Ideal S4x4096x6656 .f32) (x1 x2 : FVec Ideal S512 .f32) (x3 : FVec Ideal S8x128x128 .f32) (x4 : FVec Ideal S8x128 .f32)
    (b : Fin 4) (t : Fin 4096) (d : Fin 512) :
    result x0 x1 x2 x3 x4 (ix3 b t d) = x0 (ix3 b t ⟨1024 + d.val, by omega⟩) *
      (∑ s : Fin 128, vchunk x0 x1 x2 (ix3 b ⟨t.val / 128 * 128 + s.val, by omega⟩ d) *
          GatingPrompt.causal ⟨t.val % 128, by omega⟩ s (x3 (ix3 ⟨d.val / 64, by omega⟩ ⟨t.val % 128, by omega⟩ s)) +
        x4 (ix2 ⟨d.val / 64, by omega⟩ ⟨t.val % 128, by omega⟩)) := by
  have h : (⟨d.val / 64 * 64 + d.val % 64, by omega⟩ : Fin 512) = d := Fin.ext (by simp only; omega)
  unfold result
  rw [gate_apply, gated_apply, sums_apply, bias_apply]
  simp only [lower_apply, h]

variable (m : (ℓ : Loc nD τ sig) → Buf (Elt Ideal) ℓ)

/-- The reference run's result is the one stated of the arguments. -/
theorem res_eq (c : Dev nD) : Value.res_main_v39 m c = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Cert.Proof.GatingPromptRef

end
-- ==== Proof.GatingPromptValue.lean ====
/- What the prompt's gating call leaves in its array: the reference's result. -/
module

public import proofs.«01_k».proof.Proof.GatingPromptEntry
public import proofs.«01_k».proof.Proof.GatingPromptRefAt

@[expose] public section

set_option maxRecDepth 16384

noncomputable section

namespace Cert.Proof.GatingPrompt

open Cert.GatingPromptIdeal Cert.GatingPromptIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices: a point takes one request and 512 of its tokens. -/
theorem idx : ∀ t : Fin cfg0.N, win0_0.index t = ![t.val / 8, t.val % 8, 2] ∧ win0_1.index t = ![t.val / 8, t.val % 8, 3]
    ∧ win0_2.index t = ![0, 0] ∧ win0_3.index t = ![0, 0] ∧ win0_4.index t = ![0, 0, 0] ∧ win0_5.index t = ![0, 0]
    ∧ win0_6.index t = ![t.val / 8, t.val % 8, 0] :=
  (by decide +kernel : ∀ t : Fin grid0.N, _)

/-- The request that a block belongs to. -/
def request (t : Fin cfg0.N) : Fin 4 :=
  ⟨t.val / 8, by have : t.val < 32 := t.isLt; omega⟩

/-- The token that a row of a block belongs to. -/
def token (t : Fin cfg0.N) (i : Fin 512) : Fin 4096 :=
  ⟨t.val % 8 * 512 + i.val, by omega⟩

/-- The first block holds the gated columns. -/
theorem emb0 (t : Fin cfg0.N) (i d : Fin 512) :
    (win0_0.blk t).view.emb (ix3 0 i d) = ix3 (request t) (token t i) ⟨1024 + d.val, by omega⟩ := by
  blk_ext [idx t, request, token]

/-- The second block holds the columns to be normalised. -/
theorem emb1 (t : Fin cfg0.N) (i d : Fin 512) :
    (win0_1.blk t).view.emb (ix3 0 i d) = ix3 (request t) (token t i) ⟨1536 + d.val, by omega⟩ := by
  blk_ext [idx t, request, token]

/-- The scale's block is all of it. -/
theorem emb2 (t : Fin cfg0.N) (d : Fin 512) : (win0_2.blk t).view.emb (ix2 0 d) = ix2 0 d := by
  blk_ext [idx t]

/-- The shift's block is all of it. -/
theorem emb3 (t : Fin cfg0.N) (d : Fin 512) : (win0_3.blk t).view.emb (ix2 0 d) = ix2 0 d := by
  blk_ext [idx t]

/-- The weights' block is all of them. -/
theorem emb4 (t : Fin cfg0.N) (g : Fin 8) (i s : Fin 128) : (win0_4.blk t).view.emb (ix3 g i s) = ix3 g i s := by
  blk_ext [idx t]

/-- The bias's block is all of it. -/
theorem emb5 (t : Fin cfg0.N) (i : Fin 128) (d : Fin 512) : (win0_5.blk t).view.emb (ix2 i d) = ix2 i d := by
  blk_ext [idx t]

/-- The result's block holds its tokens. -/
theorem emb6 (t : Fin cfg0.N) (z : Fin 1) (i d : Fin 512) : (win0_6.blk t).view.emb (ix3 z i d) = ix3 (request t) (token t i) d := by
  blk_ext [idx t, request, token]

/-- A gated column, as the body reads it. -/
theorem read0 (c : Dev nD) (t : Fin cfg0.N) (i d : Fin 512) :
    (iblk m c 0 t : Vec Ideal S1x512x512 .f32) (ix3 0 i d)
    = ((m ((c : Thread nD τ).loc main_arg0)) : Vec Ideal S4x4096x6656 .f32) (ix3 (request t) (token t i) ⟨1024 + d.val, by omega⟩) :=
  congrArg ((m ((c : Thread nD τ).loc main_arg0)) : Vec Ideal S4x4096x6656 .f32) (emb0 t i d)

/-- A column to be normalised, as the body reads it. -/
theorem read1 (c : Dev nD) (t : Fin cfg0.N) (i d : Fin 512) :
    (iblk m c 1 t : Vec Ideal S1x512x512 .f32) (ix3 0 i d)
    = ((m ((c : Thread nD τ).loc main_arg0)) : Vec Ideal S4x4096x6656 .f32) (ix3 (request t) (token t i) ⟨1536 + d.val, by omega⟩) :=
  congrArg ((m ((c : Thread nD τ).loc main_arg0)) : Vec Ideal S4x4096x6656 .f32) (emb1 t i d)

/-- A scale, as the body reads it. -/
theorem read2 (c : Dev nD) (t : Fin cfg0.N) (d : Fin 512) :
    (iblk m c 2 t : Vec Ideal S1x512 .f32) (ix2 0 d) = ((m ((c : Thread nD τ).loc main_arg1)) : Vec Ideal S512 .f32) (ix1 d) :=
  (congrArg (V m c main_v3 : Vec Ideal S1x512 .f32) (emb2 t d)).trans (by rw [entry_g]; exact row_apply _ _)

/-- A shift, as the body reads it. -/
theorem read3 (c : Dev nD) (t : Fin cfg0.N) (d : Fin 512) :
    (iblk m c 3 t : Vec Ideal S1x512 .f32) (ix2 0 d) = ((m ((c : Thread nD τ).loc main_arg2)) : Vec Ideal S512 .f32) (ix1 d) :=
  (congrArg (V m c main_v4 : Vec Ideal S1x512 .f32) (emb3 t d)).trans (by rw [entry_s]; exact row_apply _ _)

/-- A weight, as the body reads it. -/
theorem read4 (c : Dev nD) (t : Fin cfg0.N) (g : Fin 8) (i s : Fin 128) :
    (iblk m c 4 t : Vec Ideal S8x128x128 .f32) (ix3 g i s) = ((m ((c : Thread nD τ).loc main_arg3)) : Vec Ideal S8x128x128 .f32) (ix3 g i s) :=
  congrArg ((m ((c : Thread nD τ).loc main_arg3)) : Vec Ideal S8x128x128 .f32) (emb4 t g i s)

/-- A bias, as the body reads it. -/
theorem read5 (c : Dev nD) (t : Fin cfg0.N) (i : Fin 128) (d : Fin 512) :
    (iblk m c 5 t : Vec Ideal S128x512 .f32) (ix2 i d)
    = ((m ((c : Thread nD τ).loc main_arg4)) : Vec Ideal S8x128 .f32) (ix2 ⟨d.val / 64, by omega⟩ i) :=
  (congrArg (V m c main_v2 : Vec Ideal S128x512 .f32) (emb5 t i d)).trans (by rw [entry_b]; exact biases_apply _ _ _)

/-- The reference's normalised rows, of the arguments. -/
def vref (c : Dev nD) : FVec Ideal Cert.GatingPromptRefIdeal.S4x4096x512 .f32 :=
  GatingPromptRef.vchunk (m ((c : Thread nD τ).loc main_arg0)) (m ((c : Thread nD τ).loc main_arg1)) (m ((c : Thread nD τ).loc main_arg2))

/-- The reference's result, of the arguments. -/
def yref (c : Dev nD) : FVec Ideal Cert.GatingPromptRefIdeal.S4x4096x512 .bf16 :=
  GatingPromptRef.result (m ((c : Thread nD τ).loc main_arg0)) (m ((c : Thread nD τ).loc main_arg1)) (m ((c : Thread nD τ).loc main_arg2))
    (m ((c : Thread nD τ).loc main_arg3)) (m ((c : Thread nD τ).loc main_arg4))

/-- The normalised rows are the reference's. -/
theorem rows_eq (c : Dev nD) (t : Fin cfg0.N) (i d : Fin 512) :
    k0_pay2 (F := Ideal) (iblk m c 1 t) (iblk m c 2 t) (iblk m c 3 t) (ix2 i d) = vref m c (ix3 (request t) (token t i) d) := by
  refine (norm_apply _ _ _ i d).trans ?_
  unfold vref
  rw [GatingPromptRef.vchunk_apply, read2, read3]
  simp only [read1]

/-- The weights of the eight groups, as the body keeps them. -/
def weight (x : Vec Ideal S8x128x128 .f32) : Fin 8 → FVec Ideal S128x128 .bf16 :=
  ![lower (View.ld x r0_2), lower (View.ld x r0_3), lower (View.ld x r0_4), lower (View.ld x r0_5),
    lower (View.ld x r0_6), lower (View.ld x r0_7), lower (View.ld x r0_8), lower (View.ld x r0_9)]

/-- One of the weights. -/
theorem weight_apply (x : Vec Ideal S8x128x128 .f32) (g : Fin 8) (t s : Fin 128) : weight x g (ix2 t s) = causal t s (x (ix3 g t s)) := by
  fin_cases g <;> refine (lower_apply _ t s).trans (congrArg (causal t s) ?_) <;>
    exact congrArg x (funext fun a => by fin_cases a <;> apply Fin.ext <;> simp [Rect.unit])

/-- One entry of a chunk's gated rows, from rows, weights and bias that hold what the reference reads. -/
theorem element (u : Vec Ideal S1x128x512 .f32) (w : Fin 8 → FVec Ideal S128x128 .bf16) (bb : FVec Ideal S128x512 .f32) (vc : FVec Ideal S128x512 .bf16)
    (x0 : FVec Ideal Cert.GatingPromptRefIdeal.S4x4096x6656 .f32) (x1 x2 : FVec Ideal Cert.GatingPromptRefIdeal.S512 .f32)
    (x3 : FVec Ideal Cert.GatingPromptRefIdeal.S8x128x128 .f32) (x4 : FVec Ideal Cert.GatingPromptRefIdeal.S8x128 .f32)
    (b : Fin 4) (T : Fin 4096) (r : Fin 128) (d : Fin 512) (hr : r = ⟨T.val % 128, by omega⟩)
    (hu : u (ix3 0 r d) = x0 (ix3 b T ⟨1024 + d.val, by omega⟩))
    (hv : ∀ s : Fin 128, vc (ix2 s d) = GatingPromptRef.vchunk x0 x1 x2 (ix3 b ⟨T.val / 128 * 128 + s.val, by omega⟩ d))
    (hb : bb (ix2 r d) = x4 (ix2 ⟨d.val / 64, by omega⟩ r))
    (hw : ∀ (g : Fin 8) (s : Fin 128), w g (ix2 r s) = causal r s (x3 (ix3 g r s))) :
    gate u (mix bb (w 0) (w 1) (w 2) (w 3) (w 4) (w 5) (w 6) (w 7) vc) (ix3 0 r d) = GatingPromptRef.result x0 x1 x2 x3 x4 (ix3 b T d) := by
  rw [gate_apply, mix_apply, GatingPromptRef.result_apply, hu, hb]
  simp only [hv, hw]
  rw [← hr]
  congr 1
  rw [add_comm]
  congr 1
  exact Finset.sum_congr rfl fun s _ => mul_comm _ _

/-- One entry of a chunk of a block: the chunk of number `k` holds the reference's rows of its tokens. -/
theorem piece (c : Dev nD) (t : Fin cfg0.N) (k : Fin 4) (r : Fin 128) (d : Fin 512) (u : Vec Ideal S1x128x512 .f32) (vc : FVec Ideal S128x512 .bf16)
    (hu : u (ix3 0 r d) = (iblk m c 0 t : Vec Ideal S1x512x512 .f32) (ix3 0 ⟨k.val * 128 + r.val, by omega⟩ d))
    (hv : ∀ s : Fin 128, vc (ix2 s d) = k0_pay2 (F := Ideal) (iblk m c 1 t) (iblk m c 2 t) (iblk m c 3 t) (ix2 ⟨k.val * 128 + s.val, by omega⟩ d)) :
    gate u (mix (shapeCast S128x512 (iblk m c 5 t : Vec Ideal S128x512 .f32) shapeCasts_S128x512_S128x512)
      (weight (iblk m c 4 t) 0) (weight (iblk m c 4 t) 1) (weight (iblk m c 4 t) 2) (weight (iblk m c 4 t) 3)
      (weight (iblk m c 4 t) 4) (weight (iblk m c 4 t) 5) (weight (iblk m c 4 t) 6) (weight (iblk m c 4 t) 7) vc) (ix3 0 r d) =
      yref m c (ix3 (request t) (token t ⟨k.val * 128 + r.val, by omega⟩) d) := by
  have hT : ∀ s : Fin 128, (⟨(token t ⟨k.val * 128 + r.val, by omega⟩).val / 128 * 128 + s.val, by omega⟩ : Fin 4096)
      = token t ⟨k.val * 128 + s.val, by omega⟩ := fun s => Fin.ext (by simp only [token]; omega)
  refine element u (weight (iblk m c 4 t)) _ vc _ _ _ _ _ (request t) (token t ⟨k.val * 128 + r.val, by omega⟩) r d
    (Fin.ext (by simp only [token]; omega)) (hu.trans (read0 m c t _ d)) (fun s => ?_) ?_ (fun g s => ?_)
  · rw [hT s]
    exact (hv s).trans (rows_eq m c t _ d)
  · refine Eq.trans ?_ (read5 m c t r d)
    pointwise
  · exact (weight_apply _ g r s).trans (congrArg (causal r s) (read4 m c t g r s))

/-- A load of the rows of one chunk. -/
theorem load_apply (X : Vec Ideal S1x512x512 .f32) (r : Fin 128) (d : Fin 512) :
    (View.ld X r0_11 : Vec Ideal S1x128x512 .f32) (ix3 0 r d) = X (ix3 0 ⟨r.val, by omega⟩ d)
    ∧ (View.ld X r0_12 : Vec Ideal S1x128x512 .f32) (ix3 0 r d) = X (ix3 0 ⟨128 + r.val, by omega⟩ d)
    ∧ (View.ld X r0_13 : Vec Ideal S1x128x512 .f32) (ix3 0 r d) = X (ix3 0 ⟨256 + r.val, by omega⟩ d)
    ∧ (View.ld X r0_14 : Vec Ideal S1x128x512 .f32) (ix3 0 r d) = X (ix3 0 ⟨384 + r.val, by omega⟩ d) := by
  refine ⟨?_, ?_, ?_, ?_⟩ <;>
    exact congrArg X (funext fun a => by fin_cases a <;> apply Fin.ext <;> simp [Rect.unit])

/-- The block that a point writes is the reference's. -/
theorem point6 (c : Dev nD) (t : Fin cfg0.N) (y : S1x512x512.Idx) :
    out0_6 (F := Ideal) (iblk m c 0 t) (iblk m c 1 t) (iblk m c 2 t) (iblk m c 3 t) (iblk m c 4 t) (iblk m c 5 t) y
    = yref m c ((win0_6.blk t).view.emb y) := by
  idx_vars y
  refine Eq.trans ?_ (congrArg (yref m c) (emb6 t y0 y1 y2)).symm
  unfold_out out0_6
  frame_out
  canon_tiles x h
  · idx_vars x
    rw [show y1 = (⟨3 * 128 + x1.val, by omega⟩ : Fin 512) from Fin.ext (by simpa using h1)]
    obtain rfl : y2 = x2 := Fin.ext (by simpa using h2)
    obtain rfl : x0 = 0 := Subsingleton.elim _ _
    refine (congrFun (chunk3 (k0_pay2 (iblk m c 1 t) (iblk m c 2 t) (iblk m c 3 t)) (weight (iblk m c 4 t) 0) (weight (iblk m c 4 t) 1) (weight (iblk m c 4 t) 2) (weight (iblk m c 4 t) 3)
      (weight (iblk m c 4 t) 4) (weight (iblk m c 4 t) 5) (weight (iblk m c 4 t) 6) (weight (iblk m c 4 t) 7) (iblk m c 5 t) _) _).trans ?_
    exact piece m c t 3 x1 y2 _ _ ((load_apply _ x1 y2).2.2.2.trans (congrArg (fun i => (iblk m c 0 t : Vec Ideal S1x512x512 .f32) (ix3 0 i y2)) (Fin.ext (by simp only; omega))))
      fun s => (chunks_apply _ s y2).2.2.2.trans (congrArg (fun i => k0_pay2 (F := Ideal) (iblk m c 1 t) (iblk m c 2 t) (iblk m c 3 t) (ix2 i y2)) (Fin.ext (by simp only; omega)))
  · idx_vars x
    rw [show y1 = (⟨2 * 128 + x1.val, by omega⟩ : Fin 512) from Fin.ext (by simpa using h1)]
    obtain rfl : y2 = x2 := Fin.ext (by simpa using h2)
    obtain rfl : x0 = 0 := Subsingleton.elim _ _
    refine (congrFun (chunk2 (k0_pay2 (iblk m c 1 t) (iblk m c 2 t) (iblk m c 3 t)) (weight (iblk m c 4 t) 0) (weight (iblk m c 4 t) 1) (weight (iblk m c 4 t) 2) (weight (iblk m c 4 t) 3)
      (weight (iblk m c 4 t) 4) (weight (iblk m c 4 t) 5) (weight (iblk m c 4 t) 6) (weight (iblk m c 4 t) 7) (iblk m c 5 t) _) _).trans ?_
    exact piece m c t 2 x1 y2 _ _ ((load_apply _ x1 y2).2.2.1.trans (congrArg (fun i => (iblk m c 0 t : Vec Ideal S1x512x512 .f32) (ix3 0 i y2)) (Fin.ext (by simp only; omega))))
      fun s => (chunks_apply _ s y2).2.2.1.trans (congrArg (fun i => k0_pay2 (F := Ideal) (iblk m c 1 t) (iblk m c 2 t) (iblk m c 3 t) (ix2 i y2)) (Fin.ext (by simp only; omega)))
  · idx_vars x
    rw [show y1 = (⟨1 * 128 + x1.val, by omega⟩ : Fin 512) from Fin.ext (by simpa using h1)]
    obtain rfl : y2 = x2 := Fin.ext (by simpa using h2)
    obtain rfl : x0 = 0 := Subsingleton.elim _ _
    refine (congrFun (chunk1 (k0_pay2 (iblk m c 1 t) (iblk m c 2 t) (iblk m c 3 t)) (weight (iblk m c 4 t) 0) (weight (iblk m c 4 t) 1) (weight (iblk m c 4 t) 2) (weight (iblk m c 4 t) 3)
      (weight (iblk m c 4 t) 4) (weight (iblk m c 4 t) 5) (weight (iblk m c 4 t) 6) (weight (iblk m c 4 t) 7) (iblk m c 5 t) _) _).trans ?_
    exact piece m c t 1 x1 y2 _ _ ((load_apply _ x1 y2).2.1.trans (congrArg (fun i => (iblk m c 0 t : Vec Ideal S1x512x512 .f32) (ix3 0 i y2)) (Fin.ext (by simp only; omega))))
      fun s => (chunks_apply _ s y2).2.1.trans (congrArg (fun i => k0_pay2 (F := Ideal) (iblk m c 1 t) (iblk m c 2 t) (iblk m c 3 t) (ix2 i y2)) (Fin.ext (by simp only; omega)))
  · idx_vars x
    rw [show y1 = (⟨0 * 128 + x1.val, by omega⟩ : Fin 512) from Fin.ext (by simpa using h1)]
    obtain rfl : y2 = x2 := Fin.ext (by simpa using h2)
    obtain rfl : x0 = 0 := Subsingleton.elim _ _
    refine (congrFun (chunk0 (k0_pay2 (iblk m c 1 t) (iblk m c 2 t) (iblk m c 3 t)) (weight (iblk m c 4 t) 0) (weight (iblk m c 4 t) 1) (weight (iblk m c 4 t) 2) (weight (iblk m c 4 t) 3)
      (weight (iblk m c 4 t) 4) (weight (iblk m c 4 t) 5) (weight (iblk m c 4 t) 6) (weight (iblk m c 4 t) 7) (iblk m c 5 t) _) _).trans ?_
    exact piece m c t 0 x1 y2 _ _ ((load_apply _ x1 y2).1.trans (congrArg (fun i => (iblk m c 0 t : Vec Ideal S1x512x512 .f32) (ix3 0 i y2)) (Fin.ext (by simp only; omega))))
      fun s => (chunks_apply _ s y2).1.trans (congrArg (fun i => k0_pay2 (F := Ideal) (iblk m c 1 t) (iblk m c 2 t) (iblk m c 3 t) (ix2 i y2)) (Fin.ext (by simp only; omega)))

/-- The array after the run: the reference's result. -/
theorem final (c : Dev nD) : (dats m 0 c).arrAt 6 cfg0.N = yref m c :=
  (dats m 0 c).arrAt_eq_of_covers 6 _ (by decide +kernel) fun t _ y => by
    blk_simp
    rw [after0_6]
    exact point6 m c t y

end Cert.Proof.GatingPrompt

end
-- ==== Proof.lean ====
/- The claims of the layer's calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Gating
public import proofs.«01_k».proof.Proof.Gen.Gating.Skeleton
public import proofs.«01_k».proof.Proof.Gen.Gating.Launch
public import proofs.«01_k».proof.Proof.Gen.Gating.Points
public import proofs.«01_k».proof.Proof.Gen.Gating.Frame
public import proofs.«01_k».proof.Proof.Gen.GatingIdeal
public import proofs.«01_k».proof.Proof.Gen.GatingIdeal.Skeleton
public import proofs.«01_k».proof.Proof.Gen.GatingIdeal.Launch
public import proofs.«01_k».proof.Proof.Gen.GatingIdeal.Points
public import proofs.«01_k».proof.Proof.Gen.GatingIdeal.Frame
public import proofs.«01_k».proof.Proof.Gen.GatingRefIdeal
public import proofs.«01_k».proof.Proof.Gen.InProjSample
public import proofs.«01_k».proof.Proof.Gen.InProjSample.Skeleton
public import proofs.«01_k».proof.Proof.Gen.InProjSample.Launch
public import proofs.«01_k».proof.Proof.Gen.InProjSample.Points
public import proofs.«01_k».proof.Proof.Gen.InProjSample.Frame
public import proofs.«01_k».proof.Proof.Gen.InProjSampleIdeal
public import proofs.«01_k».proof.Proof.Gen.InProjSampleIdeal.Skeleton
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleRefIdeal
public import proofs.«01_k».proof.Proof.Gen.MoeSample
public import proofs.«01_k».proof.Proof.Gen.MoeSample.Skeleton
public import proofs.«01_k».proof.Proof.Gen.MoeSample.Launch
public import proofs.«01_k».proof.Proof.Gen.MoeSample.Points
public import proofs.«01_k».proof.Proof.Gen.MoeSample.Frame
public import proofs.«01_k».proof.Proof.Gen.MoeSampleIdeal
public import proofs.«01_k».proof.Proof.Gen.MoeSampleIdeal.Skeleton
public import proofs.«01_k».proof.Proof.Gen.MoeSampleIdeal.Launch
public import proofs.«01_k».proof.Proof.Gen.MoeSampleIdeal.Points
public import proofs.«01_k».proof.Proof.Gen.MoeSampleIdeal.Frame
public import proofs.«01_k».proof.Proof.Gen.MoeSampleRefIdeal
public import proofs.«01_k».proof.Proof.Gen.GatingPrompt
public import proofs.«01_k».proof.Proof.Gen.GatingPrompt.Skeleton
public import proofs.«01_k».proof.Proof.Gen.GatingPrompt.Launch
public import proofs.«01_k».proof.Proof.Gen.GatingPrompt.Points
public import proofs.«01_k».proof.Proof.Gen.GatingPrompt.Frame
public import proofs.«01_k».proof.Proof.Gen.GatingPromptIdeal
public import proofs.«01_k».proof.Proof.Gen.GatingPromptIdeal.Skeleton
public import proofs.«01_k».proof.Proof.Gen.GatingPromptIdeal.Launch
public import proofs.«01_k».proof.Proof.Gen.GatingPromptIdeal.Points
public import proofs.«01_k».proof.Proof.Gen.GatingPromptIdeal.Frame
public import proofs.«01_k».proof.Proof.Gen.GatingPromptRefIdeal
public import Idealize.ShloMosaic.Adequacy
public import Idealize.ShloMosaic.Init
public import proofs.«01_k».proof.Proof.Gen.InProjIdeal.Value
public import proofs.«01_k».proof.Proof.Gen.MoeIdeal.Value
public import proofs.«01_k».proof.Proof.Gen.InProjRefIdeal.Run
public import proofs.«01_k».proof.Proof.Gen.MoeRefIdeal.Run
public import proofs.«01_k».proof.Proof.Gen.GatingIdeal.Value
public import proofs.«01_k».proof.Proof.Gen.GatingRefIdeal.Run
public import proofs.«01_k».proof.Proof.Gen.InProjSampleIdeal.Value
public import proofs.«01_k».proof.Proof.Gen.InProjSampleRefIdeal.Run
public import proofs.«01_k».proof.Proof.Gen.MoeSampleIdeal.Value
public import proofs.«01_k».proof.Proof.Gen.MoeSampleRefIdeal.Run
public import proofs.«01_k».proof.Proof.Gen.GatingPromptIdeal.Value
public import proofs.«01_k».proof.Proof.Gen.GatingPromptRefIdeal.Run
public import proofs.«01_k».proof.Proof.FrameKernel
public import proofs.«01_k».proof.Proof.InProjValue
public import proofs.«01_k».proof.Proof.MoeValue
public import proofs.«01_k».proof.Proof.GatingValue
public import proofs.«01_k».proof.Proof.InProjSampleValue
public import proofs.«01_k».proof.Proof.MoeSampleValue
public import proofs.«01_k».proof.Proof.GatingPromptValue
public import Idealize.ShloMosaic.Lib.Claim
public import Idealize.ShloMosaic.Lib.Quiescent

@[expose] public section

noncomputable section

namespace Cert.Proof

open Idealize.ShloMosaic Idealize.SL.Sem

/-- The broadcast the precondition on the routing weights is written with has fitting shapes. -/
instance pre_facts : Cert.Pre_gates_finite.Facts := ⟨by decide⟩

/-- So has the broadcast of the precondition on the sample group's routing weights. -/
instance pre_sample_facts : Cert.Pre_sample_gates_finite.Facts := ⟨by decide⟩

/-- The reference of the input projection runs to its end, leaves its arguments as they were and every counter at zero. -/
theorem quiescent_inproj_reference : Cert.quiescent_InProjRefIdeal (hInProjRefIdeal := Cert.InProjRefIdeal.Gen.facts) :=
  fun m g _ => (θ_run Cert.InProjRefIdeal.defs _ _).mono
    (fun r h => ⟨fun c => (h c).2, sem_eq_zero_of_no_sems rfl r.2⟩) (Cert.InProjRefIdeal.Value.run m g)

/-- The reference of the expert layer runs to its end, leaves its arguments as they were and every counter at zero. -/
theorem quiescent_moe_reference : Cert.quiescent_MoeRefIdeal (hMoeRefIdeal := Cert.MoeRefIdeal.Gen.facts) :=
  fun m g _ => (θ_run Cert.MoeRefIdeal.defs _ _).mono
    (fun r h => ⟨fun c => (h c).2, sem_eq_zero_of_no_sems rfl r.2⟩) (Cert.MoeRefIdeal.Value.run m g)

/-- The input projection, in exact arithmetic, leaves in its result what its reference leaves in its own. -/
theorem algebraic_inproj : Cert.algebraic_InProjIdeal_InProjRefIdeal (hInProjIdeal := Cert.InProjIdeal.Gen.facts)
    (hInProjRefIdeal := Cert.InProjRefIdeal.Gen.facts) := by
  pair_intro
  · run_from Cert.InProjIdeal.Value.run_blocks m g
  · run_from Cert.InProjRefIdeal.Value.run m' g'
    obtain ⟨h0, h1, h2, h3⟩ := hagree c
    refine Eq.trans (b := InProj.zcat (InProj.zref _ _ _ _)) rfl ?_
    rw [h0, h1, h2, h3]
    exact (InProj.final m c).symm

/-- The expert layer, in exact arithmetic and from routing weights that are finite and not negative, leaves in its result
    what its reference leaves in its own. -/
theorem algebraic_moe : Cert.algebraic_MoeIdeal_MoeRefIdeal_pre_gates_finite (hMoeIdeal := Cert.MoeIdeal.Gen.facts)
    (hMoeRefIdeal := Cert.MoeRefIdeal.Gen.facts) (hPre_gates_finite := pre_facts) := by
  pair_intro
  · run_from Cert.MoeIdeal.Value.run_blocks m g
  · run_from Cert.MoeRefIdeal.Value.run m' g'
    obtain ⟨h0, h1, h2, h3, h4, h5, h6, h7, h8⟩ := hagree c
    refine (MoeRef.res_eq m' c).trans ?_
    rw [h0, h1, h2, h3, h4, h5, h6, h7, h8]
    exact (Moe.final m c fun r e => Moe.gate_of_pre _ _ _ _ _ _ _ _ _ (hpre c) r e).symm

/-- The reference of the gating runs to its end, leaves its arguments as they were and every counter at zero. -/
theorem quiescent_gating_reference : Cert.quiescent_GatingRefIdeal (hGatingRefIdeal := Cert.GatingRefIdeal.Gen.facts) :=
  fun m g _ => (θ_run Cert.GatingRefIdeal.defs _ _).mono
    (fun r h => ⟨fun c => (h c).2.2, sem_eq_zero_of_no_sems rfl r.2⟩) (Cert.GatingRefIdeal.Value.run m g)

/-- The sample group's gating, in exact arithmetic, leaves in its two results what its reference leaves in its own. -/
theorem algebraic_gating : Cert.algebraic_GatingIdeal_GatingRefIdeal (hGatingIdeal := Cert.GatingIdeal.Gen.facts)
    (hGatingRefIdeal := Cert.GatingRefIdeal.Gen.facts) := by
  pair_intro
  · run_from Cert.GatingIdeal.Value.run_blocks m g
  · run_from Cert.GatingRefIdeal.Value.run m' g'
    · obtain ⟨h0, h1, h2, h3, h4⟩ := hagree c
      refine (GatingRef.res_eq m' c).trans ?_
      rw [h0, h1, h2, h3, h4]
      exact (Gating.final6 m c).symm
    · refine Eq.trans (b := GatingRef.vchunk _ _ _) rfl ?_
      exact (Gating.final7 m c).symm

/-- The reference of the sample group's input projection runs to its end, leaves its arguments as they were and every counter at zero. -/
theorem quiescent_inproj_sample_reference : Cert.quiescent_InProjSampleRefIdeal (hInProjSampleRefIdeal := Cert.InProjSampleRefIdeal.Gen.facts) :=
  fun m g _ => (θ_run Cert.InProjSampleRefIdeal.defs _ _).mono
    (fun r h => ⟨fun c => (h c).2, sem_eq_zero_of_no_sems rfl r.2⟩) (Cert.InProjSampleRefIdeal.Value.run m g)

/-- The reference of the sample group's expert layer runs to its end, leaves its arguments as they were and every counter at zero. -/
theorem quiescent_moe_sample_reference : Cert.quiescent_MoeSampleRefIdeal (hMoeSampleRefIdeal := Cert.MoeSampleRefIdeal.Gen.facts) :=
  fun m g _ => (θ_run Cert.MoeSampleRefIdeal.defs _ _).mono
    (fun r h => ⟨fun c => (h c).2, sem_eq_zero_of_no_sems rfl r.2⟩) (Cert.MoeSampleRefIdeal.Value.run m g)

/-- The sample group's input projection, in exact arithmetic, leaves in its result what its reference leaves in its own. -/
theorem algebraic_inproj_sample : Cert.algebraic_InProjSampleIdeal_InProjSampleRefIdeal (hInProjSampleIdeal := Cert.InProjSampleIdeal.Gen.facts)
    (hInProjSampleRefIdeal := Cert.InProjSampleRefIdeal.Gen.facts) := by
  pair_intro
  · run_from Cert.InProjSampleIdeal.Value.run_blocks m g
  · run_from Cert.InProjSampleRefIdeal.Value.run m' g'
    obtain ⟨h0, h1, h2, h3⟩ := hagree c
    refine Eq.trans (b := InProjSample.zcat (InProjSample.zref _ _ _ _)) rfl ?_
    rw [h0, h1, h2, h3]
    exact (InProjSample.final m c).symm

/-- The sample group's expert layer, in exact arithmetic and from routing weights that are finite and not negative, leaves in its result
    what its reference leaves in its own. -/
theorem algebraic_moe_sample : Cert.algebraic_MoeSampleIdeal_MoeSampleRefIdeal_pre_sample_gates_finite (hMoeSampleIdeal := Cert.MoeSampleIdeal.Gen.facts)
    (hMoeSampleRefIdeal := Cert.MoeSampleRefIdeal.Gen.facts) (hPre_sample_gates_finite := pre_sample_facts) := by
  pair_intro
  · run_from Cert.MoeSampleIdeal.Value.run_blocks m g
  · run_from Cert.MoeSampleRefIdeal.Value.run m' g'
    obtain ⟨h0, h1, h2, h3, h4, h5, h6, h7, h8⟩ := hagree c
    refine (MoeSampleRef.res_eq m' c).trans ?_
    rw [h0, h1, h2, h3, h4, h5, h6, h7, h8]
    exact (MoeSample.final m c fun r e => MoeSample.gate_of_pre _ _ _ _ _ _ _ _ _ (hpre c) r e).symm

/-- The reference of the prompt's gating runs to its end, leaves its arguments as they were and every counter at zero. -/
theorem quiescent_gating_prompt_reference : Cert.quiescent_GatingPromptRefIdeal (hGatingPromptRefIdeal := Cert.GatingPromptRefIdeal.Gen.facts) :=
  fun m g _ => (θ_run Cert.GatingPromptRefIdeal.defs _ _).mono
    (fun r h => ⟨fun c => (h c).2, sem_eq_zero_of_no_sems rfl r.2⟩) (Cert.GatingPromptRefIdeal.Value.run m g)

/-- The prompt's gating, in exact arithmetic, leaves in its result what its reference leaves in its own. -/
theorem algebraic_gating_prompt : Cert.algebraic_GatingPromptIdeal_GatingPromptRefIdeal (hGatingPromptIdeal := Cert.GatingPromptIdeal.Gen.facts)
    (hGatingPromptRefIdeal := Cert.GatingPromptRefIdeal.Gen.facts) := by
  pair_intro
  · run_from Cert.GatingPromptIdeal.Value.run_blocks m g
  · run_from Cert.GatingPromptRefIdeal.Value.run m' g'
    obtain ⟨h0, h1, h2, h3, h4⟩ := hagree c
    refine (GatingPromptRef.res_eq m' c).trans ?_
    rw [h0, h1, h2, h3, h4]
    exact (GatingPrompt.final m c).symm

/-- Every claim. -/
theorem claim : Cert.Claim :=
  ⟨Cert.Kernel.Gen.facts, Cert.InProj.Gen.facts, Cert.InProjIdeal.Gen.facts, Cert.InProjRefIdeal.Gen.facts,
    Cert.Moe.Gen.facts, Cert.MoeIdeal.Gen.facts, Cert.MoeRefIdeal.Gen.facts,
    Cert.Gating.Gen.facts, Cert.GatingIdeal.Gen.facts, Cert.GatingRefIdeal.Gen.facts,
    Cert.InProjSample.Gen.facts, Cert.InProjSampleIdeal.Gen.facts, Cert.InProjSampleRefIdeal.Gen.facts,
    Cert.MoeSample.Gen.facts, Cert.MoeSampleIdeal.Gen.facts, Cert.MoeSampleRefIdeal.Gen.facts,
    Cert.GatingPrompt.Gen.facts, Cert.GatingPromptIdeal.Gen.facts, Cert.GatingPromptRefIdeal.Gen.facts, pre_facts, pre_sample_facts,
    fun m g _ => Kernel.run m g,
    fun m g _ => Cert.InProj.Gen.frame m g,
    fun m g _ => Cert.InProjIdeal.Gen.frame m g,
    quiescent_inproj_reference,
    fun m g _ => Cert.Moe.Gen.frame m g,
    fun m g _ => Cert.MoeIdeal.Gen.frame m g,
    fun m g _ => Cert.MoeIdeal.Gen.frame m g,
    quiescent_moe_reference,
    fun m g _ => quiescent_moe_reference m g trivial,
    fun m g _ => Cert.Gating.Gen.frame m g,
    fun m g _ => Cert.GatingIdeal.Gen.frame m g,
    quiescent_gating_reference,
    fun m g _ => Cert.InProjSample.Gen.frame m g,
    fun m g _ => Cert.InProjSampleIdeal.Gen.frame m g,
    quiescent_inproj_sample_reference,
    fun m g _ => Cert.MoeSample.Gen.frame m g,
    fun m g _ => Cert.MoeSampleIdeal.Gen.frame m g,
    fun m g _ => Cert.MoeSampleIdeal.Gen.frame m g,
    quiescent_moe_sample_reference,
    fun m g _ => quiescent_moe_sample_reference m g trivial,
    fun m g _ => Cert.GatingPrompt.Gen.frame m g,
    fun m g _ => Cert.GatingPromptIdeal.Gen.frame m g,
    quiescent_gating_prompt_reference,
    trivial, algebraic_inproj, trivial, algebraic_moe, trivial, algebraic_gating, trivial, algebraic_inproj_sample,
    trivial, algebraic_moe_sample, trivial, algebraic_gating_prompt⟩

end Cert.Proof

end
